-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelTwoIdeal (m : (ℓ : Loc Cert.KernelTwoIdeal.nD Cert.KernelTwoIdeal.τ Cert.KernelTwoIdeal.sig) → Buf (Elt Ideal) ℓ) : Prop :=
  True

def Pre_ReferenceTwoIdeal (m : (ℓ : Loc Cert.ReferenceTwoIdeal.nD Cert.ReferenceTwoIdeal.τ Cert.ReferenceTwoIdeal.sig) → Buf (Elt Ideal) ℓ) : Prop :=
  True

def Pre_KernelGivenIdeal (m : (ℓ : Loc Cert.KernelGivenIdeal.nD Cert.KernelGivenIdeal.τ Cert.KernelGivenIdeal.sig) → Buf (Elt Ideal) ℓ) : Prop :=
  True

def Pre_KernelGivenIdeal_finite_given [hPre_finite_given : Cert.Pre_finite_given.Facts] (m : (ℓ : Loc Cert.KernelGivenIdeal.nD Cert.KernelGivenIdeal.τ Cert.KernelGivenIdeal.sig) → Buf (Elt Ideal) ℓ) : Prop :=
  ∀ c : Dev Cert.KernelGivenIdeal.nD,
    (Cert.Pre_finite_given.fn (F := Ideal) (m ((c.tc : Thread Cert.KernelGivenIdeal.nD Cert.KernelGivenIdeal.τ).loc Cert.KernelGivenIdeal.main_arg0)) (m ((c.tc : Thread Cert.KernelGivenIdeal.nD Cert.KernelGivenIdeal.τ).loc Cert.KernelGivenIdeal.main_arg1)) (m ((c.tc : Thread Cert.KernelGivenIdeal.nD Cert.KernelGivenIdeal.τ).loc Cert.KernelGivenIdeal.main_arg2)) (m ((c.tc : Thread Cert.KernelGivenIdeal.nD Cert.KernelGivenIdeal.τ).loc Cert.KernelGivenIdeal.main_arg3)) (m ((c.tc : Thread Cert.KernelGivenIdeal.nD Cert.KernelGivenIdeal.τ).loc Cert.KernelGivenIdeal.main_arg4)) (m ((c.tc : Thread Cert.KernelGivenIdeal.nD Cert.KernelGivenIdeal.τ).loc Cert.KernelGivenIdeal.main_arg5)) (m ((c.tc : Thread Cert.KernelGivenIdeal.nD Cert.KernelGivenIdeal.τ).loc Cert.KernelGivenIdeal.main_arg6)) (m ((c.tc : Thread Cert.KernelGivenIdeal.nD Cert.KernelGivenIdeal.τ).loc Cert.KernelGivenIdeal.main_arg7)) (m ((c.tc : Thread Cert.KernelGivenIdeal.nD Cert.KernelGivenIdeal.τ).loc Cert.KernelGivenIdeal.main_arg8)) (m ((c.tc : Thread Cert.KernelGivenIdeal.nD Cert.KernelGivenIdeal.τ).loc Cert.KernelGivenIdeal.main_arg9))) = (fun _ => 1#1)

def Pre_ReferenceGivenIdeal (m : (ℓ : Loc Cert.ReferenceGivenIdeal.nD Cert.ReferenceGivenIdeal.τ Cert.ReferenceGivenIdeal.sig) → Buf (Elt Ideal) ℓ) : Prop :=
  True

def Pre_ReferenceGivenIdeal_finite_given [hPre_finite_given : Cert.Pre_finite_given.Facts] (m : (ℓ : Loc Cert.ReferenceGivenIdeal.nD Cert.ReferenceGivenIdeal.τ Cert.ReferenceGivenIdeal.sig) → Buf (Elt Ideal) ℓ) : Prop :=
  ∀ c : Dev Cert.ReferenceGivenIdeal.nD,
    (Cert.Pre_finite_given.fn (F := Ideal) (m ((c.tc : Thread Cert.ReferenceGivenIdeal.nD Cert.ReferenceGivenIdeal.τ).loc Cert.ReferenceGivenIdeal.main_arg0)) (m ((c.tc : Thread Cert.ReferenceGivenIdeal.nD Cert.ReferenceGivenIdeal.τ).loc Cert.ReferenceGivenIdeal.main_arg1)) (m ((c.tc : Thread Cert.ReferenceGivenIdeal.nD Cert.ReferenceGivenIdeal.τ).loc Cert.ReferenceGivenIdeal.main_arg2)) (m ((c.tc : Thread Cert.ReferenceGivenIdeal.nD Cert.ReferenceGivenIdeal.τ).loc Cert.ReferenceGivenIdeal.main_arg3)) (m ((c.tc : Thread Cert.ReferenceGivenIdeal.nD Cert.ReferenceGivenIdeal.τ).loc Cert.ReferenceGivenIdeal.main_arg4)) (m ((c.tc : Thread Cert.ReferenceGivenIdeal.nD Cert.ReferenceGivenIdeal.τ).loc Cert.ReferenceGivenIdeal.main_arg5)) (m ((c.tc : Thread Cert.ReferenceGivenIdeal.nD Cert.ReferenceGivenIdeal.τ).loc Cert.ReferenceGivenIdeal.main_arg6)) (m ((c.tc : Thread Cert.ReferenceGivenIdeal.nD Cert.ReferenceGivenIdeal.τ).loc Cert.ReferenceGivenIdeal.main_arg7)) (m ((c.tc : Thread Cert.ReferenceGivenIdeal.nD Cert.ReferenceGivenIdeal.τ).loc Cert.ReferenceGivenIdeal.main_arg8)) (m ((c.tc : Thread Cert.ReferenceGivenIdeal.nD Cert.ReferenceGivenIdeal.τ).loc Cert.ReferenceGivenIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_KernelTwoIdeal [hKernelTwoIdeal : Cert.KernelTwoIdeal.Facts] : Prop :=
  ∀ (m : (ℓ : Loc Cert.KernelTwoIdeal.nD Cert.KernelTwoIdeal.τ Cert.KernelTwoIdeal.sig) → Buf (Elt Ideal) ℓ) (g : Dev Cert.KernelTwoIdeal.nD → PrngReg), Pre_KernelTwoIdeal m →
    θ_run (Cert.KernelTwoIdeal.defs (F := Ideal)) (onTc (τ := Cert.KernelTwoIdeal.τ) (Cert.KernelTwoIdeal.main (F := Ideal))) ⟨m, fun _ => 0, g⟩ (fun r => (∀ c : Dev Cert.KernelTwoIdeal.nD,
      r.2.mem ((c.tc : Thread Cert.KernelTwoIdeal.nD Cert.KernelTwoIdeal.τ).loc Cert.KernelTwoIdeal.main_arg0) = m ((c.tc : Thread Cert.KernelTwoIdeal.nD Cert.KernelTwoIdeal.τ).loc Cert.KernelTwoIdeal.main_arg0)
      ∧ r.2.mem ((c.tc : Thread Cert.KernelTwoIdeal.nD Cert.KernelTwoIdeal.τ).loc Cert.KernelTwoIdeal.main_arg1) = m ((c.tc : Thread Cert.KernelTwoIdeal.nD Cert.KernelTwoIdeal.τ).loc Cert.KernelTwoIdeal.main_arg1)
      ∧ r.2.mem ((c.tc : Thread Cert.KernelTwoIdeal.nD Cert.KernelTwoIdeal.τ).loc Cert.KernelTwoIdeal.main_arg2) = m ((c.tc : Thread Cert.KernelTwoIdeal.nD Cert.KernelTwoIdeal.τ).loc Cert.KernelTwoIdeal.main_arg2)
      ∧ r.2.mem ((c.tc : Thread Cert.KernelTwoIdeal.nD Cert.KernelTwoIdeal.τ).loc Cert.KernelTwoIdeal.main_arg3) = m ((c.tc : Thread Cert.KernelTwoIdeal.nD Cert.KernelTwoIdeal.τ).loc Cert.KernelTwoIdeal.main_arg3)
      ∧ r.2.mem ((c.tc : Thread Cert.KernelTwoIdeal.nD Cert.KernelTwoIdeal.τ).loc Cert.KernelTwoIdeal.main_arg4) = m ((c.tc : Thread Cert.KernelTwoIdeal.nD Cert.KernelTwoIdeal.τ).loc Cert.KernelTwoIdeal.main_arg4)
      ∧ r.2.mem ((c.tc : Thread Cert.KernelTwoIdeal.nD Cert.KernelTwoIdeal.τ).loc Cert.KernelTwoIdeal.main_arg5) = m ((c.tc : Thread Cert.KernelTwoIdeal.nD Cert.KernelTwoIdeal.τ).loc Cert.KernelTwoIdeal.main_arg5))
      ∧ r.2.sem = fun _ => 0)

def quiescent_ReferenceTwoIdeal [hReferenceTwoIdeal : Cert.ReferenceTwoIdeal.Facts] : Prop :=
  ∀ (m : (ℓ : Loc Cert.ReferenceTwoIdeal.nD Cert.ReferenceTwoIdeal.τ Cert.ReferenceTwoIdeal.sig) → Buf (Elt Ideal) ℓ) (g : Dev Cert.ReferenceTwoIdeal.nD → PrngReg), Pre_ReferenceTwoIdeal m →
    θ_run (Cert.ReferenceTwoIdeal.defs (F := Ideal)) (onTc (τ := Cert.ReferenceTwoIdeal.τ) (Cert.ReferenceTwoIdeal.main (F := Ideal))) ⟨m, fun _ => 0, g⟩ (fun r => (∀ c : Dev Cert.ReferenceTwoIdeal.nD,
      r.2.mem ((c.tc : Thread Cert.ReferenceTwoIdeal.nD Cert.ReferenceTwoIdeal.τ).loc Cert.ReferenceTwoIdeal.main_arg0) = m ((c.tc : Thread Cert.ReferenceTwoIdeal.nD Cert.ReferenceTwoIdeal.τ).loc Cert.ReferenceTwoIdeal.main_arg0)
      ∧ r.2.mem ((c.tc : Thread Cert.ReferenceTwoIdeal.nD Cert.ReferenceTwoIdeal.τ).loc Cert.ReferenceTwoIdeal.main_arg1) = m ((c.tc : Thread Cert.ReferenceTwoIdeal.nD Cert.ReferenceTwoIdeal.τ).loc Cert.ReferenceTwoIdeal.main_arg1)
      ∧ r.2.mem ((c.tc : Thread Cert.ReferenceTwoIdeal.nD Cert.ReferenceTwoIdeal.τ).loc Cert.ReferenceTwoIdeal.main_arg2) = m ((c.tc : Thread Cert.ReferenceTwoIdeal.nD Cert.ReferenceTwoIdeal.τ).loc Cert.ReferenceTwoIdeal.main_arg2)
      ∧ r.2.mem ((c.tc : Thread Cert.ReferenceTwoIdeal.nD Cert.ReferenceTwoIdeal.τ).loc Cert.ReferenceTwoIdeal.main_arg3) = m ((c.tc : Thread Cert.ReferenceTwoIdeal.nD Cert.ReferenceTwoIdeal.τ).loc Cert.ReferenceTwoIdeal.main_arg3)
      ∧ r.2.mem ((c.tc : Thread Cert.ReferenceTwoIdeal.nD Cert.ReferenceTwoIdeal.τ).loc Cert.ReferenceTwoIdeal.main_arg4) = m ((c.tc : Thread Cert.ReferenceTwoIdeal.nD Cert.ReferenceTwoIdeal.τ).loc Cert.ReferenceTwoIdeal.main_arg4)
      ∧ r.2.mem ((c.tc : Thread Cert.ReferenceTwoIdeal.nD Cert.ReferenceTwoIdeal.τ).loc Cert.ReferenceTwoIdeal.main_arg5) = m ((c.tc : Thread Cert.ReferenceTwoIdeal.nD Cert.ReferenceTwoIdeal.τ).loc Cert.ReferenceTwoIdeal.main_arg5))
      ∧ r.2.sem = fun _ => 0)

def quiescent_KernelGivenIdeal [hKernelGivenIdeal : Cert.KernelGivenIdeal.Facts] : Prop :=
  ∀ (m : (ℓ : Loc Cert.KernelGivenIdeal.nD Cert.KernelGivenIdeal.τ Cert.KernelGivenIdeal.sig) → Buf (Elt Ideal) ℓ) (g : Dev Cert.KernelGivenIdeal.nD → PrngReg), Pre_KernelGivenIdeal m →
    θ_run (Cert.KernelGivenIdeal.defs (F := Ideal)) (onTc (τ := Cert.KernelGivenIdeal.τ) (Cert.KernelGivenIdeal.main (F := Ideal))) ⟨m, fun _ => 0, g⟩ (fun r => (∀ c : Dev Cert.KernelGivenIdeal.nD,
      r.2.mem ((c.tc : Thread Cert.KernelGivenIdeal.nD Cert.KernelGivenIdeal.τ).loc Cert.KernelGivenIdeal.main_arg0) = m ((c.tc : Thread Cert.KernelGivenIdeal.nD Cert.KernelGivenIdeal.τ).loc Cert.KernelGivenIdeal.main_arg0)
      ∧ r.2.mem ((c.tc : Thread Cert.KernelGivenIdeal.nD Cert.KernelGivenIdeal.τ).loc Cert.KernelGivenIdeal.main_arg1) = m ((c.tc : Thread Cert.KernelGivenIdeal.nD Cert.KernelGivenIdeal.τ).loc Cert.KernelGivenIdeal.main_arg1)
      ∧ r.2.mem ((c.tc : Thread Cert.KernelGivenIdeal.nD Cert.KernelGivenIdeal.τ).loc Cert.KernelGivenIdeal.main_arg2) = m ((c.tc : Thread Cert.KernelGivenIdeal.nD Cert.KernelGivenIdeal.τ).loc Cert.KernelGivenIdeal.main_arg2)
      ∧ r.2.mem ((c.tc : Thread Cert.KernelGivenIdeal.nD Cert.KernelGivenIdeal.τ).loc Cert.KernelGivenIdeal.main_arg3) = m ((c.tc : Thread Cert.KernelGivenIdeal.nD Cert.KernelGivenIdeal.τ).loc Cert.KernelGivenIdeal.main_arg3)
      ∧ r.2.mem ((c.tc : Thread Cert.KernelGivenIdeal.nD Cert.KernelGivenIdeal.τ).loc Cert.KernelGivenIdeal.main_arg4) = m ((c.tc : Thread Cert.KernelGivenIdeal.nD Cert.KernelGivenIdeal.τ).loc Cert.KernelGivenIdeal.main_arg4)
      ∧ r.2.mem ((c.tc : Thread Cert.KernelGivenIdeal.nD Cert.KernelGivenIdeal.τ).loc Cert.KernelGivenIdeal.main_arg5) = m ((c.tc : Thread Cert.KernelGivenIdeal.nD Cert.KernelGivenIdeal.τ).loc Cert.KernelGivenIdeal.main_arg5)
      ∧ r.2.mem ((c.tc : Thread Cert.KernelGivenIdeal.nD Cert.KernelGivenIdeal.τ).loc Cert.KernelGivenIdeal.main_arg6) = m ((c.tc : Thread Cert.KernelGivenIdeal.nD Cert.KernelGivenIdeal.τ).loc Cert.KernelGivenIdeal.main_arg6)
      ∧ r.2.mem ((c.tc : Thread Cert.KernelGivenIdeal.nD Cert.KernelGivenIdeal.τ).loc Cert.KernelGivenIdeal.main_arg7) = m ((c.tc : Thread Cert.KernelGivenIdeal.nD Cert.KernelGivenIdeal.τ).loc Cert.KernelGivenIdeal.main_arg7)
      ∧ r.2.mem ((c.tc : Thread Cert.KernelGivenIdeal.nD Cert.KernelGivenIdeal.τ).loc Cert.KernelGivenIdeal.main_arg8) = m ((c.tc : Thread Cert.KernelGivenIdeal.nD Cert.KernelGivenIdeal.τ).loc Cert.KernelGivenIdeal.main_arg8)
      ∧ r.2.mem ((c.tc : Thread Cert.KernelGivenIdeal.nD Cert.KernelGivenIdeal.τ).loc Cert.KernelGivenIdeal.main_arg9) = m ((c.tc : Thread Cert.KernelGivenIdeal.nD Cert.KernelGivenIdeal.τ).loc Cert.KernelGivenIdeal.main_arg9))
      ∧ r.2.sem = fun _ => 0)

def quiescent_KernelGivenIdeal_pre_finite_given [hKernelGivenIdeal : Cert.KernelGivenIdeal.Facts] [hPre_finite_given : Cert.Pre_finite_given.Facts] : Prop :=
  ∀ (m : (ℓ : Loc Cert.KernelGivenIdeal.nD Cert.KernelGivenIdeal.τ Cert.KernelGivenIdeal.sig) → Buf (Elt Ideal) ℓ) (g : Dev Cert.KernelGivenIdeal.nD → PrngReg), Pre_KernelGivenIdeal_finite_given m →
    θ_run (Cert.KernelGivenIdeal.defs (F := Ideal)) (onTc (τ := Cert.KernelGivenIdeal.τ) (Cert.KernelGivenIdeal.main (F := Ideal))) ⟨m, fun _ => 0, g⟩ (fun r => (∀ c : Dev Cert.KernelGivenIdeal.nD,
      r.2.mem ((c.tc : Thread Cert.KernelGivenIdeal.nD Cert.KernelGivenIdeal.τ).loc Cert.KernelGivenIdeal.main_arg0) = m ((c.tc : Thread Cert.KernelGivenIdeal.nD Cert.KernelGivenIdeal.τ).loc Cert.KernelGivenIdeal.main_arg0)
      ∧ r.2.mem ((c.tc : Thread Cert.KernelGivenIdeal.nD Cert.KernelGivenIdeal.τ).loc Cert.KernelGivenIdeal.main_arg1) = m ((c.tc : Thread Cert.KernelGivenIdeal.nD Cert.KernelGivenIdeal.τ).loc Cert.KernelGivenIdeal.main_arg1)
      ∧ r.2.mem ((c.tc : Thread Cert.KernelGivenIdeal.nD Cert.KernelGivenIdeal.τ).loc Cert.KernelGivenIdeal.main_arg2) = m ((c.tc : Thread Cert.KernelGivenIdeal.nD Cert.KernelGivenIdeal.τ).loc Cert.KernelGivenIdeal.main_arg2)
      ∧ r.2.mem ((c.tc : Thread Cert.KernelGivenIdeal.nD Cert.KernelGivenIdeal.τ).loc Cert.KernelGivenIdeal.main_arg3) = m ((c.tc : Thread Cert.KernelGivenIdeal.nD Cert.KernelGivenIdeal.τ).loc Cert.KernelGivenIdeal.main_arg3)
      ∧ r.2.mem ((c.tc : Thread Cert.KernelGivenIdeal.nD Cert.KernelGivenIdeal.τ).loc Cert.KernelGivenIdeal.main_arg4) = m ((c.tc : Thread Cert.KernelGivenIdeal.nD Cert.KernelGivenIdeal.τ).loc Cert.KernelGivenIdeal.main_arg4)
      ∧ r.2.mem ((c.tc : Thread Cert.KernelGivenIdeal.nD Cert.KernelGivenIdeal.τ).loc Cert.KernelGivenIdeal.main_arg5) = m ((c.tc : Thread Cert.KernelGivenIdeal.nD Cert.KernelGivenIdeal.τ).loc Cert.KernelGivenIdeal.main_arg5)
      ∧ r.2.mem ((c.tc : Thread Cert.KernelGivenIdeal.nD Cert.KernelGivenIdeal.τ).loc Cert.KernelGivenIdeal.main_arg6) = m ((c.tc : Thread Cert.KernelGivenIdeal.nD Cert.KernelGivenIdeal.τ).loc Cert.KernelGivenIdeal.main_arg6)
      ∧ r.2.mem ((c.tc : Thread Cert.KernelGivenIdeal.nD Cert.KernelGivenIdeal.τ).loc Cert.KernelGivenIdeal.main_arg7) = m ((c.tc : Thread Cert.KernelGivenIdeal.nD Cert.KernelGivenIdeal.τ).loc Cert.KernelGivenIdeal.main_arg7)
      ∧ r.2.mem ((c.tc : Thread Cert.KernelGivenIdeal.nD Cert.KernelGivenIdeal.τ).loc Cert.KernelGivenIdeal.main_arg8) = m ((c.tc : Thread Cert.KernelGivenIdeal.nD Cert.KernelGivenIdeal.τ).loc Cert.KernelGivenIdeal.main_arg8)
      ∧ r.2.mem ((c.tc : Thread Cert.KernelGivenIdeal.nD Cert.KernelGivenIdeal.τ).loc Cert.KernelGivenIdeal.main_arg9) = m ((c.tc : Thread Cert.KernelGivenIdeal.nD Cert.KernelGivenIdeal.τ).loc Cert.KernelGivenIdeal.main_arg9))
      ∧ r.2.sem = fun _ => 0)

def quiescent_ReferenceGivenIdeal [hReferenceGivenIdeal : Cert.ReferenceGivenIdeal.Facts] : Prop :=
  ∀ (m : (ℓ : Loc Cert.ReferenceGivenIdeal.nD Cert.ReferenceGivenIdeal.τ Cert.ReferenceGivenIdeal.sig) → Buf (Elt Ideal) ℓ) (g : Dev Cert.ReferenceGivenIdeal.nD → PrngReg), Pre_ReferenceGivenIdeal m →
    θ_run (Cert.ReferenceGivenIdeal.defs (F := Ideal)) (onTc (τ := Cert.ReferenceGivenIdeal.τ) (Cert.ReferenceGivenIdeal.main (F := Ideal))) ⟨m, fun _ => 0, g⟩ (fun r => (∀ c : Dev Cert.ReferenceGivenIdeal.nD,
      r.2.mem ((c.tc : Thread Cert.ReferenceGivenIdeal.nD Cert.ReferenceGivenIdeal.τ).loc Cert.ReferenceGivenIdeal.main_arg0) = m ((c.tc : Thread Cert.ReferenceGivenIdeal.nD Cert.ReferenceGivenIdeal.τ).loc Cert.ReferenceGivenIdeal.main_arg0)
      ∧ r.2.mem ((c.tc : Thread Cert.ReferenceGivenIdeal.nD Cert.ReferenceGivenIdeal.τ).loc Cert.ReferenceGivenIdeal.main_arg1) = m ((c.tc : Thread Cert.ReferenceGivenIdeal.nD Cert.ReferenceGivenIdeal.τ).loc Cert.ReferenceGivenIdeal.main_arg1)
      ∧ r.2.mem ((c.tc : Thread Cert.ReferenceGivenIdeal.nD Cert.ReferenceGivenIdeal.τ).loc Cert.ReferenceGivenIdeal.main_arg2) = m ((c.tc : Thread Cert.ReferenceGivenIdeal.nD Cert.ReferenceGivenIdeal.τ).loc Cert.ReferenceGivenIdeal.main_arg2)
      ∧ r.2.mem ((c.tc : Thread Cert.ReferenceGivenIdeal.nD Cert.ReferenceGivenIdeal.τ).loc Cert.ReferenceGivenIdeal.main_arg3) = m ((c.tc : Thread Cert.ReferenceGivenIdeal.nD Cert.ReferenceGivenIdeal.τ).loc Cert.ReferenceGivenIdeal.main_arg3)
      ∧ r.2.mem ((c.tc : Thread Cert.ReferenceGivenIdeal.nD Cert.ReferenceGivenIdeal.τ).loc Cert.ReferenceGivenIdeal.main_arg4) = m ((c.tc : Thread Cert.ReferenceGivenIdeal.nD Cert.ReferenceGivenIdeal.τ).loc Cert.ReferenceGivenIdeal.main_arg4)
      ∧ r.2.mem ((c.tc : Thread Cert.ReferenceGivenIdeal.nD Cert.ReferenceGivenIdeal.τ).loc Cert.ReferenceGivenIdeal.main_arg5) = m ((c.tc : Thread Cert.ReferenceGivenIdeal.nD Cert.ReferenceGivenIdeal.τ).loc Cert.ReferenceGivenIdeal.main_arg5)
      ∧ r.2.mem ((c.tc : Thread Cert.ReferenceGivenIdeal.nD Cert.ReferenceGivenIdeal.τ).loc Cert.ReferenceGivenIdeal.main_arg6) = m ((c.tc : Thread Cert.ReferenceGivenIdeal.nD Cert.ReferenceGivenIdeal.τ).loc Cert.ReferenceGivenIdeal.main_arg6)
      ∧ r.2.mem ((c.tc : Thread Cert.ReferenceGivenIdeal.nD Cert.ReferenceGivenIdeal.τ).loc Cert.ReferenceGivenIdeal.main_arg7) = m ((c.tc : Thread Cert.ReferenceGivenIdeal.nD Cert.ReferenceGivenIdeal.τ).loc Cert.ReferenceGivenIdeal.main_arg7)
      ∧ r.2.mem ((c.tc : Thread Cert.ReferenceGivenIdeal.nD Cert.ReferenceGivenIdeal.τ).loc Cert.ReferenceGivenIdeal.main_arg8) = m ((c.tc : Thread Cert.ReferenceGivenIdeal.nD Cert.ReferenceGivenIdeal.τ).loc Cert.ReferenceGivenIdeal.main_arg8)
      ∧ r.2.mem ((c.tc : Thread Cert.ReferenceGivenIdeal.nD Cert.ReferenceGivenIdeal.τ).loc Cert.ReferenceGivenIdeal.main_arg9) = m ((c.tc : Thread Cert.ReferenceGivenIdeal.nD Cert.ReferenceGivenIdeal.τ).loc Cert.ReferenceGivenIdeal.main_arg9))
      ∧ r.2.sem = fun _ => 0)

def quiescent_ReferenceGivenIdeal_pre_finite_given [hReferenceGivenIdeal : Cert.ReferenceGivenIdeal.Facts] [hPre_finite_given : Cert.Pre_finite_given.Facts] : Prop :=
  ∀ (m : (ℓ : Loc Cert.ReferenceGivenIdeal.nD Cert.ReferenceGivenIdeal.τ Cert.ReferenceGivenIdeal.sig) → Buf (Elt Ideal) ℓ) (g : Dev Cert.ReferenceGivenIdeal.nD → PrngReg), Pre_ReferenceGivenIdeal_finite_given m →
    θ_run (Cert.ReferenceGivenIdeal.defs (F := Ideal)) (onTc (τ := Cert.ReferenceGivenIdeal.τ) (Cert.ReferenceGivenIdeal.main (F := Ideal))) ⟨m, fun _ => 0, g⟩ (fun r => (∀ c : Dev Cert.ReferenceGivenIdeal.nD,
      r.2.mem ((c.tc : Thread Cert.ReferenceGivenIdeal.nD Cert.ReferenceGivenIdeal.τ).loc Cert.ReferenceGivenIdeal.main_arg0) = m ((c.tc : Thread Cert.ReferenceGivenIdeal.nD Cert.ReferenceGivenIdeal.τ).loc Cert.ReferenceGivenIdeal.main_arg0)
      ∧ r.2.mem ((c.tc : Thread Cert.ReferenceGivenIdeal.nD Cert.ReferenceGivenIdeal.τ).loc Cert.ReferenceGivenIdeal.main_arg1) = m ((c.tc : Thread Cert.ReferenceGivenIdeal.nD Cert.ReferenceGivenIdeal.τ).loc Cert.ReferenceGivenIdeal.main_arg1)
      ∧ r.2.mem ((c.tc : Thread Cert.ReferenceGivenIdeal.nD Cert.ReferenceGivenIdeal.τ).loc Cert.ReferenceGivenIdeal.main_arg2) = m ((c.tc : Thread Cert.ReferenceGivenIdeal.nD Cert.ReferenceGivenIdeal.τ).loc Cert.ReferenceGivenIdeal.main_arg2)
      ∧ r.2.mem ((c.tc : Thread Cert.ReferenceGivenIdeal.nD Cert.ReferenceGivenIdeal.τ).loc Cert.ReferenceGivenIdeal.main_arg3) = m ((c.tc : Thread Cert.ReferenceGivenIdeal.nD Cert.ReferenceGivenIdeal.τ).loc Cert.ReferenceGivenIdeal.main_arg3)
      ∧ r.2.mem ((c.tc : Thread Cert.ReferenceGivenIdeal.nD Cert.ReferenceGivenIdeal.τ).loc Cert.ReferenceGivenIdeal.main_arg4) = m ((c.tc : Thread Cert.ReferenceGivenIdeal.nD Cert.ReferenceGivenIdeal.τ).loc Cert.ReferenceGivenIdeal.main_arg4)
      ∧ r.2.mem ((c.tc : Thread Cert.ReferenceGivenIdeal.nD Cert.ReferenceGivenIdeal.τ).loc Cert.ReferenceGivenIdeal.main_arg5) = m ((c.tc : Thread Cert.ReferenceGivenIdeal.nD Cert.ReferenceGivenIdeal.τ).loc Cert.ReferenceGivenIdeal.main_arg5)
      ∧ r.2.mem ((c.tc : Thread Cert.ReferenceGivenIdeal.nD Cert.ReferenceGivenIdeal.τ).loc Cert.ReferenceGivenIdeal.main_arg6) = m ((c.tc : Thread Cert.ReferenceGivenIdeal.nD Cert.ReferenceGivenIdeal.τ).loc Cert.ReferenceGivenIdeal.main_arg6)
      ∧ r.2.mem ((c.tc : Thread Cert.ReferenceGivenIdeal.nD Cert.ReferenceGivenIdeal.τ).loc Cert.ReferenceGivenIdeal.main_arg7) = m ((c.tc : Thread Cert.ReferenceGivenIdeal.nD Cert.ReferenceGivenIdeal.τ).loc Cert.ReferenceGivenIdeal.main_arg7)
      ∧ r.2.mem ((c.tc : Thread Cert.ReferenceGivenIdeal.nD Cert.ReferenceGivenIdeal.τ).loc Cert.ReferenceGivenIdeal.main_arg8) = m ((c.tc : Thread Cert.ReferenceGivenIdeal.nD Cert.ReferenceGivenIdeal.τ).loc Cert.ReferenceGivenIdeal.main_arg8)
      ∧ r.2.mem ((c.tc : Thread Cert.ReferenceGivenIdeal.nD Cert.ReferenceGivenIdeal.τ).loc Cert.ReferenceGivenIdeal.main_arg9) = m ((c.tc : Thread Cert.ReferenceGivenIdeal.nD Cert.ReferenceGivenIdeal.τ).loc Cert.ReferenceGivenIdeal.main_arg9))
      ∧ r.2.sem = fun _ => 0)

def preserves_Kernel_KernelIdeal : Prop :=
  IdealRules.named_const.Statement Cert.KernelIdeal.κ "inv_sqrt_d" .f32 0x3D13CD3A#32 (((Real.sqrt 768)⁻¹ : ℝ) : EReal)

def algebraic_KernelTwoIdeal_ReferenceTwoIdeal [hKernelTwoIdeal : Cert.KernelTwoIdeal.Facts] [hReferenceTwoIdeal : Cert.ReferenceTwoIdeal.Facts] : Prop :=
  ∀ (m : (ℓ : Loc Cert.KernelTwoIdeal.nD Cert.KernelTwoIdeal.τ Cert.KernelTwoIdeal.sig) → Buf (Elt Ideal) ℓ) (g : Dev Cert.KernelTwoIdeal.nD → PrngReg)
    (m' : (ℓ : Loc Cert.ReferenceTwoIdeal.nD Cert.ReferenceTwoIdeal.τ Cert.ReferenceTwoIdeal.sig) → Buf (Elt Ideal) ℓ) (g' : Dev Cert.ReferenceTwoIdeal.nD → PrngReg), Pre_KernelTwoIdeal m →
    (∀ c : Dev Cert.KernelTwoIdeal.nD,
      m' ((c.tc : Thread Cert.ReferenceTwoIdeal.nD Cert.ReferenceTwoIdeal.τ).loc Cert.ReferenceTwoIdeal.main_arg0) = m ((c.tc : Thread Cert.KernelTwoIdeal.nD Cert.KernelTwoIdeal.τ).loc Cert.KernelTwoIdeal.main_arg0)
      ∧ m' ((c.tc : Thread Cert.ReferenceTwoIdeal.nD Cert.ReferenceTwoIdeal.τ).loc Cert.ReferenceTwoIdeal.main_arg1) = m ((c.tc : Thread Cert.KernelTwoIdeal.nD Cert.KernelTwoIdeal.τ).loc Cert.KernelTwoIdeal.main_arg1)
      ∧ m' ((c.tc : Thread Cert.ReferenceTwoIdeal.nD Cert.ReferenceTwoIdeal.τ).loc Cert.ReferenceTwoIdeal.main_arg2) = m ((c.tc : Thread Cert.KernelTwoIdeal.nD Cert.KernelTwoIdeal.τ).loc Cert.KernelTwoIdeal.main_arg2)
      ∧ m' ((c.tc : Thread Cert.ReferenceTwoIdeal.nD Cert.ReferenceTwoIdeal.τ).loc Cert.ReferenceTwoIdeal.main_arg3) = m ((c.tc : Thread Cert.KernelTwoIdeal.nD Cert.KernelTwoIdeal.τ).loc Cert.KernelTwoIdeal.main_arg3)
      ∧ m' ((c.tc : Thread Cert.ReferenceTwoIdeal.nD Cert.ReferenceTwoIdeal.τ).loc Cert.ReferenceTwoIdeal.main_arg4) = m ((c.tc : Thread Cert.KernelTwoIdeal.nD Cert.KernelTwoIdeal.τ).loc Cert.KernelTwoIdeal.main_arg4)
      ∧ m' ((c.tc : Thread Cert.ReferenceTwoIdeal.nD Cert.ReferenceTwoIdeal.τ).loc Cert.ReferenceTwoIdeal.main_arg5) = m ((c.tc : Thread Cert.KernelTwoIdeal.nD Cert.KernelTwoIdeal.τ).loc Cert.KernelTwoIdeal.main_arg5)) →
    ∃ (v0 : (c : Dev Cert.KernelTwoIdeal.nD) → Buf (Elt Ideal) ((c.tc : Thread Cert.KernelTwoIdeal.nD Cert.KernelTwoIdeal.τ).loc Cert.KernelTwoIdeal.main_v10_0)) (v1 : (c : Dev Cert.KernelTwoIdeal.nD) → Buf (Elt Ideal) ((c.tc : Thread Cert.KernelTwoIdeal.nD Cert.KernelTwoIdeal.τ).loc Cert.KernelTwoIdeal.main_v10_1)) (v2 : (c : Dev Cert.KernelTwoIdeal.nD) → Buf (Elt Ideal) ((c.tc : Thread Cert.KernelTwoIdeal.nD Cert.KernelTwoIdeal.τ).loc Cert.KernelTwoIdeal.main_v10_2)),
      θ_run (Cert.KernelTwoIdeal.defs (F := Ideal)) (onTc (τ := Cert.KernelTwoIdeal.τ) (Cert.KernelTwoIdeal.main (F := Ideal))) ⟨m, fun _ => 0, g⟩ (fun r => ∀ c : Dev Cert.KernelTwoIdeal.nD,
          r.2.mem ((c.tc : Thread Cert.KernelTwoIdeal.nD Cert.KernelTwoIdeal.τ).loc Cert.KernelTwoIdeal.main_v10_0) = v0 c
          ∧ r.2.mem ((c.tc : Thread Cert.KernelTwoIdeal.nD Cert.KernelTwoIdeal.τ).loc Cert.KernelTwoIdeal.main_v10_1) = v1 c
          ∧ r.2.mem ((c.tc : Thread Cert.KernelTwoIdeal.nD Cert.KernelTwoIdeal.τ).loc Cert.KernelTwoIdeal.main_v10_2) = v2 c
          ∧ r.2.mem ((c.tc : Thread Cert.KernelTwoIdeal.nD Cert.KernelTwoIdeal.τ).loc Cert.KernelTwoIdeal.main_arg0) = m ((c.tc : Thread Cert.KernelTwoIdeal.nD Cert.KernelTwoIdeal.τ).loc Cert.KernelTwoIdeal.main_arg0)
          ∧ r.2.mem ((c.tc : Thread Cert.KernelTwoIdeal.nD Cert.KernelTwoIdeal.τ).loc Cert.KernelTwoIdeal.main_arg1) = m ((c.tc : Thread Cert.KernelTwoIdeal.nD Cert.KernelTwoIdeal.τ).loc Cert.KernelTwoIdeal.main_arg1)
          ∧ r.2.mem ((c.tc : Thread Cert.KernelTwoIdeal.nD Cert.KernelTwoIdeal.τ).loc Cert.KernelTwoIdeal.main_arg2) = m ((c.tc : Thread Cert.KernelTwoIdeal.nD Cert.KernelTwoIdeal.τ).loc Cert.KernelTwoIdeal.main_arg2)
          ∧ r.2.mem ((c.tc : Thread Cert.KernelTwoIdeal.nD Cert.KernelTwoIdeal.τ).loc Cert.KernelTwoIdeal.main_arg3) = m ((c.tc : Thread Cert.KernelTwoIdeal.nD Cert.KernelTwoIdeal.τ).loc Cert.KernelTwoIdeal.main_arg3)
          ∧ r.2.mem ((c.tc : Thread Cert.KernelTwoIdeal.nD Cert.KernelTwoIdeal.τ).loc Cert.KernelTwoIdeal.main_arg4) = m ((c.tc : Thread Cert.KernelTwoIdeal.nD Cert.KernelTwoIdeal.τ).loc Cert.KernelTwoIdeal.main_arg4)
          ∧ r.2.mem ((c.tc : Thread Cert.KernelTwoIdeal.nD Cert.KernelTwoIdeal.τ).loc Cert.KernelTwoIdeal.main_arg5) = m ((c.tc : Thread Cert.KernelTwoIdeal.nD Cert.KernelTwoIdeal.τ).loc Cert.KernelTwoIdeal.main_arg5))
      ∧ θ_run (Cert.ReferenceTwoIdeal.defs (F := Ideal)) (onTc (τ := Cert.ReferenceTwoIdeal.τ) (Cert.ReferenceTwoIdeal.main (F := Ideal))) ⟨m', fun _ => 0, g'⟩ (fun r => ∀ c : Dev Cert.ReferenceTwoIdeal.nD,
          r.2.mem ((c.tc : Thread Cert.ReferenceTwoIdeal.nD Cert.ReferenceTwoIdeal.τ).loc Cert.ReferenceTwoIdeal.main_v13) = v0 c
          ∧ r.2.mem ((c.tc : Thread Cert.ReferenceTwoIdeal.nD Cert.ReferenceTwoIdeal.τ).loc Cert.ReferenceTwoIdeal.main_v15) = v1 c
          ∧ r.2.mem ((c.tc : Thread Cert.ReferenceTwoIdeal.nD Cert.ReferenceTwoIdeal.τ).loc Cert.ReferenceTwoIdeal.main_v16) = v2 c
          ∧ r.2.mem ((c.tc : Thread Cert.ReferenceTwoIdeal.nD Cert.ReferenceTwoIdeal.τ).loc Cert.ReferenceTwoIdeal.main_arg0) = m' ((c.tc : Thread Cert.ReferenceTwoIdeal.nD Cert.ReferenceTwoIdeal.τ).loc Cert.ReferenceTwoIdeal.main_arg0)
          ∧ r.2.mem ((c.tc : Thread Cert.ReferenceTwoIdeal.nD Cert.ReferenceTwoIdeal.τ).loc Cert.ReferenceTwoIdeal.main_arg1) = m' ((c.tc : Thread Cert.ReferenceTwoIdeal.nD Cert.ReferenceTwoIdeal.τ).loc Cert.ReferenceTwoIdeal.main_arg1)
          ∧ r.2.mem ((c.tc : Thread Cert.ReferenceTwoIdeal.nD Cert.ReferenceTwoIdeal.τ).loc Cert.ReferenceTwoIdeal.main_arg2) = m' ((c.tc : Thread Cert.ReferenceTwoIdeal.nD Cert.ReferenceTwoIdeal.τ).loc Cert.ReferenceTwoIdeal.main_arg2)
          ∧ r.2.mem ((c.tc : Thread Cert.ReferenceTwoIdeal.nD Cert.ReferenceTwoIdeal.τ).loc Cert.ReferenceTwoIdeal.main_arg3) = m' ((c.tc : Thread Cert.ReferenceTwoIdeal.nD Cert.ReferenceTwoIdeal.τ).loc Cert.ReferenceTwoIdeal.main_arg3)
          ∧ r.2.mem ((c.tc : Thread Cert.ReferenceTwoIdeal.nD Cert.ReferenceTwoIdeal.τ).loc Cert.ReferenceTwoIdeal.main_arg4) = m' ((c.tc : Thread Cert.ReferenceTwoIdeal.nD Cert.ReferenceTwoIdeal.τ).loc Cert.ReferenceTwoIdeal.main_arg4)
          ∧ r.2.mem ((c.tc : Thread Cert.ReferenceTwoIdeal.nD Cert.ReferenceTwoIdeal.τ).loc Cert.ReferenceTwoIdeal.main_arg5) = m' ((c.tc : Thread Cert.ReferenceTwoIdeal.nD Cert.ReferenceTwoIdeal.τ).loc Cert.ReferenceTwoIdeal.main_arg5))

def algebraic_KernelGivenIdeal_ReferenceGivenIdeal_pre_finite_given [hKernelGivenIdeal : Cert.KernelGivenIdeal.Facts] [hReferenceGivenIdeal : Cert.ReferenceGivenIdeal.Facts] [hPre_finite_given : Cert.Pre_finite_given.Facts] : Prop :=
  ∀ (m : (ℓ : Loc Cert.KernelGivenIdeal.nD Cert.KernelGivenIdeal.τ Cert.KernelGivenIdeal.sig) → Buf (Elt Ideal) ℓ) (g : Dev Cert.KernelGivenIdeal.nD → PrngReg)
    (m' : (ℓ : Loc Cert.ReferenceGivenIdeal.nD Cert.ReferenceGivenIdeal.τ Cert.ReferenceGivenIdeal.sig) → Buf (Elt Ideal) ℓ) (g' : Dev Cert.ReferenceGivenIdeal.nD → PrngReg), Pre_KernelGivenIdeal_finite_given m →
    (∀ c : Dev Cert.KernelGivenIdeal.nD,
      m' ((c.tc : Thread Cert.ReferenceGivenIdeal.nD Cert.ReferenceGivenIdeal.τ).loc Cert.ReferenceGivenIdeal.main_arg0) = m ((c.tc : Thread Cert.KernelGivenIdeal.nD Cert.KernelGivenIdeal.τ).loc Cert.KernelGivenIdeal.main_arg0)
      ∧ m' ((c.tc : Thread Cert.ReferenceGivenIdeal.nD Cert.ReferenceGivenIdeal.τ).loc Cert.ReferenceGivenIdeal.main_arg1) = m ((c.tc : Thread Cert.KernelGivenIdeal.nD Cert.KernelGivenIdeal.τ).loc Cert.KernelGivenIdeal.main_arg1)
      ∧ m' ((c.tc : Thread Cert.ReferenceGivenIdeal.nD Cert.ReferenceGivenIdeal.τ).loc Cert.ReferenceGivenIdeal.main_arg2) = m ((c.tc : Thread Cert.KernelGivenIdeal.nD Cert.KernelGivenIdeal.τ).loc Cert.KernelGivenIdeal.main_arg2)
      ∧ m' ((c.tc : Thread Cert.ReferenceGivenIdeal.nD Cert.ReferenceGivenIdeal.τ).loc Cert.ReferenceGivenIdeal.main_arg3) = m ((c.tc : Thread Cert.KernelGivenIdeal.nD Cert.KernelGivenIdeal.τ).loc Cert.KernelGivenIdeal.main_arg3)
      ∧ m' ((c.tc : Thread Cert.ReferenceGivenIdeal.nD Cert.ReferenceGivenIdeal.τ).loc Cert.ReferenceGivenIdeal.main_arg4) = m ((c.tc : Thread Cert.KernelGivenIdeal.nD Cert.KernelGivenIdeal.τ).loc Cert.KernelGivenIdeal.main_arg4)
      ∧ m' ((c.tc : Thread Cert.ReferenceGivenIdeal.nD Cert.ReferenceGivenIdeal.τ).loc Cert.ReferenceGivenIdeal.main_arg5) = m ((c.tc : Thread Cert.KernelGivenIdeal.nD Cert.KernelGivenIdeal.τ).loc Cert.KernelGivenIdeal.main_arg5)
      ∧ m' ((c.tc : Thread Cert.ReferenceGivenIdeal.nD Cert.ReferenceGivenIdeal.τ).loc Cert.ReferenceGivenIdeal.main_arg6) = m ((c.tc : Thread Cert.KernelGivenIdeal.nD Cert.KernelGivenIdeal.τ).loc Cert.KernelGivenIdeal.main_arg6)
      ∧ m' ((c.tc : Thread Cert.ReferenceGivenIdeal.nD Cert.ReferenceGivenIdeal.τ).loc Cert.ReferenceGivenIdeal.main_arg7) = m ((c.tc : Thread Cert.KernelGivenIdeal.nD Cert.KernelGivenIdeal.τ).loc Cert.KernelGivenIdeal.main_arg7)
      ∧ m' ((c.tc : Thread Cert.ReferenceGivenIdeal.nD Cert.ReferenceGivenIdeal.τ).loc Cert.ReferenceGivenIdeal.main_arg8) = m ((c.tc : Thread Cert.KernelGivenIdeal.nD Cert.KernelGivenIdeal.τ).loc Cert.KernelGivenIdeal.main_arg8)
      ∧ m' ((c.tc : Thread Cert.ReferenceGivenIdeal.nD Cert.ReferenceGivenIdeal.τ).loc Cert.ReferenceGivenIdeal.main_arg9) = m ((c.tc : Thread Cert.KernelGivenIdeal.nD Cert.KernelGivenIdeal.τ).loc Cert.KernelGivenIdeal.main_arg9)) →
    ∃ (v0 : (c : Dev Cert.KernelGivenIdeal.nD) → Buf (Elt Ideal) ((c.tc : Thread Cert.KernelGivenIdeal.nD Cert.KernelGivenIdeal.τ).loc Cert.KernelGivenIdeal.main_v25)),
      θ_run (Cert.KernelGivenIdeal.defs (F := Ideal)) (onTc (τ := Cert.KernelGivenIdeal.τ) (Cert.KernelGivenIdeal.main (F := Ideal))) ⟨m, fun _ => 0, g⟩ (fun r => ∀ c : Dev Cert.KernelGivenIdeal.nD,
          r.2.mem ((c.tc : Thread Cert.KernelGivenIdeal.nD Cert.KernelGivenIdeal.τ).loc Cert.KernelGivenIdeal.main_v25) = v0 c
          ∧ r.2.mem ((c.tc : Thread Cert.KernelGivenIdeal.nD Cert.KernelGivenIdeal.τ).loc Cert.KernelGivenIdeal.main_arg0) = m ((c.tc : Thread Cert.KernelGivenIdeal.nD Cert.KernelGivenIdeal.τ).loc Cert.KernelGivenIdeal.main_arg0)
          ∧ r.2.mem ((c.tc : Thread Cert.KernelGivenIdeal.nD Cert.KernelGivenIdeal.τ).loc Cert.KernelGivenIdeal.main_arg1) = m ((c.tc : Thread Cert.KernelGivenIdeal.nD Cert.KernelGivenIdeal.τ).loc Cert.KernelGivenIdeal.main_arg1)
          ∧ r.2.mem ((c.tc : Thread Cert.KernelGivenIdeal.nD Cert.KernelGivenIdeal.τ).loc Cert.KernelGivenIdeal.main_arg2) = m ((c.tc : Thread Cert.KernelGivenIdeal.nD Cert.KernelGivenIdeal.τ).loc Cert.KernelGivenIdeal.main_arg2)
          ∧ r.2.mem ((c.tc : Thread Cert.KernelGivenIdeal.nD Cert.KernelGivenIdeal.τ).loc Cert.KernelGivenIdeal.main_arg3) = m ((c.tc : Thread Cert.KernelGivenIdeal.nD Cert.KernelGivenIdeal.τ).loc Cert.KernelGivenIdeal.main_arg3)
          ∧ r.2.mem ((c.tc : Thread Cert.KernelGivenIdeal.nD Cert.KernelGivenIdeal.τ).loc Cert.KernelGivenIdeal.main_arg4) = m ((c.tc : Thread Cert.KernelGivenIdeal.nD Cert.KernelGivenIdeal.τ).loc Cert.KernelGivenIdeal.main_arg4)
          ∧ r.2.mem ((c.tc : Thread Cert.KernelGivenIdeal.nD Cert.KernelGivenIdeal.τ).loc Cert.KernelGivenIdeal.main_arg5) = m ((c.tc : Thread Cert.KernelGivenIdeal.nD Cert.KernelGivenIdeal.τ).loc Cert.KernelGivenIdeal.main_arg5)
          ∧ r.2.mem ((c.tc : Thread Cert.KernelGivenIdeal.nD Cert.KernelGivenIdeal.τ).loc Cert.KernelGivenIdeal.main_arg6) = m ((c.tc : Thread Cert.KernelGivenIdeal.nD Cert.KernelGivenIdeal.τ).loc Cert.KernelGivenIdeal.main_arg6)
          ∧ r.2.mem ((c.tc : Thread Cert.KernelGivenIdeal.nD Cert.KernelGivenIdeal.τ).loc Cert.KernelGivenIdeal.main_arg7) = m ((c.tc : Thread Cert.KernelGivenIdeal.nD Cert.KernelGivenIdeal.τ).loc Cert.KernelGivenIdeal.main_arg7)
          ∧ r.2.mem ((c.tc : Thread Cert.KernelGivenIdeal.nD Cert.KernelGivenIdeal.τ).loc Cert.KernelGivenIdeal.main_arg8) = m ((c.tc : Thread Cert.KernelGivenIdeal.nD Cert.KernelGivenIdeal.τ).loc Cert.KernelGivenIdeal.main_arg8)
          ∧ r.2.mem ((c.tc : Thread Cert.KernelGivenIdeal.nD Cert.KernelGivenIdeal.τ).loc Cert.KernelGivenIdeal.main_arg9) = m ((c.tc : Thread Cert.KernelGivenIdeal.nD Cert.KernelGivenIdeal.τ).loc Cert.KernelGivenIdeal.main_arg9))
      ∧ θ_run (Cert.ReferenceGivenIdeal.defs (F := Ideal)) (onTc (τ := Cert.ReferenceGivenIdeal.τ) (Cert.ReferenceGivenIdeal.main (F := Ideal))) ⟨m', fun _ => 0, g'⟩ (fun r => ∀ c : Dev Cert.ReferenceGivenIdeal.nD,
          r.2.mem ((c.tc : Thread Cert.ReferenceGivenIdeal.nD Cert.ReferenceGivenIdeal.τ).loc Cert.ReferenceGivenIdeal.main_v142) = v0 c
          ∧ r.2.mem ((c.tc : Thread Cert.ReferenceGivenIdeal.nD Cert.ReferenceGivenIdeal.τ).loc Cert.ReferenceGivenIdeal.main_arg0) = m' ((c.tc : Thread Cert.ReferenceGivenIdeal.nD Cert.ReferenceGivenIdeal.τ).loc Cert.ReferenceGivenIdeal.main_arg0)
          ∧ r.2.mem ((c.tc : Thread Cert.ReferenceGivenIdeal.nD Cert.ReferenceGivenIdeal.τ).loc Cert.ReferenceGivenIdeal.main_arg1) = m' ((c.tc : Thread Cert.ReferenceGivenIdeal.nD Cert.ReferenceGivenIdeal.τ).loc Cert.ReferenceGivenIdeal.main_arg1)
          ∧ r.2.mem ((c.tc : Thread Cert.ReferenceGivenIdeal.nD Cert.ReferenceGivenIdeal.τ).loc Cert.ReferenceGivenIdeal.main_arg2) = m' ((c.tc : Thread Cert.ReferenceGivenIdeal.nD Cert.ReferenceGivenIdeal.τ).loc Cert.ReferenceGivenIdeal.main_arg2)
          ∧ r.2.mem ((c.tc : Thread Cert.ReferenceGivenIdeal.nD Cert.ReferenceGivenIdeal.τ).loc Cert.ReferenceGivenIdeal.main_arg3) = m' ((c.tc : Thread Cert.ReferenceGivenIdeal.nD Cert.ReferenceGivenIdeal.τ).loc Cert.ReferenceGivenIdeal.main_arg3)
          ∧ r.2.mem ((c.tc : Thread Cert.ReferenceGivenIdeal.nD Cert.ReferenceGivenIdeal.τ).loc Cert.ReferenceGivenIdeal.main_arg4) = m' ((c.tc : Thread Cert.ReferenceGivenIdeal.nD Cert.ReferenceGivenIdeal.τ).loc Cert.ReferenceGivenIdeal.main_arg4)
          ∧ r.2.mem ((c.tc : Thread Cert.ReferenceGivenIdeal.nD Cert.ReferenceGivenIdeal.τ).loc Cert.ReferenceGivenIdeal.main_arg5) = m' ((c.tc : Thread Cert.ReferenceGivenIdeal.nD Cert.ReferenceGivenIdeal.τ).loc Cert.ReferenceGivenIdeal.main_arg5)
          ∧ r.2.mem ((c.tc : Thread Cert.ReferenceGivenIdeal.nD Cert.ReferenceGivenIdeal.τ).loc Cert.ReferenceGivenIdeal.main_arg6) = m' ((c.tc : Thread Cert.ReferenceGivenIdeal.nD Cert.ReferenceGivenIdeal.τ).loc Cert.ReferenceGivenIdeal.main_arg6)
          ∧ r.2.mem ((c.tc : Thread Cert.ReferenceGivenIdeal.nD Cert.ReferenceGivenIdeal.τ).loc Cert.ReferenceGivenIdeal.main_arg7) = m' ((c.tc : Thread Cert.ReferenceGivenIdeal.nD Cert.ReferenceGivenIdeal.τ).loc Cert.ReferenceGivenIdeal.main_arg7)
          ∧ r.2.mem ((c.tc : Thread Cert.ReferenceGivenIdeal.nD Cert.ReferenceGivenIdeal.τ).loc Cert.ReferenceGivenIdeal.main_arg8) = m' ((c.tc : Thread Cert.ReferenceGivenIdeal.nD Cert.ReferenceGivenIdeal.τ).loc Cert.ReferenceGivenIdeal.main_arg8)
          ∧ r.2.mem ((c.tc : Thread Cert.ReferenceGivenIdeal.nD Cert.ReferenceGivenIdeal.τ).loc Cert.ReferenceGivenIdeal.main_arg9) = m' ((c.tc : Thread Cert.ReferenceGivenIdeal.nD Cert.ReferenceGivenIdeal.τ).loc Cert.ReferenceGivenIdeal.main_arg9))

def Claim : Prop :=
  ∃ (hKernel : Cert.Kernel.Facts) (hKernelIdeal : Cert.KernelIdeal.Facts) (hReferenceIdeal : Cert.ReferenceIdeal.Facts) (hKernelTwoIdeal : Cert.KernelTwoIdeal.Facts) (hReferenceTwoIdeal : Cert.ReferenceTwoIdeal.Facts) (hKernelGivenIdeal : Cert.KernelGivenIdeal.Facts) (hReferenceGivenIdeal : Cert.ReferenceGivenIdeal.Facts) (hPre_finite_given : Cert.Pre_finite_given.Facts),
    quiescent_Kernel (hKernel := hKernel)
    ∧ quiescent_KernelIdeal (hKernelIdeal := hKernelIdeal)
    ∧ quiescent_ReferenceIdeal (hReferenceIdeal := hReferenceIdeal)
    ∧ quiescent_KernelTwoIdeal (hKernelTwoIdeal := hKernelTwoIdeal)
    ∧ quiescent_ReferenceTwoIdeal (hReferenceTwoIdeal := hReferenceTwoIdeal)
    ∧ quiescent_KernelGivenIdeal (hKernelGivenIdeal := hKernelGivenIdeal)
    ∧ quiescent_KernelGivenIdeal_pre_finite_given (hKernelGivenIdeal := hKernelGivenIdeal) (hPre_finite_given := hPre_finite_given)
    ∧ quiescent_ReferenceGivenIdeal (hReferenceGivenIdeal := hReferenceGivenIdeal)
    ∧ quiescent_ReferenceGivenIdeal_pre_finite_given (hReferenceGivenIdeal := hReferenceGivenIdeal) (hPre_finite_given := hPre_finite_given)
    ∧ preserves_Kernel_KernelIdeal
    ∧ algebraic_KernelTwoIdeal_ReferenceTwoIdeal (hKernelTwoIdeal := hKernelTwoIdeal) (hReferenceTwoIdeal := hReferenceTwoIdeal)
    ∧ algebraic_KernelGivenIdeal_ReferenceGivenIdeal_pre_finite_given (hKernelGivenIdeal := hKernelGivenIdeal) (hReferenceGivenIdeal := hReferenceGivenIdeal) (hPre_finite_given := hPre_finite_given)
-- ==== Pre_finite_given.lean ====
abbrev S1x2048x768 : Shape := ⟨3, ![1, 2048, 768]⟩
abbrev S768x768 : Shape := ⟨2, ![768, 768]⟩
abbrev S768 : Shape := ⟨1, ![768]⟩
abbrev S1x12x2048x2048 : Shape := ⟨4, ![1, 12, 2048, 2048]⟩
abbrev S_ : Shape := ⟨0, ![]⟩

class Facts : Prop where
  bcast_S_S1x2048x768 : S_.BroadcastsInDim S1x2048x768 (![] : Fin 0 → Fin S1x2048x768.rank)
  reducesTo_S1x2048x768_S_d0_1_2 : S1x2048x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S1x2048x768 .f32) (main_arg1 : FVec F S768x768 .f32) (main_arg2 : FVec F S768 .f32) (main_arg3 : FVec F S768x768 .f32) (main_arg4 : FVec F S768 .f32) (main_arg5 : FVec F S768x768 .f32) (main_arg6 : FVec F S768 .f32) (main_arg7 : FVec F S768x768 .f32) (main_arg8 : FVec F S768 .f32) (main_arg9 : FVec F S1x12x2048x2048 .f32) : IVec S_ 1 :=
  let main_v0 : FVec F S1x2048x768 .f32 := Host.absf main_arg0
  let main_cst : FVec F S_ .f32 := constant S_ .f32 0x7F800000#32
  let main_v1 : FVec F S1x2048x768 .f32 := broadcastInDim S1x2048x768 ![] bcast_S_S1x2048x768 main_cst
  let main_v2 : IVec S1x2048x768 1 := cmpf .olt main_v0 main_v1
  let main_c : IVec S_ 1 := constantI S_ 1 1#1
  let main_v3 : IVec S_ 1 := (fun x v => Host.reduce IntOp.andi x v reducesTo_S1x2048x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_v13 main_v16
-- ==== Kernel.lean ====
abbrev S1x2048x768 : Shape := ⟨3, ![1, 2048, 768]⟩
abbrev S768x768 : Shape := ⟨2, ![768, 768]⟩
abbrev S768 : Shape := ⟨1, ![768]⟩
abbrev S768x64 : Shape := ⟨2, ![768, 64]⟩
abbrev S64 : Shape := ⟨1, ![64]⟩
abbrev S64x64 : Shape := ⟨2, ![64, 64]⟩
abbrev S8x64 : Shape := ⟨2, ![8, 64]⟩
abbrev S8 : Shape := ⟨1, ![8]⟩
abbrev S2048x768 : Shape := ⟨2, ![2048, 768]⟩
abbrev S768x2048 : Shape := ⟨2, ![768, 2048]⟩
abbrev S_ : Shape := ⟨0, ![]⟩
abbrev S1 : Shape := ⟨1, ![1]⟩
abbrev S2 : Shape := ⟨1, ![2]⟩
abbrev S1x1x1x1 : Shape := ⟨4, ![1, 1, 1, 1]⟩
abbrev S1x12x2048x2048 : Shape := ⟨4, ![1, 12, 2048, 2048]⟩
abbrev S12x64x32x2048 : Shape := ⟨4, ![12, 64, 32, 2048]⟩
abbrev S32 : Shape := ⟨1, ![32]⟩
abbrev S1x1x32x1 : Shape := ⟨4, ![1, 1, 32, 1]⟩
abbrev S12x64x2048 : Shape := ⟨3, ![12, 64, 2048]⟩
abbrev S768x12x64 : Shape := ⟨3, ![768, 12, 64]⟩
abbrev S12x768x64 : Shape := ⟨3, ![12, 768, 64]⟩
abbrev S12x64x768 : Shape := ⟨3, ![12, 64, 768]⟩
abbrev S12x1x64 : Shape := ⟨3, ![12, 1, 64]⟩
abbrev S2048x2048 : Shape := ⟨2, ![2048, 2048]⟩
abbrev S64x2048 : Shape := ⟨2, ![64, 2048]⟩
abbrev S2048x1 : Shape := ⟨2, ![2048, 1]⟩
abbrev S256x768 : Shape := ⟨2, ![256, 768]⟩
abbrev S256x2048 : Shape := ⟨2, ![256, 2048]⟩
abbrev S8x2048 : Shape := ⟨2, ![8, 2048]⟩
abbrev S256x1 : Shape := ⟨2, ![256, 1]⟩
abbrev S256 : Shape := ⟨1, ![256]⟩
abbrev S1x256x1 : Shape := ⟨3, ![1, 256, 1]⟩
abbrev S1x1x1 : Shape := ⟨3, ![1, 1, 1]⟩
abbrev S256x2047 : Shape := ⟨2, ![256, 2047]⟩
abbrev S256x2 : Shape := ⟨2, ![256, 2]⟩
abbrev S256x2046 : Shape := ⟨2, ![256, 2046]⟩
abbrev S256x4 : Shape := ⟨2, ![256, 4]⟩
abbrev S256x2044 : Shape := ⟨2, ![256, 2044]⟩
abbrev S256x8 : Shape := ⟨2, ![256, 8]⟩
abbrev S256x2040 : Shape := ⟨2, ![256, 2040]⟩
abbrev S256x16 : Shape := ⟨2, ![256, 16]⟩
abbrev S256x2032 : Shape := ⟨2, ![256, 2032]⟩
abbrev S256x32 : Shape := ⟨2, ![256, 32]⟩
abbrev S256x2016 : Shape := ⟨2, ![256, 2016]⟩
abbrev S256x64 : Shape := ⟨2, ![256, 64]⟩
abbrev S256x1984 : Shape := ⟨2, ![256, 1984]⟩
abbrev S256x128 : Shape := ⟨2, ![256, 128]⟩
abbrev S256x1920 : Shape := ⟨2, ![256, 1920]⟩
abbrev S256x256 : Shape := ⟨2, ![256, 256]⟩
abbrev S256x1792 : Shape := ⟨2, ![256, 1792]⟩
abbrev S256x512 : Shape := ⟨2, ![256, 512]⟩
abbrev S256x1536 : Shape := ⟨2, ![256, 1536]⟩
abbrev S256x1024 : Shape := ⟨2, ![256, 1024]⟩
abbrev S8x32x2048 : Shape := ⟨3, ![8, 32, 2048]⟩
abbrev S12x2048x64 : Shape := ⟨3, ![12, 2048, 64]⟩
abbrev S768x256 : Shape := ⟨2, ![768, 256]⟩
abbrev S1x768x64 : Shape := ⟨3, ![1, 768, 64]⟩
abbrev S1x1x64 : Shape := ⟨3, ![1, 1, 64]⟩
abbrev S1x256x64 : Shape := ⟨3, ![1, 256, 64]⟩
abbrev S64x256 : Shape := ⟨2, ![64, 256]⟩
abbrev S1x64 : Shape := ⟨2, ![1, 64]⟩
abbrev S1x768 : Shape := ⟨2, ![1, 768]⟩
abbrev S1x2048x64 : Shape := ⟨3, ![1, 2048, 64]⟩
abbrev S1x64x768 : Shape := ⟨3, ![1, 64, 768]⟩
abbrev S1x8x2048 : Shape := ⟨3, ![1, 8, 2048]⟩
abbrev S8x1x2048 : Shape := ⟨3, ![8, 1, 2048]⟩
abbrev S2048x64 : Shape := ⟨2, ![2048, 64]⟩
abbrev S64x768 : Shape := ⟨2, ![64, 768]⟩

abbrev nBuf : Space → Nat
  | .hbm => 331
  | .vmem => 50
  | .smem => 0
  | _ => 0

abbrev hbmTy0_0 (i : Nat) : BufTy := match i % 128 with
  | 0 => ⟨S1x2048x768, .f32⟩
  | 1 => ⟨S768x768, .f32⟩
  | 2 => ⟨S768, .f32⟩
  | 3 => ⟨S768x768, .f32⟩
  | 4 => ⟨S768, .f32⟩
  | 5 => ⟨S768x768, .f32⟩
  | 6 => ⟨S768, .f32⟩
  | 7 => ⟨S768x768, .f32⟩
  | 8 => ⟨S768, .f32⟩
  | 9 => ⟨S768x64, .f32⟩
  | 10 => ⟨S64, .f32⟩
  | 11 => ⟨S64x64, .f32⟩
  | 12 => ⟨S64, .f32⟩
  | 13 => ⟨S8x64, .f32⟩
  | 14 => ⟨S8, .f32⟩
  | 15 => ⟨S2048x768, .f32⟩
  | 16 => ⟨S768x2048, .f32⟩
  | 17 => ⟨S_, .i32⟩
  | 18 => ⟨S_, .i32⟩
  | 19 => ⟨S_, .i32⟩
  | 20 => ⟨S_, .i32⟩
  | 21 => ⟨S1, .i32⟩
  | 22 => ⟨S_, .i32⟩
  | 23 => ⟨S_, .i32⟩
  | 24 => ⟨S_, .i32⟩
  | 25 => ⟨S1, .i32⟩
  | 26 => ⟨S2, .i32⟩
  | 27 => ⟨S_, .f32⟩
  | 28 => ⟨S_, .f32⟩
  | 29 => ⟨S_, .f32⟩
  | 30 => ⟨S_, .f32⟩
  | 31 => ⟨S1x1x1x1, .f32⟩
  | 32 => ⟨S1x1x1x1, .f32⟩
  | 33 => ⟨S1, .i32⟩
  | 34 => ⟨S_, .i32⟩
  | 35 => ⟨S1, .i32⟩
  | 36 => ⟨S_, .i32⟩
  | 37 => ⟨S1x12x2048x2048, .i64⟩
  | 38 => ⟨S1x12x2048x2048, .i64⟩
  | 39 => ⟨S1x12x2048x2048, .i64⟩
  | 40 => ⟨S1x12x2048x2048, .i64⟩
  | 41 => ⟨S_, .i64⟩
  | 42 => ⟨S1x12x2048x2048, .i64⟩
  | 43 => ⟨S1x12x2048x2048, .i64⟩
  | 44 => ⟨S_, .i64⟩
  | 45 => ⟨S1x12x2048x2048, .i64⟩
  | 46 => ⟨S1x12x2048x2048, .i64⟩
  | 47 => ⟨S_, .i64⟩
  | 48 => ⟨S1x12x2048x2048, .i64⟩
  | 49 => ⟨S1x12x2048x2048, .i64⟩
  | 50 => ⟨S_, .i64⟩
  | 51 => ⟨S1x12x2048x2048, .i64⟩
  | 52 => ⟨S1x12x2048x2048, .i64⟩
  | 53 => ⟨S1x12x2048x2048, .i64⟩
  | 54 => ⟨S1x12x2048x2048, .i64⟩
  | 55 => ⟨S1x12x2048x2048, .i64⟩
  | 56 => ⟨S_, .i64⟩
  | 57 => ⟨S1x12x2048x2048, .i64⟩
  | 58 => ⟨S1x12x2048x2048, .i64⟩
  | 59 => ⟨S1x12x2048x2048, .i32⟩
  | 60 => ⟨S1x12x2048x2048, .i32⟩
  | 61 => ⟨S_, .i32⟩
  | 62 => ⟨S_, .i32⟩
  | 63 => ⟨S_, .i32⟩
  | 64 => ⟨S1x12x2048x2048, .i32⟩
  | 65 => ⟨S1x12x2048x2048, .i32⟩
  | 66 => ⟨S1x12x2048x2048, .i32⟩
  | 67 => ⟨S1x12x2048x2048, .i32⟩
  | 68 => ⟨S1x12x2048x2048, .i32⟩
  | 69 => ⟨S_, .i32⟩
  | 70 => ⟨S1x12x2048x2048, .i32⟩
  | 71 => ⟨S1x12x2048x2048, .i32⟩
  | 72 => ⟨S_, .i32⟩
  | 73 => ⟨S1x12x2048x2048, .i32⟩
  | 74 => ⟨S1x12x2048x2048, .i32⟩
  | 75 => ⟨S1x12x2048x2048, .i32⟩
  | 76 => ⟨S1x12x2048x2048, .i32⟩
  | 77 => ⟨S1x12x2048x2048, .i32⟩
  | 78 => ⟨S_, .i32⟩
  | 79 => ⟨S1x12x2048x2048, .i32⟩
  | 80 => ⟨S1x12x2048x2048, .i32⟩
  | 81 => ⟨S_, .i32⟩
  | 82 => ⟨S1x12x2048x2048, .i32⟩
  | 83 => ⟨S1x12x2048x2048, .i32⟩
  | 84 => ⟨S1x12x2048x2048, .i32⟩
  | 85 => ⟨S1x12x2048x2048, .i32⟩
  | 86 => ⟨S1x12x2048x2048, .i32⟩
  | 87 => ⟨S_, .i32⟩
  | 88 => ⟨S1x12x2048x2048, .i32⟩
  | 89 => ⟨S1x12x2048x2048, .i32⟩
  | 90 => ⟨S_, .i32⟩
  | 91 => ⟨S1x12x2048x2048, .i32⟩
  | 92 => ⟨S1x12x2048x2048, .i32⟩
  | 93 => ⟨S1x12x2048x2048, .i32⟩
  | 94 => ⟨S1x12x2048x2048, .i32⟩
  | 95 => ⟨S1x12x2048x2048, .i32⟩
  | 96 => ⟨S_, .i32⟩
  | 97 => ⟨S1x12x2048x2048, .i32⟩
  | 98 => ⟨S1x12x2048x2048, .i32⟩
  | 99 => ⟨S_, .i32⟩
  | 100 => ⟨S1x12x2048x2048, .i32⟩
  | 101 => ⟨S1x12x2048x2048, .i32⟩
  | 102 => ⟨S1x12x2048x2048, .i32⟩
  | 103 => ⟨S1x12x2048x2048, .i32⟩
  | 104 => ⟨S1x12x2048x2048, .i32⟩
  | 105 => ⟨S1x12x2048x2048, .i32⟩
  | 106 => ⟨S1x12x2048x2048, .i32⟩
  | 107 => ⟨S1x12x2048x2048, .i32⟩
  | 108 => ⟨S_, .i32⟩
  | 109 => ⟨S1x12x2048x2048, .i32⟩
  | 110 => ⟨S1x12x2048x2048, .i32⟩
  | 111 => ⟨S1x12x2048x2048, .i32⟩
  | 112 => ⟨S_, .i32⟩
  | 113 => ⟨S1x12x2048x2048, .i32⟩
  | 114 => ⟨S1x12x2048x2048, .i32⟩
  | 115 => ⟨S_, .i32⟩
  | 116 => ⟨S1x12x2048x2048, .i32⟩
  | 117 => ⟨S1x12x2048x2048, .i32⟩
  | 118 => ⟨S1x12x2048x2048, .i32⟩
  | 119 => ⟨S1x12x2048x2048, .i32⟩
  | 120 => ⟨S1x12x2048x2048, .i32⟩
  | 121 => ⟨S_, .i32⟩
  | 122 => ⟨S1x12x2048x2048, .i32⟩
  | 123 => ⟨S1x12x2048x2048, .i32⟩
  | 124 => ⟨S_, .i32⟩
  | 125 => ⟨S1x12x2048x2048, .i32⟩
  | 126 => ⟨S1x12x2048x2048, .i32⟩
  | 127 => ⟨S1x12x2048x2048, .i32⟩
  | _ => ⟨S1x2048x768, .f32⟩

abbrev hbmTy0_1 (i : Nat) : BufTy := match i % 128 with
  | 0 => ⟨S1x12x2048x2048, .i32⟩
  | 1 => ⟨S1x12x2048x2048, .i32⟩
  | 2 => ⟨S_, .i32⟩
  | 3 => ⟨S1x12x2048x2048, .i32⟩
  | 4 => ⟨S1x12x2048x2048, .i32⟩
  | 5 => ⟨S_, .i32⟩
  | 6 => ⟨S1x12x2048x2048, .i32⟩
  | 7 => ⟨S1x12x2048x2048, .i32⟩
  | 8 => ⟨S1x12x2048x2048, .i32⟩
  | 9 => ⟨S1x12x2048x2048, .i32⟩
  | 10 => ⟨S1x12x2048x2048, .i32⟩
  | 11 => ⟨S_, .i32⟩
  | 12 => ⟨S1x12x2048x2048, .i32⟩
  | 13 => ⟨S1x12x2048x2048, .i32⟩
  | 14 => ⟨S_, .i32⟩
  | 15 => ⟨S1x12x2048x2048, .i32⟩
  | 16 => ⟨S1x12x2048x2048, .i32⟩
  | 17 => ⟨S1x12x2048x2048, .i32⟩
  | 18 => ⟨S1x12x2048x2048, .i32⟩
  | 19 => ⟨S1x12x2048x2048, .i32⟩
  | 20 => ⟨S1x12x2048x2048, .i32⟩
  | 21 => ⟨S1x12x2048x2048, .i32⟩
  | 22 => ⟨S1x12x2048x2048, .i32⟩
  | 23 => ⟨S_, .i32⟩
  | 24 => ⟨S1x12x2048x2048, .i32⟩
  | 25 => ⟨S1x12x2048x2048, .i32⟩
  | 26 => ⟨S1x12x2048x2048, .i32⟩
  | 27 => ⟨S_, .i32⟩
  | 28 => ⟨S1x12x2048x2048, .i32⟩
  | 29 => ⟨S1x12x2048x2048, .i32⟩
  | 30 => ⟨S_, .i32⟩
  | 31 => ⟨S1x12x2048x2048, .i32⟩
  | 32 => ⟨S1x12x2048x2048, .i32⟩
  | 33 => ⟨S1x12x2048x2048, .i32⟩
  | 34 => ⟨S1x12x2048x2048, .i32⟩
  | 35 => ⟨S1x12x2048x2048, .i32⟩
  | 36 => ⟨S_, .i32⟩
  | 37 => ⟨S1x12x2048x2048, .i32⟩
  | 38 => ⟨S1x12x2048x2048, .i32⟩
  | 39 => ⟨S_, .i32⟩
  | 40 => ⟨S1x12x2048x2048, .i32⟩
  | 41 => ⟨S1x12x2048x2048, .i32⟩
  | 42 => ⟨S1x12x2048x2048, .i32⟩
  | 43 => ⟨S1x12x2048x2048, .i32⟩
  | 44 => ⟨S1x12x2048x2048, .i32⟩
  | 45 => ⟨S_, .i32⟩
  | 46 => ⟨S1x12x2048x2048, .i32⟩
  | 47 => ⟨S1x12x2048x2048, .i32⟩
  | 48 => ⟨S_, .i32⟩
  | 49 => ⟨S1x12x2048x2048, .i32⟩
  | 50 => ⟨S1x12x2048x2048, .i32⟩
  | 51 => ⟨S1x12x2048x2048, .i32⟩
  | 52 => ⟨S1x12x2048x2048, .i32⟩
  | 53 => ⟨S1x12x2048x2048, .i32⟩
  | 54 => ⟨S_, .i32⟩
  | 55 => ⟨S1x12x2048x2048, .i32⟩
  | 56 => ⟨S1x12x2048x2048, .i32⟩
  | 57 => ⟨S_, .i32⟩
  | 58 => ⟨S1x12x2048x2048, .i32⟩
  | 59 => ⟨S1x12x2048x2048, .i32⟩
  | 60 => ⟨S1x12x2048x2048, .i32⟩
  | 61 => ⟨S1x12x2048x2048, .i32⟩
  | 62 => ⟨S1x12x2048x2048, .i32⟩
  | 63 => ⟨S1x12x2048x2048, .i32⟩
  | 64 => ⟨S1x12x2048x2048, .i32⟩
  | 65 => ⟨S1x12x2048x2048, .i32⟩
  | 66 => ⟨S_, .i32⟩
  | 67 => ⟨S1x12x2048x2048, .i32⟩
  | 68 => ⟨S1x12x2048x2048, .i32⟩
  | 69 => ⟨S1x12x2048x2048, .i32⟩
  | 70 => ⟨S_, .i32⟩
  | 71 => ⟨S1x12x2048x2048, .i32⟩
  | 72 => ⟨S1x12x2048x2048, .i32⟩
  | 73 => ⟨S_, .i32⟩
  | 74 => ⟨S1x12x2048x2048, .i32⟩
  | 75 => ⟨S1x12x2048x2048, .i32⟩
  | 76 => ⟨S1x12x2048x2048, .i32⟩
  | 77 => ⟨S1x12x2048x2048, .i32⟩
  | 78 => ⟨S1x12x2048x2048, .i32⟩
  | 79 => ⟨S_, .i32⟩
  | 80 => ⟨S1x12x2048x2048, .i32⟩
  | 81 => ⟨S1x12x2048x2048, .i32⟩
  | 82 => ⟨S_, .i32⟩
  | 83 => ⟨S1x12x2048x2048, .i32⟩
  | 84 => ⟨S1x12x2048x2048, .i32⟩
  | 85 => ⟨S1x12x2048x2048, .i32⟩
  | 86 => ⟨S1x12x2048x2048, .i32⟩
  | 87 => ⟨S1x12x2048x2048, .i32⟩
  | 88 => ⟨S_, .i32⟩
  | 89 => ⟨S1x12x2048x2048, .i32⟩
  | 90 => ⟨S1x12x2048x2048, .i32⟩
  | 91 => ⟨S_, .i32⟩
  | 92 => ⟨S1x12x2048x2048, .i32⟩
  | 93 => ⟨S1x12x2048x2048, .i32⟩
  | 94 => ⟨S1x12x2048x2048, .i32⟩
  | 95 => ⟨S1x12x2048x2048, .i32⟩
  | 96 => ⟨S1x12x2048x2048, .i32⟩
  | 97 => ⟨S_, .i32⟩
  | 98 => ⟨S1x12x2048x2048, .i32⟩
  | 99 => ⟨S1x12x2048x2048, .i32⟩
  | 100 => ⟨S_, .i32⟩
  | 101 => ⟨S1x12x2048x2048, .i32⟩
  | 102 => ⟨S1x12x2048x2048, .i32⟩
  | 103 => ⟨S1x12x2048x2048, .i32⟩
  | 104 => ⟨S1x12x2048x2048, .i32⟩
  | 105 => ⟨S1x12x2048x2048, .i32⟩
  | 106 => ⟨S1x12x2048x2048, .i32⟩
  | 107 => ⟨S1x12x2048x2048, .i32⟩
  | 108 => ⟨S1x12x2048x2048, .i32⟩
  | 109 => ⟨S_, .i32⟩
  | 110 => ⟨S1x12x2048x2048, .i32⟩
  | 111 => ⟨S1x12x2048x2048, .i32⟩
  | 112 => ⟨S1x12x2048x2048, .i32⟩
  | 113 => ⟨S_, .i32⟩
  | 114 => ⟨S1x12x2048x2048, .i32⟩
  | 115 => ⟨S1x12x2048x2048, .i32⟩
  | 116 => ⟨S_, .i32⟩
  | 117 => ⟨S1x12x2048x2048, .i32⟩
  | 118 => ⟨S1x12x2048x2048, .i32⟩
  | 119 => ⟨S1x12x2048x2048, .i32⟩
  | 120 => ⟨S1x12x2048x2048, .i32⟩
  | 121 => ⟨S1x12x2048x2048, .i32⟩
  | 122 => ⟨S_, .i32⟩
  | 123 => ⟨S1x12x2048x2048, .i32⟩
  | 124 => ⟨S1x12x2048x2048, .i32⟩
  | 125 => ⟨S_, .i32⟩
  | 126 => ⟨S1x12x2048x2048, .i32⟩
  | 127 => ⟨S1x12x2048x2048, .i32⟩
  | _ => ⟨S1x2048x768, .f32⟩

abbrev hbmTy0_2 (i : Nat) : BufTy := match i % 128 with
  | 0 => ⟨S1x12x2048x2048, .i32⟩
  | 1 => ⟨S1x12x2048x2048, .i32⟩
  | 2 => ⟨S1x12x2048x2048, .i32⟩
  | 3 => ⟨S_, .i32⟩
  | 4 => ⟨S1x12x2048x2048, .i32⟩
  | 5 => ⟨S1x12x2048x2048, .i32⟩
  | 6 => ⟨S_, .i32⟩
  | 7 => ⟨S1x12x2048x2048, .i32⟩
  | 8 => ⟨S1x12x2048x2048, .i32⟩
  | 9 => ⟨S1x12x2048x2048, .i32⟩
  | 10 => ⟨S1x12x2048x2048, .i32⟩
  | 11 => ⟨S1x12x2048x2048, .i32⟩
  | 12 => ⟨S_, .i32⟩
  | 13 => ⟨S1x12x2048x2048, .i32⟩
  | 14 => ⟨S1x12x2048x2048, .i32⟩
  | 15 => ⟨S_, .i32⟩
  | 16 => ⟨S1x12x2048x2048, .i32⟩
  | 17 => ⟨S1x12x2048x2048, .i32⟩
  | 18 => ⟨S1x12x2048x2048, .i32⟩
  | 19 => ⟨S1x12x2048x2048, .i32⟩
  | 20 => ⟨S1x12x2048x2048, .i32⟩
  | 21 => ⟨S1x12x2048x2048, .i32⟩
  | 22 => ⟨S1x12x2048x2048, .i32⟩
  | 23 => ⟨S1x12x2048x2048, .i32⟩
  | 24 => ⟨S_, .i32⟩
  | 25 => ⟨S1x12x2048x2048, .i32⟩
  | 26 => ⟨S1x12x2048x2048, .i32⟩
  | 27 => ⟨S1x12x2048x2048, .i32⟩
  | 28 => ⟨S_, .i32⟩
  | 29 => ⟨S1x12x2048x2048, .i32⟩
  | 30 => ⟨S1x12x2048x2048, .i32⟩
  | 31 => ⟨S_, .i32⟩
  | 32 => ⟨S1x12x2048x2048, .i32⟩
  | 33 => ⟨S1x12x2048x2048, .i32⟩
  | 34 => ⟨S1x12x2048x2048, .f32⟩
  | 35 => ⟨S_, .f32⟩
  | 36 => ⟨S1x12x2048x2048, .f32⟩
  | 37 => ⟨S1x12x2048x2048, .f32⟩
  | 38 => ⟨S1x1x1x1, .f32⟩
  | 39 => ⟨S1x12x2048x2048, .f32⟩
  | 40 => ⟨S1x12x2048x2048, .f32⟩
  | 41 => ⟨S1x12x2048x2048, .f32⟩
  | 42 => ⟨S1x12x2048x2048, .f32⟩
  | 43 => ⟨S1x12x2048x2048, .f32⟩
  | 44 => ⟨S1x12x2048x2048, .f32⟩
  | 45 => ⟨S_, .f32⟩
  | 46 => ⟨S1x12x2048x2048, .f32⟩
  | 47 => ⟨S1x12x2048x2048, .i1⟩
  | 48 => ⟨S12x64x32x2048, .i1⟩
  | 49 => ⟨S12x64x32x2048, .i32⟩
  | 50 => ⟨S32, .i32⟩
  | 51 => ⟨S1x1x32x1, .i32⟩
  | 52 => ⟨S12x64x32x2048, .i32⟩
  | 53 => ⟨S12x64x32x2048, .i32⟩
  | 54 => ⟨S_, .i32⟩
  | 55 => ⟨S12x64x2048, .i32⟩
  | 56 => ⟨S768x12x64, .f32⟩
  | 57 => ⟨S12x768x64, .f32⟩
  | 58 => ⟨S768x12x64, .f32⟩
  | 59 => ⟨S12x768x64, .f32⟩
  | 60 => ⟨S768x12x64, .f32⟩
  | 61 => ⟨S12x768x64, .f32⟩
  | 62 => ⟨S12x64x768, .f32⟩
  | 63 => ⟨S12x1x64, .f32⟩
  | 64 => ⟨S12x1x64, .f32⟩
  | 65 => ⟨S12x1x64, .f32⟩
  | 66 => ⟨S2048x2048, .f32⟩
  | 67 => ⟨S64x2048, .i32⟩
  | 68 => ⟨S2048x1, .f32⟩
  | 69 => ⟨S12x2048x64, .f32⟩
  | 70 => ⟨S768x2048, .f32⟩
  | 71 => ⟨S12x2048x64, .f32⟩
  | 72 => ⟨S1x768, .f32⟩
  | 73 => ⟨S2048x768, .f32⟩
  | 74 => ⟨S1x2048x768, .f32⟩
  | _ => ⟨S1x2048x768, .f32⟩

abbrev hbmTy (i : Nat) : BufTy := match i / 128 with
  | 0 => hbmTy0_0 i
  | 1 => hbmTy0_1 i
  | 2 => hbmTy0_2 i
  | _ => ⟨S1x2048x768, .f32⟩

abbrev bufTy : (tb : Table) → Fin (tcTables nBuf tb) → BufTy
  | .hbm, ⟨i, _⟩ => hbmTy i
  | .local _ .vmem, ⟨0, _⟩ => ⟨S256x768, .f32⟩
  | .local _ .vmem, ⟨1, _⟩ => ⟨S256x768, .f32⟩
  | .local _ .vmem, ⟨2, _⟩ => ⟨S768x2048, .f32⟩
  | .local _ .vmem, ⟨3, _⟩ => ⟨S256x2048, .f32⟩
  | .local _ .vmem, ⟨4, _⟩ => ⟨S256x2048, .f32⟩
  | .local _ .vmem, ⟨5, _⟩ => ⟨S8x2048, .i32⟩
  | .local _ .vmem, ⟨6, _⟩ => ⟨S8x2048, .i32⟩
  | .local _ .vmem, ⟨7, _⟩ => ⟨S256x1, .f32⟩
  | .local _ .vmem, ⟨8, _⟩ => ⟨S256x1, .f32⟩
  | .local _ .vmem, ⟨9, _⟩ => ⟨S256x768, .f32⟩
  | .local _ .vmem, ⟨10, _⟩ => ⟨S256x768, .f32⟩
  | .local _ .vmem, ⟨11, _⟩ => ⟨S768x256, .f32⟩
  | .local _ .vmem, ⟨12, _⟩ => ⟨S768x256, .f32⟩
  | .local _ .vmem, ⟨13, _⟩ => ⟨S1x768x64, .f32⟩
  | .local _ .vmem, ⟨14, _⟩ => ⟨S1x768x64, .f32⟩
  | .local _ .vmem, ⟨15, _⟩ => ⟨S1x768x64, .f32⟩
  | .local _ .vmem, ⟨16, _⟩ => ⟨S1x768x64, .f32⟩
  | .local _ .vmem, ⟨17, _⟩ => ⟨S1x768x64, .f32⟩
  | .local _ .vmem, ⟨18, _⟩ => ⟨S1x768x64, .f32⟩
  | .local _ .vmem, ⟨19, _⟩ => ⟨S1x1x64, .f32⟩
  | .local _ .vmem, ⟨20, _⟩ => ⟨S1x1x64, .f32⟩
  | .local _ .vmem, ⟨21, _⟩ => ⟨S1x1x64, .f32⟩
  | .local _ .vmem, ⟨22, _⟩ => ⟨S1x1x64, .f32⟩
  | .local _ .vmem, ⟨23, _⟩ => ⟨S1x256x64, .f32⟩
  | .local _ .vmem, ⟨24, _⟩ => ⟨S1x256x64, .f32⟩
  | .local _ .vmem, ⟨25, _⟩ => ⟨S64x256, .f32⟩
  | .local _ .vmem, ⟨26, _⟩ => ⟨S64x256, .f32⟩
  | .local _ .vmem, ⟨27, _⟩ => ⟨S1x256x64, .f32⟩
  | .local _ .vmem, ⟨28, _⟩ => ⟨S1x256x64, .f32⟩
  | .local _ .vmem, ⟨29, _⟩ => ⟨S1x256x64, .f32⟩
  | .local _ .vmem, ⟨30, _⟩ => ⟨S1x256x64, .f32⟩
  | .local _ .vmem, ⟨31, _⟩ => ⟨S64x2048, .f32⟩
  | .local _ .vmem, ⟨32, _⟩ => ⟨S64x2048, .f32⟩
  | .local _ .vmem, ⟨33, _⟩ => ⟨S1x2048x64, .f32⟩
  | .local _ .vmem, ⟨34, _⟩ => ⟨S1x2048x64, .f32⟩
  | .local _ .vmem, ⟨35, _⟩ => ⟨S1x1x64, .f32⟩
  | .local _ .vmem, ⟨36, _⟩ => ⟨S1x1x64, .f32⟩
  | .local _ .vmem, ⟨37, _⟩ => ⟨S1x64x768, .f32⟩
  | .local _ .vmem, ⟨38, _⟩ => ⟨S1x64x768, .f32⟩
  | .local _ .vmem, ⟨39, _⟩ => ⟨S1x768, .f32⟩
  | .local _ .vmem, ⟨40, _⟩ => ⟨S256x2048, .f32⟩
  | .local _ .vmem, ⟨41, _⟩ => ⟨S256x2048, .f32⟩
  | .local _ .vmem, ⟨42, _⟩ => ⟨S8x2048, .i32⟩
  | .local _ .vmem, ⟨43, _⟩ => ⟨S8x2048, .i32⟩
  | .local _ .vmem, ⟨44, _⟩ => ⟨S1x8x2048, .i32⟩
  | .local _ .vmem, ⟨45, _⟩ => ⟨S1x8x2048, .i32⟩
  | .local _ .vmem, ⟨46, _⟩ => ⟨S256x1, .f32⟩
  | .local _ .vmem, ⟨47, _⟩ => ⟨S256x1, .f32⟩
  | .local _ .vmem, ⟨48, _⟩ => ⟨S256x768, .f32⟩
  | .local _ .vmem, ⟨49, _⟩ => ⟨S256x768, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c : Ref sig .tc := ⟨.hbm, 41, rfl⟩
abbrev main_call0_v12 : Ref sig .tc := ⟨.hbm, 42, rfl⟩
abbrev main_call0_v13 : Ref sig .tc := ⟨.hbm, 43, rfl⟩
abbrev main_call0_c_0 : Ref sig .tc := ⟨.hbm, 44, rfl⟩
abbrev main_call0_v14 : Ref sig .tc := ⟨.hbm, 45, rfl⟩
abbrev main_call0_v15 : Ref sig .tc := ⟨.hbm, 46, rfl⟩
abbrev main_call0_c_1 : Ref sig .tc := ⟨.hbm, 47, rfl⟩
abbrev main_call0_v16 : Ref sig .tc := ⟨.hbm, 48, rfl⟩
abbrev main_call0_v17 : Ref sig .tc := ⟨.hbm, 49, rfl⟩
abbrev main_call0_c_2 : Ref sig .tc := ⟨.hbm, 50, rfl⟩
abbrev main_call0_v18 : Ref sig .tc := ⟨.hbm, 51, rfl⟩
abbrev main_call0_v19 : Ref sig .tc := ⟨.hbm, 52, rfl⟩
abbrev main_call0_v20 : Ref sig .tc := ⟨.hbm, 53, rfl⟩
abbrev main_call0_v21 : Ref sig .tc := ⟨.hbm, 54, rfl⟩
abbrev main_call0_v22 : Ref sig .tc := ⟨.hbm, 55, rfl⟩
abbrev main_call0_c_3 : Ref sig .tc := ⟨.hbm, 56, rfl⟩
abbrev main_call0_v23 : Ref sig .tc := ⟨.hbm, 57, rfl⟩
abbrev main_call0_v24 : Ref sig .tc := ⟨.hbm, 58, rfl⟩
abbrev main_call0_v25 : Ref sig .tc := ⟨.hbm, 59, rfl⟩
abbrev main_call0_v26 : Ref sig .tc := ⟨.hbm, 60, rfl⟩
abbrev main_call0_call0_v0 : Ref sig .tc := ⟨.hbm, 61, rfl⟩
abbrev main_call0_call0_c : Ref sig .tc := ⟨.hbm, 62, rfl⟩
abbrev main_call0_call0_v1 : Ref sig .tc := ⟨.hbm, 63, rfl⟩
abbrev main_call0_call0_v2 : Ref sig .tc := ⟨.hbm, 64, rfl⟩
abbrev main_call0_call0_v3 : Ref sig .tc := ⟨.hbm, 65, rfl⟩
abbrev main_call0_call0_v4 : Ref sig .tc := ⟨.hbm, 66, rfl⟩
abbrev main_call0_call0_v5 : Ref sig .tc := ⟨.hbm, 67, rfl⟩
abbrev main_call0_call0_v6 : Ref sig .tc := ⟨.hbm, 68, rfl⟩
abbrev main_call0_call0_c_0 : Ref sig .tc := ⟨.hbm, 69, rfl⟩
abbrev main_call0_call0_v7 : Ref sig .tc := ⟨.hbm, 70, rfl⟩
abbrev main_call0_call0_v8 : Ref sig .tc := ⟨.hbm, 71, rfl⟩
abbrev main_call0_call0_c_1 : Ref sig .tc := ⟨.hbm, 72, rfl⟩
abbrev main_call0_call0_v9 : Ref sig .tc := ⟨.hbm, 73, rfl⟩
abbrev main_call0_call0_v10 : Ref sig .tc := ⟨.hbm, 74, rfl⟩
abbrev main_call0_call0_v11 : Ref sig .tc := ⟨.hbm, 75, rfl⟩
abbrev main_call0_call0_v12 : Ref sig .tc := ⟨.hbm, 76, rfl⟩
abbrev main_call0_call0_v13 : Ref sig .tc := ⟨.hbm, 77, rfl⟩
abbrev main_call0_call0_c_2 : Ref sig .tc := ⟨.hbm, 78, rfl⟩
abbrev main_call0_call0_v14 : Ref sig .tc := ⟨.hbm, 79, rfl⟩
abbrev main_call0_call0_v15 : Ref sig .tc := ⟨.hbm, 80, rfl⟩
abbrev main_call0_call0_c_3 : Ref sig .tc := ⟨.hbm, 81, rfl⟩
abbrev main_call0_call0_v16 : Ref sig .tc := ⟨.hbm, 82, rfl⟩
abbrev main_call0_call0_v17 : Ref sig .tc := ⟨.hbm, 83, rfl⟩
abbrev main_call0_call0_v18 : Ref sig .tc := ⟨.hbm, 84, rfl⟩
abbrev main_call0_call0_v19 : Ref sig .tc := ⟨.hbm, 85, rfl⟩
abbrev main_call0_call0_v20 : Ref sig .tc := ⟨.hbm, 86, rfl⟩
abbrev main_call0_call0_c_4 : Ref sig .tc := ⟨.hbm, 87, rfl⟩
abbrev main_call0_call0_v21 : Ref sig .tc := ⟨.hbm, 88, rfl⟩
abbrev main_call0_call0_v22 : Ref sig .tc := ⟨.hbm, 89, rfl⟩
abbrev main_call0_call0_c_5 : Ref sig .tc := ⟨.hbm, 90, rfl⟩
abbrev main_call0_call0_v23 : Ref sig .tc := ⟨.hbm, 91, rfl⟩
abbrev main_call0_call0_v24 : Ref sig .tc := ⟨.hbm, 92, rfl⟩
abbrev main_call0_call0_v25 : Ref sig .tc := ⟨.hbm, 93, rfl⟩
abbrev main_call0_call0_v26 : Ref sig .tc := ⟨.hbm, 94, rfl⟩
abbrev main_call0_call0_v27 : Ref sig .tc := ⟨.hbm, 95, rfl⟩
abbrev main_call0_call0_c_6 : Ref sig .tc := ⟨.hbm, 96, rfl⟩
abbrev main_call0_call0_v28 : Ref sig .tc := ⟨.hbm, 97, rfl⟩
abbrev main_call0_call0_v29 : Ref sig .tc := ⟨.hbm, 98, rfl⟩
abbrev main_call0_call0_c_7 : Ref sig .tc := ⟨.hbm, 99, rfl⟩
abbrev main_call0_call0_v30 : Ref sig .tc := ⟨.hbm, 100, rfl⟩
abbrev main_call0_call0_v31 : Ref sig .tc := ⟨.hbm, 101, rfl⟩
abbrev main_call0_call0_v32 : Ref sig .tc := ⟨.hbm, 102, rfl⟩
abbrev main_call0_call0_v33 : Ref sig .tc := ⟨.hbm, 103, rfl⟩
abbrev main_call0_call0_v34 : Ref sig .tc := ⟨.hbm, 104, rfl⟩
abbrev main_call0_call0_v35 : Ref sig .tc := ⟨.hbm, 105, rfl⟩
abbrev main_call0_call0_v36 : Ref sig .tc := ⟨.hbm, 106, rfl⟩
abbrev main_call0_call0_v37 : Ref sig .tc := ⟨.hbm, 107, rfl⟩
abbrev main_call0_call0_c_8 : Ref sig .tc := ⟨.hbm, 108, rfl⟩
abbrev main_call0_call0_v38 : Ref sig .tc := ⟨.hbm, 109, rfl⟩
abbrev main_call0_call0_v39 : Ref sig .tc := ⟨.hbm, 110, rfl⟩
abbrev main_call0_call0_v40 : Ref sig .tc := ⟨.hbm, 111, rfl⟩
abbrev main_call0_call0_c_9 : Ref sig .tc := ⟨.hbm, 112, rfl⟩
abbrev main_call0_call0_v41 : Ref sig .tc := ⟨.hbm, 113, rfl⟩
abbrev main_call0_call0_v42 : Ref sig .tc := ⟨.hbm, 114, rfl⟩
abbrev main_call0_call0_c_10 : Ref sig .tc := ⟨.hbm, 115, rfl⟩
abbrev main_call0_call0_v43 : Ref sig .tc := ⟨.hbm, 116, rfl⟩
abbrev main_call0_call0_v44 : Ref sig .tc := ⟨.hbm, 117, rfl⟩
abbrev main_call0_call0_v45 : Ref sig .tc := ⟨.hbm, 118, rfl⟩
abbrev main_call0_call0_v46 : Ref sig .tc := ⟨.hbm, 119, rfl⟩
abbrev main_call0_call0_v47 : Ref sig .tc := ⟨.hbm, 120, rfl⟩
abbrev main_call0_call0_c_11 : Ref sig .tc := ⟨.hbm, 121, rfl⟩
abbrev main_call0_call0_v48 : Ref sig .tc := ⟨.hbm, 122, rfl⟩
abbrev main_call0_call0_v49 : Ref sig .tc := ⟨.hbm, 123, rfl⟩
abbrev main_call0_call0_c_12 : Ref sig .tc := ⟨.hbm, 124, rfl⟩
abbrev main_call0_call0_v50 : Ref sig .tc := ⟨.hbm, 125, rfl⟩
abbrev main_call0_call0_v51 : Ref sig .tc := ⟨.hbm, 126, rfl⟩
abbrev main_call0_call0_v52 : Ref sig .tc := ⟨.hbm, 127, rfl⟩
abbrev main_call0_call0_v53 : Ref sig .tc := ⟨.hbm, 128, rfl⟩
abbrev main_call0_call0_v54 : Ref sig .tc := ⟨.hbm, 129, rfl⟩
abbrev main_call0_call0_c_13 : Ref sig .tc := ⟨.hbm, 130, rfl⟩
abbrev main_call0_call0_v55 : Ref sig .tc := ⟨.hbm, 131, rfl⟩
abbrev main_call0_call0_v56 : Ref sig .tc := ⟨.hbm, 132, rfl⟩
abbrev main_call0_call0_c_14 : Ref sig .tc := ⟨.hbm, 133, rfl⟩
abbrev main_call0_call0_v57 : Ref sig .tc := ⟨.hbm, 134, rfl⟩
abbrev main_call0_call0_v58 : Ref sig .tc := ⟨.hbm, 135, rfl⟩
abbrev main_call0_call0_v59 : Ref sig .tc := ⟨.hbm, 136, rfl⟩
abbrev main_call0_call0_v60 : Ref sig .tc := ⟨.hbm, 137, rfl⟩
abbrev main_call0_call0_v61 : Ref sig .tc := ⟨.hbm, 138, rfl⟩
abbrev main_call0_call0_c_15 : Ref sig .tc := ⟨.hbm, 139, rfl⟩
abbrev main_call0_call0_v62 : Ref sig .tc := ⟨.hbm, 140, rfl⟩
abbrev main_call0_call0_v63 : Ref sig .tc := ⟨.hbm, 141, rfl⟩
abbrev main_call0_call0_c_16 : Ref sig .tc := ⟨.hbm, 142, rfl⟩
abbrev main_call0_call0_v64 : Ref sig .tc := ⟨.hbm, 143, rfl⟩
abbrev main_call0_call0_v65 : Ref sig .tc := ⟨.hbm, 144, rfl⟩
abbrev main_call0_call0_v66 : Ref sig .tc := ⟨.hbm, 145, rfl⟩
abbrev main_call0_call0_v67 : Ref sig .tc := ⟨.hbm, 146, rfl⟩
abbrev main_call0_call0_v68 : Ref sig .tc := ⟨.hbm, 147, rfl⟩
abbrev main_call0_call0_v69 : Ref sig .tc := ⟨.hbm, 148, rfl⟩
abbrev main_call0_call0_v70 : Ref sig .tc := ⟨.hbm, 149, rfl⟩
abbrev main_call0_call0_v71 : Ref sig .tc := ⟨.hbm, 150, rfl⟩
abbrev main_call0_call0_c_17 : Ref sig .tc := ⟨.hbm, 151, rfl⟩
abbrev main_call0_call0_v72 : Ref sig .tc := ⟨.hbm, 152, rfl⟩
abbrev main_call0_call0_v73 : Ref sig .tc := ⟨.hbm, 153, rfl⟩
abbrev main_call0_call0_v74 : Ref sig .tc := ⟨.hbm, 154, rfl⟩
abbrev main_call0_call0_c_18 : Ref sig .tc := ⟨.hbm, 155, rfl⟩
abbrev main_call0_call0_v75 : Ref sig .tc := ⟨.hbm, 156, rfl⟩
abbrev main_call0_call0_v76 : Ref sig .tc := ⟨.hbm, 157, rfl⟩
abbrev main_call0_call0_c_19 : Ref sig .tc := ⟨.hbm, 158, rfl⟩
abbrev main_call0_call0_v77 : Ref sig .tc := ⟨.hbm, 159, rfl⟩
abbrev main_call0_call0_v78 : Ref sig .tc := ⟨.hbm, 160, rfl⟩
abbrev main_call0_call0_v79 : Ref sig .tc := ⟨.hbm, 161, rfl⟩
abbrev main_call0_call0_v80 : Ref sig .tc := ⟨.hbm, 162, rfl⟩
abbrev main_call0_call0_v81 : Ref sig .tc := ⟨.hbm, 163, rfl⟩
abbrev main_call0_call0_c_20 : Ref sig .tc := ⟨.hbm, 164, rfl⟩
abbrev main_call0_call0_v82 : Ref sig .tc := ⟨.hbm, 165, rfl⟩
abbrev main_call0_call0_v83 : Ref sig .tc := ⟨.hbm, 166, rfl⟩
abbrev main_call0_call0_c_21 : Ref sig .tc := ⟨.hbm, 167, rfl⟩
abbrev main_call0_call0_v84 : Ref sig .tc := ⟨.hbm, 168, rfl⟩
abbrev main_call0_call0_v85 : Ref sig .tc := ⟨.hbm, 169, rfl⟩
abbrev main_call0_call0_v86 : Ref sig .tc := ⟨.hbm, 170, rfl⟩
abbrev main_call0_call0_v87 : Ref sig .tc := ⟨.hbm, 171, rfl⟩
abbrev main_call0_call0_v88 : Ref sig .tc := ⟨.hbm, 172, rfl⟩
abbrev main_call0_call0_c_22 : Ref sig .tc := ⟨.hbm, 173, rfl⟩
abbrev main_call0_call0_v89 : Ref sig .tc := ⟨.hbm, 174, rfl⟩
abbrev main_call0_call0_v90 : Ref sig .tc := ⟨.hbm, 175, rfl⟩
abbrev main_call0_call0_c_23 : Ref sig .tc := ⟨.hbm, 176, rfl⟩
abbrev main_call0_call0_v91 : Ref sig .tc := ⟨.hbm, 177, rfl⟩
abbrev main_call0_call0_v92 : Ref sig .tc := ⟨.hbm, 178, rfl⟩
abbrev main_call0_call0_v93 : Ref sig .tc := ⟨.hbm, 179, rfl⟩
abbrev main_call0_call0_v94 : Ref sig .tc := ⟨.hbm, 180, rfl⟩
abbrev main_call0_call0_v95 : Ref sig .tc := ⟨.hbm, 181, rfl⟩
abbrev main_call0_call0_c_24 : Ref sig .tc := ⟨.hbm, 182, rfl⟩
abbrev main_call0_call0_v96 : Ref sig .tc := ⟨.hbm, 183, rfl⟩
abbrev main_call0_call0_v97 : Ref sig .tc := ⟨.hbm, 184, rfl⟩
abbrev main_call0_call0_c_25 : Ref sig .tc := ⟨.hbm, 185, rfl⟩
abbrev main_call0_call0_v98 : Ref sig .tc := ⟨.hbm, 186, rfl⟩
abbrev main_call0_call0_v99 : Ref sig .tc := ⟨.hbm, 187, rfl⟩
abbrev main_call0_call0_v100 : Ref sig .tc := ⟨.hbm, 188, rfl⟩
abbrev main_call0_call0_v101 : Ref sig .tc := ⟨.hbm, 189, rfl⟩
abbrev main_call0_call0_v102 : Ref sig .tc := ⟨.hbm, 190, rfl⟩
abbrev main_call0_call0_v103 : Ref sig .tc := ⟨.hbm, 191, rfl⟩
abbrev main_call0_call0_v104 : Ref sig .tc := ⟨.hbm, 192, rfl⟩
abbrev main_call0_call0_v105 : Ref sig .tc := ⟨.hbm, 193, rfl⟩
abbrev main_call0_call0_c_26 : Ref sig .tc := ⟨.hbm, 194, rfl⟩
abbrev main_call0_call0_v106 : Ref sig .tc := ⟨.hbm, 195, rfl⟩
abbrev main_call0_call0_v107 : Ref sig .tc := ⟨.hbm, 196, rfl⟩
abbrev main_call0_call0_v108 : Ref sig .tc := ⟨.hbm, 197, rfl⟩
abbrev main_call0_call0_c_27 : Ref sig .tc := ⟨.hbm, 198, rfl⟩
abbrev main_call0_call0_v109 : Ref sig .tc := ⟨.hbm, 199, rfl⟩
abbrev main_call0_call0_v110 : Ref sig .tc := ⟨.hbm, 200, rfl⟩
abbrev main_call0_call0_c_28 : Ref sig .tc := ⟨.hbm, 201, rfl⟩
abbrev main_call0_call0_v111 : Ref sig .tc := ⟨.hbm, 202, rfl⟩
abbrev main_call0_call0_v112 : Ref sig .tc := ⟨.hbm, 203, rfl⟩
abbrev main_call0_call0_v113 : Ref sig .tc := ⟨.hbm, 204, rfl⟩
abbrev main_call0_call0_v114 : Ref sig .tc := ⟨.hbm, 205, rfl⟩
abbrev main_call0_call0_v115 : Ref sig .tc := ⟨.hbm, 206, rfl⟩
abbrev main_call0_call0_c_29 : Ref sig .tc := ⟨.hbm, 207, rfl⟩
abbrev main_call0_call0_v116 : Ref sig .tc := ⟨.hbm, 208, rfl⟩
abbrev main_call0_call0_v117 : Ref sig .tc := ⟨.hbm, 209, rfl⟩
abbrev main_call0_call0_c_30 : Ref sig .tc := ⟨.hbm, 210, rfl⟩
abbrev main_call0_call0_v118 : Ref sig .tc := ⟨.hbm, 211, rfl⟩
abbrev main_call0_call0_v119 : Ref sig .tc := ⟨.hbm, 212, rfl⟩
abbrev main_call0_call0_v120 : Ref sig .tc := ⟨.hbm, 213, rfl⟩
abbrev main_call0_call0_v121 : Ref sig .tc := ⟨.hbm, 214, rfl⟩
abbrev main_call0_call0_v122 : Ref sig .tc := ⟨.hbm, 215, rfl⟩
abbrev main_call0_call0_c_31 : Ref sig .tc := ⟨.hbm, 216, rfl⟩
abbrev main_call0_call0_v123 : Ref sig .tc := ⟨.hbm, 217, rfl⟩
abbrev main_call0_call0_v124 : Ref sig .tc := ⟨.hbm, 218, rfl⟩
abbrev main_call0_call0_c_32 : Ref sig .tc := ⟨.hbm, 219, rfl⟩
abbrev main_call0_call0_v125 : Ref sig .tc := ⟨.hbm, 220, rfl⟩
abbrev main_call0_call0_v126 : Ref sig .tc := ⟨.hbm, 221, rfl⟩
abbrev main_call0_call0_v127 : Ref sig .tc := ⟨.hbm, 222, rfl⟩
abbrev main_call0_call0_v128 : Ref sig .tc := ⟨.hbm, 223, rfl⟩
abbrev main_call0_call0_v129 : Ref sig .tc := ⟨.hbm, 224, rfl⟩
abbrev main_call0_call0_c_33 : Ref sig .tc := ⟨.hbm, 225, rfl⟩
abbrev main_call0_call0_v130 : Ref sig .tc := ⟨.hbm, 226, rfl⟩
abbrev main_call0_call0_v131 : Ref sig .tc := ⟨.hbm, 227, rfl⟩
abbrev main_call0_call0_c_34 : Ref sig .tc := ⟨.hbm, 228, rfl⟩
abbrev main_call0_call0_v132 : Ref sig .tc := ⟨.hbm, 229, rfl⟩
abbrev main_call0_call0_v133 : Ref sig .tc := ⟨.hbm, 230, rfl⟩
abbrev main_call0_call0_v134 : Ref sig .tc := ⟨.hbm, 231, rfl⟩
abbrev main_call0_call0_v135 : Ref sig .tc := ⟨.hbm, 232, rfl⟩
abbrev main_call0_call0_v136 : Ref sig .tc := ⟨.hbm, 233, rfl⟩
abbrev main_call0_call0_v137 : Ref sig .tc := ⟨.hbm, 234, rfl⟩
abbrev main_call0_call0_v138 : Ref sig .tc := ⟨.hbm, 235, rfl⟩
abbrev main_call0_call0_v139 : Ref sig .tc := ⟨.hbm, 236, rfl⟩
abbrev main_call0_call0_c_35 : Ref sig .tc := ⟨.hbm, 237, rfl⟩
abbrev main_call0_call0_v140 : Ref sig .tc := ⟨.hbm, 238, rfl⟩
abbrev main_call0_call0_v141 : Ref sig .tc := ⟨.hbm, 239, rfl⟩
abbrev main_call0_call0_v142 : Ref sig .tc := ⟨.hbm, 240, rfl⟩
abbrev main_call0_call0_c_36 : Ref sig .tc := ⟨.hbm, 241, rfl⟩
abbrev main_call0_call0_v143 : Ref sig .tc := ⟨.hbm, 242, rfl⟩
abbrev main_call0_call0_v144 : Ref sig .tc := ⟨.hbm, 243, rfl⟩
abbrev main_call0_call0_c_37 : Ref sig .tc := ⟨.hbm, 244, rfl⟩
abbrev main_call0_call0_v145 : Ref sig .tc := ⟨.hbm, 245, rfl⟩
abbrev main_call0_call0_v146 : Ref sig .tc := ⟨.hbm, 246, rfl⟩
abbrev main_call0_call0_v147 : Ref sig .tc := ⟨.hbm, 247, rfl⟩
abbrev main_call0_call0_v148 : Ref sig .tc := ⟨.hbm, 248, rfl⟩
abbrev main_call0_call0_v149 : Ref sig .tc := ⟨.hbm, 249, rfl⟩
abbrev main_call0_call0_c_38 : Ref sig .tc := ⟨.hbm, 250, rfl⟩
abbrev main_call0_call0_v150 : Ref sig .tc := ⟨.hbm, 251, rfl⟩
abbrev main_call0_call0_v151 : Ref sig .tc := ⟨.hbm, 252, rfl⟩
abbrev main_call0_call0_c_39 : Ref sig .tc := ⟨.hbm, 253, rfl⟩
abbrev main_call0_call0_v152 : Ref sig .tc := ⟨.hbm, 254, rfl⟩
abbrev main_call0_call0_v153 : Ref sig .tc := ⟨.hbm, 255, rfl⟩
abbrev main_call0_call0_v154 : Ref sig .tc := ⟨.hbm, 256, rfl⟩
abbrev main_call0_call0_v155 : Ref sig .tc := ⟨.hbm, 257, rfl⟩
abbrev main_call0_call0_v156 : Ref sig .tc := ⟨.hbm, 258, rfl⟩
abbrev main_call0_call0_c_40 : Ref sig .tc := ⟨.hbm, 259, rfl⟩
abbrev main_call0_call0_v157 : Ref sig .tc := ⟨.hbm, 260, rfl⟩
abbrev main_call0_call0_v158 : Ref sig .tc := ⟨.hbm, 261, rfl⟩
abbrev main_call0_call0_c_41 : Ref sig .tc := ⟨.hbm, 262, rfl⟩
abbrev main_call0_call0_v159 : Ref sig .tc := ⟨.hbm, 263, rfl⟩
abbrev main_call0_call0_v160 : Ref sig .tc := ⟨.hbm, 264, rfl⟩
abbrev main_call0_call0_v161 : Ref sig .tc := ⟨.hbm, 265, rfl⟩
abbrev main_call0_call0_v162 : Ref sig .tc := ⟨.hbm, 266, rfl⟩
abbrev main_call0_call0_v163 : Ref sig .tc := ⟨.hbm, 267, rfl⟩
abbrev main_call0_call0_c_42 : Ref sig .tc := ⟨.hbm, 268, rfl⟩
abbrev main_call0_call0_v164 : Ref sig .tc := ⟨.hbm, 269, rfl⟩
abbrev main_call0_call0_v165 : Ref sig .tc := ⟨.hbm, 270, rfl⟩
abbrev main_call0_call0_c_43 : Ref sig .tc := ⟨.hbm, 271, rfl⟩
abbrev main_call0_call0_v166 : Ref sig .tc := ⟨.hbm, 272, rfl⟩
abbrev main_call0_call0_v167 : Ref sig .tc := ⟨.hbm, 273, rfl⟩
abbrev main_call0_call0_v168 : Ref sig .tc := ⟨.hbm, 274, rfl⟩
abbrev main_call0_call0_v169 : Ref sig .tc := ⟨.hbm, 275, rfl⟩
abbrev main_call0_call0_v170 : Ref sig .tc := ⟨.hbm, 276, rfl⟩
abbrev main_call0_v27_0 : Ref sig .tc := ⟨.hbm, 277, rfl⟩
abbrev main_call0_call0_v172 : Ref sig .tc := ⟨.hbm, 278, rfl⟩
abbrev main_call0_call0_v173 : Ref sig .tc := ⟨.hbm, 279, rfl⟩
abbrev main_call0_call0_c_44 : Ref sig .tc := ⟨.hbm, 280, rfl⟩
abbrev main_call0_call0_v174 : Ref sig .tc := ⟨.hbm, 281, rfl⟩
abbrev main_call0_v27_1 : Ref sig .tc := ⟨.hbm, 282, rfl⟩
abbrev main_call0_v28 : Ref sig .tc := ⟨.hbm, 283, rfl⟩
abbrev main_call0_c_4 : Ref sig .tc := ⟨.hbm, 284, rfl⟩
abbrev main_call0_v29 : Ref sig .tc := ⟨.hbm, 285, rfl⟩
abbrev main_call0_v30 : Ref sig .tc := ⟨.hbm, 286, rfl⟩
abbrev main_call0_c_5 : Ref sig .tc := ⟨.hbm, 287, rfl⟩
abbrev main_call0_v31 : Ref sig .tc := ⟨.hbm, 288, rfl⟩
abbrev main_call0_v32 : Ref sig .tc := ⟨.hbm, 289, rfl⟩
abbrev main_call0_v33 : Ref sig .tc := ⟨.hbm, 290, rfl⟩
abbrev main_call0_cst : Ref sig .tc := ⟨.hbm, 291, rfl⟩
abbrev main_call0_v34 : Ref sig .tc := ⟨.hbm, 292, rfl⟩
abbrev main_call0_v35 : Ref sig .tc := ⟨.hbm, 293, rfl⟩
abbrev main_call0_v36 : Ref sig .tc := ⟨.hbm, 294, rfl⟩
abbrev main_call0_v37 : Ref sig .tc := ⟨.hbm, 295, rfl⟩
abbrev main_call0_v38 : Ref sig .tc := ⟨.hbm, 296, rfl⟩
abbrev main_call0_v39 : Ref sig .tc := ⟨.hbm, 297, rfl⟩
abbrev main_call0_v40 : Ref sig .tc := ⟨.hbm, 298, rfl⟩
abbrev main_call0_v41 : Ref sig .tc := ⟨.hbm, 299, rfl⟩
abbrev main_v9 : Ref sig .tc := ⟨.hbm, 300, rfl⟩
abbrev main_cst_3 : Ref sig .tc := ⟨.hbm, 301, rfl⟩
abbrev main_v10 : Ref sig .tc := ⟨.hbm, 302, rfl⟩
abbrev main_v11 : Ref sig .tc := ⟨.hbm, 303, rfl⟩
abbrev main_v12 : Ref sig .tc := ⟨.hbm, 304, rfl⟩
abbrev main_v13 : Ref sig .tc := ⟨.hbm, 305, rfl⟩
abbrev main_v14 : Ref sig .tc := ⟨.hbm, 306, rfl⟩
abbrev main_v15 : Ref sig .tc := ⟨.hbm, 307, rfl⟩
abbrev main_v16 : Ref sig .tc := ⟨.hbm, 308, rfl⟩
abbrev main_v17 : Ref sig .tc := ⟨.hbm, 309, rfl⟩
abbrev main_c_4 : Ref sig .tc := ⟨.hbm, 310, rfl⟩
abbrev main_v18 : Ref sig .tc := ⟨.hbm, 311, rfl⟩
abbrev main_v19 : Ref sig .tc := ⟨.hbm, 312, rfl⟩
abbrev main_v20 : Ref sig .tc := ⟨.hbm, 313, rfl⟩
abbrev main_v21 : Ref sig .tc := ⟨.hbm, 314, rfl⟩
abbrev main_v22 : Ref sig .tc := ⟨.hbm, 315, rfl⟩
abbrev main_v23 : Ref sig .tc := ⟨.hbm, 316, rfl⟩
abbrev main_v24 : Ref sig .tc := ⟨.hbm, 317, rfl⟩
abbrev main_v25 : Ref sig .tc := ⟨.hbm, 318, rfl⟩
abbrev main_v26 : Ref sig .tc := ⟨.hbm, 319, rfl⟩
abbrev main_v27 : Ref sig .tc := ⟨.hbm, 320, rfl⟩
abbrev main_v28 : Ref sig .tc := ⟨.hbm, 321, rfl⟩
abbrev main_v29_0 : Ref sig .tc := ⟨.hbm, 322, rfl⟩
abbrev main_v29_1 : Ref sig .tc := ⟨.hbm, 323, rfl⟩
abbrev main_v29_2 : Ref sig .tc := ⟨.hbm, 324, rfl⟩
abbrev main_v30_0 : Ref sig .tc := ⟨.hbm, 325, rfl⟩
abbrev main_v30_1 : Ref sig .tc := ⟨.hbm, 326, rfl⟩
abbrev main_v30_2 : Ref sig .tc := ⟨.hbm, 327, rfl⟩
abbrev main_v31 : Ref sig .tc := ⟨.hbm, 328, rfl⟩
abbrev main_v32 : Ref sig .tc := ⟨.hbm, 329, rfl⟩
abbrev main_v33 : Ref sig .tc := ⟨.hbm, 330, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg7_1 : Ref sig .tc := ⟨.vmem, 24, rfl⟩
abbrev cc1_stg8_0 : Ref sig .tc := ⟨.vmem, 25, rfl⟩
abbrev cc1_stg8_1 : Ref sig .tc := ⟨.vmem, 26, rfl⟩
abbrev cc1_stg9_0 : Ref sig .tc := ⟨.vmem, 27, rfl⟩
abbrev cc1_stg9_1 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg1_1 : Ref sig .tc := ⟨.vmem, 32, rfl⟩
abbrev cc2_stg2_0 : Ref sig .tc := ⟨.vmem, 33, rfl⟩
abbrev cc2_stg2_1 : Ref sig .tc := ⟨.vmem, 34, rfl⟩
abbrev cc2_stg3_0 : Ref sig .tc := ⟨.vmem, 35, rfl⟩
abbrev cc2_stg3_1 : Ref sig .tc := ⟨.vmem, 36, rfl⟩
abbrev cc2_stg4_0 : Ref sig .tc := ⟨.vmem, 37, rfl⟩
abbrev cc2_stg4_1 : Ref sig .tc := ⟨.vmem, 38, rfl⟩
abbrev cc2_stg5_0 : Ref sig .tc := ⟨.vmem, 39, rfl⟩
abbrev cc2_stg6_0 : Ref sig .tc := ⟨.vmem, 40, rfl⟩
abbrev cc2_stg6_1 : Ref sig .tc := ⟨.vmem, 41, rfl⟩
abbrev cc2_stg7_0 : Ref sig .tc := ⟨.vmem, 42, rfl⟩
abbrev cc2_stg7_1 : Ref sig .tc := ⟨.vmem, 43, rfl⟩
abbrev cc2_stg8_0 : Ref sig .tc := ⟨.vmem, 44, rfl⟩
abbrev cc2_stg8_1 : Ref sig .tc := ⟨.vmem, 45, rfl⟩
abbrev cc2_stg9_0 : Ref sig .tc := ⟨.vmem, 46, rfl⟩
abbrev cc2_stg9_1 : Ref sig .tc := ⟨.vmem, 47, rfl⟩
abbrev cc2_stg10_0 : Ref sig .tc := ⟨.vmem, 48, rfl⟩
abbrev cc2_stg10_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20
abbrev cc1_sem6_0 : DmaSem sig := 21
abbrev cc1_sem6_1 : DmaSem sig := 22
abbrev cc1_sem7_0 : DmaSem sig := 23
abbrev cc1_sem7_1 : DmaSem sig := 24
abbrev cc1_sem8_0 : DmaSem sig := 25
abbrev cc1_sem8_1 : DmaSem sig := 26
abbrev cc1_sem9_0 : DmaSem sig := 27
abbrev cc1_sem9_1 : DmaSem sig := 28
abbrev cc2_sem0_0 : DmaSem sig := 29
abbrev cc2_sem0_1 : DmaSem sig := 30
abbrev cc2_sem1_0 : DmaSem sig := 31
abbrev cc2_sem1_1 : DmaSem sig := 32
abbrev cc2_sem2_0 : DmaSem sig := 33
abbrev cc2_sem2_1 : DmaSem sig := 34
abbrev cc2_sem3_0 : DmaSem sig := 35
abbrev cc2_sem3_1 : DmaSem sig := 36
abbrev cc2_sem4_0 : DmaSem sig := 37
abbrev cc2_sem4_1 : DmaSem sig := 38
abbrev cc2_sem5_0 : DmaSem sig := 39
abbrev cc2_sem6_0 : DmaSem sig := 40
abbrev cc2_sem6_1 : DmaSem sig := 41
abbrev cc2_sem7_0 : DmaSem sig := 42
abbrev cc2_sem7_1 : DmaSem sig := 43
abbrev cc2_sem8_0 : DmaSem sig := 44
abbrev cc2_sem8_1 : DmaSem sig := 45
abbrev cc2_sem9_0 : DmaSem sig := 46
abbrev cc2_sem9_1 : DmaSem sig := 47
abbrev cc2_sem10_0 : DmaSem sig := 48
abbrev cc2_sem10_1 : DmaSem sig := 49

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c409_i32 : BitVec 32 := 409#32
  let v9 : BitVec 32 := Scalar.addi c0_i32 c409_i32
  let c1_i32 : BitVec 32 := 1#32
  ⟨c0_i32, v9, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 12], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S256x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S768x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x768x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x768x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x768x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x1x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1x1x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S1x256x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S64x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x256x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev grid2 : Pipeline.Grid := ⟨2, ![8, 12], ![false, false]⟩

@[reducible] def k2_t1_loop : Scf.Loop 32 :=
  let c0_i32_42 : BitVec 32 := 0#32
  let c409_i32 : BitVec 32 := 409#32
  let v77 : BitVec 32 := Scalar.addi c0_i32_42 c409_i32
  let c1_i32_43 : BitVec 32 := 1#32
  ⟨c0_i32_42, v77, c1_i32_43⟩
def k2_cond4 (i : grid2.Coords) : BitVec 1 :=
  let arg1 : BitVec 32 := BitVec.ofNat 32 (i 1).val
  let c0_i32_37 : BitVec 32 := 0#32
  let v67 : BitVec 1 := Scalar.cmpi .eq arg1 c0_i32_37
  let v68 : BitVec 32 := Scalar.extui v67
  let c0_i32_38 : BitVec 32 := 0#32
  let v69 : BitVec 1 := Scalar.cmpi .ne v68 c0_i32_38
  v69

def k2_cond5 (i : grid2.Coords) : BitVec 1 :=
  let arg1 : BitVec 32 := BitVec.ofNat 32 (i 1).val
  let c0_i32_39 : BitVec 32 := 0#32
  let v70 : BitVec 1 := Scalar.cmpi .ne arg1 c0_i32_39
  let v71 : BitVec 32 := Scalar.extui v70
  let c0_i32_40 : BitVec 32 := 0#32
  let v72 : BitVec 1 := Scalar.cmpi .ne v71 c0_i32_40
  v72

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_8 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x256x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S64x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x2048x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1x1x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1x64x768 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 1 → Memref sig .tc .vmem S1x768 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S256x2048 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S8x2048 .i32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev stage2_8 : Fin 2 → Memref sig .tc .vmem S1x8x2048 .i32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev stage2_9 : Fin 2 → Memref sig .tc .vmem S256x1 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, false]

abbrev stage2_10 : Fin 2 → Memref sig .tc .vmem S256x768 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, false]
-- ==== KernelIdeal.lean ====
variable {F : FTy → Type} [FloatOps F] [Named F]
def κ : String → Option EReal := fun
  | "inv_sqrt_d" => some (((Real.sqrt 768)⁻¹ : ℝ) : EReal)
  | _ => none
-- ==== ReferenceIdeal.lean ====
abbrev S1x2048x768 : Shape := ⟨3, ![1, 2048, 768]⟩
abbrev S768x768 : Shape := ⟨2, ![768, 768]⟩
abbrev S768 : Shape := ⟨1, ![768]⟩
abbrev S768x64 : Shape := ⟨2, ![768, 64]⟩
abbrev S64 : Shape := ⟨1, ![64]⟩
abbrev S64x64 : Shape := ⟨2, ![64, 64]⟩
abbrev S8x64 : Shape := ⟨2, ![8, 64]⟩
abbrev S8 : Shape := ⟨1, ![8]⟩
abbrev S1x2048x64 : Shape := ⟨3, ![1, 2048, 64]⟩
abbrev S1x1x64 : Shape := ⟨3, ![1, 1, 64]⟩
abbrev S_ : Shape := ⟨0, ![]⟩
abbrev S1x2048x8 : Shape := ⟨3, ![1, 2048, 8]⟩
abbrev S1x2048 : Shape := ⟨2, ![1, 2048]⟩
abbrev S1x2048x1 : Shape := ⟨3, ![1, 2048, 1]⟩
abbrev S1x1x8 : Shape := ⟨3, ![1, 1, 8]⟩
abbrev S1x2048x2048 : Shape := ⟨3, ![1, 2048, 2048]⟩
abbrev S1x1x2048x2048 : Shape := ⟨4, ![1, 1, 2048, 2048]⟩
abbrev S1x12x2048x2048 : Shape := ⟨4, ![1, 12, 2048, 2048]⟩
abbrev S2048 : Shape := ⟨1, ![2048]⟩
abbrev S2048x1 : Shape := ⟨2, ![2048, 1]⟩
abbrev S2048x2048 : Shape := ⟨2, ![2048, 2048]⟩
abbrev S1x2048x409 : Shape := ⟨3, ![1, 2048, 409]⟩
abbrev S1 : Shape := ⟨1, ![1]⟩
abbrev S1x1x1 : Shape := ⟨3, ![1, 1, 1]⟩
abbrev S1x2048x409x1 : Shape := ⟨4, ![1, 2048, 409, 1]⟩
abbrev S1x2048x409x3 : Shape := ⟨4, ![1, 2048, 409, 3]⟩
abbrev S2 : Shape := ⟨1, ![2]⟩
abbrev S1x1x1x1 : Shape := ⟨4, ![1, 1, 1, 1]⟩
abbrev S1x12x2048x409 : Shape := ⟨4, ![1, 12, 2048, 409]⟩
abbrev S12 : Shape := ⟨1, ![12]⟩
abbrev S1x12x1x1 : Shape := ⟨4, ![1, 12, 1, 1]⟩
abbrev S1x1x2048x1 : Shape := ⟨4, ![1, 1, 2048, 1]⟩
abbrev S1x12x2048x409x1 : Shape := ⟨5, ![1, 12, 2048, 409, 1]⟩
abbrev S1x12x2048x409x4 : Shape := ⟨5, ![1, 12, 2048, 409, 4]⟩
abbrev S1x1x768 : Shape := ⟨3, ![1, 1, 768]⟩
abbrev S1x2048x12x64 : Shape := ⟨4, ![1, 2048, 12, 64]⟩
abbrev S1x12x2048x64 : Shape := ⟨4, ![1, 12, 2048, 64]⟩
abbrev S1x12x2048 : Shape := ⟨3, ![1, 12, 2048]⟩
abbrev S1x12x2048x1 : Shape := ⟨4, ![1, 12, 2048, 1]⟩

abbrev nBuf : Space → Nat
  | .hbm => 515
  | .vmem => 0
  | .smem => 0
  | _ => 0

abbrev hbmTy0_0 (i : Nat) : BufTy := match i % 128 with
  | 0 => ⟨S1x2048x768, .f32⟩
  | 1 => ⟨S768x768, .f32⟩
  | 2 => ⟨S768, .f32⟩
  | 3 => ⟨S768x768, .f32⟩
  | 4 => ⟨S768, .f32⟩
  | 5 => ⟨S768x768, .f32⟩
  | 6 => ⟨S768, .f32⟩
  | 7 => ⟨S768x768, .f32⟩
  | 8 => ⟨S768, .f32⟩
  | 9 => ⟨S768x64, .f32⟩
  | 10 => ⟨S64, .f32⟩
  | 11 => ⟨S64x64, .f32⟩
  | 12 => ⟨S64, .f32⟩
  | 13 => ⟨S8x64, .f32⟩
  | 14 => ⟨S8, .f32⟩
  | 15 => ⟨S1x2048x64, .f32⟩
  | 16 => ⟨S1x1x64, .f32⟩
  | 17 => ⟨S1x2048x64, .f32⟩
  | 18 => ⟨S1x2048x64, .f32⟩
  | 19 => ⟨S_, .f32⟩
  | 20 => ⟨S1x2048x64, .f32⟩
  | 21 => ⟨S1x2048x64, .f32⟩
  | 22 => ⟨S1x2048x64, .f32⟩
  | 23 => ⟨S1x1x64, .f32⟩
  | 24 => ⟨S1x2048x64, .f32⟩
  | 25 => ⟨S1x2048x64, .f32⟩
  | 26 => ⟨S1x2048x64, .f32⟩
  | 27 => ⟨S1x2048x8, .f32⟩
  | 28 => ⟨S_, .f32⟩
  | 29 => ⟨S1x2048x8, .f32⟩
  | 30 => ⟨S1x2048x8, .f32⟩
  | 31 => ⟨S_, .f32⟩
  | 32 => ⟨S1x2048x8, .f32⟩
  | 33 => ⟨S1x2048x8, .f32⟩
  | 34 => ⟨S_, .f32⟩
  | 35 => ⟨S1x2048, .f32⟩
  | 36 => ⟨S_, .f32⟩
  | 37 => ⟨S1x2048, .f32⟩
  | 38 => ⟨S1x2048, .f32⟩
  | 39 => ⟨S1x2048x1, .f32⟩
  | 40 => ⟨S1x2048x8, .f32⟩
  | 41 => ⟨S1x2048x8, .f32⟩
  | 42 => ⟨S1x2048x8, .f32⟩
  | 43 => ⟨S_, .f32⟩
  | 44 => ⟨S1x2048, .f32⟩
  | 45 => ⟨S1x2048x1, .f32⟩
  | 46 => ⟨S1x2048x8, .f32⟩
  | 47 => ⟨S1x2048x8, .f32⟩
  | 48 => ⟨S1x1x8, .f32⟩
  | 49 => ⟨S1x2048x8, .f32⟩
  | 50 => ⟨S1x2048x8, .f32⟩
  | 51 => ⟨S1x2048x2048, .f32⟩
  | 52 => ⟨S_, .f32⟩
  | 53 => ⟨S1x2048x2048, .f32⟩
  | 54 => ⟨S1x2048x2048, .f32⟩
  | 55 => ⟨S1x1x2048x2048, .f32⟩
  | 56 => ⟨S1x12x2048x2048, .f32⟩
  | 57 => ⟨S2048, .i32⟩
  | 58 => ⟨S2048x1, .i32⟩
  | 59 => ⟨S2048, .i32⟩
  | 60 => ⟨S1x2048, .i32⟩
  | 61 => ⟨S_, .i32⟩
  | 62 => ⟨S2048x1, .i32⟩
  | 63 => ⟨S2048x1, .i32⟩
  | 64 => ⟨S2048x2048, .i32⟩
  | 65 => ⟨S2048x2048, .i32⟩
  | 66 => ⟨S2048x2048, .i1⟩
  | 67 => ⟨S_, .i32⟩
  | 68 => ⟨S2048x1, .i32⟩
  | 69 => ⟨S2048x1, .i32⟩
  | 70 => ⟨S2048x2048, .i32⟩
  | 71 => ⟨S2048x2048, .i32⟩
  | 72 => ⟨S2048x2048, .i1⟩
  | 73 => ⟨S2048x2048, .i1⟩
  | 74 => ⟨S2048x2048, .f32⟩
  | 75 => ⟨S_, .f32⟩
  | 76 => ⟨S1x2048x2048, .f32⟩
  | 77 => ⟨S_, .f32⟩
  | 78 => ⟨S1x2048x2048, .f32⟩
  | 79 => ⟨S1x2048x2048, .f32⟩
  | 80 => ⟨S1x2048x409, .f32⟩
  | 81 => ⟨S1x2048x409, .i32⟩
  | 82 => ⟨S1, .i32⟩
  | 83 => ⟨S1x1x1, .i32⟩
  | 84 => ⟨S2048, .i32⟩
  | 85 => ⟨S1x2048x1, .i32⟩
  | 86 => ⟨S_, .f32⟩
  | 87 => ⟨S1x2048x2048, .f32⟩
  | 88 => ⟨S_, .i32⟩
  | 89 => ⟨S1x1x1, .i32⟩
  | 90 => ⟨S1x1x1, .i1⟩
  | 91 => ⟨S_, .i32⟩
  | 92 => ⟨S1x1x1, .i32⟩
  | 93 => ⟨S1x1x1, .i32⟩
  | 94 => ⟨S1x1x1, .i32⟩
  | 95 => ⟨S_, .i32⟩
  | 96 => ⟨S1x2048x1, .i32⟩
  | 97 => ⟨S1x2048x1, .i1⟩
  | 98 => ⟨S_, .i32⟩
  | 99 => ⟨S1x2048x1, .i32⟩
  | 100 => ⟨S1x2048x1, .i32⟩
  | 101 => ⟨S1x2048x1, .i32⟩
  | 102 => ⟨S_, .i32⟩
  | 103 => ⟨S1x2048x409, .i32⟩
  | 104 => ⟨S1x2048x409, .i1⟩
  | 105 => ⟨S_, .i32⟩
  | 106 => ⟨S1x2048x409, .i32⟩
  | 107 => ⟨S1x2048x409, .i32⟩
  | 108 => ⟨S1x2048x409, .i32⟩
  | 109 => ⟨S1x2048x409, .i32⟩
  | 110 => ⟨S1x2048x409, .i32⟩
  | 111 => ⟨S1x2048x409x1, .i32⟩
  | 112 => ⟨S1x2048x409x1, .i32⟩
  | 113 => ⟨S1x2048x409x1, .i32⟩
  | 114 => ⟨S1x2048x409x3, .i32⟩
  | 115 => ⟨S_, .f32⟩
  | 116 => ⟨S1x2048x409, .f32⟩
  | 117 => ⟨S1x2048x2048, .f32⟩
  | 118 => ⟨S_, .i32⟩
  | 119 => ⟨S_, .i32⟩
  | 120 => ⟨S_, .i32⟩
  | 121 => ⟨S_, .i32⟩
  | 122 => ⟨S1, .i32⟩
  | 123 => ⟨S_, .i32⟩
  | 124 => ⟨S_, .i32⟩
  | 125 => ⟨S_, .i32⟩
  | 126 => ⟨S1, .i32⟩
  | 127 => ⟨S2, .i32⟩
  | _ => ⟨S1x2048x768, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S1x1x1x1, .f32⟩
  | 5 => ⟨S1x1x1x1, .f32⟩
  | 6 => ⟨S1, .i32⟩
  | 7 => ⟨S_, .i32⟩
  | 8 => ⟨S1, .i32⟩
  | 9 => ⟨S_, .i32⟩
  | 10 => ⟨S1x12x2048x2048, .i64⟩
  | 11 => ⟨S1x12x2048x2048, .i64⟩
  | 12 => ⟨S1x12x2048x2048, .i64⟩
  | 13 => ⟨S1x12x2048x2048, .i64⟩
  | 14 => ⟨S_, .i64⟩
  | 15 => ⟨S1x12x2048x2048, .i64⟩
  | 16 => ⟨S1x12x2048x2048, .i64⟩
  | 17 => ⟨S_, .i64⟩
  | 18 => ⟨S1x12x2048x2048, .i64⟩
  | 19 => ⟨S1x12x2048x2048, .i64⟩
  | 20 => ⟨S_, .i64⟩
  | 21 => ⟨S1x12x2048x2048, .i64⟩
  | 22 => ⟨S1x12x2048x2048, .i64⟩
  | 23 => ⟨S_, .i64⟩
  | 24 => ⟨S1x12x2048x2048, .i64⟩
  | 25 => ⟨S1x12x2048x2048, .i64⟩
  | 26 => ⟨S1x12x2048x2048, .i64⟩
  | 27 => ⟨S1x12x2048x2048, .i64⟩
  | 28 => ⟨S1x12x2048x2048, .i64⟩
  | 29 => ⟨S_, .i64⟩
  | 30 => ⟨S1x12x2048x2048, .i64⟩
  | 31 => ⟨S1x12x2048x2048, .i64⟩
  | 32 => ⟨S1x12x2048x2048, .i32⟩
  | 33 => ⟨S1x12x2048x2048, .i32⟩
  | 34 => ⟨S_, .i32⟩
  | 35 => ⟨S_, .i32⟩
  | 36 => ⟨S_, .i32⟩
  | 37 => ⟨S1x12x2048x2048, .i32⟩
  | 38 => ⟨S1x12x2048x2048, .i32⟩
  | 39 => ⟨S1x12x2048x2048, .i32⟩
  | 40 => ⟨S1x12x2048x2048, .i32⟩
  | 41 => ⟨S1x12x2048x2048, .i32⟩
  | 42 => ⟨S_, .i32⟩
  | 43 => ⟨S1x12x2048x2048, .i32⟩
  | 44 => ⟨S1x12x2048x2048, .i32⟩
  | 45 => ⟨S_, .i32⟩
  | 46 => ⟨S1x12x2048x2048, .i32⟩
  | 47 => ⟨S1x12x2048x2048, .i32⟩
  | 48 => ⟨S1x12x2048x2048, .i32⟩
  | 49 => ⟨S1x12x2048x2048, .i32⟩
  | 50 => ⟨S1x12x2048x2048, .i32⟩
  | 51 => ⟨S_, .i32⟩
  | 52 => ⟨S1x12x2048x2048, .i32⟩
  | 53 => ⟨S1x12x2048x2048, .i32⟩
  | 54 => ⟨S_, .i32⟩
  | 55 => ⟨S1x12x2048x2048, .i32⟩
  | 56 => ⟨S1x12x2048x2048, .i32⟩
  | 57 => ⟨S1x12x2048x2048, .i32⟩
  | 58 => ⟨S1x12x2048x2048, .i32⟩
  | 59 => ⟨S1x12x2048x2048, .i32⟩
  | 60 => ⟨S_, .i32⟩
  | 61 => ⟨S1x12x2048x2048, .i32⟩
  | 62 => ⟨S1x12x2048x2048, .i32⟩
  | 63 => ⟨S_, .i32⟩
  | 64 => ⟨S1x12x2048x2048, .i32⟩
  | 65 => ⟨S1x12x2048x2048, .i32⟩
  | 66 => ⟨S1x12x2048x2048, .i32⟩
  | 67 => ⟨S1x12x2048x2048, .i32⟩
  | 68 => ⟨S1x12x2048x2048, .i32⟩
  | 69 => ⟨S_, .i32⟩
  | 70 => ⟨S1x12x2048x2048, .i32⟩
  | 71 => ⟨S1x12x2048x2048, .i32⟩
  | 72 => ⟨S_, .i32⟩
  | 73 => ⟨S1x12x2048x2048, .i32⟩
  | 74 => ⟨S1x12x2048x2048, .i32⟩
  | 75 => ⟨S1x12x2048x2048, .i32⟩
  | 76 => ⟨S1x12x2048x2048, .i32⟩
  | 77 => ⟨S1x12x2048x2048, .i32⟩
  | 78 => ⟨S1x12x2048x2048, .i32⟩
  | 79 => ⟨S1x12x2048x2048, .i32⟩
  | 80 => ⟨S1x12x2048x2048, .i32⟩
  | 81 => ⟨S_, .i32⟩
  | 82 => ⟨S1x12x2048x2048, .i32⟩
  | 83 => ⟨S1x12x2048x2048, .i32⟩
  | 84 => ⟨S1x12x2048x2048, .i32⟩
  | 85 => ⟨S_, .i32⟩
  | 86 => ⟨S1x12x2048x2048, .i32⟩
  | 87 => ⟨S1x12x2048x2048, .i32⟩
  | 88 => ⟨S_, .i32⟩
  | 89 => ⟨S1x12x2048x2048, .i32⟩
  | 90 => ⟨S1x12x2048x2048, .i32⟩
  | 91 => ⟨S1x12x2048x2048, .i32⟩
  | 92 => ⟨S1x12x2048x2048, .i32⟩
  | 93 => ⟨S1x12x2048x2048, .i32⟩
  | 94 => ⟨S_, .i32⟩
  | 95 => ⟨S1x12x2048x2048, .i32⟩
  | 96 => ⟨S1x12x2048x2048, .i32⟩
  | 97 => ⟨S_, .i32⟩
  | 98 => ⟨S1x12x2048x2048, .i32⟩
  | 99 => ⟨S1x12x2048x2048, .i32⟩
  | 100 => ⟨S1x12x2048x2048, .i32⟩
  | 101 => ⟨S1x12x2048x2048, .i32⟩
  | 102 => ⟨S1x12x2048x2048, .i32⟩
  | 103 => ⟨S_, .i32⟩
  | 104 => ⟨S1x12x2048x2048, .i32⟩
  | 105 => ⟨S1x12x2048x2048, .i32⟩
  | 106 => ⟨S_, .i32⟩
  | 107 => ⟨S1x12x2048x2048, .i32⟩
  | 108 => ⟨S1x12x2048x2048, .i32⟩
  | 109 => ⟨S1x12x2048x2048, .i32⟩
  | 110 => ⟨S1x12x2048x2048, .i32⟩
  | 111 => ⟨S1x12x2048x2048, .i32⟩
  | 112 => ⟨S_, .i32⟩
  | 113 => ⟨S1x12x2048x2048, .i32⟩
  | 114 => ⟨S1x12x2048x2048, .i32⟩
  | 115 => ⟨S_, .i32⟩
  | 116 => ⟨S1x12x2048x2048, .i32⟩
  | 117 => ⟨S1x12x2048x2048, .i32⟩
  | 118 => ⟨S1x12x2048x2048, .i32⟩
  | 119 => ⟨S1x12x2048x2048, .i32⟩
  | 120 => ⟨S1x12x2048x2048, .i32⟩
  | 121 => ⟨S1x12x2048x2048, .i32⟩
  | 122 => ⟨S1x12x2048x2048, .i32⟩
  | 123 => ⟨S1x12x2048x2048, .i32⟩
  | 124 => ⟨S_, .i32⟩
  | 125 => ⟨S1x12x2048x2048, .i32⟩
  | 126 => ⟨S1x12x2048x2048, .i32⟩
  | 127 => ⟨S1x12x2048x2048, .i32⟩
  | _ => ⟨S1x2048x768, .f32⟩

abbrev hbmTy0_2 (i : Nat) : BufTy := match i % 128 with
  | 0 => ⟨S_, .i32⟩
  | 1 => ⟨S1x12x2048x2048, .i32⟩
  | 2 => ⟨S1x12x2048x2048, .i32⟩
  | 3 => ⟨S_, .i32⟩
  | 4 => ⟨S1x12x2048x2048, .i32⟩
  | 5 => ⟨S1x12x2048x2048, .i32⟩
  | 6 => ⟨S1x12x2048x2048, .i32⟩
  | 7 => ⟨S1x12x2048x2048, .i32⟩
  | 8 => ⟨S1x12x2048x2048, .i32⟩
  | 9 => ⟨S_, .i32⟩
  | 10 => ⟨S1x12x2048x2048, .i32⟩
  | 11 => ⟨S1x12x2048x2048, .i32⟩
  | 12 => ⟨S_, .i32⟩
  | 13 => ⟨S1x12x2048x2048, .i32⟩
  | 14 => ⟨S1x12x2048x2048, .i32⟩
  | 15 => ⟨S1x12x2048x2048, .i32⟩
  | 16 => ⟨S1x12x2048x2048, .i32⟩
  | 17 => ⟨S1x12x2048x2048, .i32⟩
  | 18 => ⟨S_, .i32⟩
  | 19 => ⟨S1x12x2048x2048, .i32⟩
  | 20 => ⟨S1x12x2048x2048, .i32⟩
  | 21 => ⟨S_, .i32⟩
  | 22 => ⟨S1x12x2048x2048, .i32⟩
  | 23 => ⟨S1x12x2048x2048, .i32⟩
  | 24 => ⟨S1x12x2048x2048, .i32⟩
  | 25 => ⟨S1x12x2048x2048, .i32⟩
  | 26 => ⟨S1x12x2048x2048, .i32⟩
  | 27 => ⟨S_, .i32⟩
  | 28 => ⟨S1x12x2048x2048, .i32⟩
  | 29 => ⟨S1x12x2048x2048, .i32⟩
  | 30 => ⟨S_, .i32⟩
  | 31 => ⟨S1x12x2048x2048, .i32⟩
  | 32 => ⟨S1x12x2048x2048, .i32⟩
  | 33 => ⟨S1x12x2048x2048, .i32⟩
  | 34 => ⟨S1x12x2048x2048, .i32⟩
  | 35 => ⟨S1x12x2048x2048, .i32⟩
  | 36 => ⟨S1x12x2048x2048, .i32⟩
  | 37 => ⟨S1x12x2048x2048, .i32⟩
  | 38 => ⟨S1x12x2048x2048, .i32⟩
  | 39 => ⟨S_, .i32⟩
  | 40 => ⟨S1x12x2048x2048, .i32⟩
  | 41 => ⟨S1x12x2048x2048, .i32⟩
  | 42 => ⟨S1x12x2048x2048, .i32⟩
  | 43 => ⟨S_, .i32⟩
  | 44 => ⟨S1x12x2048x2048, .i32⟩
  | 45 => ⟨S1x12x2048x2048, .i32⟩
  | 46 => ⟨S_, .i32⟩
  | 47 => ⟨S1x12x2048x2048, .i32⟩
  | 48 => ⟨S1x12x2048x2048, .i32⟩
  | 49 => ⟨S1x12x2048x2048, .i32⟩
  | 50 => ⟨S1x12x2048x2048, .i32⟩
  | 51 => ⟨S1x12x2048x2048, .i32⟩
  | 52 => ⟨S_, .i32⟩
  | 53 => ⟨S1x12x2048x2048, .i32⟩
  | 54 => ⟨S1x12x2048x2048, .i32⟩
  | 55 => ⟨S_, .i32⟩
  | 56 => ⟨S1x12x2048x2048, .i32⟩
  | 57 => ⟨S1x12x2048x2048, .i32⟩
  | 58 => ⟨S1x12x2048x2048, .i32⟩
  | 59 => ⟨S1x12x2048x2048, .i32⟩
  | 60 => ⟨S1x12x2048x2048, .i32⟩
  | 61 => ⟨S_, .i32⟩
  | 62 => ⟨S1x12x2048x2048, .i32⟩
  | 63 => ⟨S1x12x2048x2048, .i32⟩
  | 64 => ⟨S_, .i32⟩
  | 65 => ⟨S1x12x2048x2048, .i32⟩
  | 66 => ⟨S1x12x2048x2048, .i32⟩
  | 67 => ⟨S1x12x2048x2048, .i32⟩
  | 68 => ⟨S1x12x2048x2048, .i32⟩
  | 69 => ⟨S1x12x2048x2048, .i32⟩
  | 70 => ⟨S_, .i32⟩
  | 71 => ⟨S1x12x2048x2048, .i32⟩
  | 72 => ⟨S1x12x2048x2048, .i32⟩
  | 73 => ⟨S_, .i32⟩
  | 74 => ⟨S1x12x2048x2048, .i32⟩
  | 75 => ⟨S1x12x2048x2048, .i32⟩
  | 76 => ⟨S1x12x2048x2048, .i32⟩
  | 77 => ⟨S1x12x2048x2048, .i32⟩
  | 78 => ⟨S1x12x2048x2048, .i32⟩
  | 79 => ⟨S1x12x2048x2048, .i32⟩
  | 80 => ⟨S1x12x2048x2048, .i32⟩
  | 81 => ⟨S1x12x2048x2048, .i32⟩
  | 82 => ⟨S_, .i32⟩
  | 83 => ⟨S1x12x2048x2048, .i32⟩
  | 84 => ⟨S1x12x2048x2048, .i32⟩
  | 85 => ⟨S1x12x2048x2048, .i32⟩
  | 86 => ⟨S_, .i32⟩
  | 87 => ⟨S1x12x2048x2048, .i32⟩
  | 88 => ⟨S1x12x2048x2048, .i32⟩
  | 89 => ⟨S_, .i32⟩
  | 90 => ⟨S1x12x2048x2048, .i32⟩
  | 91 => ⟨S1x12x2048x2048, .i32⟩
  | 92 => ⟨S1x12x2048x2048, .i32⟩
  | 93 => ⟨S1x12x2048x2048, .i32⟩
  | 94 => ⟨S1x12x2048x2048, .i32⟩
  | 95 => ⟨S_, .i32⟩
  | 96 => ⟨S1x12x2048x2048, .i32⟩
  | 97 => ⟨S1x12x2048x2048, .i32⟩
  | 98 => ⟨S_, .i32⟩
  | 99 => ⟨S1x12x2048x2048, .i32⟩
  | 100 => ⟨S1x12x2048x2048, .i32⟩
  | 101 => ⟨S1x12x2048x2048, .i32⟩
  | 102 => ⟨S1x12x2048x2048, .i32⟩
  | 103 => ⟨S1x12x2048x2048, .i32⟩
  | 104 => ⟨S_, .i32⟩
  | 105 => ⟨S1x12x2048x2048, .i32⟩
  | 106 => ⟨S1x12x2048x2048, .i32⟩
  | 107 => ⟨S_, .i32⟩
  | 108 => ⟨S1x12x2048x2048, .i32⟩
  | 109 => ⟨S1x12x2048x2048, .i32⟩
  | 110 => ⟨S1x12x2048x2048, .i32⟩
  | 111 => ⟨S1x12x2048x2048, .i32⟩
  | 112 => ⟨S1x12x2048x2048, .i32⟩
  | 113 => ⟨S_, .i32⟩
  | 114 => ⟨S1x12x2048x2048, .i32⟩
  | 115 => ⟨S1x12x2048x2048, .i32⟩
  | 116 => ⟨S_, .i32⟩
  | 117 => ⟨S1x12x2048x2048, .i32⟩
  | 118 => ⟨S1x12x2048x2048, .i32⟩
  | 119 => ⟨S1x12x2048x2048, .i32⟩
  | 120 => ⟨S1x12x2048x2048, .i32⟩
  | 121 => ⟨S1x12x2048x2048, .i32⟩
  | 122 => ⟨S1x12x2048x2048, .i32⟩
  | 123 => ⟨S1x12x2048x2048, .i32⟩
  | 124 => ⟨S1x12x2048x2048, .i32⟩
  | 125 => ⟨S_, .i32⟩
  | 126 => ⟨S1x12x2048x2048, .i32⟩
  | 127 => ⟨S1x12x2048x2048, .i32⟩
  | _ => ⟨S1x2048x768, .f32⟩

abbrev hbmTy0_3 (i : Nat) : BufTy := match i % 128 with
  | 0 => ⟨S1x12x2048x2048, .i32⟩
  | 1 => ⟨S_, .i32⟩
  | 2 => ⟨S1x12x2048x2048, .i32⟩
  | 3 => ⟨S1x12x2048x2048, .i32⟩
  | 4 => ⟨S_, .i32⟩
  | 5 => ⟨S1x12x2048x2048, .i32⟩
  | 6 => ⟨S1x12x2048x2048, .i32⟩
  | 7 => ⟨S1x12x2048x2048, .f32⟩
  | 8 => ⟨S_, .f32⟩
  | 9 => ⟨S1x12x2048x2048, .f32⟩
  | 10 => ⟨S1x12x2048x2048, .f32⟩
  | 11 => ⟨S1x1x1x1, .f32⟩
  | 12 => ⟨S1x12x2048x2048, .f32⟩
  | 13 => ⟨S1x12x2048x2048, .f32⟩
  | 14 => ⟨S1x12x2048x2048, .f32⟩
  | 15 => ⟨S1x12x2048x2048, .f32⟩
  | 16 => ⟨S1x12x2048x2048, .f32⟩
  | 17 => ⟨S1x12x2048x2048, .f32⟩
  | 18 => ⟨S_, .f32⟩
  | 19 => ⟨S1x12x2048x2048, .f32⟩
  | 20 => ⟨S1x12x2048x2048, .i1⟩
  | 21 => ⟨S1x12x2048x2048, .f32⟩
  | 22 => ⟨S1x1x2048x2048, .f32⟩
  | 23 => ⟨S1x1x2048x2048, .f32⟩
  | 24 => ⟨S1x1x2048x2048, .f32⟩
  | 25 => ⟨S1x12x2048x2048, .f32⟩
  | 26 => ⟨S1x12x2048x2048, .f32⟩
  | 27 => ⟨S_, .f32⟩
  | 28 => ⟨S1x12x2048x2048, .f32⟩
  | 29 => ⟨S1x12x2048x2048, .i1⟩
  | 30 => ⟨S1x12x2048x2048, .f32⟩
  | 31 => ⟨S1x12x2048x2048, .f32⟩
  | 32 => ⟨S1x12x2048x409, .f32⟩
  | 33 => ⟨S1x12x2048x409, .i32⟩
  | 34 => ⟨S1, .i32⟩
  | 35 => ⟨S1x1x1x1, .i32⟩
  | 36 => ⟨S12, .i32⟩
  | 37 => ⟨S1x12x1x1, .i32⟩
  | 38 => ⟨S2048, .i32⟩
  | 39 => ⟨S1x1x2048x1, .i32⟩
  | 40 => ⟨S_, .f32⟩
  | 41 => ⟨S1x12x2048x2048, .f32⟩
  | 42 => ⟨S_, .i32⟩
  | 43 => ⟨S1x1x1x1, .i32⟩
  | 44 => ⟨S1x1x1x1, .i1⟩
  | 45 => ⟨S_, .i32⟩
  | 46 => ⟨S1x1x1x1, .i32⟩
  | 47 => ⟨S1x1x1x1, .i32⟩
  | 48 => ⟨S1x1x1x1, .i32⟩
  | 49 => ⟨S_, .i32⟩
  | 50 => ⟨S1x12x1x1, .i32⟩
  | 51 => ⟨S1x12x1x1, .i1⟩
  | 52 => ⟨S_, .i32⟩
  | 53 => ⟨S1x12x1x1, .i32⟩
  | 54 => ⟨S1x12x1x1, .i32⟩
  | 55 => ⟨S1x12x1x1, .i32⟩
  | 56 => ⟨S_, .i32⟩
  | 57 => ⟨S1x1x2048x1, .i32⟩
  | 58 => ⟨S1x1x2048x1, .i1⟩
  | 59 => ⟨S_, .i32⟩
  | 60 => ⟨S1x1x2048x1, .i32⟩
  | 61 => ⟨S1x1x2048x1, .i32⟩
  | 62 => ⟨S1x1x2048x1, .i32⟩
  | 63 => ⟨S_, .i32⟩
  | 64 => ⟨S1x12x2048x409, .i32⟩
  | 65 => ⟨S1x12x2048x409, .i1⟩
  | 66 => ⟨S_, .i32⟩
  | 67 => ⟨S1x12x2048x409, .i32⟩
  | 68 => ⟨S1x12x2048x409, .i32⟩
  | 69 => ⟨S1x12x2048x409, .i32⟩
  | 70 => ⟨S1x12x2048x409, .i32⟩
  | 71 => ⟨S1x12x2048x409, .i32⟩
  | 72 => ⟨S1x12x2048x409, .i32⟩
  | 73 => ⟨S1x12x2048x409x1, .i32⟩
  | 74 => ⟨S1x12x2048x409x1, .i32⟩
  | 75 => ⟨S1x12x2048x409x1, .i32⟩
  | 76 => ⟨S1x12x2048x409x1, .i32⟩
  | 77 => ⟨S1x12x2048x409x4, .i32⟩
  | 78 => ⟨S_, .f32⟩
  | 79 => ⟨S1x12x2048x409, .f32⟩
  | 80 => ⟨S1x12x2048x2048, .f32⟩
  | 81 => ⟨S1x2048x768, .f32⟩
  | 82 => ⟨S1x1x768, .f32⟩
  | 83 => ⟨S1x2048x768, .f32⟩
  | 84 => ⟨S1x2048x768, .f32⟩
  | 85 => ⟨S1x2048x12x64, .f32⟩
  | 86 => ⟨S1x12x2048x64, .f32⟩
  | 87 => ⟨S1x2048x768, .f32⟩
  | 88 => ⟨S1x1x768, .f32⟩
  | 89 => ⟨S1x2048x768, .f32⟩
  | 90 => ⟨S1x2048x768, .f32⟩
  | 91 => ⟨S1x2048x12x64, .f32⟩
  | 92 => ⟨S1x12x2048x64, .f32⟩
  | 93 => ⟨S1x2048x768, .f32⟩
  | 94 => ⟨S1x1x768, .f32⟩
  | 95 => ⟨S1x2048x768, .f32⟩
  | 96 => ⟨S1x2048x768, .f32⟩
  | 97 => ⟨S1x2048x12x64, .f32⟩
  | 98 => ⟨S1x12x2048x64, .f32⟩
  | 99 => ⟨S1x12x2048x2048, .f32⟩
  | 100 => ⟨S_, .f32⟩
  | 101 => ⟨S1x12x2048x2048, .f32⟩
  | 102 => ⟨S1x12x2048x2048, .f32⟩
  | 103 => ⟨S_, .f32⟩
  | 104 => ⟨S1x12x2048x2048, .f32⟩
  | 105 => ⟨S1x12x2048x2048, .i1⟩
  | 106 => ⟨S_, .f32⟩
  | 107 => ⟨S_, .f32⟩
  | 108 => ⟨S1x12x2048x2048, .f32⟩
  | 109 => ⟨S1x12x2048x2048, .f32⟩
  | 110 => ⟨S_, .f32⟩
  | 111 => ⟨S1x12x2048, .f32⟩
  | 112 => ⟨S_, .f32⟩
  | 113 => ⟨S1x12x2048, .f32⟩
  | 114 => ⟨S1x12x2048, .f32⟩
  | 115 => ⟨S1x12x2048x1, .f32⟩
  | 116 => ⟨S1x12x2048x2048, .f32⟩
  | 117 => ⟨S1x12x2048x2048, .f32⟩
  | 118 => ⟨S1x12x2048x2048, .f32⟩
  | 119 => ⟨S_, .f32⟩
  | 120 => ⟨S1x12x2048, .f32⟩
  | 121 => ⟨S1x12x2048x1, .f32⟩
  | 122 => ⟨S1x12x2048x2048, .f32⟩
  | 123 => ⟨S1x12x2048x2048, .f32⟩
  | 124 => ⟨S1x12x2048x64, .f32⟩
  | 125 => ⟨S1x2048x12x64, .f32⟩
  | 126 => ⟨S1x2048x768, .f32⟩
  | 127 => ⟨S1x2048x768, .f32⟩
  | _ => ⟨S1x2048x768, .f32⟩

abbrev hbmTy0_4 (i : Nat) : BufTy := match i % 128 with
  | 0 => ⟨S1x1x768, .f32⟩
  | 1 => ⟨S1x2048x768, .f32⟩
  | 2 => ⟨S1x2048x768, .f32⟩
  | _ => ⟨S1x2048x768, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_cst : Ref sig .tc := ⟨.hbm, 19, rfl⟩
abbrev main_call0_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_cst_0 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_cst_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_5 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_6 : Ref sig .tc := ⟨.hbm, 75, rfl⟩
abbrev main_v50 : Ref sig .tc := ⟨.hbm, 76, rfl⟩
abbrev main_cst_7 : Ref sig .tc := ⟨.hbm, 77, rfl⟩
abbrev main_v51 : Ref sig .tc := ⟨.hbm, 78, rfl⟩
abbrev main_v52 : Ref sig .tc := ⟨.hbm, 79, rfl⟩
abbrev main_values : Ref sig .tc := ⟨.hbm, 80, rfl⟩
abbrev main_indices : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_8 : Ref sig .tc := ⟨.hbm, 86, rfl⟩
abbrev main_v57 : Ref sig .tc := ⟨.hbm, 87, rfl⟩
abbrev main_c_9 : Ref sig .tc := ⟨.hbm, 88, rfl⟩
abbrev main_v58 : Ref sig .tc := ⟨.hbm, 89, rfl⟩
abbrev main_v59 : Ref sig .tc := ⟨.hbm, 90, rfl⟩
abbrev main_c_10 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_c_11 : Ref sig .tc := ⟨.hbm, 95, rfl⟩
abbrev main_v63 : Ref sig .tc := ⟨.hbm, 96, rfl⟩
abbrev main_v64 : Ref sig .tc := ⟨.hbm, 97, rfl⟩
abbrev main_c_12 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_c_13 : Ref sig .tc := ⟨.hbm, 102, rfl⟩
abbrev main_v68 : Ref sig .tc := ⟨.hbm, 103, rfl⟩
abbrev main_v69 : Ref sig .tc := ⟨.hbm, 104, rfl⟩
abbrev main_c_14 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_15 : Ref sig .tc := ⟨.hbm, 115, rfl⟩
abbrev main_v79 : Ref sig .tc := ⟨.hbm, 116, rfl⟩
abbrev main_v80 : Ref sig .tc := ⟨.hbm, 117, rfl⟩
abbrev main_c_16 : Ref sig .tc := ⟨.hbm, 118, rfl⟩
abbrev main_c_17 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_c_18 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_19 : Ref sig .tc := ⟨.hbm, 128, rfl⟩
abbrev main_cst_20 : Ref sig .tc := ⟨.hbm, 129, rfl⟩
abbrev main_call1_v0 : Ref sig .tc := ⟨.hbm, 130, rfl⟩
abbrev main_call1_v1 : Ref sig .tc := ⟨.hbm, 131, rfl⟩
abbrev main_call1_v2 : Ref sig .tc := ⟨.hbm, 132, rfl⟩
abbrev main_call1_v3 : Ref sig .tc := ⟨.hbm, 133, rfl⟩
abbrev main_call1_v4 : Ref sig .tc := ⟨.hbm, 134, rfl⟩
abbrev main_call1_v5 : Ref sig .tc := ⟨.hbm, 135, rfl⟩
abbrev main_call1_v6 : Ref sig .tc := ⟨.hbm, 136, rfl⟩
abbrev main_call1_v7 : Ref sig .tc := ⟨.hbm, 137, rfl⟩
abbrev main_call1_v8 : Ref sig .tc := ⟨.hbm, 138, rfl⟩
abbrev main_call1_v9 : Ref sig .tc := ⟨.hbm, 139, rfl⟩
abbrev main_call1_v10 : Ref sig .tc := ⟨.hbm, 140, rfl⟩
abbrev main_call1_v11 : Ref sig .tc := ⟨.hbm, 141, rfl⟩
abbrev main_call1_c : Ref sig .tc := ⟨.hbm, 142, rfl⟩
abbrev main_call1_v12 : Ref sig .tc := ⟨.hbm, 143, rfl⟩
abbrev main_call1_v13 : Ref sig .tc := ⟨.hbm, 144, rfl⟩
abbrev main_call1_c_0 : Ref sig .tc := ⟨.hbm, 145, rfl⟩
abbrev main_call1_v14 : Ref sig .tc := ⟨.hbm, 146, rfl⟩
abbrev main_call1_v15 : Ref sig .tc := ⟨.hbm, 147, rfl⟩
abbrev main_call1_c_1 : Ref sig .tc := ⟨.hbm, 148, rfl⟩
abbrev main_call1_v16 : Ref sig .tc := ⟨.hbm, 149, rfl⟩
abbrev main_call1_v17 : Ref sig .tc := ⟨.hbm, 150, rfl⟩
abbrev main_call1_c_2 : Ref sig .tc := ⟨.hbm, 151, rfl⟩
abbrev main_call1_v18 : Ref sig .tc := ⟨.hbm, 152, rfl⟩
abbrev main_call1_v19 : Ref sig .tc := ⟨.hbm, 153, rfl⟩
abbrev main_call1_v20 : Ref sig .tc := ⟨.hbm, 154, rfl⟩
abbrev main_call1_v21 : Ref sig .tc := ⟨.hbm, 155, rfl⟩
abbrev main_call1_v22 : Ref sig .tc := ⟨.hbm, 156, rfl⟩
abbrev main_call1_c_3 : Ref sig .tc := ⟨.hbm, 157, rfl⟩
abbrev main_call1_v23 : Ref sig .tc := ⟨.hbm, 158, rfl⟩
abbrev main_call1_v24 : Ref sig .tc := ⟨.hbm, 159, rfl⟩
abbrev main_call1_v25 : Ref sig .tc := ⟨.hbm, 160, rfl⟩
abbrev main_call1_v26 : Ref sig .tc := ⟨.hbm, 161, rfl⟩
abbrev main_call1_call0_v0 : Ref sig .tc := ⟨.hbm, 162, rfl⟩
abbrev main_call1_call0_c : Ref sig .tc := ⟨.hbm, 163, rfl⟩
abbrev main_call1_call0_v1 : Ref sig .tc := ⟨.hbm, 164, rfl⟩
abbrev main_call1_call0_v2 : Ref sig .tc := ⟨.hbm, 165, rfl⟩
abbrev main_call1_call0_v3 : Ref sig .tc := ⟨.hbm, 166, rfl⟩
abbrev main_call1_call0_v4 : Ref sig .tc := ⟨.hbm, 167, rfl⟩
abbrev main_call1_call0_v5 : Ref sig .tc := ⟨.hbm, 168, rfl⟩
abbrev main_call1_call0_v6 : Ref sig .tc := ⟨.hbm, 169, rfl⟩
abbrev main_call1_call0_c_0 : Ref sig .tc := ⟨.hbm, 170, rfl⟩
abbrev main_call1_call0_v7 : Ref sig .tc := ⟨.hbm, 171, rfl⟩
abbrev main_call1_call0_v8 : Ref sig .tc := ⟨.hbm, 172, rfl⟩
abbrev main_call1_call0_c_1 : Ref sig .tc := ⟨.hbm, 173, rfl⟩
abbrev main_call1_call0_v9 : Ref sig .tc := ⟨.hbm, 174, rfl⟩
abbrev main_call1_call0_v10 : Ref sig .tc := ⟨.hbm, 175, rfl⟩
abbrev main_call1_call0_v11 : Ref sig .tc := ⟨.hbm, 176, rfl⟩
abbrev main_call1_call0_v12 : Ref sig .tc := ⟨.hbm, 177, rfl⟩
abbrev main_call1_call0_v13 : Ref sig .tc := ⟨.hbm, 178, rfl⟩
abbrev main_call1_call0_c_2 : Ref sig .tc := ⟨.hbm, 179, rfl⟩
abbrev main_call1_call0_v14 : Ref sig .tc := ⟨.hbm, 180, rfl⟩
abbrev main_call1_call0_v15 : Ref sig .tc := ⟨.hbm, 181, rfl⟩
abbrev main_call1_call0_c_3 : Ref sig .tc := ⟨.hbm, 182, rfl⟩
abbrev main_call1_call0_v16 : Ref sig .tc := ⟨.hbm, 183, rfl⟩
abbrev main_call1_call0_v17 : Ref sig .tc := ⟨.hbm, 184, rfl⟩
abbrev main_call1_call0_v18 : Ref sig .tc := ⟨.hbm, 185, rfl⟩
abbrev main_call1_call0_v19 : Ref sig .tc := ⟨.hbm, 186, rfl⟩
abbrev main_call1_call0_v20 : Ref sig .tc := ⟨.hbm, 187, rfl⟩
abbrev main_call1_call0_c_4 : Ref sig .tc := ⟨.hbm, 188, rfl⟩
abbrev main_call1_call0_v21 : Ref sig .tc := ⟨.hbm, 189, rfl⟩
abbrev main_call1_call0_v22 : Ref sig .tc := ⟨.hbm, 190, rfl⟩
abbrev main_call1_call0_c_5 : Ref sig .tc := ⟨.hbm, 191, rfl⟩
abbrev main_call1_call0_v23 : Ref sig .tc := ⟨.hbm, 192, rfl⟩
abbrev main_call1_call0_v24 : Ref sig .tc := ⟨.hbm, 193, rfl⟩
abbrev main_call1_call0_v25 : Ref sig .tc := ⟨.hbm, 194, rfl⟩
abbrev main_call1_call0_v26 : Ref sig .tc := ⟨.hbm, 195, rfl⟩
abbrev main_call1_call0_v27 : Ref sig .tc := ⟨.hbm, 196, rfl⟩
abbrev main_call1_call0_c_6 : Ref sig .tc := ⟨.hbm, 197, rfl⟩
abbrev main_call1_call0_v28 : Ref sig .tc := ⟨.hbm, 198, rfl⟩
abbrev main_call1_call0_v29 : Ref sig .tc := ⟨.hbm, 199, rfl⟩
abbrev main_call1_call0_c_7 : Ref sig .tc := ⟨.hbm, 200, rfl⟩
abbrev main_call1_call0_v30 : Ref sig .tc := ⟨.hbm, 201, rfl⟩
abbrev main_call1_call0_v31 : Ref sig .tc := ⟨.hbm, 202, rfl⟩
abbrev main_call1_call0_v32 : Ref sig .tc := ⟨.hbm, 203, rfl⟩
abbrev main_call1_call0_v33 : Ref sig .tc := ⟨.hbm, 204, rfl⟩
abbrev main_call1_call0_v34 : Ref sig .tc := ⟨.hbm, 205, rfl⟩
abbrev main_call1_call0_v35 : Ref sig .tc := ⟨.hbm, 206, rfl⟩
abbrev main_call1_call0_v36 : Ref sig .tc := ⟨.hbm, 207, rfl⟩
abbrev main_call1_call0_v37 : Ref sig .tc := ⟨.hbm, 208, rfl⟩
abbrev main_call1_call0_c_8 : Ref sig .tc := ⟨.hbm, 209, rfl⟩
abbrev main_call1_call0_v38 : Ref sig .tc := ⟨.hbm, 210, rfl⟩
abbrev main_call1_call0_v39 : Ref sig .tc := ⟨.hbm, 211, rfl⟩
abbrev main_call1_call0_v40 : Ref sig .tc := ⟨.hbm, 212, rfl⟩
abbrev main_call1_call0_c_9 : Ref sig .tc := ⟨.hbm, 213, rfl⟩
abbrev main_call1_call0_v41 : Ref sig .tc := ⟨.hbm, 214, rfl⟩
abbrev main_call1_call0_v42 : Ref sig .tc := ⟨.hbm, 215, rfl⟩
abbrev main_call1_call0_c_10 : Ref sig .tc := ⟨.hbm, 216, rfl⟩
abbrev main_call1_call0_v43 : Ref sig .tc := ⟨.hbm, 217, rfl⟩
abbrev main_call1_call0_v44 : Ref sig .tc := ⟨.hbm, 218, rfl⟩
abbrev main_call1_call0_v45 : Ref sig .tc := ⟨.hbm, 219, rfl⟩
abbrev main_call1_call0_v46 : Ref sig .tc := ⟨.hbm, 220, rfl⟩
abbrev main_call1_call0_v47 : Ref sig .tc := ⟨.hbm, 221, rfl⟩
abbrev main_call1_call0_c_11 : Ref sig .tc := ⟨.hbm, 222, rfl⟩
abbrev main_call1_call0_v48 : Ref sig .tc := ⟨.hbm, 223, rfl⟩
abbrev main_call1_call0_v49 : Ref sig .tc := ⟨.hbm, 224, rfl⟩
abbrev main_call1_call0_c_12 : Ref sig .tc := ⟨.hbm, 225, rfl⟩
abbrev main_call1_call0_v50 : Ref sig .tc := ⟨.hbm, 226, rfl⟩
abbrev main_call1_call0_v51 : Ref sig .tc := ⟨.hbm, 227, rfl⟩
abbrev main_call1_call0_v52 : Ref sig .tc := ⟨.hbm, 228, rfl⟩
abbrev main_call1_call0_v53 : Ref sig .tc := ⟨.hbm, 229, rfl⟩
abbrev main_call1_call0_v54 : Ref sig .tc := ⟨.hbm, 230, rfl⟩
abbrev main_call1_call0_c_13 : Ref sig .tc := ⟨.hbm, 231, rfl⟩
abbrev main_call1_call0_v55 : Ref sig .tc := ⟨.hbm, 232, rfl⟩
abbrev main_call1_call0_v56 : Ref sig .tc := ⟨.hbm, 233, rfl⟩
abbrev main_call1_call0_c_14 : Ref sig .tc := ⟨.hbm, 234, rfl⟩
abbrev main_call1_call0_v57 : Ref sig .tc := ⟨.hbm, 235, rfl⟩
abbrev main_call1_call0_v58 : Ref sig .tc := ⟨.hbm, 236, rfl⟩
abbrev main_call1_call0_v59 : Ref sig .tc := ⟨.hbm, 237, rfl⟩
abbrev main_call1_call0_v60 : Ref sig .tc := ⟨.hbm, 238, rfl⟩
abbrev main_call1_call0_v61 : Ref sig .tc := ⟨.hbm, 239, rfl⟩
abbrev main_call1_call0_c_15 : Ref sig .tc := ⟨.hbm, 240, rfl⟩
abbrev main_call1_call0_v62 : Ref sig .tc := ⟨.hbm, 241, rfl⟩
abbrev main_call1_call0_v63 : Ref sig .tc := ⟨.hbm, 242, rfl⟩
abbrev main_call1_call0_c_16 : Ref sig .tc := ⟨.hbm, 243, rfl⟩
abbrev main_call1_call0_v64 : Ref sig .tc := ⟨.hbm, 244, rfl⟩
abbrev main_call1_call0_v65 : Ref sig .tc := ⟨.hbm, 245, rfl⟩
abbrev main_call1_call0_v66 : Ref sig .tc := ⟨.hbm, 246, rfl⟩
abbrev main_call1_call0_v67 : Ref sig .tc := ⟨.hbm, 247, rfl⟩
abbrev main_call1_call0_v68 : Ref sig .tc := ⟨.hbm, 248, rfl⟩
abbrev main_call1_call0_v69 : Ref sig .tc := ⟨.hbm, 249, rfl⟩
abbrev main_call1_call0_v70 : Ref sig .tc := ⟨.hbm, 250, rfl⟩
abbrev main_call1_call0_v71 : Ref sig .tc := ⟨.hbm, 251, rfl⟩
abbrev main_call1_call0_c_17 : Ref sig .tc := ⟨.hbm, 252, rfl⟩
abbrev main_call1_call0_v72 : Ref sig .tc := ⟨.hbm, 253, rfl⟩
abbrev main_call1_call0_v73 : Ref sig .tc := ⟨.hbm, 254, rfl⟩
abbrev main_call1_call0_v74 : Ref sig .tc := ⟨.hbm, 255, rfl⟩
abbrev main_call1_call0_c_18 : Ref sig .tc := ⟨.hbm, 256, rfl⟩
abbrev main_call1_call0_v75 : Ref sig .tc := ⟨.hbm, 257, rfl⟩
abbrev main_call1_call0_v76 : Ref sig .tc := ⟨.hbm, 258, rfl⟩
abbrev main_call1_call0_c_19 : Ref sig .tc := ⟨.hbm, 259, rfl⟩
abbrev main_call1_call0_v77 : Ref sig .tc := ⟨.hbm, 260, rfl⟩
abbrev main_call1_call0_v78 : Ref sig .tc := ⟨.hbm, 261, rfl⟩
abbrev main_call1_call0_v79 : Ref sig .tc := ⟨.hbm, 262, rfl⟩
abbrev main_call1_call0_v80 : Ref sig .tc := ⟨.hbm, 263, rfl⟩
abbrev main_call1_call0_v81 : Ref sig .tc := ⟨.hbm, 264, rfl⟩
abbrev main_call1_call0_c_20 : Ref sig .tc := ⟨.hbm, 265, rfl⟩
abbrev main_call1_call0_v82 : Ref sig .tc := ⟨.hbm, 266, rfl⟩
abbrev main_call1_call0_v83 : Ref sig .tc := ⟨.hbm, 267, rfl⟩
abbrev main_call1_call0_c_21 : Ref sig .tc := ⟨.hbm, 268, rfl⟩
abbrev main_call1_call0_v84 : Ref sig .tc := ⟨.hbm, 269, rfl⟩
abbrev main_call1_call0_v85 : Ref sig .tc := ⟨.hbm, 270, rfl⟩
abbrev main_call1_call0_v86 : Ref sig .tc := ⟨.hbm, 271, rfl⟩
abbrev main_call1_call0_v87 : Ref sig .tc := ⟨.hbm, 272, rfl⟩
abbrev main_call1_call0_v88 : Ref sig .tc := ⟨.hbm, 273, rfl⟩
abbrev main_call1_call0_c_22 : Ref sig .tc := ⟨.hbm, 274, rfl⟩
abbrev main_call1_call0_v89 : Ref sig .tc := ⟨.hbm, 275, rfl⟩
abbrev main_call1_call0_v90 : Ref sig .tc := ⟨.hbm, 276, rfl⟩
abbrev main_call1_call0_c_23 : Ref sig .tc := ⟨.hbm, 277, rfl⟩
abbrev main_call1_call0_v91 : Ref sig .tc := ⟨.hbm, 278, rfl⟩
abbrev main_call1_call0_v92 : Ref sig .tc := ⟨.hbm, 279, rfl⟩
abbrev main_call1_call0_v93 : Ref sig .tc := ⟨.hbm, 280, rfl⟩
abbrev main_call1_call0_v94 : Ref sig .tc := ⟨.hbm, 281, rfl⟩
abbrev main_call1_call0_v95 : Ref sig .tc := ⟨.hbm, 282, rfl⟩
abbrev main_call1_call0_c_24 : Ref sig .tc := ⟨.hbm, 283, rfl⟩
abbrev main_call1_call0_v96 : Ref sig .tc := ⟨.hbm, 284, rfl⟩
abbrev main_call1_call0_v97 : Ref sig .tc := ⟨.hbm, 285, rfl⟩
abbrev main_call1_call0_c_25 : Ref sig .tc := ⟨.hbm, 286, rfl⟩
abbrev main_call1_call0_v98 : Ref sig .tc := ⟨.hbm, 287, rfl⟩
abbrev main_call1_call0_v99 : Ref sig .tc := ⟨.hbm, 288, rfl⟩
abbrev main_call1_call0_v100 : Ref sig .tc := ⟨.hbm, 289, rfl⟩
abbrev main_call1_call0_v101 : Ref sig .tc := ⟨.hbm, 290, rfl⟩
abbrev main_call1_call0_v102 : Ref sig .tc := ⟨.hbm, 291, rfl⟩
abbrev main_call1_call0_v103 : Ref sig .tc := ⟨.hbm, 292, rfl⟩
abbrev main_call1_call0_v104 : Ref sig .tc := ⟨.hbm, 293, rfl⟩
abbrev main_call1_call0_v105 : Ref sig .tc := ⟨.hbm, 294, rfl⟩
abbrev main_call1_call0_c_26 : Ref sig .tc := ⟨.hbm, 295, rfl⟩
abbrev main_call1_call0_v106 : Ref sig .tc := ⟨.hbm, 296, rfl⟩
abbrev main_call1_call0_v107 : Ref sig .tc := ⟨.hbm, 297, rfl⟩
abbrev main_call1_call0_v108 : Ref sig .tc := ⟨.hbm, 298, rfl⟩
abbrev main_call1_call0_c_27 : Ref sig .tc := ⟨.hbm, 299, rfl⟩
abbrev main_call1_call0_v109 : Ref sig .tc := ⟨.hbm, 300, rfl⟩
abbrev main_call1_call0_v110 : Ref sig .tc := ⟨.hbm, 301, rfl⟩
abbrev main_call1_call0_c_28 : Ref sig .tc := ⟨.hbm, 302, rfl⟩
abbrev main_call1_call0_v111 : Ref sig .tc := ⟨.hbm, 303, rfl⟩
abbrev main_call1_call0_v112 : Ref sig .tc := ⟨.hbm, 304, rfl⟩
abbrev main_call1_call0_v113 : Ref sig .tc := ⟨.hbm, 305, rfl⟩
abbrev main_call1_call0_v114 : Ref sig .tc := ⟨.hbm, 306, rfl⟩
abbrev main_call1_call0_v115 : Ref sig .tc := ⟨.hbm, 307, rfl⟩
abbrev main_call1_call0_c_29 : Ref sig .tc := ⟨.hbm, 308, rfl⟩
abbrev main_call1_call0_v116 : Ref sig .tc := ⟨.hbm, 309, rfl⟩
abbrev main_call1_call0_v117 : Ref sig .tc := ⟨.hbm, 310, rfl⟩
abbrev main_call1_call0_c_30 : Ref sig .tc := ⟨.hbm, 311, rfl⟩
abbrev main_call1_call0_v118 : Ref sig .tc := ⟨.hbm, 312, rfl⟩
abbrev main_call1_call0_v119 : Ref sig .tc := ⟨.hbm, 313, rfl⟩
abbrev main_call1_call0_v120 : Ref sig .tc := ⟨.hbm, 314, rfl⟩
abbrev main_call1_call0_v121 : Ref sig .tc := ⟨.hbm, 315, rfl⟩
abbrev main_call1_call0_v122 : Ref sig .tc := ⟨.hbm, 316, rfl⟩
abbrev main_call1_call0_c_31 : Ref sig .tc := ⟨.hbm, 317, rfl⟩
abbrev main_call1_call0_v123 : Ref sig .tc := ⟨.hbm, 318, rfl⟩
abbrev main_call1_call0_v124 : Ref sig .tc := ⟨.hbm, 319, rfl⟩
abbrev main_call1_call0_c_32 : Ref sig .tc := ⟨.hbm, 320, rfl⟩
abbrev main_call1_call0_v125 : Ref sig .tc := ⟨.hbm, 321, rfl⟩
abbrev main_call1_call0_v126 : Ref sig .tc := ⟨.hbm, 322, rfl⟩
abbrev main_call1_call0_v127 : Ref sig .tc := ⟨.hbm, 323, rfl⟩
abbrev main_call1_call0_v128 : Ref sig .tc := ⟨.hbm, 324, rfl⟩
abbrev main_call1_call0_v129 : Ref sig .tc := ⟨.hbm, 325, rfl⟩
abbrev main_call1_call0_c_33 : Ref sig .tc := ⟨.hbm, 326, rfl⟩
abbrev main_call1_call0_v130 : Ref sig .tc := ⟨.hbm, 327, rfl⟩
abbrev main_call1_call0_v131 : Ref sig .tc := ⟨.hbm, 328, rfl⟩
abbrev main_call1_call0_c_34 : Ref sig .tc := ⟨.hbm, 329, rfl⟩
abbrev main_call1_call0_v132 : Ref sig .tc := ⟨.hbm, 330, rfl⟩
abbrev main_call1_call0_v133 : Ref sig .tc := ⟨.hbm, 331, rfl⟩
abbrev main_call1_call0_v134 : Ref sig .tc := ⟨.hbm, 332, rfl⟩
abbrev main_call1_call0_v135 : Ref sig .tc := ⟨.hbm, 333, rfl⟩
abbrev main_call1_call0_v136 : Ref sig .tc := ⟨.hbm, 334, rfl⟩
abbrev main_call1_call0_v137 : Ref sig .tc := ⟨.hbm, 335, rfl⟩
abbrev main_call1_call0_v138 : Ref sig .tc := ⟨.hbm, 336, rfl⟩
abbrev main_call1_call0_v139 : Ref sig .tc := ⟨.hbm, 337, rfl⟩
abbrev main_call1_call0_c_35 : Ref sig .tc := ⟨.hbm, 338, rfl⟩
abbrev main_call1_call0_v140 : Ref sig .tc := ⟨.hbm, 339, rfl⟩
abbrev main_call1_call0_v141 : Ref sig .tc := ⟨.hbm, 340, rfl⟩
abbrev main_call1_call0_v142 : Ref sig .tc := ⟨.hbm, 341, rfl⟩
abbrev main_call1_call0_c_36 : Ref sig .tc := ⟨.hbm, 342, rfl⟩
abbrev main_call1_call0_v143 : Ref sig .tc := ⟨.hbm, 343, rfl⟩
abbrev main_call1_call0_v144 : Ref sig .tc := ⟨.hbm, 344, rfl⟩
abbrev main_call1_call0_c_37 : Ref sig .tc := ⟨.hbm, 345, rfl⟩
abbrev main_call1_call0_v145 : Ref sig .tc := ⟨.hbm, 346, rfl⟩
abbrev main_call1_call0_v146 : Ref sig .tc := ⟨.hbm, 347, rfl⟩
abbrev main_call1_call0_v147 : Ref sig .tc := ⟨.hbm, 348, rfl⟩
abbrev main_call1_call0_v148 : Ref sig .tc := ⟨.hbm, 349, rfl⟩
abbrev main_call1_call0_v149 : Ref sig .tc := ⟨.hbm, 350, rfl⟩
abbrev main_call1_call0_c_38 : Ref sig .tc := ⟨.hbm, 351, rfl⟩
abbrev main_call1_call0_v150 : Ref sig .tc := ⟨.hbm, 352, rfl⟩
abbrev main_call1_call0_v151 : Ref sig .tc := ⟨.hbm, 353, rfl⟩
abbrev main_call1_call0_c_39 : Ref sig .tc := ⟨.hbm, 354, rfl⟩
abbrev main_call1_call0_v152 : Ref sig .tc := ⟨.hbm, 355, rfl⟩
abbrev main_call1_call0_v153 : Ref sig .tc := ⟨.hbm, 356, rfl⟩
abbrev main_call1_call0_v154 : Ref sig .tc := ⟨.hbm, 357, rfl⟩
abbrev main_call1_call0_v155 : Ref sig .tc := ⟨.hbm, 358, rfl⟩
abbrev main_call1_call0_v156 : Ref sig .tc := ⟨.hbm, 359, rfl⟩
abbrev main_call1_call0_c_40 : Ref sig .tc := ⟨.hbm, 360, rfl⟩
abbrev main_call1_call0_v157 : Ref sig .tc := ⟨.hbm, 361, rfl⟩
abbrev main_call1_call0_v158 : Ref sig .tc := ⟨.hbm, 362, rfl⟩
abbrev main_call1_call0_c_41 : Ref sig .tc := ⟨.hbm, 363, rfl⟩
abbrev main_call1_call0_v159 : Ref sig .tc := ⟨.hbm, 364, rfl⟩
abbrev main_call1_call0_v160 : Ref sig .tc := ⟨.hbm, 365, rfl⟩
abbrev main_call1_call0_v161 : Ref sig .tc := ⟨.hbm, 366, rfl⟩
abbrev main_call1_call0_v162 : Ref sig .tc := ⟨.hbm, 367, rfl⟩
abbrev main_call1_call0_v163 : Ref sig .tc := ⟨.hbm, 368, rfl⟩
abbrev main_call1_call0_c_42 : Ref sig .tc := ⟨.hbm, 369, rfl⟩
abbrev main_call1_call0_v164 : Ref sig .tc := ⟨.hbm, 370, rfl⟩
abbrev main_call1_call0_v165 : Ref sig .tc := ⟨.hbm, 371, rfl⟩
abbrev main_call1_call0_c_43 : Ref sig .tc := ⟨.hbm, 372, rfl⟩
abbrev main_call1_call0_v166 : Ref sig .tc := ⟨.hbm, 373, rfl⟩
abbrev main_call1_call0_v167 : Ref sig .tc := ⟨.hbm, 374, rfl⟩
abbrev main_call1_call0_v168 : Ref sig .tc := ⟨.hbm, 375, rfl⟩
abbrev main_call1_call0_v169 : Ref sig .tc := ⟨.hbm, 376, rfl⟩
abbrev main_call1_call0_v170 : Ref sig .tc := ⟨.hbm, 377, rfl⟩
abbrev main_call1_v27_0 : Ref sig .tc := ⟨.hbm, 378, rfl⟩
abbrev main_call1_call0_v172 : Ref sig .tc := ⟨.hbm, 379, rfl⟩
abbrev main_call1_call0_v173 : Ref sig .tc := ⟨.hbm, 380, rfl⟩
abbrev main_call1_call0_c_44 : Ref sig .tc := ⟨.hbm, 381, rfl⟩
abbrev main_call1_call0_v174 : Ref sig .tc := ⟨.hbm, 382, rfl⟩
abbrev main_call1_v27_1 : Ref sig .tc := ⟨.hbm, 383, rfl⟩
abbrev main_call1_v28 : Ref sig .tc := ⟨.hbm, 384, rfl⟩
abbrev main_call1_c_4 : Ref sig .tc := ⟨.hbm, 385, rfl⟩
abbrev main_call1_v29 : Ref sig .tc := ⟨.hbm, 386, rfl⟩
abbrev main_call1_v30 : Ref sig .tc := ⟨.hbm, 387, rfl⟩
abbrev main_call1_c_5 : Ref sig .tc := ⟨.hbm, 388, rfl⟩
abbrev main_call1_v31 : Ref sig .tc := ⟨.hbm, 389, rfl⟩
abbrev main_call1_v32 : Ref sig .tc := ⟨.hbm, 390, rfl⟩
abbrev main_call1_v33 : Ref sig .tc := ⟨.hbm, 391, rfl⟩
abbrev main_call1_cst : Ref sig .tc := ⟨.hbm, 392, rfl⟩
abbrev main_call1_v34 : Ref sig .tc := ⟨.hbm, 393, rfl⟩
abbrev main_call1_v35 : Ref sig .tc := ⟨.hbm, 394, rfl⟩
abbrev main_call1_v36 : Ref sig .tc := ⟨.hbm, 395, rfl⟩
abbrev main_call1_v37 : Ref sig .tc := ⟨.hbm, 396, rfl⟩
abbrev main_call1_v38 : Ref sig .tc := ⟨.hbm, 397, rfl⟩
abbrev main_call1_v39 : Ref sig .tc := ⟨.hbm, 398, rfl⟩
abbrev main_call1_v40 : Ref sig .tc := ⟨.hbm, 399, rfl⟩
abbrev main_call1_v41 : Ref sig .tc := ⟨.hbm, 400, rfl⟩
abbrev main_v88 : Ref sig .tc := ⟨.hbm, 401, rfl⟩
abbrev main_cst_21 : Ref sig .tc := ⟨.hbm, 402, rfl⟩
abbrev main_v89 : Ref sig .tc := ⟨.hbm, 403, rfl⟩
abbrev main_v90 : Ref sig .tc := ⟨.hbm, 404, rfl⟩
abbrev main_v91 : Ref sig .tc := ⟨.hbm, 405, rfl⟩
abbrev main_v92 : Ref sig .tc := ⟨.hbm, 406, rfl⟩
abbrev main_v93 : Ref sig .tc := ⟨.hbm, 407, rfl⟩
abbrev main_v94 : Ref sig .tc := ⟨.hbm, 408, rfl⟩
abbrev main_v95 : Ref sig .tc := ⟨.hbm, 409, rfl⟩
abbrev main_v96 : Ref sig .tc := ⟨.hbm, 410, rfl⟩
abbrev main_cst_22 : Ref sig .tc := ⟨.hbm, 411, rfl⟩
abbrev main_v97 : Ref sig .tc := ⟨.hbm, 412, rfl⟩
abbrev main_v98 : Ref sig .tc := ⟨.hbm, 413, rfl⟩
abbrev main_v99 : Ref sig .tc := ⟨.hbm, 414, rfl⟩
abbrev main_v100 : Ref sig .tc := ⟨.hbm, 415, rfl⟩
abbrev main_values_23 : Ref sig .tc := ⟨.hbm, 416, rfl⟩
abbrev main_indices_24 : Ref sig .tc := ⟨.hbm, 417, rfl⟩
abbrev main_v101 : Ref sig .tc := ⟨.hbm, 418, rfl⟩
abbrev main_v102 : Ref sig .tc := ⟨.hbm, 419, rfl⟩
abbrev main_v103 : Ref sig .tc := ⟨.hbm, 420, rfl⟩
abbrev main_v104 : Ref sig .tc := ⟨.hbm, 421, rfl⟩
abbrev main_v105 : Ref sig .tc := ⟨.hbm, 422, rfl⟩
abbrev main_v106 : Ref sig .tc := ⟨.hbm, 423, rfl⟩
abbrev main_cst_25 : Ref sig .tc := ⟨.hbm, 424, rfl⟩
abbrev main_v107 : Ref sig .tc := ⟨.hbm, 425, rfl⟩
abbrev main_c_26 : Ref sig .tc := ⟨.hbm, 426, rfl⟩
abbrev main_v108 : Ref sig .tc := ⟨.hbm, 427, rfl⟩
abbrev main_v109 : Ref sig .tc := ⟨.hbm, 428, rfl⟩
abbrev main_c_27 : Ref sig .tc := ⟨.hbm, 429, rfl⟩
abbrev main_v110 : Ref sig .tc := ⟨.hbm, 430, rfl⟩
abbrev main_v111 : Ref sig .tc := ⟨.hbm, 431, rfl⟩
abbrev main_v112 : Ref sig .tc := ⟨.hbm, 432, rfl⟩
abbrev main_c_28 : Ref sig .tc := ⟨.hbm, 433, rfl⟩
abbrev main_v113 : Ref sig .tc := ⟨.hbm, 434, rfl⟩
abbrev main_v114 : Ref sig .tc := ⟨.hbm, 435, rfl⟩
abbrev main_c_29 : Ref sig .tc := ⟨.hbm, 436, rfl⟩
abbrev main_v115 : Ref sig .tc := ⟨.hbm, 437, rfl⟩
abbrev main_v116 : Ref sig .tc := ⟨.hbm, 438, rfl⟩
abbrev main_v117 : Ref sig .tc := ⟨.hbm, 439, rfl⟩
abbrev main_c_30 : Ref sig .tc := ⟨.hbm, 440, rfl⟩
abbrev main_v118 : Ref sig .tc := ⟨.hbm, 441, rfl⟩
abbrev main_v119 : Ref sig .tc := ⟨.hbm, 442, rfl⟩
abbrev main_c_31 : Ref sig .tc := ⟨.hbm, 443, rfl⟩
abbrev main_v120 : Ref sig .tc := ⟨.hbm, 444, rfl⟩
abbrev main_v121 : Ref sig .tc := ⟨.hbm, 445, rfl⟩
abbrev main_v122 : Ref sig .tc := ⟨.hbm, 446, rfl⟩
abbrev main_c_32 : Ref sig .tc := ⟨.hbm, 447, rfl⟩
abbrev main_v123 : Ref sig .tc := ⟨.hbm, 448, rfl⟩
abbrev main_v124 : Ref sig .tc := ⟨.hbm, 449, rfl⟩
abbrev main_c_33 : Ref sig .tc := ⟨.hbm, 450, rfl⟩
abbrev main_v125 : Ref sig .tc := ⟨.hbm, 451, rfl⟩
abbrev main_v126 : Ref sig .tc := ⟨.hbm, 452, rfl⟩
abbrev main_v127 : Ref sig .tc := ⟨.hbm, 453, rfl⟩
abbrev main_v128 : Ref sig .tc := ⟨.hbm, 454, rfl⟩
abbrev main_v129 : Ref sig .tc := ⟨.hbm, 455, rfl⟩
abbrev main_v130 : Ref sig .tc := ⟨.hbm, 456, rfl⟩
abbrev main_v131 : Ref sig .tc := ⟨.hbm, 457, rfl⟩
abbrev main_v132 : Ref sig .tc := ⟨.hbm, 458, rfl⟩
abbrev main_v133 : Ref sig .tc := ⟨.hbm, 459, rfl⟩
abbrev main_v134 : Ref sig .tc := ⟨.hbm, 460, rfl⟩
abbrev main_v135 : Ref sig .tc := ⟨.hbm, 461, rfl⟩
abbrev main_cst_34 : Ref sig .tc := ⟨.hbm, 462, rfl⟩
abbrev main_v136 : Ref sig .tc := ⟨.hbm, 463, rfl⟩
abbrev main_v137 : Ref sig .tc := ⟨.hbm, 464, rfl⟩
abbrev main_v138 : Ref sig .tc := ⟨.hbm, 465, rfl⟩
abbrev main_v139 : Ref sig .tc := ⟨.hbm, 466, rfl⟩
abbrev main_v140 : Ref sig .tc := ⟨.hbm, 467, rfl⟩
abbrev main_v141 : Ref sig .tc := ⟨.hbm, 468, rfl⟩
abbrev main_v142 : Ref sig .tc := ⟨.hbm, 469, rfl⟩
abbrev main_v143 : Ref sig .tc := ⟨.hbm, 470, rfl⟩
abbrev main_v144 : Ref sig .tc := ⟨.hbm, 471, rfl⟩
abbrev main_v145 : Ref sig .tc := ⟨.hbm, 472, rfl⟩
abbrev main_v146 : Ref sig .tc := ⟨.hbm, 473, rfl⟩
abbrev main_v147 : Ref sig .tc := ⟨.hbm, 474, rfl⟩
abbrev main_v148 : Ref sig .tc := ⟨.hbm, 475, rfl⟩
abbrev main_v149 : Ref sig .tc := ⟨.hbm, 476, rfl⟩
abbrev main_v150 : Ref sig .tc := ⟨.hbm, 477, rfl⟩
abbrev main_v151 : Ref sig .tc := ⟨.hbm, 478, rfl⟩
abbrev main_v152 : Ref sig .tc := ⟨.hbm, 479, rfl⟩
abbrev main_v153 : Ref sig .tc := ⟨.hbm, 480, rfl⟩
abbrev main_v154 : Ref sig .tc := ⟨.hbm, 481, rfl⟩
abbrev main_v155 : Ref sig .tc := ⟨.hbm, 482, rfl⟩
abbrev main_v156 : Ref sig .tc := ⟨.hbm, 483, rfl⟩
abbrev main_cst_35 : Ref sig .tc := ⟨.hbm, 484, rfl⟩
abbrev main_v157 : Ref sig .tc := ⟨.hbm, 485, rfl⟩
abbrev main_v158 : Ref sig .tc := ⟨.hbm, 486, rfl⟩
abbrev main_cst_36 : Ref sig .tc := ⟨.hbm, 487, rfl⟩
abbrev main_v159 : Ref sig .tc := ⟨.hbm, 488, rfl⟩
abbrev main_v160 : Ref sig .tc := ⟨.hbm, 489, rfl⟩
abbrev main_cst_37 : Ref sig .tc := ⟨.hbm, 490, rfl⟩
abbrev main_call2_v0 : Ref sig .tc := ⟨.hbm, 491, rfl⟩
abbrev main_call2_v1 : Ref sig .tc := ⟨.hbm, 492, rfl⟩
abbrev main_v161 : Ref sig .tc := ⟨.hbm, 493, rfl⟩
abbrev main_cst_38 : Ref sig .tc := ⟨.hbm, 494, rfl⟩
abbrev main_v162 : Ref sig .tc := ⟨.hbm, 495, rfl⟩
abbrev main_cst_39 : Ref sig .tc := ⟨.hbm, 496, rfl⟩
abbrev main_v163 : Ref sig .tc := ⟨.hbm, 497, rfl⟩
abbrev main_v164 : Ref sig .tc := ⟨.hbm, 498, rfl⟩
abbrev main_v165 : Ref sig .tc := ⟨.hbm, 499, rfl⟩
abbrev main_v166 : Ref sig .tc := ⟨.hbm, 500, rfl⟩
abbrev main_v167 : Ref sig .tc := ⟨.hbm, 501, rfl⟩
abbrev main_v168 : Ref sig .tc := ⟨.hbm, 502, rfl⟩
abbrev main_cst_40 : Ref sig .tc := ⟨.hbm, 503, rfl⟩
abbrev main_v169 : Ref sig .tc := ⟨.hbm, 504, rfl⟩
abbrev main_v170 : Ref sig .tc := ⟨.hbm, 505, rfl⟩
abbrev main_v171 : Ref sig .tc := ⟨.hbm, 506, rfl⟩
abbrev main_v172 : Ref sig .tc := ⟨.hbm, 507, rfl⟩
abbrev main_v173 : Ref sig .tc := ⟨.hbm, 508, rfl⟩
abbrev main_v174 : Ref sig .tc := ⟨.hbm, 509, rfl⟩
abbrev main_v175 : Ref sig .tc := ⟨.hbm, 510, rfl⟩
abbrev main_v176 : Ref sig .tc := ⟨.hbm, 511, rfl⟩
abbrev main_v177 : Ref sig .tc := ⟨.hbm, 512, rfl⟩
abbrev main_v178 : Ref sig .tc := ⟨.hbm, 513, rfl⟩
abbrev main_v179 : Ref sig .tc := ⟨.hbm, 514, rfl⟩

abbrev nD : Nat := 1
abbrev τ : Topo := Topo.v7x

variable {F : FTy → Type} [FloatOps F]
-- ==== KernelTwoIdeal.lean ====
abbrev S1x2048x768 : Shape := ⟨3, ![1, 2048, 768]⟩
abbrev S768x768 : Shape := ⟨2, ![768, 768]⟩
abbrev S768 : Shape := ⟨1, ![768]⟩
abbrev S2048x768 : Shape := ⟨2, ![2048, 768]⟩
abbrev S768x2048 : Shape := ⟨2, ![768, 2048]⟩
abbrev S768x12x64 : Shape := ⟨3, ![768, 12, 64]⟩
abbrev S12x768x64 : Shape := ⟨3, ![12, 768, 64]⟩
abbrev S12x1x64 : Shape := ⟨3, ![12, 1, 64]⟩
abbrev S12x2048x64 : Shape := ⟨3, ![12, 2048, 64]⟩
abbrev S256x768 : Shape := ⟨2, ![256, 768]⟩
abbrev S768x256 : Shape := ⟨2, ![768, 256]⟩
abbrev S1x768x64 : Shape := ⟨3, ![1, 768, 64]⟩
abbrev S1x1x64 : Shape := ⟨3, ![1, 1, 64]⟩
abbrev S1x256x64 : Shape := ⟨3, ![1, 256, 64]⟩
abbrev S64x256 : Shape := ⟨2, ![64, 256]⟩
abbrev S768x64 : Shape := ⟨2, ![768, 64]⟩
abbrev S256x64 : Shape := ⟨2, ![256, 64]⟩
abbrev S1x64 : Shape := ⟨2, ![1, 64]⟩

abbrev nBuf : Space → Nat
  | .hbm => 19
  | .vmem => 20
  | .smem => 0
  | _ => 0

abbrev bufTy : (tb : Table) → Fin (tcTables nBuf tb) → BufTy
  | .hbm, ⟨0, _⟩ => ⟨S1x2048x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768x768, .f32⟩
  | .hbm, ⟨5, _⟩ => ⟨S768, .f32⟩
  | .hbm, ⟨6, _⟩ => ⟨S2048x768, .f32⟩
  | .hbm, ⟨7, _⟩ => ⟨S768x2048, .f32⟩
  | .hbm, ⟨8, _⟩ => ⟨S768x12x64, .f32⟩
  | .hbm, ⟨9, _⟩ => ⟨S12x768x64, .f32⟩
  | .hbm, ⟨10, _⟩ => ⟨S768x12x64, .f32⟩
  | .hbm, ⟨11, _⟩ => ⟨S12x768x64, .f32⟩
  | .hbm, ⟨12, _⟩ => ⟨S768x12x64, .f32⟩
  | .hbm, ⟨13, _⟩ => ⟨S12x768x64, .f32⟩
  | .hbm, ⟨14, _⟩ => ⟨S12x1x64, .f32⟩
  | .hbm, ⟨15, _⟩ => ⟨S12x1x64, .f32⟩
  | .hbm, ⟨16, _⟩ => ⟨S12x2048x64, .f32⟩
  | .hbm, ⟨17, _⟩ => ⟨S768x2048, .f32⟩
  | .hbm, ⟨18, _⟩ => ⟨S12x2048x64, .f32⟩
  | .local _ .vmem, ⟨0, _⟩ => ⟨S256x768, .f32⟩
  | .local _ .vmem, ⟨1, _⟩ => ⟨S256x768, .f32⟩
  | .local _ .vmem, ⟨2, _⟩ => ⟨S768x256, .f32⟩
  | .local _ .vmem, ⟨3, _⟩ => ⟨S768x256, .f32⟩
  | .local _ .vmem, ⟨4, _⟩ => ⟨S1x768x64, .f32⟩
  | .local _ .vmem, ⟨5, _⟩ => ⟨S1x768x64, .f32⟩
  | .local _ .vmem, ⟨6, _⟩ => ⟨S1x768x64, .f32⟩
  | .local _ .vmem, ⟨7, _⟩ => ⟨S1x768x64, .f32⟩
  | .local _ .vmem, ⟨8, _⟩ => ⟨S1x768x64, .f32⟩
  | .local _ .vmem, ⟨9, _⟩ => ⟨S1x768x64, .f32⟩
  | .local _ .vmem, ⟨10, _⟩ => ⟨S1x1x64, .f32⟩
  | .local _ .vmem, ⟨11, _⟩ => ⟨S1x1x64, .f32⟩
  | .local _ .vmem, ⟨12, _⟩ => ⟨S1x1x64, .f32⟩
  | .local _ .vmem, ⟨13, _⟩ => ⟨S1x1x64, .f32⟩
  | .local _ .vmem, ⟨14, _⟩ => ⟨S1x256x64, .f32⟩
  | .local _ .vmem, ⟨15, _⟩ => ⟨S1x256x64, .f32⟩
  | .local _ .vmem, ⟨16, _⟩ => ⟨S64x256, .f32⟩
  | .local _ .vmem, ⟨17, _⟩ => ⟨S64x256, .f32⟩
  | .local _ .vmem, ⟨18, _⟩ => ⟨S1x256x64, .f32⟩
  | .local _ .vmem, ⟨19, _⟩ => ⟨S1x256x64, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x768x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x768x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x768x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceTwoIdeal.lean ====
abbrev S1x2048x768 : Shape := ⟨3, ![1, 2048, 768]⟩
abbrev S768x768 : Shape := ⟨2, ![768, 768]⟩
abbrev S768 : Shape := ⟨1, ![768]⟩
abbrev S1x1x768 : Shape := ⟨3, ![1, 1, 768]⟩
abbrev S1x2048x12x64 : Shape := ⟨4, ![1, 2048, 12, 64]⟩
abbrev S1x12x2048x64 : Shape := ⟨4, ![1, 12, 2048, 64]⟩
abbrev S12x2048x64 : Shape := ⟨3, ![12, 2048, 64]⟩
abbrev S2048x768 : Shape := ⟨2, ![2048, 768]⟩
abbrev S768x2048 : Shape := ⟨2, ![768, 2048]⟩

abbrev nBuf : Space → Nat
  | .hbm => 23
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768x768, .f32⟩
  | .hbm, ⟨5, _⟩ => ⟨S768, .f32⟩
  | .hbm, ⟨6, _⟩ => ⟨S1x2048x768, .f32⟩
  | .hbm, ⟨7, _⟩ => ⟨S1x1x768, .f32⟩
  | .hbm, ⟨8, _⟩ => ⟨S1x2048x768, .f32⟩
  | .hbm, ⟨9, _⟩ => ⟨S1x2048x768, .f32⟩
  | .hbm, ⟨10, _⟩ => ⟨S1x2048x12x64, .f32⟩
  | .hbm, ⟨11, _⟩ => ⟨S1x12x2048x64, .f32⟩
  | .hbm, ⟨12, _⟩ => ⟨S1x2048x768, .f32⟩
  | .hbm, ⟨13, _⟩ => ⟨S1x2048x768, .f32⟩
  | .hbm, ⟨14, _⟩ => ⟨S1x1x768, .f32⟩
  | .hbm, ⟨15, _⟩ => ⟨S1x2048x768, .f32⟩
  | .hbm, ⟨16, _⟩ => ⟨S1x2048x768, .f32⟩
  | .hbm, ⟨17, _⟩ => ⟨S1x2048x12x64, .f32⟩
  | .hbm, ⟨18, _⟩ => ⟨S1x12x2048x64, .f32⟩
  | .hbm, ⟨19, _⟩ => ⟨S12x2048x64, .f32⟩
  | .hbm, ⟨20, _⟩ => ⟨S2048x768, .f32⟩
  | .hbm, ⟨21, _⟩ => ⟨S768x2048, .f32⟩
  | .hbm, ⟨22, _⟩ => ⟨S12x2048x64, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== KernelGivenIdeal.lean ====
abbrev S1x2048x768 : Shape := ⟨3, ![1, 2048, 768]⟩
abbrev S768x768 : Shape := ⟨2, ![768, 768]⟩
abbrev S768 : Shape := ⟨1, ![768]⟩
abbrev S1x12x2048x2048 : Shape := ⟨4, ![1, 12, 2048, 2048]⟩
abbrev S2048x768 : Shape := ⟨2, ![2048, 768]⟩
abbrev S768x2048 : Shape := ⟨2, ![768, 2048]⟩
abbrev S_ : Shape := ⟨0, ![]⟩
abbrev S12x64x32x2048 : Shape := ⟨4, ![12, 64, 32, 2048]⟩
abbrev S32 : Shape := ⟨1, ![32]⟩
abbrev S1x1x32x1 : Shape := ⟨4, ![1, 1, 32, 1]⟩
abbrev S12x64x2048 : Shape := ⟨3, ![12, 64, 2048]⟩
abbrev S768x12x64 : Shape := ⟨3, ![768, 12, 64]⟩
abbrev S12x768x64 : Shape := ⟨3, ![12, 768, 64]⟩
abbrev S12x64x768 : Shape := ⟨3, ![12, 64, 768]⟩
abbrev S12x1x64 : Shape := ⟨3, ![12, 1, 64]⟩
abbrev S2048x2048 : Shape := ⟨2, ![2048, 2048]⟩
abbrev S64x2048 : Shape := ⟨2, ![64, 2048]⟩
abbrev S2048x1 : Shape := ⟨2, ![2048, 1]⟩
abbrev S256x768 : Shape := ⟨2, ![256, 768]⟩
abbrev S256x2048 : Shape := ⟨2, ![256, 2048]⟩
abbrev S8x2048 : Shape := ⟨2, ![8, 2048]⟩
abbrev S256x1 : Shape := ⟨2, ![256, 1]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩
abbrev S256x2047 : Shape := ⟨2, ![256, 2047]⟩
abbrev S256x2 : Shape := ⟨2, ![256, 2]⟩
abbrev S256x2046 : Shape := ⟨2, ![256, 2046]⟩
abbrev S256x4 : Shape := ⟨2, ![256, 4]⟩
abbrev S256x2044 : Shape := ⟨2, ![256, 2044]⟩
abbrev S256x8 : Shape := ⟨2, ![256, 8]⟩
abbrev S256x2040 : Shape := ⟨2, ![256, 2040]⟩
abbrev S256x16 : Shape := ⟨2, ![256, 16]⟩
abbrev S256x2032 : Shape := ⟨2, ![256, 2032]⟩
abbrev S256x32 : Shape := ⟨2, ![256, 32]⟩
abbrev S256x2016 : Shape := ⟨2, ![256, 2016]⟩
abbrev S256x64 : Shape := ⟨2, ![256, 64]⟩
abbrev S256x1984 : Shape := ⟨2, ![256, 1984]⟩
abbrev S256x128 : Shape := ⟨2, ![256, 128]⟩
abbrev S256x1920 : Shape := ⟨2, ![256, 1920]⟩
abbrev S256x256 : Shape := ⟨2, ![256, 256]⟩
abbrev S256x1792 : Shape := ⟨2, ![256, 1792]⟩
abbrev S256x512 : Shape := ⟨2, ![256, 512]⟩
abbrev S256x1536 : Shape := ⟨2, ![256, 1536]⟩
abbrev S256x1024 : Shape := ⟨2, ![256, 1024]⟩
abbrev S8x32x2048 : Shape := ⟨3, ![8, 32, 2048]⟩
abbrev S12x2048x64 : Shape := ⟨3, ![12, 2048, 64]⟩
abbrev S768x256 : Shape := ⟨2, ![768, 256]⟩
abbrev S1x768x64 : Shape := ⟨3, ![1, 768, 64]⟩
abbrev S1x1x64 : Shape := ⟨3, ![1, 1, 64]⟩
abbrev S1x256x64 : Shape := ⟨3, ![1, 256, 64]⟩
abbrev S64x256 : Shape := ⟨2, ![64, 256]⟩
abbrev S768x64 : Shape := ⟨2, ![768, 64]⟩
abbrev S1x64 : Shape := ⟨2, ![1, 64]⟩
abbrev S1x768 : Shape := ⟨2, ![1, 768]⟩
abbrev S1x2048x64 : Shape := ⟨3, ![1, 2048, 64]⟩
abbrev S1x64x768 : Shape := ⟨3, ![1, 64, 768]⟩
abbrev S1x8x2048 : Shape := ⟨3, ![1, 8, 2048]⟩
abbrev S8x1x2048 : Shape := ⟨3, ![8, 1, 2048]⟩
abbrev S2048x64 : Shape := ⟨2, ![2048, 64]⟩
abbrev S64x768 : Shape := ⟨2, ![64, 768]⟩

abbrev nBuf : Space → Nat
  | .hbm => 42
  | .vmem => 50
  | .smem => 0
  | _ => 0

abbrev bufTy : (tb : Table) → Fin (tcTables nBuf tb) → BufTy
  | .hbm, ⟨0, _⟩ => ⟨S1x2048x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S768, .f32⟩
  | .hbm, ⟨9, _⟩ => ⟨S1x12x2048x2048, .f32⟩
  | .hbm, ⟨10, _⟩ => ⟨S2048x768, .f32⟩
  | .hbm, ⟨11, _⟩ => ⟨S768x2048, .f32⟩
  | .hbm, ⟨12, _⟩ => ⟨S_, .f32⟩
  | .hbm, ⟨13, _⟩ => ⟨S1x12x2048x2048, .f32⟩
  | .hbm, ⟨14, _⟩ => ⟨S1x12x2048x2048, .i1⟩
  | .hbm, ⟨15, _⟩ => ⟨S12x64x32x2048, .i1⟩
  | .hbm, ⟨16, _⟩ => ⟨S12x64x32x2048, .i32⟩
  | .hbm, ⟨17, _⟩ => ⟨S32, .i32⟩
  | .hbm, ⟨18, _⟩ => ⟨S1x1x32x1, .i32⟩
  | .hbm, ⟨19, _⟩ => ⟨S12x64x32x2048, .i32⟩
  | .hbm, ⟨20, _⟩ => ⟨S12x64x32x2048, .i32⟩
  | .hbm, ⟨21, _⟩ => ⟨S_, .i32⟩
  | .hbm, ⟨22, _⟩ => ⟨S12x64x2048, .i32⟩
  | .hbm, ⟨23, _⟩ => ⟨S768x12x64, .f32⟩
  | .hbm, ⟨24, _⟩ => ⟨S12x768x64, .f32⟩
  | .hbm, ⟨25, _⟩ => ⟨S768x12x64, .f32⟩
  | .hbm, ⟨26, _⟩ => ⟨S12x768x64, .f32⟩
  | .hbm, ⟨27, _⟩ => ⟨S768x12x64, .f32⟩
  | .hbm, ⟨28, _⟩ => ⟨S12x768x64, .f32⟩
  | .hbm, ⟨29, _⟩ => ⟨S12x64x768, .f32⟩
  | .hbm, ⟨30, _⟩ => ⟨S12x1x64, .f32⟩
  | .hbm, ⟨31, _⟩ => ⟨S12x1x64, .f32⟩
  | .hbm, ⟨32, _⟩ => ⟨S12x1x64, .f32⟩
  | .hbm, ⟨33, _⟩ => ⟨S2048x2048, .f32⟩
  | .hbm, ⟨34, _⟩ => ⟨S64x2048, .i32⟩
  | .hbm, ⟨35, _⟩ => ⟨S2048x1, .f32⟩
  | .hbm, ⟨36, _⟩ => ⟨S12x2048x64, .f32⟩
  | .hbm, ⟨37, _⟩ => ⟨S768x2048, .f32⟩
  | .hbm, ⟨38, _⟩ => ⟨S12x2048x64, .f32⟩
  | .hbm, ⟨39, _⟩ => ⟨S1x768, .f32⟩
  | .hbm, ⟨40, _⟩ => ⟨S2048x768, .f32⟩
  | .hbm, ⟨41, _⟩ => ⟨S1x2048x768, .f32⟩
  | .local _ .vmem, ⟨0, _⟩ => ⟨S256x768, .f32⟩
  | .local _ .vmem, ⟨1, _⟩ => ⟨S256x768, .f32⟩
  | .local _ .vmem, ⟨2, _⟩ => ⟨S768x2048, .f32⟩
  | .local _ .vmem, ⟨3, _⟩ => ⟨S256x2048, .f32⟩
  | .local _ .vmem, ⟨4, _⟩ => ⟨S256x2048, .f32⟩
  | .local _ .vmem, ⟨5, _⟩ => ⟨S8x2048, .i32⟩
  | .local _ .vmem, ⟨6, _⟩ => ⟨S8x2048, .i32⟩
  | .local _ .vmem, ⟨7, _⟩ => ⟨S256x1, .f32⟩
  | .local _ .vmem, ⟨8, _⟩ => ⟨S256x1, .f32⟩
  | .local _ .vmem, ⟨9, _⟩ => ⟨S256x768, .f32⟩
  | .local _ .vmem, ⟨10, _⟩ => ⟨S256x768, .f32⟩
  | .local _ .vmem, ⟨11, _⟩ => ⟨S768x256, .f32⟩
  | .local _ .vmem, ⟨12, _⟩ => ⟨S768x256, .f32⟩
  | .local _ .vmem, ⟨13, _⟩ => ⟨S1x768x64, .f32⟩
  | .local _ .vmem, ⟨14, _⟩ => ⟨S1x768x64, .f32⟩
  | .local _ .vmem, ⟨15, _⟩ => ⟨S1x768x64, .f32⟩
  | .local _ .vmem, ⟨16, _⟩ => ⟨S1x768x64, .f32⟩
  | .local _ .vmem, ⟨17, _⟩ => ⟨S1x768x64, .f32⟩
  | .local _ .vmem, ⟨18, _⟩ => ⟨S1x768x64, .f32⟩
  | .local _ .vmem, ⟨19, _⟩ => ⟨S1x1x64, .f32⟩
  | .local _ .vmem, ⟨20, _⟩ => ⟨S1x1x64, .f32⟩
  | .local _ .vmem, ⟨21, _⟩ => ⟨S1x1x64, .f32⟩
  | .local _ .vmem, ⟨22, _⟩ => ⟨S1x1x64, .f32⟩
  | .local _ .vmem, ⟨23, _⟩ => ⟨S1x256x64, .f32⟩
  | .local _ .vmem, ⟨24, _⟩ => ⟨S1x256x64, .f32⟩
  | .local _ .vmem, ⟨25, _⟩ => ⟨S64x256, .f32⟩
  | .local _ .vmem, ⟨26, _⟩ => ⟨S64x256, .f32⟩
  | .local _ .vmem, ⟨27, _⟩ => ⟨S1x256x64, .f32⟩
  | .local _ .vmem, ⟨28, _⟩ => ⟨S1x256x64, .f32⟩
  | .local _ .vmem, ⟨29, _⟩ => ⟨S1x256x64, .f32⟩
  | .local _ .vmem, ⟨30, _⟩ => ⟨S1x256x64, .f32⟩
  | .local _ .vmem, ⟨31, _⟩ => ⟨S64x2048, .f32⟩
  | .local _ .vmem, ⟨32, _⟩ => ⟨S64x2048, .f32⟩
  | .local _ .vmem, ⟨33, _⟩ => ⟨S1x2048x64, .f32⟩
  | .local _ .vmem, ⟨34, _⟩ => ⟨S1x2048x64, .f32⟩
  | .local _ .vmem, ⟨35, _⟩ => ⟨S1x1x64, .f32⟩
  | .local _ .vmem, ⟨36, _⟩ => ⟨S1x1x64, .f32⟩
  | .local _ .vmem, ⟨37, _⟩ => ⟨S1x64x768, .f32⟩
  | .local _ .vmem, ⟨38, _⟩ => ⟨S1x64x768, .f32⟩
  | .local _ .vmem, ⟨39, _⟩ => ⟨S1x768, .f32⟩
  | .local _ .vmem, ⟨40, _⟩ => ⟨S256x2048, .f32⟩
  | .local _ .vmem, ⟨41, _⟩ => ⟨S256x2048, .f32⟩
  | .local _ .vmem, ⟨42, _⟩ => ⟨S8x2048, .i32⟩
  | .local _ .vmem, ⟨43, _⟩ => ⟨S8x2048, .i32⟩
  | .local _ .vmem, ⟨44, _⟩ => ⟨S1x8x2048, .i32⟩
  | .local _ .vmem, ⟨45, _⟩ => ⟨S1x8x2048, .i32⟩
  | .local _ .vmem, ⟨46, _⟩ => ⟨S256x1, .f32⟩
  | .local _ .vmem, ⟨47, _⟩ => ⟨S256x1, .f32⟩
  | .local _ .vmem, ⟨48, _⟩ => ⟨S256x768, .f32⟩
  | .local _ .vmem, ⟨49, _⟩ => ⟨S256x768, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21_0 : Ref sig .tc := ⟨.hbm, 33, rfl⟩
abbrev main_v21_1 : Ref sig .tc := ⟨.hbm, 34, rfl⟩
abbrev main_v21_2 : Ref sig .tc := ⟨.hbm, 35, rfl⟩
abbrev main_v22_0 : Ref sig .tc := ⟨.hbm, 36, rfl⟩
abbrev main_v22_1 : Ref sig .tc := ⟨.hbm, 37, rfl⟩
abbrev main_v22_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg7_1 : Ref sig .tc := ⟨.vmem, 24, rfl⟩
abbrev cc1_stg8_0 : Ref sig .tc := ⟨.vmem, 25, rfl⟩
abbrev cc1_stg8_1 : Ref sig .tc := ⟨.vmem, 26, rfl⟩
abbrev cc1_stg9_0 : Ref sig .tc := ⟨.vmem, 27, rfl⟩
abbrev cc1_stg9_1 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg1_1 : Ref sig .tc := ⟨.vmem, 32, rfl⟩
abbrev cc2_stg2_0 : Ref sig .tc := ⟨.vmem, 33, rfl⟩
abbrev cc2_stg2_1 : Ref sig .tc := ⟨.vmem, 34, rfl⟩
abbrev cc2_stg3_0 : Ref sig .tc := ⟨.vmem, 35, rfl⟩
abbrev cc2_stg3_1 : Ref sig .tc := ⟨.vmem, 36, rfl⟩
abbrev cc2_stg4_0 : Ref sig .tc := ⟨.vmem, 37, rfl⟩
abbrev cc2_stg4_1 : Ref sig .tc := ⟨.vmem, 38, rfl⟩
abbrev cc2_stg5_0 : Ref sig .tc := ⟨.vmem, 39, rfl⟩
abbrev cc2_stg6_0 : Ref sig .tc := ⟨.vmem, 40, rfl⟩
abbrev cc2_stg6_1 : Ref sig .tc := ⟨.vmem, 41, rfl⟩
abbrev cc2_stg7_0 : Ref sig .tc := ⟨.vmem, 42, rfl⟩
abbrev cc2_stg7_1 : Ref sig .tc := ⟨.vmem, 43, rfl⟩
abbrev cc2_stg8_0 : Ref sig .tc := ⟨.vmem, 44, rfl⟩
abbrev cc2_stg8_1 : Ref sig .tc := ⟨.vmem, 45, rfl⟩
abbrev cc2_stg9_0 : Ref sig .tc := ⟨.vmem, 46, rfl⟩
abbrev cc2_stg9_1 : Ref sig .tc := ⟨.vmem, 47, rfl⟩
abbrev cc2_stg10_0 : Ref sig .tc := ⟨.vmem, 48, rfl⟩
abbrev cc2_stg10_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20
abbrev cc1_sem6_0 : DmaSem sig := 21
abbrev cc1_sem6_1 : DmaSem sig := 22
abbrev cc1_sem7_0 : DmaSem sig := 23
abbrev cc1_sem7_1 : DmaSem sig := 24
abbrev cc1_sem8_0 : DmaSem sig := 25
abbrev cc1_sem8_1 : DmaSem sig := 26
abbrev cc1_sem9_0 : DmaSem sig := 27
abbrev cc1_sem9_1 : DmaSem sig := 28
abbrev cc2_sem0_0 : DmaSem sig := 29
abbrev cc2_sem0_1 : DmaSem sig := 30
abbrev cc2_sem1_0 : DmaSem sig := 31
abbrev cc2_sem1_1 : DmaSem sig := 32
abbrev cc2_sem2_0 : DmaSem sig := 33
abbrev cc2_sem2_1 : DmaSem sig := 34
abbrev cc2_sem3_0 : DmaSem sig := 35
abbrev cc2_sem3_1 : DmaSem sig := 36
abbrev cc2_sem4_0 : DmaSem sig := 37
abbrev cc2_sem4_1 : DmaSem sig := 38
abbrev cc2_sem5_0 : DmaSem sig := 39
abbrev cc2_sem6_0 : DmaSem sig := 40
abbrev cc2_sem6_1 : DmaSem sig := 41
abbrev cc2_sem7_0 : DmaSem sig := 42
abbrev cc2_sem7_1 : DmaSem sig := 43
abbrev cc2_sem8_0 : DmaSem sig := 44
abbrev cc2_sem8_1 : DmaSem sig := 45
abbrev cc2_sem9_0 : DmaSem sig := 46
abbrev cc2_sem9_1 : DmaSem sig := 47
abbrev cc2_sem10_0 : DmaSem sig := 48
abbrev cc2_sem10_1 : DmaSem sig := 49

abbrev nD : Nat := 1
abbrev τ : Topo := Topo.v7x

variable {F : FTy → Type} [FloatOps F] [Named F]

def κ : String → Option EReal := fun
  | "inv_sqrt_d" => some (((Real.sqrt 768)⁻¹ : ℝ) : EReal)
  | _ => none

abbrev grid0 : Pipeline.Grid := ⟨1, ![8], ![false]⟩

@[reducible] def k0_t1_loop : Scf.Loop 32 :=
  let c0_i32 : BitVec 32 := 0#32
  let c409_i32 : BitVec 32 := 409#32
  let v9 : BitVec 32 := Scalar.addi c0_i32 c409_i32
  let c1_i32 : BitVec 32 := 1#32
  ⟨c0_i32, v9, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 12], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S256x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S768x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x768x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x768x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x768x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x1x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1x1x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S1x256x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S64x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x256x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev grid2 : Pipeline.Grid := ⟨2, ![8, 12], ![false, false]⟩

@[reducible] def k2_t1_loop : Scf.Loop 32 :=
  let c0_i32_42 : BitVec 32 := 0#32
  let c409_i32 : BitVec 32 := 409#32
  let v77 : BitVec 32 := Scalar.addi c0_i32_42 c409_i32
  let c1_i32_43 : BitVec 32 := 1#32
  ⟨c0_i32_42, v77, c1_i32_43⟩
def k2_cond4 (i : grid2.Coords) : BitVec 1 :=
  let arg1 : BitVec 32 := BitVec.ofNat 32 (i 1).val
  let c0_i32_37 : BitVec 32 := 0#32
  let v67 : BitVec 1 := Scalar.cmpi .eq arg1 c0_i32_37
  let v68 : BitVec 32 := Scalar.extui v67
  let c0_i32_38 : BitVec 32 := 0#32
  let v69 : BitVec 1 := Scalar.cmpi .ne v68 c0_i32_38
  v69

def k2_cond5 (i : grid2.Coords) : BitVec 1 :=
  let arg1 : BitVec 32 := BitVec.ofNat 32 (i 1).val
  let c0_i32_39 : BitVec 32 := 0#32
  let v70 : BitVec 1 := Scalar.cmpi .ne arg1 c0_i32_39
  let v71 : BitVec 32 := Scalar.extui v70
  let c0_i32_40 : BitVec 32 := 0#32
  let v72 : BitVec 1 := Scalar.cmpi .ne v71 c0_i32_40
  v72

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_8 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x256x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S64x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x2048x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1x1x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1x64x768 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 1 → Memref sig .tc .vmem S1x768 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S256x2048 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S8x2048 .i32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev stage2_8 : Fin 2 → Memref sig .tc .vmem S1x8x2048 .i32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev stage2_9 : Fin 2 → Memref sig .tc .vmem S256x1 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, false]

abbrev stage2_10 : Fin 2 → Memref sig .tc .vmem S256x768 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, false]
-- ==== ReferenceGivenIdeal.lean ====
abbrev S1x2048x768 : Shape := ⟨3, ![1, 2048, 768]⟩
abbrev S768x768 : Shape := ⟨2, ![768, 768]⟩
abbrev S768 : Shape := ⟨1, ![768]⟩
abbrev S1x12x2048x2048 : Shape := ⟨4, ![1, 12, 2048, 2048]⟩
abbrev S1x2048x2048 : Shape := ⟨3, ![1, 2048, 2048]⟩
abbrev S_ : Shape := ⟨0, ![]⟩
abbrev S1x1x2048x2048 : Shape := ⟨4, ![1, 1, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x409 : Shape := ⟨3, ![1, 2048, 409]⟩
abbrev S1 : Shape := ⟨1, ![1]⟩
abbrev S1x1x1 : Shape := ⟨3, ![1, 1, 1]⟩
abbrev S1x2048x1 : Shape := ⟨3, ![1, 2048, 1]⟩
abbrev S1x2048x409x1 : Shape := ⟨4, ![1, 2048, 409, 1]⟩
abbrev S1x2048x409x3 : Shape := ⟨4, ![1, 2048, 409, 3]⟩
abbrev S1x12x2048x409 : Shape := ⟨4, ![1, 12, 2048, 409]⟩
abbrev S1x1x1x1 : Shape := ⟨4, ![1, 1, 1, 1]⟩
abbrev S12 : Shape := ⟨1, ![12]⟩
abbrev S1x12x1x1 : Shape := ⟨4, ![1, 12, 1, 1]⟩
abbrev S1x1x2048x1 : Shape := ⟨4, ![1, 1, 2048, 1]⟩
abbrev S1x12x2048x409x1 : Shape := ⟨5, ![1, 12, 2048, 409, 1]⟩
abbrev S1x12x2048x409x4 : Shape := ⟨5, ![1, 12, 2048, 409, 4]⟩
abbrev S1x1x768 : Shape := ⟨3, ![1, 1, 768]⟩
abbrev S1x2048x12x64 : Shape := ⟨4, ![1, 2048, 12, 64]⟩
abbrev S1x12x2048x64 : Shape := ⟨4, ![1, 12, 2048, 64]⟩
abbrev S1x12x2048 : Shape := ⟨3, ![1, 12, 2048]⟩
abbrev S1x12x2048x1 : Shape := ⟨4, ![1, 12, 2048, 1]⟩

abbrev nBuf : Space → Nat
  | .hbm => 190
  | .vmem => 0
  | .smem => 0
  | _ => 0

abbrev hbmTy0_0 (i : Nat) : BufTy := match i % 128 with
  | 0 => ⟨S1x2048x768, .f32⟩
  | 1 => ⟨S768x768, .f32⟩
  | 2 => ⟨S768, .f32⟩
  | 3 => ⟨S768x768, .f32⟩
  | 4 => ⟨S768, .f32⟩
  | 5 => ⟨S768x768, .f32⟩
  | 6 => ⟨S768, .f32⟩
  | 7 => ⟨S768x768, .f32⟩
  | 8 => ⟨S768, .f32⟩
  | 9 => ⟨S1x12x2048x2048, .f32⟩
  | 10 => ⟨S1x2048x2048, .f32⟩
  | 11 => ⟨S_, .f32⟩
  | 12 => ⟨S1x2048x2048, .f32⟩
  | 13 => ⟨S1x2048x2048, .f32⟩
  | 14 => ⟨S1x1x2048x2048, .f32⟩
  | 15 => ⟨S1x12x2048x2048, .f32⟩
  | 16 => ⟨S2048, .i32⟩
  | 17 => ⟨S2048x1, .i32⟩
  | 18 => ⟨S2048, .i32⟩
  | 19 => ⟨S1x2048, .i32⟩
  | 20 => ⟨S_, .i32⟩
  | 21 => ⟨S2048x1, .i32⟩
  | 22 => ⟨S2048x1, .i32⟩
  | 23 => ⟨S2048x2048, .i32⟩
  | 24 => ⟨S2048x2048, .i32⟩
  | 25 => ⟨S2048x2048, .i1⟩
  | 26 => ⟨S_, .i32⟩
  | 27 => ⟨S2048x1, .i32⟩
  | 28 => ⟨S2048x1, .i32⟩
  | 29 => ⟨S2048x2048, .i32⟩
  | 30 => ⟨S2048x2048, .i32⟩
  | 31 => ⟨S2048x2048, .i1⟩
  | 32 => ⟨S2048x2048, .i1⟩
  | 33 => ⟨S2048x2048, .f32⟩
  | 34 => ⟨S_, .f32⟩
  | 35 => ⟨S1x2048x2048, .f32⟩
  | 36 => ⟨S_, .f32⟩
  | 37 => ⟨S1x2048x2048, .f32⟩
  | 38 => ⟨S1x2048x2048, .f32⟩
  | 39 => ⟨S1x2048x409, .f32⟩
  | 40 => ⟨S1x2048x409, .i32⟩
  | 41 => ⟨S1, .i32⟩
  | 42 => ⟨S1x1x1, .i32⟩
  | 43 => ⟨S2048, .i32⟩
  | 44 => ⟨S1x2048x1, .i32⟩
  | 45 => ⟨S_, .f32⟩
  | 46 => ⟨S1x2048x2048, .f32⟩
  | 47 => ⟨S_, .i32⟩
  | 48 => ⟨S1x1x1, .i32⟩
  | 49 => ⟨S1x1x1, .i1⟩
  | 50 => ⟨S_, .i32⟩
  | 51 => ⟨S1x1x1, .i32⟩
  | 52 => ⟨S1x1x1, .i32⟩
  | 53 => ⟨S1x1x1, .i32⟩
  | 54 => ⟨S_, .i32⟩
  | 55 => ⟨S1x2048x1, .i32⟩
  | 56 => ⟨S1x2048x1, .i1⟩
  | 57 => ⟨S_, .i32⟩
  | 58 => ⟨S1x2048x1, .i32⟩
  | 59 => ⟨S1x2048x1, .i32⟩
  | 60 => ⟨S1x2048x1, .i32⟩
  | 61 => ⟨S_, .i32⟩
  | 62 => ⟨S1x2048x409, .i32⟩
  | 63 => ⟨S1x2048x409, .i1⟩
  | 64 => ⟨S_, .i32⟩
  | 65 => ⟨S1x2048x409, .i32⟩
  | 66 => ⟨S1x2048x409, .i32⟩
  | 67 => ⟨S1x2048x409, .i32⟩
  | 68 => ⟨S1x2048x409, .i32⟩
  | 69 => ⟨S1x2048x409, .i32⟩
  | 70 => ⟨S1x2048x409x1, .i32⟩
  | 71 => ⟨S1x2048x409x1, .i32⟩
  | 72 => ⟨S1x2048x409x1, .i32⟩
  | 73 => ⟨S1x2048x409x3, .i32⟩
  | 74 => ⟨S_, .f32⟩
  | 75 => ⟨S1x2048x409, .f32⟩
  | 76 => ⟨S1x2048x2048, .f32⟩
  | 77 => ⟨S_, .f32⟩
  | 78 => ⟨S1x12x2048x2048, .f32⟩
  | 79 => ⟨S1x12x2048x2048, .i1⟩
  | 80 => ⟨S1x12x2048x2048, .f32⟩
  | 81 => ⟨S1x1x2048x2048, .f32⟩
  | 82 => ⟨S1x1x2048x2048, .f32⟩
  | 83 => ⟨S1x1x2048x2048, .f32⟩
  | 84 => ⟨S1x12x2048x2048, .f32⟩
  | 85 => ⟨S1x12x2048x2048, .f32⟩
  | 86 => ⟨S_, .f32⟩
  | 87 => ⟨S1x12x2048x2048, .f32⟩
  | 88 => ⟨S1x12x2048x2048, .i1⟩
  | 89 => ⟨S1x12x2048x2048, .f32⟩
  | 90 => ⟨S1x12x2048x2048, .f32⟩
  | 91 => ⟨S1x12x2048x409, .f32⟩
  | 92 => ⟨S1x12x2048x409, .i32⟩
  | 93 => ⟨S1, .i32⟩
  | 94 => ⟨S1x1x1x1, .i32⟩
  | 95 => ⟨S12, .i32⟩
  | 96 => ⟨S1x12x1x1, .i32⟩
  | 97 => ⟨S2048, .i32⟩
  | 98 => ⟨S1x1x2048x1, .i32⟩
  | 99 => ⟨S_, .f32⟩
  | 100 => ⟨S1x12x2048x2048, .f32⟩
  | 101 => ⟨S_, .i32⟩
  | 102 => ⟨S1x1x1x1, .i32⟩
  | 103 => ⟨S1x1x1x1, .i1⟩
  | 104 => ⟨S_, .i32⟩
  | 105 => ⟨S1x1x1x1, .i32⟩
  | 106 => ⟨S1x1x1x1, .i32⟩
  | 107 => ⟨S1x1x1x1, .i32⟩
  | 108 => ⟨S_, .i32⟩
  | 109 => ⟨S1x12x1x1, .i32⟩
  | 110 => ⟨S1x12x1x1, .i1⟩
  | 111 => ⟨S_, .i32⟩
  | 112 => ⟨S1x12x1x1, .i32⟩
  | 113 => ⟨S1x12x1x1, .i32⟩
  | 114 => ⟨S1x12x1x1, .i32⟩
  | 115 => ⟨S_, .i32⟩
  | 116 => ⟨S1x1x2048x1, .i32⟩
  | 117 => ⟨S1x1x2048x1, .i1⟩
  | 118 => ⟨S_, .i32⟩
  | 119 => ⟨S1x1x2048x1, .i32⟩
  | 120 => ⟨S1x1x2048x1, .i32⟩
  | 121 => ⟨S1x1x2048x1, .i32⟩
  | 122 => ⟨S_, .i32⟩
  | 123 => ⟨S1x12x2048x409, .i32⟩
  | 124 => ⟨S1x12x2048x409, .i1⟩
  | 125 => ⟨S_, .i32⟩
  | 126 => ⟨S1x12x2048x409, .i32⟩
  | 127 => ⟨S1x12x2048x409, .i32⟩
  | _ => ⟨S1x2048x768, .f32⟩

abbrev hbmTy0_1 (i : Nat) : BufTy := match i % 128 with
  | 0 => ⟨S1x12x2048x409, .i32⟩
  | 1 => ⟨S1x12x2048x409, .i32⟩
  | 2 => ⟨S1x12x2048x409, .i32⟩
  | 3 => ⟨S1x12x2048x409, .i32⟩
  | 4 => ⟨S1x12x2048x409x1, .i32⟩
  | 5 => ⟨S1x12x2048x409x1, .i32⟩
  | 6 => ⟨S1x12x2048x409x1, .i32⟩
  | 7 => ⟨S1x12x2048x409x1, .i32⟩
  | 8 => ⟨S1x12x2048x409x4, .i32⟩
  | 9 => ⟨S_, .f32⟩
  | 10 => ⟨S1x12x2048x409, .f32⟩
  | 11 => ⟨S1x12x2048x2048, .f32⟩
  | 12 => ⟨S1x2048x768, .f32⟩
  | 13 => ⟨S1x1x768, .f32⟩
  | 14 => ⟨S1x2048x768, .f32⟩
  | 15 => ⟨S1x2048x768, .f32⟩
  | 16 => ⟨S1x2048x12x64, .f32⟩
  | 17 => ⟨S1x12x2048x64, .f32⟩
  | 18 => ⟨S1x2048x768, .f32⟩
  | 19 => ⟨S1x1x768, .f32⟩
  | 20 => ⟨S1x2048x768, .f32⟩
  | 21 => ⟨S1x2048x768, .f32⟩
  | 22 => ⟨S1x2048x12x64, .f32⟩
  | 23 => ⟨S1x12x2048x64, .f32⟩
  | 24 => ⟨S1x2048x768, .f32⟩
  | 25 => ⟨S1x1x768, .f32⟩
  | 26 => ⟨S1x2048x768, .f32⟩
  | 27 => ⟨S1x2048x768, .f32⟩
  | 28 => ⟨S1x2048x12x64, .f32⟩
  | 29 => ⟨S1x12x2048x64, .f32⟩
  | 30 => ⟨S1x12x2048x2048, .f32⟩
  | 31 => ⟨S_, .f32⟩
  | 32 => ⟨S1x12x2048x2048, .f32⟩
  | 33 => ⟨S1x12x2048x2048, .f32⟩
  | 34 => ⟨S_, .f32⟩
  | 35 => ⟨S1x12x2048x2048, .f32⟩
  | 36 => ⟨S1x12x2048x2048, .i1⟩
  | 37 => ⟨S_, .f32⟩
  | 38 => ⟨S_, .f32⟩
  | 39 => ⟨S1x12x2048x2048, .f32⟩
  | 40 => ⟨S1x12x2048x2048, .f32⟩
  | 41 => ⟨S_, .f32⟩
  | 42 => ⟨S1x12x2048, .f32⟩
  | 43 => ⟨S_, .f32⟩
  | 44 => ⟨S1x12x2048, .f32⟩
  | 45 => ⟨S1x12x2048, .f32⟩
  | 46 => ⟨S1x12x2048x1, .f32⟩
  | 47 => ⟨S1x12x2048x2048, .f32⟩
  | 48 => ⟨S1x12x2048x2048, .f32⟩
  | 49 => ⟨S1x12x2048x2048, .f32⟩
  | 50 => ⟨S_, .f32⟩
  | 51 => ⟨S1x12x2048, .f32⟩
  | 52 => ⟨S1x12x2048x1, .f32⟩
  | 53 => ⟨S1x12x2048x2048, .f32⟩
  | 54 => ⟨S1x12x2048x2048, .f32⟩
  | 55 => ⟨S1x12x2048x64, .f32⟩
  | 56 => ⟨S1x2048x12x64, .f32⟩
  | 57 => ⟨S1x2048x768, .f32⟩
  | 58 => ⟨S1x2048x768, .f32⟩
  | 59 => ⟨S1x1x768, .f32⟩
  | 60 => ⟨S1x2048x768, .f32⟩
  | 61 => ⟨S1x2048x768, .f32⟩
  | _ => ⟨S1x2048x768, .f32⟩

abbrev hbmTy (i : Nat) : BufTy := match i / 128 with
  | 0 => hbmTy0_0 i
  | 1 => hbmTy0_1 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_values : Ref sig .tc := ⟨.hbm, 39, rfl⟩
abbrev main_indices : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_8 : Ref sig .tc := ⟨.hbm, 61, rfl⟩
abbrev main_v39 : Ref sig .tc := ⟨.hbm, 62, rfl⟩
abbrev main_v40 : Ref sig .tc := ⟨.hbm, 63, rfl⟩
abbrev main_c_9 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_cst_11 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_values_13 : Ref sig .tc := ⟨.hbm, 91, rfl⟩
abbrev main_indices_14 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_15 : Ref sig .tc := ⟨.hbm, 99, rfl⟩
abbrev main_v70 : Ref sig .tc := ⟨.hbm, 100, rfl⟩
abbrev main_c_16 : Ref sig .tc := ⟨.hbm, 101, rfl⟩
abbrev main_v71 : Ref sig .tc := ⟨.hbm, 102, rfl⟩
abbrev main_v72 : Ref sig .tc := ⟨.hbm, 103, rfl⟩
abbrev main_c_17 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_c_18 : Ref sig .tc := ⟨.hbm, 108, rfl⟩
abbrev main_v76 : Ref sig .tc := ⟨.hbm, 109, rfl⟩
abbrev main_v77 : Ref sig .tc := ⟨.hbm, 110, rfl⟩
abbrev main_c_19 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_c_20 : Ref sig .tc := ⟨.hbm, 115, rfl⟩
abbrev main_v81 : Ref sig .tc := ⟨.hbm, 116, rfl⟩
abbrev main_v82 : Ref sig .tc := ⟨.hbm, 117, rfl⟩
abbrev main_c_21 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_c_22 : Ref sig .tc := ⟨.hbm, 122, rfl⟩
abbrev main_v86 : Ref sig .tc := ⟨.hbm, 123, rfl⟩
abbrev main_v87 : Ref sig .tc := ⟨.hbm, 124, rfl⟩
abbrev main_c_23 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_24 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_cst_25 : Ref sig .tc := ⟨.hbm, 159, rfl⟩
abbrev main_v120 : Ref sig .tc := ⟨.hbm, 160, rfl⟩
abbrev main_v121 : Ref sig .tc := ⟨.hbm, 161, rfl⟩
abbrev main_cst_26 : Ref sig .tc := ⟨.hbm, 162, rfl⟩
abbrev main_v122 : Ref sig .tc := ⟨.hbm, 163, rfl⟩
abbrev main_v123 : Ref sig .tc := ⟨.hbm, 164, rfl⟩
abbrev main_cst_27 : Ref sig .tc := ⟨.hbm, 165, rfl⟩
abbrev main_call0_v0 : Ref sig .tc := ⟨.hbm, 166, rfl⟩
abbrev main_call0_v1 : Ref sig .tc := ⟨.hbm, 167, rfl⟩
abbrev main_v124 : Ref sig .tc := ⟨.hbm, 168, rfl⟩
abbrev main_cst_28 : Ref sig .tc := ⟨.hbm, 169, rfl⟩
abbrev main_v125 : Ref sig .tc := ⟨.hbm, 170, rfl⟩
abbrev main_cst_29 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_cst_30 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩

abbrev nD : Nat := 1
abbrev τ : Topo := Topo.v7x

variable {F : FTy → Type} [FloatOps F]
-- ==== Proof.FrK0.lean ====
/- Region 0, the first pass: what the body leaves in each output, and its obligation at every point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
/- the buffers' contents when a region is entered -/
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The first pass's threshold column: the fold of the counted loop's trip. -/
def thr0 (v0 : Vec F S256x768 .f32) (v2 : Vec F S768x2048 .f32) : FVec F S256x1 .f32 :=
  Scf.fold (fun (_ : Fin k0_t1_loop.trips) acc => k0_pay10 v0 v2 acc) (k0_pay9 (F := F))

/-- The word that decides a branch on a flag held as a number. -/
def flagWord (x : F .f32) : BitVec 1 :=
  Scalar.cmpi .ne (Scalar.extui (Scalar.cmpf .ogt x (Scalar.ofBits .f32 0x00000000#32)) : BitVec 32) 0#32

/-- The first pass's selection by rank, from the scores and the threshold. -/
def rank0 (v6 : FVec F S256x2048 .f32) (v10 : FVec F S256x1 .f32) : IVec S256x2048 32 :=
  k0_pay14 (k0_pay2 v6 v10) (k0_pay3 v6 v10) (k0_pay4 v6 v10) (k0_pay5 v6 v10) k0_pay6 (k0_pay7 v6 v10)

/-- The first pass's selection: without a rank when every row's count is exact, with it otherwise. -/
def sel0 (v0 : Vec F S256x768 .f32) (v2 : Vec F S768x2048 .f32) (v10 : FVec F S256x1 .f32) : IVec S256x2048 32 :=
  if flagWord (k0_pay12 v0 v2 v10) = 1#1 then k0_pay13 v0 v2 v10 else rank0 (k0_pay8 v0 v2) v10

/-- The packed mask the first pass stores. -/
def pack0 (i : grid0.Coords) (v0 : Vec F S256x768 .f32) (v2 : Vec F S768x2048 .f32) : IVec S8x2048 32 :=
  k0_pay1 (sel0 v0 v2 (thr0 v0 v2)) (k0_pay15 i) (iota .tc S256x2048 32 [1] iota_S256x2048_d1_w32) (k0_pay16 i)

/-- The first pass's second part with its loop and its branch in closed form. -/
theorem part2_pure (i : grid0.Coords) (arg1 : Memref sig .tc .vmem S256x768 .f32) (harg1 : arg1.IsWhole) (arg2 : Memref sig .tc .vmem S768x2048 .f32) (harg2 : arg2.IsWhole) (arg3 : Memref sig .tc .vmem S256x2048 .f32) (harg3 : arg3.IsWhole) (arg4 : Memref sig .tc .vmem S8x2048 .i32) (harg4 : arg4.IsWhole) (arg5 : Memref sig .tc .vmem S256x1 .f32) (harg5 : arg5.IsWhole) :
    k0_part2 (F := F) i arg1 harg1 arg2 harg2 arg3 harg3 arg4 harg4 arg5 harg5 = (do
      let v0 : Vec F S256x768 .f32 ← Prog.lift (.load arg1 (Rect.unit (s := S256x768) ![0, 0] S256x768.size inb_S256x768_S256x768_0_0).toLoadRect (View.loadsAt_vmem h_S256x768))
      let v2 : Vec F S768x2048 .f32 ← Prog.lift (.load arg2 (Rect.unit (s := S768x2048) ![0, 0] S768x2048.size inb_S768x2048_S768x2048_0_0).toLoadRect (View.loadsAt_vmem h_S768x2048))
      let v7 : Vec F S256x2048 .f32 ← Prog.lift (.load arg3 (Rect.unit (s := S256x2048) ![0, 0] S256x2048.size inb_S256x2048_S256x2048_0_0).toLoadRect (View.loadsAt_vmem h_S256x2048))
      Prog.lift (.store arg3 (Rect.unit (s := S256x2048) ![0, 0] S256x2048.size inb_S256x2048_S256x2048_0_0) (k0_pay8 v0 v2) Finset.univ (View.stores_vmem_bits_univ h_S256x2048 rfl) (.inl rfl))
      pure ⟨thr0 v0 v2, sel0 v0 v2 (thr0 v0 v2), k0_pay15 i, iota .tc S256x2048 32 [1] iota_S256x2048_d1_w32, k0_pay16 i⟩) := by
  rw [k0_part2_eq_skeleton]; unfold k0_part2_skel
  refine bind_congr fun v0 => ?_
  refine bind_congr fun v2 => ?_
  refine bind_congr fun v7 => ?_
  refine bind_congr fun _ => ?_
  refine (Scf.for_pure_bind k0_t1_loop.lb k0_t1_loop.ub k0_t1_loop.st k0_t1_ok _ _ (fun _ acc => k0_pay10 v0 v2 acc) (fun _ _ => rfl) _).trans ?_
  rw [k0_part1_eq_skeleton]
  change _ = pure (f := Prog _) _
  by_cases h : flagWord (k0_pay12 v0 v2 (thr0 v0 v2)) = 1#1
  · rw [show sel0 v0 v2 (thr0 v0 v2) = k0_pay13 v0 v2 (thr0 v0 v2) from if_pos h]
    exact (if_pos (c := flagWord (k0_pay12 v0 v2 (thr0 v0 v2)) = 1#1) h).trans rfl
  · rw [show sel0 v0 v2 (thr0 v0 v2) = rank0 (k0_pay8 v0 v2) (thr0 v0 v2) from if_neg h]
    exact (if_neg (c := flagWord (k0_pay12 v0 v2 (thr0 v0 v2)) = 1#1) h).trans rfl

abbrev r0_0 : Rect S256x768 := Rect.unit (s := S256x768) ![0, 0] S256x768.size inb_S256x768_S256x768_0_0
abbrev r0_1 : Rect S768x2048 := Rect.unit (s := S768x2048) ![0, 0] S768x2048.size inb_S768x2048_S768x2048_0_0
abbrev r0_2 : Rect S256x2048 := Rect.unit (s := S256x2048) ![0, 0] S256x2048.size inb_S256x2048_S256x2048_0_0
abbrev r0_3 : Rect S8x2048 := Rect.unit (s := S8x2048) ![0, 0] S8x2048.size inb_S8x2048_S8x2048_0_0
abbrev r0_4 : Rect S256x1 := Rect.unit (s := S256x1) ![0, 0] S256x1.size inb_S256x1_S256x1_0_0

/-- The scores' block after the body. -/
def out0_2 (i : grid0.Coords) (x0 : Vec F S256x768 .f32) (x1 : Vec F S768x2048 .f32) : Vec F S256x2048 .f32 :=
  View.canon [⟨r0_2, k0_pay8 (View.ld x0 r0_0) (View.ld x1 r0_1)⟩]
theorem cover0_2 (p0 : Vec F S256x2048 .f32) (y : S256x2048.Idx) :
    ∃ pc ∈ ([⟨r0_2, p0⟩] : List (View.Piece (Elt F) S256x2048 .f32)), y ∈ pc.1.set :=
  View.cover_of_tiled [⟨r0_2, p0⟩] S256x2048.size (by rfl) y
/-- The packed mask's block after the body. -/
def out0_3 (i : grid0.Coords) (x0 : Vec F S256x768 .f32) (x1 : Vec F S768x2048 .f32) : Vec F S8x2048 .i32 :=
  View.canon [⟨r0_3, pack0 i (View.ld x0 r0_0) (View.ld x1 r0_1)⟩]
theorem cover0_3 (p0 : Vec F S8x2048 .i32) (y : S8x2048.Idx) :
    ∃ pc ∈ ([⟨r0_3, p0⟩] : List (View.Piece (Elt F) S8x2048 .i32)), y ∈ pc.1.set :=
  View.cover_of_tiled [⟨r0_3, p0⟩] S8x2048.size (by rfl) y
/-- The thresholds' block after the body. -/
def out0_4 (i : grid0.Coords) (x0 : Vec F S256x768 .f32) (x1 : Vec F S768x2048 .f32) : Vec F S256x1 .f32 :=
  View.canon [⟨r0_4, thr0 (View.ld x0 r0_0) (View.ld x1 r0_1)⟩]
theorem cover0_4 (p0 : Vec F S256x1 .f32) (y : S256x1.Idx) :
    ∃ pc ∈ ([⟨r0_4, p0⟩] : List (View.Piece (Elt F) S256x1 .f32)), y ∈ pc.1.set :=
  View.cover_of_tiled [⟨r0_4, p0⟩] S256x1.size (by rfl) y

set_option maxHeartbeats 2000000 in
/-- The body of region 0 on whole staging buffers, the inputs' at read contents, runs to the continuation holding
    the inputs' as they were and each output's at its named contents. -/
theorem sound_kernel0 (c : Dev nD) (E : Set ℕ) (i : grid0.Coords)  (arg1 : Memref sig .tc .vmem S256x768 .f32) (harg1 : arg1.IsWhole) (arg2 : Memref sig .tc .vmem S768x2048 .f32) (harg2 : arg2.IsWhole) (arg3 : Memref sig .tc .vmem S256x2048 .f32) (harg3 : arg3.IsWhole) (arg4 : Memref sig .tc .vmem S8x2048 .i32) (harg4 : arg4.IsWhole) (arg5 : Memref sig .tc .vmem S256x1 .f32) (harg5 : arg5.IsWhole)
    (x0 : Vec F S256x768 .f32) (x1 : Vec F S768x2048 .f32)  (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare (out0_2 i x0 x1) ∗ owns (c : Thread nD τ) arg4 fullShare (out0_3 i x0 x1) ∗ owns (c : Thread nD τ) arg5 fullShare (out0_4 i x0 x1)) -∗ K ⟨⟩))
      ⊢ wp frame (wpE (defs₀ (F := F)) Variants.none c none) E (cc0__p1_kernel i arg1 harg1 arg2 harg2 arg3 harg3 arg4 harg4 arg5 harg5) K := by
  simp only [cc0__p1_kernel_eq_skeleton]; unfold cc0__p1_kernel_skel
  simp only [part2_pure]
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-- The proof data of pipeline 0: the arrays as the region finds them, each input left as it was, each output as named. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (grid0.coords t) (iblk0 V c 0 t) (iblk0 V c 1 t)
    | ⟨3, _⟩ => out0_3 (grid0.coords t) (iblk0 V c 0 t) (iblk0 V c 1 t)
    | ⟨4, _⟩ => out0_4 (grid0.coords t) (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (grid0.coords t) (iblk0 V c 0 t) (iblk0 V c 1 t) := by dsimp only [dat0]
theorem after0_3 (c : Dev nD) (t : Fin cfg0.N) : (dat0 V c).after 3 t = out0_3 (grid0.coords t) (iblk0 V c 0 t) (iblk0 V c 1 t) := by dsimp only [dat0]
theorem after0_4 (c : Dev nD) (t : Fin cfg0.N) : (dat0 V c).after 4 t = out0_4 (grid0.coords t) (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t)  _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row0 (t : Fin cfg0.N) :
    defs₀ (F := F) .tc cfg0.body (cfg0.bodyArgs t (cfg0.slots t)) = bodyAt0 t := by
  unfold defs₀; rw [Defs.onTc_tc]

/-- The body's obligation at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Own
-- ==== Proof.FrK1.lean ====
/- Region 1, the projections: what the body leaves in each output, and its obligation at every point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
/- the buffers' contents when a region is entered -/
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S256x768 := Rect.unit (s := S256x768) ![0, 0] S256x768.size inb_S256x768_S256x768_0_0
abbrev r1_1 : Rect S1x768x64 := Rect.unit (s := S1x768x64) ![0, 0, 0] S1x768x64.size inb_S1x768x64_S1x768x64_0_0_0
abbrev r1_2 : Rect S1x1x64 := Rect.unit (s := S1x1x64) ![0, 0, 0] S1x1x64.size inb_S1x1x64_S1x1x64_0_0_0
abbrev r1_3 : Rect S1x256x64 := Rect.unit (s := S1x256x64) ![0, 0, 0] S1x256x64.size inb_S1x256x64_S1x256x64_0_0_0
abbrev r1_4 : Rect S768x256 := Rect.unit (s := S768x256) ![0, 0] S768x256.size inb_S768x256_S768x256_0_0
abbrev r1_5 : Rect S64x256 := Rect.unit (s := S64x256) ![0, 0] S64x256.size inb_S64x256_S64x256_0_0

def out1_7 (x0 : Vec F S256x768 .f32) (x1 : Vec F S768x256 .f32) (x2 : Vec F S1x768x64 .f32) (x3 : Vec F S1x768x64 .f32) (x4 : Vec F S1x768x64 .f32) (x5 : Vec F S1x1x64 .f32) (x6 : Vec F S1x1x64 .f32) : Vec F S1x256x64 .f32 :=
  View.canon [⟨r1_3, k1_pay2 (View.ld x0 r1_0) (View.ld x2 r1_1) (View.ld x5 r1_2)⟩]

theorem cover1_7 (p0 : Vec F S1x256x64 .f32) (y : S1x256x64.Idx) :
    ∃ pc ∈ ([⟨r1_3, p0⟩] : List (View.Piece (Elt F) S1x256x64 .f32)), y ∈ pc.1.set :=
  View.cover_of_tiled [⟨r1_3, p0⟩] S1x256x64.size (by rfl) y

def out1_8 (x0 : Vec F S256x768 .f32) (x1 : Vec F S768x256 .f32) (x2 : Vec F S1x768x64 .f32) (x3 : Vec F S1x768x64 .f32) (x4 : Vec F S1x768x64 .f32) (x5 : Vec F S1x1x64 .f32) (x6 : Vec F S1x1x64 .f32) : Vec F S64x256 .f32 :=
  View.canon [⟨r1_5, k1_pay4 (View.ld x3 r1_1) (View.ld x1 r1_4)⟩]

theorem cover1_8 (p0 : Vec F S64x256 .f32) (y : S64x256.Idx) :
    ∃ pc ∈ ([⟨r1_5, p0⟩] : List (View.Piece (Elt F) S64x256 .f32)), y ∈ pc.1.set :=
  View.cover_of_tiled [⟨r1_5, p0⟩] S64x256.size (by rfl) y

def out1_9 (x0 : Vec F S256x768 .f32) (x1 : Vec F S768x256 .f32) (x2 : Vec F S1x768x64 .f32) (x3 : Vec F S1x768x64 .f32) (x4 : Vec F S1x768x64 .f32) (x5 : Vec F S1x1x64 .f32) (x6 : Vec F S1x1x64 .f32) : Vec F S1x256x64 .f32 :=
  View.canon [⟨r1_3, k1_pay3 (View.ld x0 r1_0) (View.ld x4 r1_1) (View.ld x6 r1_2)⟩]

theorem cover1_9 (p0 : Vec F S1x256x64 .f32) (y : S1x256x64.Idx) :
    ∃ pc ∈ ([⟨r1_3, p0⟩] : List (View.Piece (Elt F) S1x256x64 .f32)), y ∈ pc.1.set :=
  View.cover_of_tiled [⟨r1_3, p0⟩] S1x256x64.size (by rfl) y

set_option maxHeartbeats 1000000 in
theorem sound_kernel1 (c : Dev nD) (E : Set ℕ) (i : grid1.Coords) (arg2 : Memref sig .tc .vmem S256x768 .f32) (harg2 : arg2.IsWhole) (arg3 : Memref sig .tc .vmem S768x256 .f32) (harg3 : arg3.IsWhole) (arg4 : Memref sig .tc .vmem S1x768x64 .f32) (harg4 : arg4.IsWhole) (arg5 : Memref sig .tc .vmem S1x768x64 .f32) (harg5 : arg5.IsWhole) (arg6 : Memref sig .tc .vmem S1x768x64 .f32) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x256x64 .f32) (harg9 : arg9.IsWhole) (arg10 : Memref sig .tc .vmem S64x256 .f32) (harg10 : arg10.IsWhole) (arg11 : Memref sig .tc .vmem S1x256x64 .f32) (harg11 : arg11.IsWhole)
    (x0 : Vec F S256x768 .f32) (x1 : Vec F S768x256 .f32) (x2 : Vec F S1x768x64 .f32) (x3 : Vec F S1x768x64 .f32) (x4 : Vec F S1x768x64 .f32) (x5 : Vec F S1x1x64 .f32) (x6 : Vec F S1x1x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out1_7 x0 x1 x2 x3 x4 x5 x6) ∗ owns (c : Thread nD τ) arg10 fullShare (out1_8 x0 x1 x2 x3 x4 x5 x6) ∗ owns (c : Thread nD τ) arg11 fullShare (out1_9 x0 x1 x2 x3 x4 x5 x6)) -∗ K ⟨⟩))
      ⊢ wp frame (wpE (defs₀ (F := F)) Variants.none c none) E (cc1__p2_kernel i arg2 harg2 arg3 harg3 arg4 harg4 arg5 harg5 arg6 harg6 arg7 harg7 arg8 harg8 arg9 harg9 arg10 harg10 arg11 harg11) K := by
  simp only [cc1__p2_kernel_eq_skeleton]; unfold cc1__p2_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover1_7 _)
  isplitl [H8]
  · iexists _; isplitr
    swap; · iexact H8
    ipureintro
    exact View.read_writes_eq_canon _ _ _ (cover1_8 _)
  iexists _; isplitr
  swap; · iexact H9
  ipureintro
  exact View.read_writes_eq_canon _ _ _ (cover1_9 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
    | ⟨8, _⟩ => out1_8 (iblk1 V c 0 t) (iblk1 V c 1 t) (iblk1 V c 2 t) (iblk1 V c 3 t) (iblk1 V c 4 t) (iblk1 V c 5 t) (iblk1 V c 6 t)
    | ⟨9, _⟩ => out1_9 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Own
-- ==== Proof.FrK2.lean ====
/- Region 2, the attention: what the body leaves in its output, head by head, and its obligation at every point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
/- the buffers' contents when a region is entered -/
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-- The word that decides a branch on a flag held as a number. -/
def flagWord2 (x : F .f32) : BitVec 1 :=
  Scalar.cmpi .ne (Scalar.extui (Scalar.cmpf .ogt x (Scalar.ofBits .f32 0x00000000#32)) : BitVec 32) 0#32

/-- The attention's selection where every row's threshold is known, by rank. -/
def fastRank (v1 : FVec F S256x2048 .f32) (v15 : IVec S256x2048 1) (v17 : FVec F S256x1 .f32) : IVec S256x2048 32 :=
  k2_pay19 (k2_pay2 v1 v15 v17) (k2_pay3 v1 v15 v17) (k2_pay4 v1 v15 v17) (k2_pay5 v1 v15 v17) 0#32

/-- The attention's selection where every row's threshold is known. -/
def fastSel (v0 : Vec F S256x2048 .f32) (v2 : Vec F S8x2048 .i32) (v4 : Vec F S1x8x2048 .i32) (v16 : Vec F S256x1 .f32) : IVec S256x2048 32 :=
  if flagWord2 (k2_pay17 v0 v2 v4 v16) = 1#1 then k2_pay18 v0 v2 v4 v16
  else fastRank (k2_pay12 v0) (k2_pay13 v2 v4) (k2_pay14 v16)

/-- The threshold column of the masked scores: the fold of the counted loop's trip. -/
def thr2 (v0 : Vec F S256x2048 .f32) (v2 : Vec F S8x2048 .i32) (v4 : Vec F S1x8x2048 .i32) : FVec F S256x1 .f32 :=
  Scf.fold (fun (_ : Fin k2_t1_loop.trips) acc => k2_pay22 v0 v2 v4 acc) (k2_pay21 (F := F))

/-- The attention's selection from the masked scores, by rank. -/
def slowRank (v75 : FVec F S256x2048 .f32) (v78 : FVec F S256x1 .f32) : IVec S256x2048 32 :=
  k2_pay26 (k2_pay6 v75 v78) (k2_pay7 v75 v78) (k2_pay8 v75 v78) (k2_pay9 v75 v78) k2_pay10 (k2_pay11 v75 v78)

/-- The attention's selection from the masked scores. -/
def slowSel (v0 : Vec F S256x2048 .f32) (v2 : Vec F S8x2048 .i32) (v4 : Vec F S1x8x2048 .i32) (v78 : FVec F S256x1 .f32) : IVec S256x2048 32 :=
  if flagWord2 (k2_pay24 v0 v2 v4 v78) = 1#1 then k2_pay25 v0 v2 v4 v78 else slowRank (k2_pay20 v0 v2 v4) v78

/-- The attention's selection. -/
def sel2 (v0 : Vec F S256x2048 .f32) (v2 : Vec F S8x2048 .i32) (v4 : Vec F S1x8x2048 .i32) (v16 : Vec F S256x1 .f32) : IVec S256x2048 32 :=
  if flagWord2 (k2_pay15 v16) = 1#1 then fastSel v0 v2 v4 v16 else slowSel v0 v2 v4 (thr2 v0 v2 v4)

/-- The attention's third part with its loop and its branches in closed form. -/
theorem part3_pure (i : grid2.Coords) (arg2 : Memref sig .tc .vmem S1x256x64 .f32) (harg2 : arg2.IsWhole) (arg3 : Memref sig .tc .vmem S64x2048 .f32) (harg3 : arg3.IsWhole) (arg4 : Memref sig .tc .vmem S1x2048x64 .f32) (harg4 : arg4.IsWhole) (arg5 : Memref sig .tc .vmem S1x1x64 .f32) (harg5 : arg5.IsWhole) (arg6 : Memref sig .tc .vmem S1x64x768 .f32) (harg6 : arg6.IsWhole) (arg7 : Memref sig .tc .vmem S1x768 .f32) (harg7 : arg7.IsWhole) (arg8 : Memref sig .tc .vmem S256x2048 .f32) (harg8 : arg8.IsWhole) (arg9 : Memref sig .tc .vmem S8x2048 .i32) (harg9 : arg9.IsWhole) (arg10 : Memref sig .tc .vmem S1x8x2048 .i32) (harg10 : arg10.IsWhole) (arg11 : Memref sig .tc .vmem S256x1 .f32) (harg11 : arg11.IsWhole) (arg12 : Memref sig .tc .vmem S256x768 .f32) (harg12 : arg12.IsWhole) :
    k2_part3 (F := F) i arg2 harg2 arg3 harg3 arg4 harg4 arg5 harg5 arg6 harg6 arg7 harg7 arg8 harg8 arg9 harg9 arg10 harg10 arg11 harg11 arg12 harg12 = (do
      let v0 : Vec F S256x2048 .f32 ← Prog.lift (.load arg8 (Rect.unit (s := S256x2048) ![0, 0] S256x2048.size inb_S256x2048_S256x2048_0_0).toLoadRect (View.loadsAt_vmem h_S256x2048))
      let v2 : Vec F S8x2048 .i32 ← Prog.lift (.load arg9 (Rect.unit (s := S8x2048) ![0, 0] S8x2048.size inb_S8x2048_S8x2048_0_0).toLoadRect (View.loadsAt_vmem h_S8x2048))
      let v4 : Vec F S1x8x2048 .i32 ← Prog.lift (.load arg10 (Rect.unit (s := S1x8x2048) ![0, 0, 0] S1x8x2048.size inb_S1x8x2048_S1x8x2048_0_0_0).toLoadRect (View.loadsAt_vmem h_S1x8x2048))
      let v16 : Vec F S256x1 .f32 ← Prog.lift (.load arg11 (Rect.unit (s := S256x1) ![0, 0] S256x1.size inb_S256x1_S256x1_0_0).toLoadRect (View.loadsAt_vmem h_S256x1))
      let v31 : Vec F S1x256x64 .f32 ← Prog.lift (.load arg2 (Rect.unit (s := S1x256x64) ![0, 0, 0] S1x256x64.size inb_S1x256x64_S1x256x64_0_0_0).toLoadRect (View.loadsAt_vmem h_S1x256x64))
      let v33 : Vec F S64x2048 .f32 ← Prog.lift (.load arg3 (Rect.unit (s := S64x2048) ![0, 0] S64x2048.size inb_S64x2048_S64x2048_0_0).toLoadRect (View.loadsAt_vmem h_S64x2048))
      pure ⟨BitVec.ofNat 32 (i 1).val, sel2 v0 v2 v4 v16, k2_pay27 v31, k2_pay28 v33, constant S256x2048 .f32 0x00000000#32⟩) := by
  rw [k2_part3_eq_skeleton]; unfold k2_part3_skel
  refine bind_congr fun v0 => ?_
  refine bind_congr fun v2 => ?_
  refine bind_congr fun v4 => ?_
  refine bind_congr fun v16 => ?_
  rw [k2_part1_eq_skeleton, k2_part2_eq_skeleton]
  by_cases h : flagWord2 (k2_pay15 v16) = 1#1
  · refine (if_pos (c := flagWord2 (k2_pay15 v16) = 1#1) h).trans ?_
    rw [show sel2 v0 v2 v4 v16 = fastSel v0 v2 v4 v16 from if_pos h]
    by_cases h' : flagWord2 (k2_pay17 v0 v2 v4 v16) = 1#1
    · rw [show fastSel v0 v2 v4 v16 = k2_pay18 v0 v2 v4 v16 from if_pos h']
      exact (if_pos (c := flagWord2 (k2_pay17 v0 v2 v4 v16) = 1#1) h').trans rfl
    · rw [show fastSel v0 v2 v4 v16 = fastRank (k2_pay12 v0) (k2_pay13 v2 v4) (k2_pay14 v16) from if_neg h']
      exact (if_neg (c := flagWord2 (k2_pay17 v0 v2 v4 v16) = 1#1) h').trans rfl
  · refine (if_neg (c := flagWord2 (k2_pay15 v16) = 1#1) h).trans ?_
    rw [show sel2 v0 v2 v4 v16 = slowSel v0 v2 v4 (thr2 v0 v2 v4) from if_neg h]
    refine (Scf.for_pure_bind k2_t1_loop.lb k2_t1_loop.ub k2_t1_loop.st k2_t1_ok (k2_pay21 (F := F)) (k2_t1_body i arg2 harg2 arg3 harg3 arg4 harg4 arg5 harg5 arg6 harg6 arg7 harg7 arg8 harg8 arg9 harg9 arg10 harg10 arg11 harg11 arg12 harg12 v0 v2 v4) (fun _ acc => k2_pay22 v0 v2 v4 acc) (fun _ _ => rfl) _).trans ?_
    by_cases h' : flagWord2 (k2_pay24 v0 v2 v4 (thr2 v0 v2 v4)) = 1#1
    · rw [show slowSel v0 v2 v4 (thr2 v0 v2 v4) = k2_pay25 v0 v2 v4 (thr2 v0 v2 v4) from if_pos h']
      exact (if_pos (c := flagWord2 (k2_pay24 v0 v2 v4 (thr2 v0 v2 v4)) = 1#1) h').trans rfl
    · rw [show slowSel v0 v2 v4 (thr2 v0 v2 v4) = slowRank (k2_pay20 v0 v2 v4) (thr2 v0 v2 v4) from if_neg h']
      exact (if_neg (c := flagWord2 (k2_pay24 v0 v2 v4 (thr2 v0 v2 v4)) = 1#1) h').trans rfl

abbrev r2_0 : Rect S1x256x64 := Rect.unit (s := S1x256x64) ![0, 0, 0] S1x256x64.size inb_S1x256x64_S1x256x64_0_0_0
abbrev r2_1 : Rect S64x2048 := Rect.unit (s := S64x2048) ![0, 0] S64x2048.size inb_S64x2048_S64x2048_0_0
abbrev r2_2 : Rect S1x2048x64 := Rect.unit (s := S1x2048x64) ![0, 0, 0] S1x2048x64.size inb_S1x2048x64_S1x2048x64_0_0_0
abbrev r2_3 : Rect S1x1x64 := Rect.unit (s := S1x1x64) ![0, 0, 0] S1x1x64.size inb_S1x1x64_S1x1x64_0_0_0
abbrev r2_4 : Rect S1x64x768 := Rect.unit (s := S1x64x768) ![0, 0, 0] S1x64x768.size inb_S1x64x768_S1x64x768_0_0_0
abbrev r2_5 : Rect S1x768 := Rect.unit (s := S1x768) ![0, 0] S1x768.size inb_S1x768_S1x768_0_0
abbrev r2_6 : Rect S256x2048 := Rect.unit (s := S256x2048) ![0, 0] S256x2048.size inb_S256x2048_S256x2048_0_0
abbrev r2_7 : Rect S8x2048 := Rect.unit (s := S8x2048) ![0, 0] S8x2048.size inb_S8x2048_S8x2048_0_0
abbrev r2_8 : Rect S1x8x2048 := Rect.unit (s := S1x8x2048) ![0, 0, 0] S1x8x2048.size inb_S1x8x2048_S1x8x2048_0_0_0
abbrev r2_9 : Rect S256x1 := Rect.unit (s := S256x1) ![0, 0] S256x1.size inb_S256x1_S256x1_0_0
abbrev r2_10 : Rect S256x768 := Rect.unit (s := S256x768) ![0, 0] S256x768.size inb_S256x768_S256x768_0_0

/-- One head's contribution to the output block. -/
def contrib2 (x0 : Vec F S1x256x64 .f32) (x1 : Vec F S64x2048 .f32) (x2 : Vec F S1x2048x64 .f32) (x3 : Vec F S1x1x64 .f32) (x4 : Vec F S1x64x768 .f32) (x5 : Vec F S1x768 .f32) (x6 : Vec F S256x2048 .f32) (x7 : Vec F S8x2048 .i32) (x8 : Vec F S1x8x2048 .i32) (x9 : Vec F S256x1 .f32) : FVec F S256x768 .f32 :=
  k2_pay29 (sel2 (View.ld x6 r2_6) (View.ld x7 r2_7) (View.ld x8 r2_8) (View.ld x9 r2_9)) (k2_pay27 (View.ld x0 r2_0)) (k2_pay28 (View.ld x1 r2_1)) (constant S256x2048 .f32 0x00000000#32) (View.ld x3 r2_3) (View.ld x2 r2_2) (View.ld x4 r2_4)

/-- The output's block after the first head's body. -/
def out2_A (x0 : Vec F S1x256x64 .f32) (x1 : Vec F S64x2048 .f32) (x2 : Vec F S1x2048x64 .f32) (x3 : Vec F S1x1x64 .f32) (x4 : Vec F S1x64x768 .f32) (x5 : Vec F S1x768 .f32) (x6 : Vec F S256x2048 .f32) (x7 : Vec F S8x2048 .i32) (x8 : Vec F S1x8x2048 .i32) (x9 : Vec F S256x1 .f32) : Vec F S256x768 .f32 :=
  View.canon [⟨r2_10, k2_pay30 (sel2 (View.ld x6 r2_6) (View.ld x7 r2_7) (View.ld x8 r2_8) (View.ld x9 r2_9)) (k2_pay27 (View.ld x0 r2_0)) (k2_pay28 (View.ld x1 r2_1)) (constant S256x2048 .f32 0x00000000#32) (View.ld x3 r2_3) (View.ld x2 r2_2) (View.ld x4 r2_4) (View.ld x5 r2_5)⟩]

/-- The output's block after a later head's body, from what it held. -/
def out2_B (x0 : Vec F S1x256x64 .f32) (x1 : Vec F S64x2048 .f32) (x2 : Vec F S1x2048x64 .f32) (x3 : Vec F S1x1x64 .f32) (x4 : Vec F S1x64x768 .f32) (x5 : Vec F S1x768 .f32) (x6 : Vec F S256x2048 .f32) (x7 : Vec F S8x2048 .i32) (x8 : Vec F S1x8x2048 .i32) (x9 : Vec F S256x1 .f32) (x10 : Vec F S256x768 .f32) : Vec F S256x768 .f32 :=
  View.canon [⟨r2_10, k2_pay1 (contrib2 x0 x1 x2 x3 x4 x5 x6 x7 x8 x9) (View.ld x10 r2_10)⟩]

theorem cover2_10 (p0 : Vec F S256x768 .f32) (y : S256x768.Idx) :
    ∃ pc ∈ ([⟨r2_10, p0⟩] : List (View.Piece (Elt F) S256x768 .f32)), y ∈ pc.1.set :=
  View.cover_of_tiled [⟨r2_10, p0⟩] S256x768.size (by rfl) y

theorem idle2_10 (i : grid2.Coords) : cfg2.idle 10 i = false := by
  change (!(k2_cond4 i == 1#1) && !(k2_cond5 i == 1#1)) = false
  unfold k2_cond4 k2_cond5
  generalize BitVec.ofNat 32 (i 1).val = a
  by_cases h : a = 0#32
  · subst h; rfl
  · have h1 : (a == 0#32) = false := by simpa using h
    have h2 : (a != 0#32) = true := by simpa using h
    simp only [Scalar.cmpi, Scalar.extui, IntOp.cmpi, h1, h2]; rfl

theorem cond4_iff : ∀ t : Fin cfg2.N, k2_cond4 (grid2.coords t) = 1#1 ↔ t.val % 12 = 0 := by decide
theorem cond5_iff : ∀ t : Fin cfg2.N, k2_cond5 (grid2.coords t) = 1#1 ↔ ¬ t.val % 12 = 0 := by decide

set_option maxHeartbeats 2000000 in
/-- The body of region 2 on whole staging buffers, the inputs' at read contents, runs to the continuation holding
    the inputs' as they were and each output's at its named contents. -/
theorem sound_kernel2A (c : Dev nD) (E : Set ℕ) (i : grid2.Coords) (h4 : k2_cond4 i = 1#1) (h5 : ¬ k2_cond5 i = 1#1) (arg2 : Memref sig .tc .vmem S1x256x64 .f32) (harg2 : arg2.IsWhole) (arg3 : Memref sig .tc .vmem S64x2048 .f32) (harg3 : arg3.IsWhole) (arg4 : Memref sig .tc .vmem S1x2048x64 .f32) (harg4 : arg4.IsWhole) (arg5 : Memref sig .tc .vmem S1x1x64 .f32) (harg5 : arg5.IsWhole) (arg6 : Memref sig .tc .vmem S1x64x768 .f32) (harg6 : arg6.IsWhole) (arg7 : Memref sig .tc .vmem S1x768 .f32) (harg7 : arg7.IsWhole) (arg8 : Memref sig .tc .vmem S256x2048 .f32) (harg8 : arg8.IsWhole) (arg9 : Memref sig .tc .vmem S8x2048 .i32) (harg9 : arg9.IsWhole) (arg10 : Memref sig .tc .vmem S1x8x2048 .i32) (harg10 : arg10.IsWhole) (arg11 : Memref sig .tc .vmem S256x1 .f32) (harg11 : arg11.IsWhole) (arg12 : Memref sig .tc .vmem S256x768 .f32) (harg12 : arg12.IsWhole)
    (x0 : Vec F S1x256x64 .f32) (x1 : Vec F S64x2048 .f32) (x2 : Vec F S1x2048x64 .f32) (x3 : Vec F S1x1x64 .f32) (x4 : Vec F S1x64x768 .f32) (x5 : Vec F S1x768 .f32) (x6 : Vec F S256x2048 .f32) (x7 : Vec F S8x2048 .i32) (x8 : Vec F S1x8x2048 .i32) (x9 : Vec F S256x1 .f32)  (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (out2_A x0 x1 x2 x3 x4 x5 x6 x7 x8 x9)) -∗ K ⟨⟩))
      ⊢ wp frame (wpE (defs₀ (F := F)) Variants.none c none) E (cc2__attn_kernel i arg2 harg2 arg3 harg3 arg4 harg4 arg5 harg5 arg6 harg6 arg7 harg7 arg8 harg8 arg9 harg9 arg10 harg10 arg11 harg11 arg12 harg12) K := by
  simp only [cc2__attn_kernel_eq_skeleton]; unfold cc2__attn_kernel_skel
  simp only [part3_pure, k2_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec (disch := first | sl_exact h4 | sl_exact h5)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover2_10 _)

set_option maxHeartbeats 2000000 in
/-- The body of region 2 on whole staging buffers, the inputs' at read contents, runs to the continuation holding
    the inputs' as they were and each output's at its named contents. -/
theorem sound_kernel2B (c : Dev nD) (E : Set ℕ) (i : grid2.Coords) (h4 : ¬ k2_cond4 i = 1#1) (h5 : k2_cond5 i = 1#1) (arg2 : Memref sig .tc .vmem S1x256x64 .f32) (harg2 : arg2.IsWhole) (arg3 : Memref sig .tc .vmem S64x2048 .f32) (harg3 : arg3.IsWhole) (arg4 : Memref sig .tc .vmem S1x2048x64 .f32) (harg4 : arg4.IsWhole) (arg5 : Memref sig .tc .vmem S1x1x64 .f32) (harg5 : arg5.IsWhole) (arg6 : Memref sig .tc .vmem S1x64x768 .f32) (harg6 : arg6.IsWhole) (arg7 : Memref sig .tc .vmem S1x768 .f32) (harg7 : arg7.IsWhole) (arg8 : Memref sig .tc .vmem S256x2048 .f32) (harg8 : arg8.IsWhole) (arg9 : Memref sig .tc .vmem S8x2048 .i32) (harg9 : arg9.IsWhole) (arg10 : Memref sig .tc .vmem S1x8x2048 .i32) (harg10 : arg10.IsWhole) (arg11 : Memref sig .tc .vmem S256x1 .f32) (harg11 : arg11.IsWhole) (arg12 : Memref sig .tc .vmem S256x768 .f32) (harg12 : arg12.IsWhole)
    (x0 : Vec F S1x256x64 .f32) (x1 : Vec F S64x2048 .f32) (x2 : Vec F S1x2048x64 .f32) (x3 : Vec F S1x1x64 .f32) (x4 : Vec F S1x64x768 .f32) (x5 : Vec F S1x768 .f32) (x6 : Vec F S256x2048 .f32) (x7 : Vec F S8x2048 .i32) (x8 : Vec F S1x8x2048 .i32) (x9 : Vec F S256x1 .f32) (x10 : Vec F S256x768 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (out2_B x0 x1 x2 x3 x4 x5 x6 x7 x8 x9 x10)) -∗ K ⟨⟩))
      ⊢ wp frame (wpE (defs₀ (F := F)) Variants.none c none) E (cc2__attn_kernel i arg2 harg2 arg3 harg3 arg4 harg4 arg5 harg5 arg6 harg6 arg7 harg7 arg8 harg8 arg9 harg9 arg10 harg10 arg11 harg11 arg12 harg12) K := by
  simp only [cc2__attn_kernel_eq_skeleton]; unfold cc2__attn_kernel_skel
  simp only [part3_pure, k2_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf0 hf1 hf2 hf3 hf4 hf5 hf6 hf7 hf8 hf9 hf10
  sl_exec (disch := first | sl_exact h4 | sl_exact h5)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover2_10 _)

/-- The output's block after the body at each point: started by the first head, added to by the later ones. -/
def outsAt2 (c : Dev nD) : (n : ℕ) → n < cfg2.N → Vec F S256x768 .f32
  | 0, h => out2_A (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩) (iblk2 V c 6 ⟨0, h⟩) (iblk2 V c 7 ⟨0, h⟩) (iblk2 V c 8 ⟨0, h⟩) (iblk2 V c 9 ⟨0, h⟩)
  | n + 1, h => if (n + 1) % 12 = 0 then out2_A (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩) (iblk2 V c 9 ⟨n + 1, h⟩)
      else out2_B (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩) (iblk2 V c 9 ⟨n + 1, h⟩) (outsAt2 c n (Nat.lt_of_succ_lt h))

theorem outsAt2_A (c : Dev nD) (t : Fin cfg2.N) (h : t.val % 12 = 0) :
    outsAt2 V c t.val t.isLt = out2_A (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by
  obtain ⟨n, hn⟩ := t
  cases n with
  | zero => rfl
  | succ n => exact if_pos h

theorem outsAt2_B (c : Dev nD) (t : Fin cfg2.N) (h : ¬ t.val % 12 = 0) :
    outsAt2 V c t.val t.isLt = out2_B (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
      (outsAt2 V c (t.val - 1) (Nat.lt_of_le_of_lt (Nat.sub_le _ _) t.isLt)) := by
  obtain ⟨n, hn⟩ := t
  cases n with
  | zero => exact absurd rfl h
  | succ n => exact if_neg h

/-- The proof data of pipeline 2: the arrays as the region finds them, each input left as it was, each output as named. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => outsAt2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = outsAt2 V c t.val t.isLt := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d

/-- A later head's body finds what the head before left. -/
theorem before2_10_B (c : Dev nD) (t : Fin cfg2.N) (h : ¬ t.val % 12 = 0) (d) :
    (dat2 V c).before 10 t d = outsAt2 V c (t.val - 1) (Nat.lt_of_le_of_lt (Nat.sub_le _ _) t.isLt) := by
  have ht : t.val ≠ 0 := fun h0 => h (by rw [h0])
  rw [(dat2 V c).before_out_kept 10 rfl t ht ?_ idle2_10 (fun _ _ => rfl) d, after2_10]
  by_contra hf
  have h1 : (cfg2.win 10).flush ⟨t.val - 1, Nat.lt_of_le_of_lt (Nat.sub_le _ _) t.isLt⟩ = true := by
    revert hf; cases (cfg2.win 10).flush ⟨t.val - 1, Nat.lt_of_le_of_lt (Nat.sub_le _ _) t.isLt⟩ <;> simp
  have h2 := (flush2_10 _).mp h1
  dsimp only at h2
  omega

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t))

set_option maxHeartbeats 1600000 in
/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10]
  by_cases h : t.val % 12 = 0
  · rw [outsAt2_A V c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_kernel2A c Set.univ (grid2.coords t) ((cond4_iff t).mpr h) (fun h5 => (cond5_iff t).mp h5 h) _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)  _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [outsAt2_B V c t h]
    simp only [before2_10_B V c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_kernel2B c Set.univ (grid2.coords t) (fun h4 => h ((cond4_iff t).mp h4)) ((cond5_iff t).mpr h) _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem defs₀_row2 (t : Fin cfg2.N) :
    defs₀ (F := F) .tc cfg2.body (cfg2.bodyArgs t (cfg2.slots t)) = bodyAt2 t := by
  unfold defs₀; rw [Defs.onTc_tc]

/-- The body's obligation at every point. -/
theorem body_obligation2 (c : Dev nD) : BodyObligation (dat2 (F := F) V c) (defs₀ (F := F)) Variants.none () Set.univ := fun t => by
  rw [bigSep_W2, bigSep_W2, defs₀_row2]
  refine triple_restated (sound_body2 V c t) rfl .rfl fun a => ?_
  rw [idle2_10]
  exact Entails.rfl

end Regions

end Cert.KernelIdeal.Own
-- ==== Proof.FrRun.lean ====
/- The run of the whole program: its segments from the launch to the return. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.FrK0
public import proofs.«01_k».proof.Proof.FrK1
public import proofs.«01_k».proof.Proof.FrK2
@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_c, main_c_0, main_v2, main_v3, main_v4, main_c_1, main_v5, main_v6, main_v7, main_v8, main_cst, main_cst_2]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_call0_v1, main_call0_v2, main_call0_v3, main_call0_v4, main_call0_v5, main_call0_v6, main_call0_v7, main_call0_v8, main_call0_v9, main_call0_v10, main_call0_v11, main_call0_c, main_call0_v12, main_call0_v13, main_call0_c_0, main_call0_v14, main_call0_v15, main_call0_c_1, main_call0_v16, main_call0_v17, main_call0_c_2, main_call0_v18, main_call0_v19, main_call0_v20, main_call0_v21, main_call0_v22, main_call0_c_3, main_call0_v23, main_call0_v24, main_call0_v25, main_call0_v26, main_call0_call0_v0, main_call0_call0_c, main_call0_call0_v1, main_call0_call0_v2, main_call0_call0_v3, main_call0_call0_v4, main_call0_call0_v5, main_call0_call0_v6, main_call0_call0_c_0, main_call0_call0_v7, main_call0_call0_v8, main_call0_call0_c_1, main_call0_call0_v9, main_call0_call0_v10, main_call0_call0_v11, main_call0_call0_v12, main_call0_call0_v13, main_call0_call0_c_2, main_call0_call0_v14, main_call0_call0_v15, main_call0_call0_c_3, main_call0_call0_v16, main_call0_call0_v17, main_call0_call0_v18, main_call0_call0_v19, main_call0_call0_v20, main_call0_call0_c_4, main_call0_call0_v21, main_call0_call0_v22, main_call0_call0_c_5, main_call0_call0_v23, main_call0_call0_v24, main_call0_call0_v25, main_call0_call0_v26, main_call0_call0_v27, main_call0_call0_c_6, main_call0_call0_v28, main_call0_call0_v29, main_call0_call0_c_7, main_call0_call0_v30, main_call0_call0_v31, main_call0_call0_v32, main_call0_call0_v33, main_call0_call0_v34, main_call0_call0_v35, main_call0_call0_v36, main_call0_call0_v37, main_call0_call0_c_8, main_call0_call0_v38, main_call0_call0_v39, main_call0_call0_v40, main_call0_call0_c_9, main_call0_call0_v41, main_call0_call0_v42, main_call0_call0_c_10, main_call0_call0_v43, main_call0_call0_v44, main_call0_call0_v45, main_call0_call0_v46, main_call0_call0_v47, main_call0_call0_c_11, main_call0_call0_v48, main_call0_call0_v49, main_call0_call0_c_12, main_call0_call0_v50, main_call0_call0_v51, main_call0_call0_v52, main_call0_call0_v53, main_call0_call0_v54, main_call0_call0_c_13, main_call0_call0_v55, main_call0_call0_v56, main_call0_call0_c_14, main_call0_call0_v57, main_call0_call0_v58, main_call0_call0_v59, main_call0_call0_v60, main_call0_call0_v61, main_call0_call0_c_15, main_call0_call0_v62, main_call0_call0_v63, main_call0_call0_c_16, main_call0_call0_v64, main_call0_call0_v65, main_call0_call0_v66, main_call0_call0_v67, main_call0_call0_v68, main_call0_call0_v69, main_call0_call0_v70, main_call0_call0_v71, main_call0_call0_c_17, main_call0_call0_v72, main_call0_call0_v73, main_call0_call0_v74, main_call0_call0_c_18, main_call0_call0_v75, main_call0_call0_v76, main_call0_call0_c_19, main_call0_call0_v77, main_call0_call0_v78, main_call0_call0_v79, main_call0_call0_v80, main_call0_call0_v81, main_call0_call0_c_20, main_call0_call0_v82, main_call0_call0_v83, main_call0_call0_c_21, main_call0_call0_v84, main_call0_call0_v85, main_call0_call0_v86, main_call0_call0_v87, main_call0_call0_v88, main_call0_call0_c_22, main_call0_call0_v89, main_call0_call0_v90, main_call0_call0_c_23, main_call0_call0_v91, main_call0_call0_v92, main_call0_call0_v93, main_call0_call0_v94, main_call0_call0_v95, main_call0_call0_c_24, main_call0_call0_v96, main_call0_call0_v97, main_call0_call0_c_25, main_call0_call0_v98, main_call0_call0_v99, main_call0_call0_v100, main_call0_call0_v101, main_call0_call0_v102, main_call0_call0_v103, main_call0_call0_v104, main_call0_call0_v105, main_call0_call0_c_26, main_call0_call0_v106, main_call0_call0_v107, main_call0_call0_v108, main_call0_call0_c_27, main_call0_call0_v109, main_call0_call0_v110, main_call0_call0_c_28, main_call0_call0_v111, main_call0_call0_v112, main_call0_call0_v113, main_call0_call0_v114, main_call0_call0_v115, main_call0_call0_c_29, main_call0_call0_v116, main_call0_call0_v117, main_call0_call0_c_30, main_call0_call0_v118, main_call0_call0_v119, main_call0_call0_v120, main_call0_call0_v121, main_call0_call0_v122, main_call0_call0_c_31, main_call0_call0_v123, main_call0_call0_v124, main_call0_call0_c_32, main_call0_call0_v125, main_call0_call0_v126, main_call0_call0_v127, main_call0_call0_v128, main_call0_call0_v129, main_call0_call0_c_33, main_call0_call0_v130, main_call0_call0_v131, main_call0_call0_c_34, main_call0_call0_v132, main_call0_call0_v133, main_call0_call0_v134, main_call0_call0_v135, main_call0_call0_v136, main_call0_call0_v137, main_call0_call0_v138, main_call0_call0_v139, main_call0_call0_c_35, main_call0_call0_v140, main_call0_call0_v141, main_call0_call0_v142, main_call0_call0_c_36, main_call0_call0_v143, main_call0_call0_v144, main_call0_call0_c_37, main_call0_call0_v145, main_call0_call0_v146, main_call0_call0_v147, main_call0_call0_v148, main_call0_call0_v149, main_call0_call0_c_38, main_call0_call0_v150, main_call0_call0_v151, main_call0_call0_c_39, main_call0_call0_v152, main_call0_call0_v153, main_call0_call0_v154, main_call0_call0_v155, main_call0_call0_v156, main_call0_call0_c_40, main_call0_call0_v157, main_call0_call0_v158, main_call0_call0_c_41, main_call0_call0_v159, main_call0_call0_v160, main_call0_call0_v161, main_call0_call0_v162, main_call0_call0_v163, main_call0_call0_c_42, main_call0_call0_v164, main_call0_call0_v165, main_call0_call0_c_43, main_call0_call0_v166, main_call0_call0_v167, main_call0_call0_v168, main_call0_call0_v169, main_call0_call0_v170, main_call0_v27_0, main_call0_call0_v172, main_call0_call0_v173, main_call0_call0_c_44, main_call0_call0_v174, main_call0_v27_1, main_call0_v28, main_call0_c_4, main_call0_v29, main_call0_v30, main_call0_c_5, main_call0_v31, main_call0_v32, main_call0_v33, main_call0_cst, main_call0_v34, main_call0_v35, main_call0_v36, main_call0_v37, main_call0_v38, main_call0_v39, main_call0_v40, main_call0_v41, main_v9]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_cst_3, main_v10, main_v11, main_v12, main_v13, main_v14, main_v15, main_v16, main_v17, main_c_4, main_v18, main_v19, main_v20, main_v21, main_v22, main_v23, main_v24, main_v25, main_v26, main_v27, main_v28]
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays (checked: each argument against each reference it writes). -/
theorem hostOps0_2_args : ∀ a ∈ argRefs, a ∉ hostOps0_2_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v31]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v33]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2` (region 0's entry). -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- The same read at the TensorCore's references (what region 0's proof data take). -/
abbrev V3 : (c : Dev nD) → (b : Ref sig .tc) → Buf (Elt F) ((c : Thread nD τ).loc b) := fun c b => W3 m ρ c b
/-- At region 0's exit: its arrays at what the pipeline leaves (the inputs as entered, each output's write-backs
    folded: `Dat.arrAt … N`), every other buffer as entered (Lib/Pipeline/FrameSuffix.lean `withArrays`) (region 1's entry). -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- A reference that is none of region 0's OUTPUT arrays keeps its entry contents across it: an input window's
    array is never written back (`Dat.arrAt_in`, `A_eq0`); any other buffer is left as is. -/
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (A_eq0 (V3 m ρ) c w))
  · exact W4_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn0 a ha)).trans (W3_args m ρ c a ha)
/-- The same read at the TensorCore's references (region 0's exit contents). -/
abbrev V4 : (c : Dev nD) → (b : Ref sig .tc) → Buf (Elt F) ((c : Thread nD τ).loc b) := fun c b => W4 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
/-- A reference that is none of region 1's OUTPUT arrays keeps its entry contents across it: an input window's
    array is never written back (`Dat.arrAt_in`, `A_eq1`); any other buffer is left as is. -/
theorem W5_of (c : Dev nD) (r : Ref sig .tc) (h : ∀ w : Fin cfg1.W, Pipeline.arrRef spec1 w = r → (cfg1.win w).isOut = false) :
    W5 m ρ c (Proc.devRef .tc r) = W4 m ρ c (Proc.devRef .tc r) := by
  by_cases hw : ∃ w : Fin cfg1.W, Pipeline.arrRef spec1 w = r
  · obtain ⟨w, rfl⟩ := hw
    exact (W5_arr m ρ c w).trans (((dat1 (V4 m ρ) c).arrAt_in w (h w rfl) _).trans (A_eq1 (V4 m ρ) c w))
  · exact W5_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn1 a ha)).trans (W4_args m ρ c a ha)
/-- The same read at the TensorCore's references (region 1's exit contents). -/
abbrev V5 : (c : Dev nD) → (b : Ref sig .tc) → Buf (Elt F) ((c : Thread nD τ).loc b) := fun c b => W5 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- After `hostOps2` (region 2's entry). -/
abbrev W6 : Dev nD → Valuation τ sig (Elt F) := fun c => StableHlo.after hostOps2 (W5 m ρ c)
/-- A reference `hostOps2` does not write keeps its contents across it. -/
theorem W6_of (c : Dev nD) (r : Ref sig .tc) (h : r ∉ hostOps2_W) : W6 m ρ c (Proc.devRef .tc r) = W5 m ρ c (Proc.devRef .tc r) :=
  StableHlo.after_of_writes_sub hostOps2 _ hostOps2_writes h
theorem W6_args (c : Dev nD) : ∀ a ∈ argRefs, W6 m ρ c (Proc.devRef .tc a) = m ((c : Thread nD τ).loc a) :=
  fun a ha => (W6_of m ρ c a (hostOps2_args a ha)).trans (W5_args m ρ c a ha)
/-- The same read at the TensorCore's references (what region 2's proof data take). -/
abbrev V6 : (c : Dev nD) → (b : Ref sig .tc) → Buf (Elt F) ((c : Thread nD τ).loc b) := fun c b => W6 m ρ c b
/-- At region 2's exit: its arrays at what the pipeline leaves (the inputs as entered, each output's write-backs
    folded: `Dat.arrAt … N`), every other buffer as entered (Lib/Pipeline/FrameSuffix.lean `withArrays`). -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
/-- A reference that is none of region 2's OUTPUT arrays keeps its entry contents across it: an input window's
    array is never written back (`Dat.arrAt_in`, `A_eq2`); any other buffer is left as is. -/
theorem W7_of (c : Dev nD) (r : Ref sig .tc) (h : ∀ w : Fin cfg2.W, Pipeline.arrRef spec2 w = r → (cfg2.win w).isOut = false) :
    W7 m ρ c (Proc.devRef .tc r) = W6 m ρ c (Proc.devRef .tc r) := by
  by_cases hw : ∃ w : Fin cfg2.W, Pipeline.arrRef spec2 w = r
  · obtain ⟨w, rfl⟩ := hw
    exact (W7_arr m ρ c w).trans (((dat2 (V6 m ρ) c).arrAt_in w (h w rfl) _).trans (A_eq2 (V6 m ρ) c w))
  · exact W7_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W7_args (c : Dev nD) : ∀ a ∈ argRefs, W7 m ρ c (Proc.devRef .tc a) = m ((c : Thread nD τ).loc a) :=
  fun a ha => (W7_of m ρ c a (argsIn2 a ha)).trans (W6_args m ρ c a ha)
/-- The same read at the TensorCore's references (region 2's exit contents). -/
abbrev V7 : (c : Dev nD) → (b : Ref sig .tc) → Buf (Elt F) ((c : Thread nD τ).loc b) := fun c b => W7 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-- After `hostOps3`. -/
abbrev W8 : Dev nD → Valuation τ sig (Elt F) := fun c => StableHlo.after hostOps3 (W7 m ρ c)
/-- A reference `hostOps3` does not write keeps its contents across it. -/
theorem W8_of (c : Dev nD) (r : Ref sig .tc) (h : r ∉ hostOps3_W) : W8 m ρ c (Proc.devRef .tc r) = W7 m ρ c (Proc.devRef .tc r) :=
  StableHlo.after_of_writes_sub hostOps3 _ hostOps3_writes h
theorem W8_args (c : Dev nD) : ∀ a ∈ argRefs, W8 m ρ c (Proc.devRef .tc a) = m ((c : Thread nD τ).loc a) :=
  fun a ha => (W8_of m ρ c a (hostOps3_args a ha)).trans (W7_args m ρ c a ha)

/-! ### The arguments end as launched: no host stretch writes one and no region may change one (a region reads it
    through an input window or bypasses it) -/

theorem W8_main_arg0 (c : Dev nD) : W8 m ρ c (Proc.devRef .tc main_arg0) = m ((c : Thread nD τ).loc main_arg0) :=
  W8_args m ρ c main_arg0 (by decide)
theorem W8_main_arg1 (c : Dev nD) : W8 m ρ c (Proc.devRef .tc main_arg1) = m ((c : Thread nD τ).loc main_arg1) :=
  W8_args m ρ c main_arg1 (by decide)
theorem W8_main_arg2 (c : Dev nD) : W8 m ρ c (Proc.devRef .tc main_arg2) = m ((c : Thread nD τ).loc main_arg2) :=
  W8_args m ρ c main_arg2 (by decide)
theorem W8_main_arg3 (c : Dev nD) : W8 m ρ c (Proc.devRef .tc main_arg3) = m ((c : Thread nD τ).loc main_arg3) :=
  W8_args m ρ c main_arg3 (by decide)
theorem W8_main_arg4 (c : Dev nD) : W8 m ρ c (Proc.devRef .tc main_arg4) = m ((c : Thread nD τ).loc main_arg4) :=
  W8_args m ρ c main_arg4 (by decide)
theorem W8_main_arg5 (c : Dev nD) : W8 m ρ c (Proc.devRef .tc main_arg5) = m ((c : Thread nD τ).loc main_arg5) :=
  W8_args m ρ c main_arg5 (by decide)
theorem W8_main_arg6 (c : Dev nD) : W8 m ρ c (Proc.devRef .tc main_arg6) = m ((c : Thread nD τ).loc main_arg6) :=
  W8_args m ρ c main_arg6 (by decide)
theorem W8_main_arg7 (c : Dev nD) : W8 m ρ c (Proc.devRef .tc main_arg7) = m ((c : Thread nD τ).loc main_arg7) :=
  W8_args m ρ c main_arg7 (by decide)
theorem W8_main_arg8 (c : Dev nD) : W8 m ρ c (Proc.devRef .tc main_arg8) = m ((c : Thread nD τ).loc main_arg8) :=
  W8_args m ρ c main_arg8 (by decide)
theorem W8_main_arg9 (c : Dev nD) : W8 m ρ c (Proc.devRef .tc main_arg9) = m ((c : Thread nD τ).loc main_arg9) :=
  W8_args m ρ c main_arg9 (by decide)
theorem W8_main_arg10 (c : Dev nD) : W8 m ρ c (Proc.devRef .tc main_arg10) = m ((c : Thread nD τ).loc main_arg10) :=
  W8_args m ρ c main_arg10 (by decide)
theorem W8_main_arg11 (c : Dev nD) : W8 m ρ c (Proc.devRef .tc main_arg11) = m ((c : Thread nD τ).loc main_arg11) :=
  W8_args m ρ c main_arg11 (by decide)
theorem W8_main_arg12 (c : Dev nD) : W8 m ρ c (Proc.devRef .tc main_arg12) = m ((c : Thread nD τ).loc main_arg12) :=
  W8_args m ρ c main_arg12 (by decide)
theorem W8_main_arg13 (c : Dev nD) : W8 m ρ c (Proc.devRef .tc main_arg13) = m ((c : Thread nD τ).loc main_arg13) :=
  W8_args m ρ c main_arg13 (by decide)
theorem W8_main_arg14 (c : Dev nD) : W8 m ρ c (Proc.devRef .tc main_arg14) = m ((c : Thread nD τ).loc main_arg14) :=
  W8_args m ρ c main_arg14 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V4 m ρ) c
  | ⟨2, _⟩ => fun c => dat2 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W8`, the generator register at some state. -/
abbrev Tₙ (c : Dev nD) : sProp 𝕄 := iprop(StableHlo.held (c : Thread nD τ) (Pipeline.ucRefs τ sig) (W8 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) (A_eq1 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W6`, left at `W7`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) (A_eq2 (V6 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 8 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .region (reg1 m ρ),
    .host (hseg hostOps2 hostOps2_sub hostOps2_fresh (W5 m ρ)),
    .region (reg2 m ρ),
    .host (hseg hostOps3 hostOps3_sub hostOps3_fresh (W7 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- the launch lemma's implicit arguments are found by unifying its conclusion with this one, which takes unfolding
-- plain definitions in a metavariable's type
set_option backward.isDefEq.respectTransparency.types false in
/-- Every weakly fair execution ends, with every array at the value the boundaries give it and every counter at zero. -/
theorem run_W8 : θ_run defs (onTc (τ := τ) (main (F := F))) ⟨m, fun _ => 0, ρ⟩ (fun r => (∀ c : Dev nD, ∀ b ∈ Pipeline.ucRefs τ sig, r.2.mem (((c : Thread nD τ)).1, b) = W8 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨h, funext fun g => hz g (.inr (no_unscoped g.2))⟩)

/-- The frame: every execution ends with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun s hs => by
    obtain ⟨h, hz⟩ := hs
    refine ⟨fun c => ?_, hz⟩
    exact ⟨(h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c),
      (h c _ (mem_uc main_arg11 (by decide))).trans (W8_main_arg11 m ρ c),
      (h c _ (mem_uc main_arg12 (by decide))).trans (W8_main_arg12 m ρ c),
      (h c _ (mem_uc main_arg13 (by decide))).trans (W8_main_arg13 m ρ c),
      (h c _ (mem_uc main_arg14 (by decide))).trans (W8_main_arg14 m ρ c)⟩) (run_W8 m ρ)

end Cert.KernelIdeal.Own
-- ==== Proof.Frames.lean ====
/- The frames of the three programs, and the named constant's own statement. -/
module

public import proofs.«01_k».proof.Defs
public import proofs.«01_k».proof.Proof.FrRun
public import proofs.«01_k».proof.Proof.FkRun
public import Idealize.ShloMosaic.Lib.Claim

@[expose] public section

noncomputable section

namespace Cert.Attn

open Idealize.ShloMosaic Idealize.SL.Sem

local instance factsKernel : Cert.Kernel.Facts := Cert.Kernel.Gen.facts
local instance factsKernelIdeal : Cert.KernelIdeal.Facts := Cert.KernelIdeal.Gen.facts

theorem frame_p : Cert.quiescent_Kernel := fun m g _ => Cert.Kernel.Own.frame m g

theorem frame_pi : Cert.quiescent_KernelIdeal := fun m g _ => Cert.KernelIdeal.Own.frame m g

theorem preserves : Cert.preserves_Kernel_KernelIdeal :=
  IdealRules.named_const.statement Cert.KernelIdeal.κ "inv_sqrt_d" .f32 0x3D13CD3A#32 (((Real.sqrt 768)⁻¹ : ℝ) : EReal) rfl

end Cert.Attn

end
-- ==== Proof.RefFrame.lean ====
/- The reference's frame: no run of it faults, its arguments keep their contents, and it signals nothing. -/
module

public import proofs.«01_k».proof.Defs
public import proofs.«01_k».proof.Proof.Gen.ReferenceIdeal
public import Idealize.ShloMosaic.Lib.Claim
public import Idealize.ShloMosaic.Lib.Quiescent

@[expose] public section

set_option maxRecDepth 16384

noncomputable section

namespace Cert.Attn

open Idealize.ShloMosaic Idealize.SL.Sem

local instance factsReference : Cert.ReferenceIdeal.Facts := Cert.ReferenceIdeal.Gen.facts

set_option maxHeartbeats 4000000 in
/-- The reference runs to its end from every memory. -/
theorem frame_ri : Cert.quiescent_ReferenceIdeal := by
  intro m g _
  hlo_run
  all_goals first | (refine sem_eq_zero_of_no_sems ?_ _; decide) | simp

end Cert.Attn

end
-- ==== Proof.Two.lean ====
/- The projections: what the second kernel writes, at an index. -/
module

public import proofs.«01_k».proof.Defs
public import proofs.«01_k».proof.Proof.Gen.KernelTwoIdeal
public import proofs.«01_k».proof.Proof.Gen.KernelTwoIdeal.Frame
public import Idealize.ShloMosaic.Lib.Pipeline.Value
public import Idealize.ShloMosaic.Lib.ValueIdx
public import Idealize.ShloMosaic.Lib.MatmulPlain

@[expose] public section

noncomputable section

namespace Cert.Attn.Two

open Idealize.ShloMosaic Idealize.ShloMosaic.TcCoe Idealize.SL.Sem Idealize.ShloMosaic.ValueIdx
open Cert.KernelTwoIdeal Cert.KernelTwoIdeal.Gen
open Idealize.ShloMosaic.Pipeline (Dat)

/-! ## A contraction over one axis -/

/-- A product over one contracted axis, with both operands' indices named. -/
theorem matmul_one {sl sr so : Shape} {φ₁ φ₂ : FTy} (D : DotDims sl sr so) (prec : Option ContractPrecision) (n : Nat)
    (hr : D.contr.rank = 1) (hs : D.contr.size ⟨0, by omega⟩ = n) (lhs : FVec Ideal sl φ₁) (rhs : FVec Ideal sr φ₂)
    (acc : FVec Ideal so .f32) (j : so.Idx) (L : Fin n → sl.Idx) (R : Fin n → sr.Idx)
    (hL : ∀ k, D.lhsIdx j ((contrEquiv1 D n hr hs).symm k) = L k) (hR : ∀ k, D.rhsIdx j ((contrEquiv1 D n hr hs).symm k) = R k) :
    FloatOps.matmul D prec lhs rhs acc j = (acc j + ∑ k : Fin n, lhs (L k) * rhs (R k) : EReal) := by
  rw [Ideal.matmul_apply]
  congr 1
  rw [← Equiv.sum_comp (contrEquiv1 D n hr hs).symm]
  exact Finset.sum_congr rfl fun k _ => by rw [hL, hR]

/-- The same for the host's product. -/
theorem dot_one {sl sr so : Shape} {φ₁ φ₂ : FTy} (D : DotDims sl sr so) (prec : Option ContractPrecision) (n : Nat)
    (hr : D.contr.rank = 1) (hs : D.contr.size ⟨0, by omega⟩ = n) (lhs : FVec Ideal sl φ₁) (rhs : FVec Ideal sr φ₂)
    (j : so.Idx) (L : Fin n → sl.Idx) (R : Fin n → sr.Idx)
    (hL : ∀ k, D.lhsIdx j ((contrEquiv1 D n hr hs).symm k) = L k) (hR : ∀ k, D.rhsIdx j ((contrEquiv1 D n hr hs).symm k) = R k) :
    Host.dotGeneral D prec lhs rhs j = (∑ k : Fin n, lhs (L k) * rhs (R k) : EReal) := by
  refine (Ideal.dotGeneral_apply D prec _ lhs rhs j).trans ?_
  rw [← Equiv.sum_comp (contrEquiv1 D n hr hs).symm]
  exact Finset.sum_congr rfl fun k _ => by rw [hL, hR]

/-- Column `d` of head `h`. -/
abbrev col (h : Fin 12) (d : Fin 64) : Fin 768 := ⟨h.val * 64 + d.val, by have := h.isLt; have := d.isLt; omega⟩

/-- A projection with its bias, head by head. -/
def proj (x : S1x2048x768.Idx → EReal) (W : S768x768.Idx → EReal) (b : S768.Idx → EReal) : S12x2048x64.Idx → EReal :=
  fun i => (∑ k : Fin 768, x (ix3 0 (i 1) k) * W (ix2 k (col (i 0) (i 2)))) + b (ix1 (col (i 0) (i 2)))

/-- A projection without bias, transposed. -/
def projT (x : S1x2048x768.Idx → EReal) (W : S768x768.Idx → EReal) : S768x2048.Idx → EReal :=
  fun i => ∑ k : Fin 768, x (ix3 0 (i 1) k) * W (ix2 k (i 0))

theorem hz2 : (![0, 0] : Fin 2 → Nat) = fun _ => 0 := funext fun a => by fin_cases a <;> rfl
theorem hz3 : (![0, 0, 0] : Fin 3 → Nat) = fun _ => 0 := funext fun a => by fin_cases a <;> rfl

/-! ## The payloads at an index -/

theorem pay1_eq (x : Vec Ideal S256x768 .f32) : k0_pay1 x = x := by
  funext i
  exact shapeCast_apply _ _ _ _ rfl

theorem mul_apply (x : Vec Ideal S256x768 .f32) (w : Vec Ideal S1x768x64 .f32) (r : Fin 256) (d : Fin 64) :
    matmul dot_S256x768_S768x64_S256x64_1_0_0_1_n_n none (show FVec Ideal S256x768 .f32 from x) (show FVec Ideal S768x64 .f32 from shapeCast S768x64 w shapeCasts_S1x768x64_S768x64)
      (constant (F := Ideal) S256x64 .f32 0x00000000#32) (ix2 r d) = (∑ k : Fin 768, x (ix2 r k) * w (ix3 0 k d) : EReal) := by
  refine (matmul_one dot_S256x768_S768x64_S256x64_1_0_0_1_n_n none 768 rfl rfl _ _ _ (ix2 r d) (fun k => ix2 r k) (fun k => ix2 k d) ?_ ?_).trans ?_
  · intro k; funext a; match a with | ⟨0, _⟩ => rfl | ⟨1, _⟩ => exact Fin.ext (contrEquiv1_symm_val dot_S256x768_S768x64_S256x64_1_0_0_1_n_n 768 rfl rfl k)
  · intro k; funext a; match a with | ⟨0, _⟩ => exact Fin.ext (contrEquiv1_symm_val dot_S256x768_S768x64_S256x64_1_0_0_1_n_n 768 rfl rfl k) | ⟨1, _⟩ => rfl
  · rw [show (constant S256x64 .f32 0x00000000#32 : FVec Ideal S256x64 .f32) (ix2 r d) = (0 : EReal) from Ideal.ofBits_zero_f32, zero_add]
    refine Finset.sum_congr rfl fun k _ => ?_
    rw [shapeCast_apply w _ (ix2 k d) (ix3 0 k d) (by rw [Shape.rowMajor_val_two, Shape.rowMajor_val_three]; simp)]

theorem pay2_apply (x : Vec Ideal S256x768 .f32) (w : Vec Ideal S1x768x64 .f32) (b : Vec Ideal S1x1x64 .f32) (r : Fin 256) (d : Fin 64) :
    k0_pay2 x w b (ix3 0 r d) = ((∑ k : Fin 768, x (ix2 r k) * w (ix3 0 k d)) + b (ix3 0 0 d) : EReal) := by
  unfold k0_pay2
  rw [pay1_eq, shapeCast_apply _ _ (ix3 0 r d) (ix2 r d) (by rw [Shape.rowMajor_val_two, Shape.rowMajor_val_three]; simp)]
  rw [addf_apply]
  congr 1
  · exact mul_apply x w r d
  · rw [broadcastTo_apply _ _ (ix2 r d) (ix2 0 d) (fun a => by fin_cases a <;> rfl)]
    exact shapeCast_apply _ _ _ _ (by rw [Shape.rowMajor_val_two, Shape.rowMajor_val_three]; simp)

theorem pay3_apply (x : Vec Ideal S256x768 .f32) (w : Vec Ideal S1x768x64 .f32) (b : Vec Ideal S1x1x64 .f32) (r : Fin 256) (d : Fin 64) :
    k0_pay3 x w b (ix3 0 r d) = ((∑ k : Fin 768, x (ix2 r k) * w (ix3 0 k d)) + b (ix3 0 0 d) : EReal) :=
  pay2_apply x w b r d

theorem pay4_apply (w : Vec Ideal S1x768x64 .f32) (x : Vec Ideal S768x256 .f32) (d : Fin 64) (r : Fin 256) :
    k0_pay4 w x (ix2 d r) = (∑ k : Fin 768, w (ix3 0 k d) * x (ix2 k r) : EReal) := by
  unfold k0_pay4
  refine (matmul_one dot_S768x64_S768x256_S64x256_0_0_1_1_n_n none 768 rfl rfl _ _ _ (ix2 d r) (fun k => ix2 k d) (fun k => ix2 k r) ?_ ?_).trans ?_
  · intro k; funext a; match a with | ⟨0, _⟩ => exact Fin.ext (contrEquiv1_symm_val dot_S768x64_S768x256_S64x256_0_0_1_1_n_n 768 rfl rfl k) | ⟨1, _⟩ => rfl
  · intro k; funext a; match a with | ⟨0, _⟩ => exact Fin.ext (contrEquiv1_symm_val dot_S768x64_S768x256_S64x256_0_0_1_1_n_n 768 rfl rfl k) | ⟨1, _⟩ => rfl
  · rw [show (constant S64x256 .f32 0x00000000#32 : FVec Ideal S64x256 .f32) (ix2 d r) = (0 : EReal) from Ideal.ofBits_zero_f32, zero_add]
    refine Finset.sum_congr rfl fun k _ => ?_
    rw [shapeCast_apply w _ (ix2 k d) (ix3 0 k d) (by rw [Shape.rowMajor_val_two, Shape.rowMajor_val_three]; simp),
      shapeCast_apply x _ (ix2 k r) (ix2 k r) rfl]

/-! ## The arrays the region finds -/

variable (m : (ℓ : Loc nD τ sig) → Buf (Elt Ideal) ℓ)

abbrev ax (c : Dev nD) : S1x2048x768.Idx → EReal := m ((c : Thread nD τ).loc main_arg0)
abbrev awq (c : Dev nD) : S768x768.Idx → EReal := m ((c : Thread nD τ).loc main_arg1)
abbrev abq (c : Dev nD) : S768.Idx → EReal := m ((c : Thread nD τ).loc main_arg2)
abbrev awk (c : Dev nD) : S768x768.Idx → EReal := m ((c : Thread nD τ).loc main_arg3)
abbrev awv (c : Dev nD) : S768x768.Idx → EReal := m ((c : Thread nD τ).loc main_arg4)
abbrev abv (c : Dev nD) : S768.Idx → EReal := m ((c : Thread nD τ).loc main_arg5)

theorem entry0 (c : Dev nD) : V m c main_v0 = shapeCast S2048x768 (ax m c) shapeCasts_S1x2048x768_S2048x768 := by
  first | (after_results <;> rfl) | rfl
theorem entry1 (c : Dev nD) : V m c main_v1 = transpose S768x2048 [1, 0] (shapeCast S2048x768 (ax m c) shapeCasts_S1x2048x768_S2048x768) transposes_S2048x768_S768x2048_1_0 := by
  first | (after_results <;> rfl) | rfl
theorem entry2 (c : Dev nD) : V m c main_v3 = transpose S12x768x64 [1, 0, 2] (shapeCast S768x12x64 (awq m c) shapeCasts_S768x768_S768x12x64) transposes_S768x12x64_S12x768x64_1_0_2 := by
  first | (after_results <;> rfl) | rfl
theorem entry3 (c : Dev nD) : V m c main_v5 = transpose S12x768x64 [1, 0, 2] (shapeCast S768x12x64 (awk m c) shapeCasts_S768x768_S768x12x64) transposes_S768x12x64_S12x768x64_1_0_2 := by
  first | (after_results <;> rfl) | rfl
theorem entry4 (c : Dev nD) : V m c main_v7 = transpose S12x768x64 [1, 0, 2] (shapeCast S768x12x64 (awv m c) shapeCasts_S768x768_S768x12x64) transposes_S768x12x64_S12x768x64_1_0_2 := by
  first | (after_results <;> rfl) | rfl
theorem entry5 (c : Dev nD) : V m c main_v8 = shapeCast S12x1x64 (abq m c) shapeCasts_S768_S12x1x64 := by
  first | (after_results <;> rfl) | rfl
theorem entry6 (c : Dev nD) : V m c main_v9 = shapeCast S12x1x64 (abv m c) shapeCasts_S768_S12x1x64 := by
  first | (after_results <;> rfl) | rfl

theorem x_apply (c : Dev nD) (i : Fin 2048) (k : Fin 768) : V m c main_v0 (ix2 i k) = ax m c (ix3 0 i k) := by
  rw [entry0]
  exact shapeCast_apply _ _ _ _ (by rw [Shape.rowMajor_val_two, Shape.rowMajor_val_three]; simp)

theorem xt_apply (c : Dev nD) (k : Fin 768) (i : Fin 2048) : V m c main_v1 (ix2 k i) = ax m c (ix3 0 i k) := by
  rw [entry1, transpose_apply _ _ _ (ix2 k i) (ix2 i k) (fun b => by fin_cases b <;> rfl)]
  exact shapeCast_apply _ _ _ _ (by rw [Shape.rowMajor_val_two, Shape.rowMajor_val_three]; simp)

theorem split_apply (W : S768x768.Idx → EReal) (h : Fin 12) (k : Fin 768) (d : Fin 64) :
    transpose S12x768x64 [1, 0, 2] (shapeCast S768x12x64 W shapeCasts_S768x768_S768x12x64) transposes_S768x12x64_S12x768x64_1_0_2 (ix3 h k d) = W (ix2 k (col h d)) := by
  rw [transpose_apply _ _ _ (ix3 h k d) (ix3 k h d) (fun b => by fin_cases b <;> rfl)]
  exact shapeCast_apply _ _ _ _ (by rw [Shape.rowMajor_val_two, Shape.rowMajor_val_three]; show _ = (k.val * 12 + h.val) * 64 + d.val; show k.val * 768 + (h.val * 64 + d.val) = _; omega)

theorem bias_apply (b : S768.Idx → EReal) (h : Fin 12) (d : Fin 64) :
    shapeCast S12x1x64 b shapeCasts_S768_S12x1x64 (ix3 h 0 d) = b (ix1 (col h d)) :=
  shapeCast_apply _ _ _ _ (by rw [Shape.rowMajor_val_one, Shape.rowMajor_val_three]; simp)

/-! ## The blocks at a point: row block `p / 12`, head `p % 12` -/

theorem N_le (t : Fin grid0.N) : t.val < 96 := lt_of_lt_of_eq t.isLt (by decide)

abbrev hd (t : Fin grid0.N) : Fin 12 := ⟨t.val % 12, Nat.mod_lt _ (by decide)⟩
abbrev rw_ (t : Fin grid0.N) (r : Fin 256) : Fin 2048 := ⟨t.val / 12 * 256 + r.val, by have := N_le t; have := r.isLt; omega⟩
theorem at0 : ∀ t : Fin grid0.N, win0_0.index t 0 = t.val / 12 ∧ win0_0.index t 1 = 0 := by decide +kernel
theorem at1 : ∀ t : Fin grid0.N, win0_1.index t 0 = 0 ∧ win0_1.index t 1 = t.val / 12 := by decide +kernel
theorem at2 : ∀ t : Fin grid0.N, win0_2.index t 0 = t.val % 12 ∧ win0_2.index t 1 = 0 ∧ win0_2.index t 2 = 0 := by decide +kernel
theorem at3 : ∀ t : Fin grid0.N, win0_3.index t 0 = t.val % 12 ∧ win0_3.index t 1 = 0 ∧ win0_3.index t 2 = 0 := by decide +kernel
theorem at4 : ∀ t : Fin grid0.N, win0_4.index t 0 = t.val % 12 ∧ win0_4.index t 1 = 0 ∧ win0_4.index t 2 = 0 := by decide +kernel
theorem at5 : ∀ t : Fin grid0.N, win0_5.index t 0 = t.val % 12 ∧ win0_5.index t 1 = 0 ∧ win0_5.index t 2 = 0 := by decide +kernel
theorem at6 : ∀ t : Fin grid0.N, win0_6.index t 0 = t.val % 12 ∧ win0_6.index t 1 = 0 ∧ win0_6.index t 2 = 0 := by decide +kernel
theorem at7 : ∀ t : Fin grid0.N, win0_7.index t 0 = t.val % 12 ∧ win0_7.index t 1 = t.val / 12 ∧ win0_7.index t 2 = 0 := by decide +kernel
theorem at8 : ∀ t : Fin grid0.N, win0_8.index t 0 = t.val % 12 ∧ win0_8.index t 1 = t.val / 12 := by decide +kernel
theorem at9 : ∀ t : Fin grid0.N, win0_9.index t 0 = t.val % 12 ∧ win0_9.index t 1 = t.val / 12 ∧ win0_9.index t 2 = 0 := by decide +kernel

theorem blk0 (c : Dev nD) (t : Fin grid0.N) (r : Fin 256) (k : Fin 768) : iblk m c 0 t (ix2 r k) = ax m c (ix3 0 (rw_ t r) k) := by
  show V m c main_v0 ((win0_0.rect t).emb (ix2 r k)) = _
  have e : (win0_0.rect t).emb (ix2 r k) = ix2 (rw_ t r) k := by
    funext a
    have q := at0 t
    match a with
    | ⟨0, _⟩ => refine Fin.ext ((Pipeline.Window.rect_emb_val win0_0 t (ix2 r k) 0).trans ?_)
                rw [q.1]; first | rfl | (show _ * 256 + _ = _; simp only [Nat.zero_mul, Nat.zero_add, Nat.mul_one] <;> rfl)
    | ⟨1, _⟩ => refine Fin.ext ((Pipeline.Window.rect_emb_val win0_0 t (ix2 r k) 1).trans ?_)
                rw [q.2]; first | rfl | (show _ * 768 + _ = _; simp only [Nat.zero_mul, Nat.zero_add, Nat.mul_one] <;> rfl)
  rw [e]; exact x_apply ..

theorem blk1 (c : Dev nD) (t : Fin grid0.N) (k : Fin 768) (r : Fin 256) : iblk m c 1 t (ix2 k r) = ax m c (ix3 0 (rw_ t r) k) := by
  show V m c main_v1 ((win0_1.rect t).emb (ix2 k r)) = _
  have e : (win0_1.rect t).emb (ix2 k r) = ix2 k (rw_ t r) := by
    funext a
    have q := at1 t
    match a with
    | ⟨0, _⟩ => refine Fin.ext ((Pipeline.Window.rect_emb_val win0_1 t (ix2 k r) 0).trans ?_)
                rw [q.1]; first | rfl | (show _ * 768 + _ = _; simp only [Nat.zero_mul, Nat.zero_add, Nat.mul_one] <;> rfl)
    | ⟨1, _⟩ => refine Fin.ext ((Pipeline.Window.rect_emb_val win0_1 t (ix2 k r) 1).trans ?_)
                rw [q.2]; first | rfl | (show _ * 256 + _ = _; simp only [Nat.zero_mul, Nat.zero_add, Nat.mul_one] <;> rfl)
  rw [e]; exact xt_apply ..

theorem blk2 (c : Dev nD) (t : Fin grid0.N) (k : Fin 768) (d : Fin 64) : iblk m c 2 t (ix3 0 k d) = awq m c (ix2 k (col (hd t) d)) := by
  show V m c main_v3 ((win0_2.rect t).emb (ix3 0 k d)) = _
  have e : (win0_2.rect t).emb (ix3 0 k d) = ix3 (hd t) k d := by
    funext a
    have q := at2 t
    match a with
    | ⟨0, _⟩ => refine Fin.ext ((Pipeline.Window.rect_emb_val win0_2 t (ix3 0 k d) 0).trans ?_)
                rw [q.1]; first | rfl | (show _ * 1 + _ = _; simp only [Nat.zero_mul, Nat.zero_add, Nat.mul_one] <;> rfl)
    | ⟨1, _⟩ => refine Fin.ext ((Pipeline.Window.rect_emb_val win0_2 t (ix3 0 k d) 1).trans ?_)
                rw [q.2.1]; first | rfl | (show _ * 768 + _ = _; simp only [Nat.zero_mul, Nat.zero_add, Nat.mul_one] <;> rfl)
    | ⟨2, _⟩ => refine Fin.ext ((Pipeline.Window.rect_emb_val win0_2 t (ix3 0 k d) 2).trans ?_)
                rw [q.2.2]; first | rfl | (show _ * 64 + _ = _; simp only [Nat.zero_mul, Nat.zero_add, Nat.mul_one] <;> rfl)
  rw [e]; rw [entry2]; exact split_apply ..

theorem blk3 (c : Dev nD) (t : Fin grid0.N) (k : Fin 768) (d : Fin 64) : iblk m c 3 t (ix3 0 k d) = awk m c (ix2 k (col (hd t) d)) := by
  show V m c main_v5 ((win0_3.rect t).emb (ix3 0 k d)) = _
  have e : (win0_3.rect t).emb (ix3 0 k d) = ix3 (hd t) k d := by
    funext a
    have q := at3 t
    match a with
    | ⟨0, _⟩ => refine Fin.ext ((Pipeline.Window.rect_emb_val win0_3 t (ix3 0 k d) 0).trans ?_)
                rw [q.1]; first | rfl | (show _ * 1 + _ = _; simp only [Nat.zero_mul, Nat.zero_add, Nat.mul_one] <;> rfl)
    | ⟨1, _⟩ => refine Fin.ext ((Pipeline.Window.rect_emb_val win0_3 t (ix3 0 k d) 1).trans ?_)
                rw [q.2.1]; first | rfl | (show _ * 768 + _ = _; simp only [Nat.zero_mul, Nat.zero_add, Nat.mul_one] <;> rfl)
    | ⟨2, _⟩ => refine Fin.ext ((Pipeline.Window.rect_emb_val win0_3 t (ix3 0 k d) 2).trans ?_)
                rw [q.2.2]; first | rfl | (show _ * 64 + _ = _; simp only [Nat.zero_mul, Nat.zero_add, Nat.mul_one] <;> rfl)
  rw [e]; rw [entry3]; exact split_apply ..

theorem blk4 (c : Dev nD) (t : Fin grid0.N) (k : Fin 768) (d : Fin 64) : iblk m c 4 t (ix3 0 k d) = awv m c (ix2 k (col (hd t) d)) := by
  show V m c main_v7 ((win0_4.rect t).emb (ix3 0 k d)) = _
  have e : (win0_4.rect t).emb (ix3 0 k d) = ix3 (hd t) k d := by
    funext a
    have q := at4 t
    match a with
    | ⟨0, _⟩ => refine Fin.ext ((Pipeline.Window.rect_emb_val win0_4 t (ix3 0 k d) 0).trans ?_)
                rw [q.1]; first | rfl | (show _ * 1 + _ = _; simp only [Nat.zero_mul, Nat.zero_add, Nat.mul_one] <;> rfl)
    | ⟨1, _⟩ => refine Fin.ext ((Pipeline.Window.rect_emb_val win0_4 t (ix3 0 k d) 1).trans ?_)
                rw [q.2.1]; first | rfl | (show _ * 768 + _ = _; simp only [Nat.zero_mul, Nat.zero_add, Nat.mul_one] <;> rfl)
    | ⟨2, _⟩ => refine Fin.ext ((Pipeline.Window.rect_emb_val win0_4 t (ix3 0 k d) 2).trans ?_)
                rw [q.2.2]; first | rfl | (show _ * 64 + _ = _; simp only [Nat.zero_mul, Nat.zero_add, Nat.mul_one] <;> rfl)
  rw [e]; rw [entry4]; exact split_apply ..

theorem blk5 (c : Dev nD) (t : Fin grid0.N) (d : Fin 64) : iblk m c 5 t (ix3 0 0 d) = abq m c (ix1 (col (hd t) d)) := by
  show V m c main_v8 ((win0_5.rect t).emb (ix3 0 0 d)) = _
  have e : (win0_5.rect t).emb (ix3 0 0 d) = ix3 (hd t) 0 d := by
    funext a
    have q := at5 t
    match a with
    | ⟨0, _⟩ => refine Fin.ext ((Pipeline.Window.rect_emb_val win0_5 t (ix3 0 0 d) 0).trans ?_)
                rw [q.1]; first | rfl | (show _ * 1 + _ = _; simp only [Nat.zero_mul, Nat.zero_add, Nat.mul_one] <;> rfl)
    | ⟨1, _⟩ => refine Fin.ext ((Pipeline.Window.rect_emb_val win0_5 t (ix3 0 0 d) 1).trans ?_)
                rw [q.2.1]; first | rfl | (show _ * 1 + _ = _; simp only [Nat.zero_mul, Nat.zero_add, Nat.mul_one] <;> rfl)
    | ⟨2, _⟩ => refine Fin.ext ((Pipeline.Window.rect_emb_val win0_5 t (ix3 0 0 d) 2).trans ?_)
                rw [q.2.2]; first | rfl | (show _ * 64 + _ = _; simp only [Nat.zero_mul, Nat.zero_add, Nat.mul_one] <;> rfl)
  rw [e]; rw [entry5]; exact bias_apply ..

theorem blk6 (c : Dev nD) (t : Fin grid0.N) (d : Fin 64) : iblk m c 6 t (ix3 0 0 d) = abv m c (ix1 (col (hd t) d)) := by
  show V m c main_v9 ((win0_6.rect t).emb (ix3 0 0 d)) = _
  have e : (win0_6.rect t).emb (ix3 0 0 d) = ix3 (hd t) 0 d := by
    funext a
    have q := at6 t
    match a with
    | ⟨0, _⟩ => refine Fin.ext ((Pipeline.Window.rect_emb_val win0_6 t (ix3 0 0 d) 0).trans ?_)
                rw [q.1]; first | rfl | (show _ * 1 + _ = _; simp only [Nat.zero_mul, Nat.zero_add, Nat.mul_one] <;> rfl)
    | ⟨1, _⟩ => refine Fin.ext ((Pipeline.Window.rect_emb_val win0_6 t (ix3 0 0 d) 1).trans ?_)
                rw [q.2.1]; first | rfl | (show _ * 1 + _ = _; simp only [Nat.zero_mul, Nat.zero_add, Nat.mul_one] <;> rfl)
    | ⟨2, _⟩ => refine Fin.ext ((Pipeline.Window.rect_emb_val win0_6 t (ix3 0 0 d) 2).trans ?_)
                rw [q.2.2]; first | rfl | (show _ * 64 + _ = _; simp only [Nat.zero_mul, Nat.zero_add, Nat.mul_one] <;> rfl)
  rw [e]; rw [entry6]; exact bias_apply ..

/-! ## What is written back -/

abbrev G7 (c : Dev nD) : Buf (Elt Ideal) ((c : Thread nD τ).loc main_v10_0) := proj (ax m c) (awq m c) (abq m c)

theorem flushed7 (c : Dev nD) (t : Fin grid0.N) :
    (dats m 0 c).flushed 7 t = (win0_7.blk t).view.read (Elt Ideal) (G7 m c) := by
  show (cfg0.win 7).cut (grid0.coords t) ((dats m 0 c).after 7 t) = _
  rw [after0_7]
  unfold out0_7
  rw [View.canon_unit_zero hz3, View.ld_unit_zero hz2, View.ld_unit_zero hz3, View.ld_unit_zero hz3]
  funext y
  obtain ⟨z, r, d, rfl⟩ : ∃ (z : Fin 1) (r : Fin 256) (d : Fin 64), y = ix3 z r d := ⟨y 0, y 1, y 2, eq_ix3 y⟩
  obtain rfl : z = 0 := Subsingleton.elim _ _
  show k0_pay2 (iblk m c 0 t) (iblk m c 2 t) (iblk m c 5 t) (ix3 0 r d) = G7 m c ((win0_7.rect t).emb (ix3 0 r d))
  have e : (win0_7.rect t).emb (ix3 0 r d) = ix3 (hd t) (rw_ t r) d := by
    funext a
    have q := at7 t
    match a with
    | ⟨0, _⟩ => refine Fin.ext ((Pipeline.Window.rect_emb_val win0_7 t (ix3 0 r d) 0).trans ?_)
                rw [q.1]; show _ * 1 + 0 = _; simp only [Nat.mul_one]; rfl
    | ⟨1, _⟩ => refine Fin.ext ((Pipeline.Window.rect_emb_val win0_7 t (ix3 0 r d) 1).trans ?_)
                rw [q.2.1]; rfl
    | ⟨2, _⟩ => refine Fin.ext ((Pipeline.Window.rect_emb_val win0_7 t (ix3 0 r d) 2).trans ?_)
                rw [q.2.2]; show 0 * 64 + _ = _; simp only [Nat.zero_mul, Nat.zero_add]; rfl
  rw [e, pay2_apply]
  show _ = ((∑ k : Fin 768, ax m c (ix3 0 (rw_ t r) k) * awq m c (ix2 k (col (hd t) d))) + abq m c (ix1 (col (hd t) d)) : EReal)
  congr 1
  · exact Finset.sum_congr rfl fun k _ => by rw [blk0, blk2]
  · exact blk5 m c t d

theorem mem7 (t : Fin grid0.N) (i : S12x2048x64.Idx) : i ∈ ((cfg0.win 7).blk t).view.set ↔
    (∀ a : Fin 3, win0_7.index t a * win0_7.size a ≤ (i a : Nat) ∧ (i a : Nat) < win0_7.index t a * win0_7.size a + win0_7.xsize (grid0.coords t) a) := by
  show i ∈ ((View.whole main_v10_0).slice (win0_7.rect t)).set ↔ _
  rw [View.set_slice_whole, Rect.mem_set_unit]; exact Iff.rfl

theorem cover7 (i : S12x2048x64.Idx) : ∃ t : Fin cfg0.N, (cfg0.win 7).flush t = true ∧ i ∈ ((cfg0.win 7).blk t).view.set := by
  have h0 : (i 0 : Nat) < 12 := (i 0).isLt
  have h1 : (i 1 : Nat) < 2048 := (i 1).isLt
  have h2 : (i 2 : Nat) < 64 := (i 2).isLt
  have hN : grid0.N = 96 := by decide
  refine ⟨⟨(i 1 : Nat) / 256 * 12 + (i 0 : Nat), by show _ < grid0.N; omega⟩, flush0_7 _, ?_⟩
  rw [mem7]
  intro a
  have q := at7 ⟨(i 1 : Nat) / 256 * 12 + (i 0 : Nat), by omega⟩
  match a with
  | ⟨0, _⟩ => rw [show win0_7.index _ ⟨0, _⟩ = _ from q.1]; show _ * 1 ≤ (i 0 : Nat) ∧ (i 0 : Nat) < _ * 1 + 1; dsimp only; omega
  | ⟨1, _⟩ => rw [show win0_7.index _ ⟨1, _⟩ = _ from q.2.1]; show _ * 256 ≤ (i 1 : Nat) ∧ (i 1 : Nat) < _ * 256 + 256; dsimp only; omega
  | ⟨2, _⟩ => rw [show win0_7.index _ ⟨2, _⟩ = _ from q.2.2]; show _ * 64 ≤ (i 2 : Nat) ∧ (i 2 : Nat) < _ * 64 + 64; omega

theorem final7 (c : Dev nD) : (dats m 0 c).arrAt 7 cfg0.N = G7 m c :=
  (dats m 0 c).arrAt_eq_of_cover 7 (G7 m c) (fun t _ => flushed7 m c t) cover7

abbrev G9 (c : Dev nD) : Buf (Elt Ideal) ((c : Thread nD τ).loc main_v10_2) := proj (ax m c) (awv m c) (abv m c)

theorem flushed9 (c : Dev nD) (t : Fin grid0.N) :
    (dats m 0 c).flushed 9 t = (win0_9.blk t).view.read (Elt Ideal) (G9 m c) := by
  show (cfg0.win 9).cut (grid0.coords t) ((dats m 0 c).after 9 t) = _
  rw [after0_9]
  unfold out0_9
  rw [View.canon_unit_zero hz3, View.ld_unit_zero hz2, View.ld_unit_zero hz3, View.ld_unit_zero hz3]
  funext y
  obtain ⟨z, r, d, rfl⟩ : ∃ (z : Fin 1) (r : Fin 256) (d : Fin 64), y = ix3 z r d := ⟨y 0, y 1, y 2, eq_ix3 y⟩
  obtain rfl : z = 0 := Subsingleton.elim _ _
  show k0_pay3 (iblk m c 0 t) (iblk m c 4 t) (iblk m c 6 t) (ix3 0 r d) = G9 m c ((win0_9.rect t).emb (ix3 0 r d))
  have e : (win0_9.rect t).emb (ix3 0 r d) = ix3 (hd t) (rw_ t r) d := by
    funext a
    have q := at9 t
    match a with
    | ⟨0, _⟩ => refine Fin.ext ((Pipeline.Window.rect_emb_val win0_9 t (ix3 0 r d) 0).trans ?_)
                rw [q.1]; show _ * 1 + 0 = _; simp only [Nat.mul_one]; rfl
    | ⟨1, _⟩ => refine Fin.ext ((Pipeline.Window.rect_emb_val win0_9 t (ix3 0 r d) 1).trans ?_)
                rw [q.2.1]; rfl
    | ⟨2, _⟩ => refine Fin.ext ((Pipeline.Window.rect_emb_val win0_9 t (ix3 0 r d) 2).trans ?_)
                rw [q.2.2]; show 0 * 64 + _ = _; simp only [Nat.zero_mul, Nat.zero_add]; rfl
  rw [e, pay3_apply]
  show _ = ((∑ k : Fin 768, ax m c (ix3 0 (rw_ t r) k) * awv m c (ix2 k (col (hd t) d))) + abv m c (ix1 (col (hd t) d)) : EReal)
  congr 1
  · exact Finset.sum_congr rfl fun k _ => by rw [blk0, blk4]
  · exact blk6 m c t d

theorem mem9 (t : Fin grid0.N) (i : S12x2048x64.Idx) : i ∈ ((cfg0.win 9).blk t).view.set ↔
    (∀ a : Fin 3, win0_9.index t a * win0_9.size a ≤ (i a : Nat) ∧ (i a : Nat) < win0_9.index t a * win0_9.size a + win0_9.xsize (grid0.coords t) a) := by
  show i ∈ ((View.whole main_v10_2).slice (win0_9.rect t)).set ↔ _
  rw [View.set_slice_whole, Rect.mem_set_unit]; exact Iff.rfl

theorem cover9 (i : S12x2048x64.Idx) : ∃ t : Fin cfg0.N, (cfg0.win 9).flush t = true ∧ i ∈ ((cfg0.win 9).blk t).view.set := by
  have h0 : (i 0 : Nat) < 12 := (i 0).isLt
  have h1 : (i 1 : Nat) < 2048 := (i 1).isLt
  have h2 : (i 2 : Nat) < 64 := (i 2).isLt
  have hN : grid0.N = 96 := by decide
  refine ⟨⟨(i 1 : Nat) / 256 * 12 + (i 0 : Nat), by show _ < grid0.N; omega⟩, flush0_9 _, ?_⟩
  rw [mem9]
  intro a
  have q := at9 ⟨(i 1 : Nat) / 256 * 12 + (i 0 : Nat), by omega⟩
  match a with
  | ⟨0, _⟩ => rw [show win0_9.index _ ⟨0, _⟩ = _ from q.1]; show _ * 1 ≤ (i 0 : Nat) ∧ (i 0 : Nat) < _ * 1 + 1; dsimp only; omega
  | ⟨1, _⟩ => rw [show win0_9.index _ ⟨1, _⟩ = _ from q.2.1]; show _ * 256 ≤ (i 1 : Nat) ∧ (i 1 : Nat) < _ * 256 + 256; dsimp only; omega
  | ⟨2, _⟩ => rw [show win0_9.index _ ⟨2, _⟩ = _ from q.2.2]; show _ * 64 ≤ (i 2 : Nat) ∧ (i 2 : Nat) < _ * 64 + 64; omega

theorem final9 (c : Dev nD) : (dats m 0 c).arrAt 9 cfg0.N = G9 m c :=
  (dats m 0 c).arrAt_eq_of_cover 9 (G9 m c) (fun t _ => flushed9 m c t) cover9

abbrev G8 (c : Dev nD) : Buf (Elt Ideal) ((c : Thread nD τ).loc main_v10_1) := projT (ax m c) (awk m c)

theorem flushed8 (c : Dev nD) (t : Fin grid0.N) :
    (dats m 0 c).flushed 8 t = (win0_8.blk t).view.read (Elt Ideal) (G8 m c) := by
  show (cfg0.win 8).cut (grid0.coords t) ((dats m 0 c).after 8 t) = _
  rw [after0_8]
  unfold out0_8
  rw [View.canon_unit_zero hz2, View.ld_unit_zero hz3, View.ld_unit_zero hz2]
  funext y
  obtain ⟨d, r, rfl⟩ : ∃ (d : Fin 64) (r : Fin 256), y = ix2 d r := ⟨y 0, y 1, eq_ix2 y⟩
  show k0_pay4 (iblk m c 3 t) (iblk m c 1 t) (ix2 d r) = G8 m c ((win0_8.rect t).emb (ix2 d r))
  have e : (win0_8.rect t).emb (ix2 d r) = ix2 (col (hd t) d) (rw_ t r) := by
    funext a
    have q := at8 t
    match a with
    | ⟨0, _⟩ => refine Fin.ext ((Pipeline.Window.rect_emb_val win0_8 t (ix2 d r) 0).trans ?_)
                rw [q.1]; rfl
    | ⟨1, _⟩ => refine Fin.ext ((Pipeline.Window.rect_emb_val win0_8 t (ix2 d r) 1).trans ?_)
                rw [q.2]; rfl
  rw [e, pay4_apply]
  exact Finset.sum_congr rfl fun k _ => by rw [blk3, blk1]; exact mul_comm _ _

theorem mem8 (t : Fin grid0.N) (i : S768x2048.Idx) : i ∈ ((cfg0.win 8).blk t).view.set ↔
    (∀ a : Fin 2, win0_8.index t a * win0_8.size a ≤ (i a : Nat) ∧ (i a : Nat) < win0_8.index t a * win0_8.size a + win0_8.xsize (grid0.coords t) a) := by
  show i ∈ ((View.whole main_v10_1).slice (win0_8.rect t)).set ↔ _
  rw [View.set_slice_whole, Rect.mem_set_unit]; exact Iff.rfl

theorem cover8 (i : S768x2048.Idx) : ∃ t : Fin cfg0.N, (cfg0.win 8).flush t = true ∧ i ∈ ((cfg0.win 8).blk t).view.set := by
  have h0 : (i 0 : Nat) < 768 := (i 0).isLt
  have h1 : (i 1 : Nat) < 2048 := (i 1).isLt
  have hN : grid0.N = 96 := by decide
  refine ⟨⟨(i 1 : Nat) / 256 * 12 + (i 0 : Nat) / 64, by show _ < grid0.N; omega⟩, flush0_8 _, ?_⟩
  rw [mem8]
  intro a
  have q := at8 ⟨(i 1 : Nat) / 256 * 12 + (i 0 : Nat) / 64, by omega⟩
  match a with
  | ⟨0, _⟩ => rw [show win0_8.index _ ⟨0, _⟩ = _ from q.1]; show _ * 64 ≤ (i 0 : Nat) ∧ (i 0 : Nat) < _ * 64 + 64; dsimp only; omega
  | ⟨1, _⟩ => rw [show win0_8.index _ ⟨1, _⟩ = _ from q.2]; show _ * 256 ≤ (i 1 : Nat) ∧ (i 1 : Nat) < _ * 256 + 256; dsimp only; omega

theorem final8 (c : Dev nD) : (dats m 0 c).arrAt 8 cfg0.N = G8 m c :=
  (dats m 0 c).arrAt_eq_of_cover 8 (G8 m c) (fun t _ => flushed8 m c t) cover8

end Cert.Attn.Two

end
-- ==== Proof.TwoClaim.lean ====
/- The projections: the reference at an index, and the claim. -/
module

public import proofs.«01_k».proof.Defs
public import proofs.«01_k».proof.Proof.Two
public import proofs.«01_k».proof.Proof.Gen.ReferenceTwoIdeal
public import proofs.«01_k».proof.Proof.Gen.ReferenceTwoIdeal.Run
public import Idealize.ShloMosaic.Lib.Claim
public import Idealize.ShloMosaic.Lib.Quiescent

@[expose] public section

noncomputable section

namespace Cert.Attn

open Idealize.ShloMosaic Idealize.ShloMosaic.TcCoe Idealize.SL.Sem Idealize.ShloMosaic.ValueIdx

namespace TwoRef

open Cert.ReferenceTwoIdeal Cert.ReferenceTwoIdeal.Gen

theorem dot_apply (x : S1x2048x768.Idx → EReal) (W : S768x768.Idx → EReal) (i : Fin 2048) (j : Fin 768) :
    Host.dotGeneral dot_S1x2048x768_S768x768_S1x2048x768_2_0_01_1_n_n none (show FVec Ideal S1x2048x768 .f32 from x)
      (show FVec Ideal S768x768 .f32 from W) (ix3 0 i j) = (∑ k : Fin 768, x (ix3 0 i k) * W (ix2 k j) : EReal) := by
  refine Two.dot_one dot_S1x2048x768_S768x768_S1x2048x768_2_0_01_1_n_n none 768 rfl rfl _ _ (ix3 0 i j) (fun k => ix3 0 i k) (fun k => ix2 k j) ?_ ?_
  · intro k; funext a
    match a with
    | ⟨0, _⟩ => rfl
    | ⟨1, _⟩ => rfl
    | ⟨2, _⟩ => exact Fin.ext (contrEquiv1_symm_val dot_S1x2048x768_S768x768_S1x2048x768_2_0_01_1_n_n 768 rfl rfl k)
  · intro k; funext a
    match a with
    | ⟨0, _⟩ => exact Fin.ext (contrEquiv1_symm_val dot_S1x2048x768_S768x768_S1x2048x768_2_0_01_1_n_n 768 rfl rfl k)
    | ⟨1, _⟩ => rfl

theorem proj_eq (x : S1x2048x768.Idx → EReal) (W : S768x768.Idx → EReal) (b : S768.Idx → EReal) :
    shapeCast S12x2048x64 (transpose S1x12x2048x64 [0, 2, 1, 3] (shapeCast S1x2048x12x64 (addf (Host.dotGeneral dot_S1x2048x768_S768x768_S1x2048x768_2_0_01_1_n_n none
      (show FVec Ideal S1x2048x768 .f32 from x) (show FVec Ideal S768x768 .f32 from W))
      (broadcastInDim S1x2048x768 ![0, 1, 2] bcast_S1x1x768_S1x2048x768_0_1_2 (broadcastInDim S1x1x768 ![2] bcast_S768_S1x1x768_2 b)))
      shapeCasts_S1x2048x768_S1x2048x12x64) transposes_S1x2048x12x64_S1x12x2048x64_0_2_1_3) shapeCasts_S1x12x2048x64_S12x2048x64 = Two.proj x W b := by
  funext y
  obtain ⟨h, i, d, rfl⟩ : ∃ (h : Fin 12) (i : Fin 2048) (d : Fin 64), y = ix3 h i d := ⟨y 0, y 1, y 2, eq_ix3 y⟩
  rw [shapeCast_apply _ _ (ix3 h i d) (ix4 0 h i d) (by rw [Shape.rowMajor_val_three, Shape.rowMajor_val_four]; simp),
    transpose_apply _ _ _ (ix4 0 h i d) (ix4 0 i h d) (fun b => by fin_cases b <;> rfl),
    shapeCast_apply _ _ (ix4 0 i h d) (ix3 0 i (Two.col h d)) (by
      rw [Shape.rowMajor_val_three, Shape.rowMajor_val_four]
      show (0 * 2048 + i.val) * 768 + (h.val * 64 + d.val) = ((0 * 2048 + i.val) * 12 + h.val) * 64 + d.val
      omega)]
  rw [addf_apply]
  congr 1
  · exact dot_apply x W i (Two.col h d)
  · rw [broadcastInDim_apply _ _ _ (ix3 0 i (Two.col h d)) (ix3 0 0 (Two.col h d)) (fun a => by fin_cases a <;> rfl)]
    exact broadcastInDim_apply _ _ _ _ _ (fun a => by fin_cases a <;> rfl)

theorem projT_eq (x : S1x2048x768.Idx → EReal) (W : S768x768.Idx → EReal) :
    transpose S768x2048 [1, 0] (shapeCast S2048x768 (Host.dotGeneral dot_S1x2048x768_S768x768_S1x2048x768_2_0_01_1_n_n none
      (show FVec Ideal S1x2048x768 .f32 from x) (show FVec Ideal S768x768 .f32 from W)) shapeCasts_S1x2048x768_S2048x768) transposes_S2048x768_S768x2048_1_0 = Two.projT x W := by
  funext y
  obtain ⟨j, i, rfl⟩ : ∃ (j : Fin 768) (i : Fin 2048), y = ix2 j i := ⟨y 0, y 1, eq_ix2 y⟩
  rw [transpose_apply _ _ _ (ix2 j i) (ix2 i j) (fun b => by fin_cases b <;> rfl),
    shapeCast_apply _ _ (ix2 i j) (ix3 0 i j) (by rw [Shape.rowMajor_val_two, Shape.rowMajor_val_three]; simp)]
  exact dot_apply x W i j

end TwoRef

local instance factsKernelTwo : Cert.KernelTwoIdeal.Facts := Cert.KernelTwoIdeal.Gen.facts
local instance factsReferenceTwo : Cert.ReferenceTwoIdeal.Facts := Cert.ReferenceTwoIdeal.Gen.facts

theorem frame_two : Cert.quiescent_KernelTwoIdeal := fun m g _ => Cert.KernelTwoIdeal.Gen.frame m g

theorem frame_ref_two : Cert.quiescent_ReferenceTwoIdeal := by
  intro m g _
  hlo_run
  all_goals first | (refine sem_eq_zero_of_no_sems ?_ _; decide) | simp

theorem algebraic_two : Cert.algebraic_KernelTwoIdeal_ReferenceTwoIdeal := by
  intro m g m' g' _ hargs
  refine ⟨fun c => Two.G7 m c, fun c => Two.G8 m c, fun c => Two.G9 m c, ?_, ?_⟩
  · refine (θ_run _ _ _).mono (fun r h c => ?_) (Cert.KernelTwoIdeal.Gen.run_main m g)
    exact ⟨((h c).1 7).trans (Two.final7 m c), ((h c).1 8).trans (Two.final8 m c), ((h c).1 9).trans (Two.final9 m c),
      ((h c).2 _ (by decide)).trans (Cert.KernelTwoIdeal.Gen.V_main_arg0 m c),
      ((h c).2 _ (by decide)).trans (Cert.KernelTwoIdeal.Gen.V_main_arg1 m c),
      ((h c).2 _ (by decide)).trans (Cert.KernelTwoIdeal.Gen.V_main_arg2 m c),
      ((h c).2 _ (by decide)).trans (Cert.KernelTwoIdeal.Gen.V_main_arg3 m c),
      ((h c).2 _ (by decide)).trans (Cert.KernelTwoIdeal.Gen.V_main_arg4 m c),
      ((h c).2 _ (by decide)).trans (Cert.KernelTwoIdeal.Gen.V_main_arg5 m c)⟩
  · refine (θ_run _ _ _).mono (fun r h c => ?_) (Cert.ReferenceTwoIdeal.Value.run m' g')
    obtain ⟨e0, e1, e2, e3, e4, e5⟩ := hargs c
    obtain ⟨r0, r1, r2, r3⟩ := h c
    rw [e0, e1, e2] at r0
    rw [e0, e3] at r1
    rw [e0, e4, e5] at r2
    exact ⟨r0.trans (TwoRef.proj_eq _ _ _), r1.trans (TwoRef.projT_eq _ _), r2.trans (TwoRef.proj_eq _ _ _), r3⟩

end Cert.Attn

end
-- ==== Proof.Sel.lean ====
module

public import Idealize.ShloMosaic.Lib.ValueIdx
public import Idealize.ShloMosaic.Lib.SortPrefix
public import Idealize.ShloMosaic.Lib.IndicatorCount

/-!
The selection of the `K` greatest of a row, as mathematics: the order "greater first, then earlier", what a threshold
says about it, the search for a threshold, the count of a prefix by doubling, and a word made of 32 bits.
-/

@[expose] public section

namespace Cert.Attn.Sel

open Idealize.ShloMosaic Finset

attribute [local instance 10] Classical.propDecidable

section Order
variable {n : ℕ} {α : Type} [LinearOrder α]

/-- Entry `i` comes before entry `j`: it is greater, or equal and earlier. -/
def Bef (v : Fin n → α) (i j : Fin n) : Prop := v j < v i ∨ (v i = v j ∧ i < j)

/-- How many entries come before entry `j`. -/
noncomputable def rank (v : Fin n → α) (j : Fin n) : ℕ := (univ.filter fun i => Bef v i j).card

/-- Entry `j` is one of the first `K`. -/
def Top (K : ℕ) (v : Fin n → α) (j : Fin n) : Prop := rank v j < K

/-- How many entries are above `t`. -/
noncomputable def above (v : Fin n → α) (t : α) : ℕ := (univ.filter fun i => t < v i).card

/-- How many entries reach `t`. -/
noncomputable def reach (v : Fin n → α) (t : α) : ℕ := (univ.filter fun i => t ≤ v i).card

/-- `t` is the `K`-th greatest value of the row. -/
def Kth (K : ℕ) (v : Fin n → α) (t : α) : Prop := above v t < K ∧ K ≤ reach v t

/-- How many entries up to `j` equal `t`. -/
noncomputable def upto (v : Fin n → α) (t : α) (j : Fin n) : ℕ := (univ.filter fun i => i ≤ j ∧ v i = t).card

theorem bef_irrefl (v : Fin n → α) (i : Fin n) : ¬ Bef v i i := by simp [Bef]

theorem bef_trans {v : Fin n → α} {i j k : Fin n} (h : Bef v i j) (h' : Bef v j k) : Bef v i k := by
  rcases h with h | ⟨e, h⟩ <;> rcases h' with h' | ⟨e', h'⟩
  · exact Or.inl (h'.trans h)
  · exact Or.inl (e' ▸ h)
  · exact Or.inl (e ▸ h')
  · exact Or.inr ⟨e.trans e', h.trans h'⟩

theorem bef_total (v : Fin n → α) {i j : Fin n} (h : i ≠ j) : Bef v i j ∨ Bef v j i := by
  rcases lt_trichotomy (v i) (v j) with h' | h' | h'
  · exact Or.inr (Or.inl h')
  · rcases lt_or_gt_of_ne h with h'' | h''
    · exact Or.inl (Or.inr ⟨h', h''⟩)
    · exact Or.inr (Or.inr ⟨h'.symm, h''⟩)
  · exact Or.inl (Or.inl h')

theorem rank_lt_rank {v : Fin n → α} {i j : Fin n} (h : Bef v i j) : rank v i < rank v j := by
  refine card_lt_card ((ssubset_iff_of_subset fun k hk => ?_).2 ⟨i, ?_, ?_⟩)
  · simp only [mem_filter, mem_univ, true_and] at hk ⊢; exact bef_trans hk h
  · simp only [mem_filter, mem_univ, true_and]; exact h
  · simp only [mem_filter, mem_univ, true_and]; exact bef_irrefl v i

theorem rank_injective (v : Fin n → α) : Function.Injective (rank v) := by
  intro i j h
  by_contra hne
  rcases bef_total v hne with h' | h' <;> have := rank_lt_rank h' <;> omega

theorem rank_lt (v : Fin n → α) (j : Fin n) : rank v j < n := by
  have h : (univ.filter fun i => Bef v i j).card < (univ : Finset (Fin n)).card :=
    card_lt_card ((ssubset_iff_of_subset (filter_subset _ _)).2
      ⟨j, mem_univ j, by simp only [mem_filter, mem_univ, true_and]; exact bef_irrefl v j⟩)
  rwa [card_univ, Fintype.card_fin] at h

theorem card_top {K : ℕ} (hK : K ≤ n) (v : Fin n → α) : (univ.filter fun j => Top K v j).card = K := by
  let f : Fin n → Fin n := fun j => ⟨rank v j, rank_lt v j⟩
  have hf : Function.Injective f := fun i j h => rank_injective v (congrArg Fin.val h)
  have hs : Function.Surjective f := Finite.surjective_of_injective hf
  have e : (univ.filter fun j => Top K v j).image f = univ.filter fun k : Fin n => k.val < K := by
    ext k
    simp only [mem_image, mem_filter, mem_univ, true_and]
    constructor
    · rintro ⟨j, hj, rfl⟩; exact hj
    · intro hk; obtain ⟨j, rfl⟩ := hs k; exact ⟨j, hk, rfl⟩
  rw [← card_image_of_injective _ hf, e]
  have : (univ.filter fun k : Fin n => k.val < K) = (univ : Finset (Fin K)).image (Fin.castLE hK) := by
    ext k
    simp only [mem_filter, mem_univ, true_and, mem_image]
    constructor
    · intro h; exact ⟨⟨k.val, h⟩, rfl⟩
    · rintro ⟨a, rfl⟩; exact a.isLt
  rw [this, card_image_of_injective _ (Fin.castLE_injective hK), card_univ, Fintype.card_fin]

/-- The first `K` by the `K`-th greatest value. -/
theorem top_iff {K : ℕ} {v : Fin n → α} {t : α} (ht : Kth K v t) (j : Fin n) :
    Top K v j ↔ t < v j ∨ (v j = t ∧ upto v t j ≤ K - above v t) := by
  obtain ⟨h1, h2⟩ := ht
  rcases lt_trichotomy t (v j) with h | h | h
  · have h3 : rank v j ≤ above v t := by
      unfold rank above
      refine card_le_card fun i hi => ?_
      rw [mem_filter] at hi ⊢
      refine ⟨mem_univ _, ?_⟩
      rcases hi.2 with hi | ⟨e, _⟩
      · exact h.trans hi
      · exact e ▸ h
    exact ⟨fun _ => Or.inl h, fun _ => lt_of_le_of_lt h3 h1⟩
  · have e1 : rank v j = above v t + (univ.filter fun i => i < j ∧ v i = t).card := by
      unfold rank above
      rw [← card_union_of_disjoint]
      · congr 1; ext i
        simp only [mem_filter, mem_univ, true_and, mem_union, Bef, ← h]
        exact or_congr_right and_comm
      · rw [disjoint_left]; intro i hi hi'
        simp only [mem_filter, mem_univ, true_and] at hi hi'
        exact absurd hi'.2 (ne_of_gt hi)
    have e2 : upto v t j = (univ.filter fun i => i < j ∧ v i = t).card + 1 := by
      unfold upto
      rw [← card_insert_of_notMem (a := j) (by simp)]
      congr 1; ext i
      simp only [mem_filter, mem_univ, true_and, mem_insert]
      constructor
      · rintro ⟨a, b⟩
        rcases lt_or_eq_of_le a with a | a
        · exact Or.inr ⟨a, b⟩
        · exact Or.inl a
      · rintro (rfl | ⟨a, b⟩)
        · exact ⟨le_refl _, h.symm⟩
        · exact ⟨a.le, b⟩
    unfold Top
    rw [e1, e2]
    constructor
    · intro h3; exact Or.inr ⟨h.symm, by omega⟩
    · rintro (h3 | ⟨_, h3⟩)
      · exact absurd h (ne_of_lt h3)
      · omega
  · have h3 : reach v t ≤ rank v j := by
      unfold rank reach
      refine card_le_card fun i hi => ?_
      rw [mem_filter] at hi ⊢
      exact ⟨mem_univ _, Or.inl (lt_of_lt_of_le h hi.2)⟩
    refine ⟨fun h4 => absurd h4 (not_lt.2 (h2.trans h3)), ?_⟩
    · rintro (h3 | ⟨h3, _⟩)
      · exact absurd h3 (not_lt.2 h.le)
      · exact absurd h3 (ne_of_lt h)

/-- Where exactly `K` entries reach the threshold, they are the first `K`. -/
theorem top_iff_of_exact {K : ℕ} {v : Fin n → α} {t : α} (ht : Kth K v t) (he : reach v t = K) (j : Fin n) :
    Top K v j ↔ t ≤ v j := by
  rw [top_iff ht]
  have e : reach v t = above v t + (univ.filter fun i => v i = t).card := by
    unfold reach above
    rw [← card_union_of_disjoint]
    · congr 1; ext i
      simp only [mem_filter, mem_univ, true_and, mem_union, le_iff_lt_or_eq, eq_comm]
    · rw [disjoint_left]; intro i hi hi'
      simp only [mem_filter, mem_univ, true_and] at hi hi'
      exact absurd hi' (ne_of_gt hi)
  have h : upto v t j ≤ (univ.filter fun i => v i = t).card := card_le_card fun i hi => by
    simp only [mem_filter, mem_univ, true_and] at hi ⊢; exact hi.2
  constructor
  · rintro (h' | ⟨h', _⟩)
    · exact h'.le
    · exact h'.ge
  · intro h'
    rcases lt_or_eq_of_le h' with h' | h'
    · exact Or.inl h'
    · exact Or.inr ⟨h'.symm, by omega⟩

theorem reach_of_top {K : ℕ} {v : Fin n → α} {t : α} (ht : Kth K v t) {j : Fin n} (h : Top K v j) : t ≤ v j := by
  rcases (top_iff ht j).1 h with h | ⟨h, _⟩
  · exact h.le
  · exact h.ge

/-- Two rows in one order have the same first `K`. -/
theorem top_congr {β : Type} [LinearOrder β] {K : ℕ} {v : Fin n → α} {w : Fin n → β} (h : ∀ i j, v i < v j ↔ w i < w j)
    (j : Fin n) : Top K v j ↔ Top K w j := by
  have e : ∀ i, Bef v i j ↔ Bef w i j := fun i => by
    have : v i = v j ↔ w i = w j := by
      constructor <;> intro e
      · exact le_antisymm (not_lt.1 fun h' => absurd ((h _ _).2 h') (by rw [e]; exact lt_irrefl _))
          (not_lt.1 fun h' => absurd ((h _ _).2 h') (by rw [e]; exact lt_irrefl _))
      · exact le_antisymm (not_lt.1 fun h' => absurd ((h _ _).1 h') (by rw [e]; exact lt_irrefl _))
          (not_lt.1 fun h' => absurd ((h _ _).1 h') (by rw [e]; exact lt_irrefl _))
    unfold Bef; rw [h, this]
  unfold Top rank
  rw [filter_congr fun i _ => e i]

/-- A strict total order, "greater first, then earlier", as a table. -/
theorem strict (v : Fin n → α) : StrictTotalBefore fun i j : Fin n => decide (Bef v i j) where
  irrefl a := by simpa using bef_irrefl v a
  trans a b c h h' := by simp only [decide_eq_true_eq] at *; exact bef_trans h h'
  total a b h := by simp only [decide_eq_true_eq]; exact bef_total v h

/-- The stable sort by "greater" leaves equal entries in their order. -/
theorem stableSort_gt (v : Fin n → α) (l : List (Fin n)) (hl : l.Pairwise (· < ·)) :
    stableSort (fun i j => decide (v j < v i)) l = stableSort (fun i j => decide (Bef v i j)) l := by
  induction l with
  | nil => rfl
  | cons a l ih =>
    rw [List.pairwise_cons] at hl
    unfold stableSort
    rw [ih hl.2]
    refine insertBefore_congr _ _ a _ fun b hb => ?_
    have hb' : a < b := hl.1 b ((perm_stableSort _ l).mem_iff.mp hb)
    refine decide_eq_decide.2 ⟨Or.inl, ?_⟩
    rintro (h | ⟨_, h⟩)
    · exact h
    · exact absurd h (not_lt.2 hb'.le)

theorem sortedFrom_gt (v : Fin n → α) :
    sortedFrom (fun i j : Fin n => decide (v j < v i)) = sortedFrom fun i j => decide (Bef v i j) := by
  funext k
  have h : sortPositions n (fun i j : Fin n => decide (v j < v i)) = sortPositions n fun i j => decide (Bef v i j) :=
    stableSort_gt v _ (by
      have := List.pairwise_lt_finRange n
      exact this)
  unfold sortedFrom
  rw [List.get_of_eq h]
  rfl

/-- The place in the sort is the number of entries before. -/
theorem rank_sortedFrom (v : Fin n → α) (k : Fin n) :
    rank v (sortedFrom (fun i j : Fin n => decide (v j < v i)) k) = k.val := by
  rw [sortedFrom_gt]
  have hB := strict v
  set σ := sortedFrom fun i j : Fin n => decide (Bef v i j) with hσ
  have hinj : Function.Injective σ := sortedFrom_injective _
  have hsur : Function.Surjective σ := sortedFrom_surjective _
  have hno : ∀ i j : Fin n, i < j → decide (Bef v (σ j) (σ i)) = false := fun i j hij =>
    sortedFrom_noInversion (fun i j => decide (Bef v i j)) (fun i j => decide (Bef v i j))
      (fun a b h => hB.asymm a b h) (fun _ _ h => h) hB.negTrans i j hij
  have hiff : ∀ i, Bef v (σ i) (σ k) ↔ i < k := by
    intro i
    rcases lt_trichotomy i k with h | h | h
    · refine ⟨fun _ => h, fun _ => ?_⟩
      have h1 := hno i k h
      rcases bef_total v (fun e => absurd (hinj e) (ne_of_lt h)) with h2 | h2
      · exact h2
      · simp [h2] at h1
    · subst h; exact ⟨fun h => absurd h (bef_irrefl _ _), fun h => absurd h (lt_irrefl _)⟩
    · refine ⟨fun h' => ?_, fun h' => absurd h' (not_lt.2 h.le)⟩
      have h1 := hno k i h
      simp [h'] at h1
  have e : (univ.filter fun i => Bef v i (σ k)) = (univ.filter fun i : Fin n => i < k).image σ := by
    ext i
    obtain ⟨a, rfl⟩ := hsur i
    simp only [mem_filter, mem_univ, true_and, mem_image]
    rw [hiff]
    exact ⟨fun h => ⟨a, h, rfl⟩, fun ⟨b, hb, e⟩ => hinj e ▸ hb⟩
  unfold rank
  rw [e, card_image_of_injective _ hinj]
  have : (univ.filter fun i : Fin n => i < k) = Iio k := by ext; simp
  rw [this, Fin.card_Iio]

/-- The sort's first `K` are the first `K`. -/
theorem top_iff_sorted (K : ℕ) (v : Fin n → α) (j : Fin n) :
    Top K v j ↔ ∃ k : Fin n, k.val < K ∧ sortedFrom (fun i j : Fin n => decide (v j < v i)) k = j := by
  constructor
  · intro h
    obtain ⟨k, hk⟩ := sortedFrom_surjective (fun i j : Fin n => decide (v j < v i)) j
    exact ⟨k, by rw [← rank_sortedFrom v k, hk]; exact h, hk⟩
  · rintro ⟨k, hk, rfl⟩
    unfold Top
    rw [rank_sortedFrom]; exact hk

end Order

section Search
variable {n : ℕ}

/-- The greatest entry below `t`, or `⊥`. -/
noncomputable def below (v : Fin n → EReal) (t : EReal) : EReal := univ.sup fun j => if v j < t then v j else ⊥

/-- One step of the search. -/
noncomputable def step (K : ℕ) (v : Fin n → EReal) (t : EReal) : EReal := if K ≤ reach v t then t else below v t

theorem step_inv {K m : ℕ} (hn : K ≤ n) (v : Fin n → EReal) {t : EReal} (h1 : above v t < K)
    (h2 : K ≤ reach v t ∨ m ≤ reach v t) :
    above v (step K v t) < K ∧ (K ≤ reach v (step K v t) ∨ m + 1 ≤ reach v (step K v t)) := by
  unfold step
  split
  · rename_i h; exact ⟨h1, Or.inl h⟩
  · rename_i h
    have hm : m ≤ reach v t := h2.resolve_left h
    have hex : ∃ j, v j < t := by
      by_contra hc
      refine h (hn.trans (le_of_eq ?_))
      unfold reach
      rw [filter_true_of_mem fun i _ => not_lt.1 fun h' => hc ⟨i, h'⟩, card_univ, Fintype.card_fin]
    obtain ⟨j1, hj1⟩ := hex
    have hle : ∀ j, v j < t → v j ≤ below v t := fun j hj => by
      have h3 : (fun j => if v j < t then v j else ⊥) j ≤ below v t :=
        le_sup (f := fun j => if v j < t then v j else ⊥) (mem_univ j)
      simp only [if_pos hj] at h3
      exact h3
    obtain ⟨j0, -, hj0⟩ := exists_mem_eq_sup univ ⟨j1, mem_univ j1⟩ fun j => if v j < t then v j else ⊥
    have hb : ∃ j, v j < t ∧ v j = below v t := by
      by_cases h' : v j0 < t
      · exact ⟨j0, h', by unfold below; rw [hj0, if_pos h']⟩
      · rw [if_neg h'] at hj0
        have : below v t = ⊥ := hj0
        exact ⟨j1, hj1, le_antisymm (hle _ hj1) (this ▸ bot_le)⟩
    obtain ⟨j, hjt, hjb⟩ := hb
    have hiff : ∀ i, below v t < v i ↔ t ≤ v i := fun i =>
      ⟨fun h' => not_lt.1 fun h'' => absurd (hle i h'') (not_le.2 h'), fun h' => lt_of_lt_of_le (hjb ▸ hjt) h'⟩
    have e : above v (below v t) = reach v t := by
      unfold above reach; rw [filter_congr fun i _ => hiff i]
    refine ⟨by rw [e]; omega, Or.inr ?_⟩
    have : reach v t < reach v (below v t) := by
      refine card_lt_card ((ssubset_iff_of_subset fun i hi => ?_).2 ⟨j, ?_, ?_⟩)
      · simp only [mem_filter, mem_univ, true_and] at hi ⊢
        exact ((hiff i).2 hi).le
      · simp only [mem_filter, mem_univ, true_and]; exact hjb.ge
      · simp only [mem_filter, mem_univ, true_and]; exact not_le.2 hjt
    omega

theorem iterate_inv {K : ℕ} (hK : 0 < K) (hn : K ≤ n) (v : Fin n → EReal) (m : ℕ) :
    above v ((step K v)^[m] ⊤) < K ∧ (K ≤ reach v ((step K v)^[m] ⊤) ∨ m ≤ reach v ((step K v)^[m] ⊤)) := by
  induction m with
  | zero =>
    refine ⟨?_, Or.inr (Nat.zero_le _)⟩
    have : above v (⊤ : EReal) = 0 := by
      unfold above; rw [card_eq_zero, filter_eq_empty_iff]; intro i _; exact not_top_lt
    simpa [this] using hK
  | succ m ih => rw [Function.iterate_succ_apply']; exact step_inv hn v ih.1 ih.2

/-- After `K` steps the search has the `K`-th greatest. -/
theorem kth_iterate {K : ℕ} (hK : 0 < K) (hn : K ≤ n) (v : Fin n → EReal) : Kth K v ((step K v)^[K] ⊤) := by
  obtain ⟨h1, h2⟩ := iterate_inv hK hn v K
  exact ⟨h1, h2.elim id id⟩

/-- The row kept on `c` and zero elsewhere. -/
noncomputable def keep (c : Fin n → Prop) (v : Fin n → EReal) (j : Fin n) : EReal := if c j then v j else 0

theorem lt_keep {c : Fin n → Prop} {v : Fin n → EReal} {t : EReal} (ht : 0 < t) (j : Fin n) :
    t < keep c v j ↔ c j ∧ t < v j := by
  unfold keep; split
  · rename_i h; simp [h]
  · rename_i h; simp [h, ht.le]

theorem le_keep {c : Fin n → Prop} {v : Fin n → EReal} {t : EReal} (ht : 0 < t) (j : Fin n) :
    t ≤ keep c v j ↔ c j ∧ t ≤ v j := by
  unfold keep; split
  · rename_i h; simp [h]
  · rename_i h; simp [h, ht]

theorem keep_eq {c : Fin n → Prop} {v : Fin n → EReal} {t : EReal} (ht : 0 < t) (j : Fin n) :
    keep c v j = t ↔ c j ∧ v j = t := by
  unfold keep; split
  · rename_i h; simp [h]
  · rename_i h; simp [h, ne_of_lt ht]

/-- A positive threshold of the row is one of the kept row, when the first `K` are kept. -/
theorem kth_keep {K : ℕ} (hn : K ≤ n) {c : Fin n → Prop} {v : Fin n → EReal} {t : EReal} (ht : 0 < t) (hk : Kth K v t)
    (hc : ∀ j, Top K v j → c j) : Kth K (keep c v) t := by
  constructor
  · refine lt_of_le_of_lt (card_le_card fun i hi => ?_) hk.1
    simp only [mem_filter, mem_univ, true_and] at hi ⊢
    exact ((lt_keep ht i).1 hi).2
  · rw [← card_top hn v]
    refine card_le_card fun i hi => ?_
    simp only [mem_filter, mem_univ, true_and] at hi ⊢
    exact (le_keep ht i).2 ⟨hc i hi, reach_of_top hk hi⟩

end Search

section Count
variable {n : ℕ}

/-- The ones among the `d` places that end at `j`. -/
noncomputable def near (p : Fin n → Prop) (d : ℕ) (j : Fin n) : ℕ := (univ.filter fun i => (i ≤ j ∧ j.val < i.val + d) ∧ p i).card

theorem near_one (p : Fin n → Prop) (j : Fin n) : near p 1 j = if p j then 1 else 0 := by
  unfold near
  have : (univ.filter fun i : Fin n => (i ≤ j ∧ j.val < i.val + 1) ∧ p i) = if p j then {j} else ∅ := by
    ext i
    by_cases h : p j <;> simp only [h, if_true, if_false, mem_filter, mem_univ, true_and, mem_singleton, Fin.le_def, notMem_empty, iff_false]
    · constructor
      · rintro ⟨⟨a, b⟩, _⟩; exact Fin.ext (by omega)
      · rintro rfl; exact ⟨⟨le_refl _, by omega⟩, h⟩
    · rintro ⟨⟨a, b⟩, c⟩
      have : i = j := Fin.ext (by omega)
      exact h (this ▸ c)
  rw [this]; split <;> simp

theorem near_double (p : Fin n → Prop) (d : ℕ) (j : Fin n) :
    near p (d + d) j = near p d j + if h : d ≤ j.val then near p d ⟨j.val - d, by omega⟩ else 0 := by
  by_cases h : d ≤ j.val
  · rw [dif_pos h]
    unfold near
    rw [← card_union_of_disjoint]
    · congr 1; ext i
      simp only [mem_filter, mem_univ, true_and, mem_union, Fin.le_def]
      constructor
      · rintro ⟨⟨a, b⟩, c⟩
        by_cases h' : j.val < i.val + d
        · exact Or.inl ⟨⟨a, h'⟩, c⟩
        · exact Or.inr ⟨⟨by omega, by omega⟩, c⟩
      · rintro (⟨⟨a, b⟩, c⟩ | ⟨⟨a, b⟩, c⟩)
        · exact ⟨⟨a, by omega⟩, c⟩
        · exact ⟨⟨by omega, by omega⟩, c⟩
    · rw [disjoint_left]; intro i hi hi'
      simp only [mem_filter, mem_univ, true_and, Fin.le_def] at hi hi'
      omega
  · rw [dif_neg h]
    unfold near
    rw [Nat.add_zero]
    congr 1; ext i
    simp only [mem_filter, mem_univ, true_and, Fin.le_def]
    constructor
    · rintro ⟨⟨a, b⟩, c⟩; exact ⟨⟨a, by omega⟩, c⟩
    · rintro ⟨⟨a, b⟩, c⟩; exact ⟨⟨a, by omega⟩, c⟩

theorem near_all (p : Fin n → Prop) (j : Fin n) : near p n j = (univ.filter fun i => i ≤ j ∧ p i).card := by
  unfold near
  congr 1; ext i
  simp only [mem_filter, mem_univ, true_and]
  exact ⟨fun h => ⟨h.1.1, h.2⟩, fun h => ⟨⟨h.1, by have := j.isLt; omega⟩, h.2⟩⟩

end Count

section Bits

/-- The word of 32 bits has the bits. -/
theorem getLsbD_pack (p : Fin 32 → BitVec 1) (S : Finset (Fin 32)) (t : Fin 32) :
    (S.fold IntOp.addi (0#32) fun s => (p s).setWidth 32 <<< s.val).getLsbD t.val = decide (t ∈ S ∧ p t = 1#1) := by
  induction S using Finset.induction_on generalizing t with
  | empty => simp
  | insert a S ha ih =>
    rw [Finset.fold_insert ha]
    have hb : ∀ t : Fin 32, ((p a).setWidth 32 <<< a.val).getLsbD t.val = decide (t = a ∧ p a = 1#1) := by
      intro t
      rw [BitVec.getLsbD_shiftLeft, BitVec.getLsbD_setWidth]
      have hp : p a = 0#1 ∨ p a = 1#1 := by
        have := (p a).isLt
        rcases Nat.lt_or_ge (p a).toNat 1 with h | h
        · exact Or.inl (BitVec.eq_of_toNat_eq (by simp; omega))
        · exact Or.inr (BitVec.eq_of_toNat_eq (by simp; omega))
      have ht := t.isLt
      rcases lt_trichotomy t.val a.val with h | h | h
      · have : t ≠ a := fun e => by rw [e] at h; exact lt_irrefl _ h
        simp [h, this]
      · have : t = a := Fin.ext h
        subst this
        rcases hp with hp | hp <;> simp [hp]
      · have : t ≠ a := fun e => by rw [e] at h; exact lt_irrefl _ h
        have h2 : (p a).getLsbD (t.val - a.val) = false := BitVec.getLsbD_of_ge _ _ (by omega)
        simp [this, h2]
    have hd : ((p a).setWidth 32 <<< a.val) &&& (S.fold IntOp.addi (0#32) fun s => (p s).setWidth 32 <<< s.val) = 0#32 := by
      apply BitVec.eq_of_getLsbD_eq
      intro i hi
      rw [BitVec.getLsbD_and]
      have h1 := hb ⟨i, hi⟩
      have h2 := ih ⟨i, hi⟩
      simp only at h1 h2
      rw [h1, h2]
      by_cases e : (⟨i, hi⟩ : Fin 32) = a
      · rw [e]; simp [ha]
      · simp [e]
    show (((p a).setWidth 32 <<< a.val) + _).getLsbD t.val = _
    rw [BitVec.add_eq_or_of_and_eq_zero _ _ hd, BitVec.getLsbD_or, hb, ih]
    by_cases e : t = a
    · subst e; simp [ha]
    · simp [e]

/-- A bit of a word, by shifting and masking. -/
theorem bit_pos (w : BitVec 32) (t : Fin 32) :
    IntOp.cmpi .sgt ((w >>> t.val) &&& 1#32) 0#32 = 1#1 ↔ w.getLsbD t.val = true := by
  have : (w >>> t.val) &&& 1#32 = if w.getLsbD t.val then 1#32 else 0#32 := by
    apply BitVec.eq_of_getLsbD_eq
    intro i hi
    rw [BitVec.getLsbD_and, BitVec.getLsbD_ushiftRight]
    by_cases h : i = 0
    · subst h; cases h' : w.getLsbD t.val <;> simp [h']
    · have : (1#32).getLsbD i = false := by
        rw [BitVec.getLsbD_one]; simp [h]
      rw [this]; cases h' : w.getLsbD t.val <;> simp [h']; exact h
  rw [this]
  cases h' : w.getLsbD t.val <;> simp <;> decide

end Bits

end Cert.Attn.Sel
-- ==== Proof.Ops.lean ====
/- The row operations both passes share, read at an index: counting, the search's step, the running count, the selection. -/
module

public import proofs.«01_k».proof.Proof.Gen.KernelGivenIdeal
public import proofs.«01_k».proof.Proof.Sel
public import Idealize.ShloMosaic.Lib.Pipeline.Value
public import Idealize.ShloMosaic.Lib.ValueIdx
public import Idealize.ShloMosaic.Lib.Pointwise.Reduce
public import Idealize.ShloMosaic.Lib.IdealHost
public import Idealize.ShloMosaic.Lib.WordCmp

@[expose] public section

set_option maxRecDepth 16384

noncomputable section

namespace Cert.Attn.Ops

open Idealize.ShloMosaic hiding ix0 ix1 ix2 ix3 ix4 ix5 eq_ix1 eq_ix2 eq_ix3 eq_ix4
open Idealize.ShloMosaic.ValueIdx Idealize.ShloMosaic.WordCmp Finset
open Cert.KernelGivenIdeal Cert.KernelGivenIdeal.Gen Cert.KernelGivenIdeal.Facts
open Cert.Attn.Sel

attribute [local instance 10] Classical.propDecidable

/-- Row `r` of a block of scores. -/
abbrev row (v : FVec Ideal S256x2048 .f32) (r : Fin 256) : Fin 2048 → EReal := fun j => v (ix2 r j)

/-! ## Counting along a row -/

/-- How many of a row are marked. -/
def cnt (b : IVec S256x2048 1) : IVec S256x1 32 :=
  shapeCast S256x1 (multiReductionI .add [1] S256 (extui 32 b natLt_1_32) 0#32 reduces_S256x2048_S256 rfl) shapeCasts_S256_S256x1

theorem cnt_apply (b : IVec S256x2048 1) (r : Fin 256) :
    cnt b (ix2 r 0) = BitVec.ofNat 32 (univ.filter fun j : Fin 2048 => b (ix2 r j) = 1#1).card := by
  unfold cnt
  rw [shapeCast_apply _ _ (ix2 r 0) (ix1 r) (by rw [Shape.rowMajor_val_one, Shape.rowMajor_val_two]; simp)]
  refine (reduceFold_eq_fold reduces_S256x2048_S256 IntOp.addi 0#32 (extui 32 b natLt_1_32) (ix1 r)).trans ?_
  rw [Shape.Reduces.fold_fiber_r2_a1]
  exact IndicatorCount.fold_addi_setWidth_eq_card (fun j : Fin 2048 => b (ix2 r j)) univ

theorem cnt_card_le (p : Fin 2048 → Prop) [DecidablePred p] : (univ.filter p).card ≤ 2048 := (card_filter_le _ _).trans (by simp)

/-- The largest of a row. -/
theorem max_apply (v : FVec Ideal S256x2048 .f32) (r : Fin 256) :
    shapeCast S256x1 (multiReduction .maximumf [1] S256 v 0xFF800000#32 reduces_S256x2048_S256 (.inl rfl) rfl) shapeCasts_S256_S256x1 (ix2 r 0)
      = (univ.sup fun j : Fin 2048 => v (ix2 r j) : EReal) := by
  rw [shapeCast_apply _ _ (ix2 r 0) (ix1 r) (by rw [Shape.rowMajor_val_one, Shape.rowMajor_val_two]; simp)]
  refine (reduceFold_eq_fold reduces_S256x2048_S256 (FloatOps.maximumf (F := Ideal) (φ := .f32)) (FloatOps.ofBits .f32 0xFF800000#32) v (ix1 r)).trans ?_
  rw [Shape.Reduces.fold_fiber_r2_a1]
  have hb : (FloatOps.ofBits .f32 0xFF800000#32 : Ideal .f32) = (⊥ : EReal) := by
    show Ideal.ofBits .f32 0xFF800000#32 = _; simp [Ideal.ofBits, Ideal.ieee]
  rw [hb]
  rfl

theorem bcol_apply {α : Type} (t : S256x1.Idx → α) (r : Fin 256) (j : Fin 2048) :
    broadcastTo S256x2048 t broadcasts_S256x1_S256x2048 (ix2 r j) = t (ix2 r 0) :=
  broadcastTo_apply _ _ (ix2 r j) (ix2 r 0) (fun a => by fin_cases a <;> rfl)

theorem ofBool_one (p : Prop) [Decidable p] : BitVec.ofBool (decide p) = 1#1 ↔ p := by
  by_cases h : p <;> simp [h]

theorem oge_iff (x y : EReal) : (FloatOps.cmpf .oge (show Ideal .f32 from x) (show Ideal .f32 from y)) = 1#1 ↔ y ≤ x := ofBool_one _
theorem ogt_iff (x y : EReal) : (FloatOps.cmpf .ogt (show Ideal .f32 from x) (show Ideal .f32 from y)) = 1#1 ↔ y < x := ofBool_one _
theorem olt_iff (x y : EReal) : (FloatOps.cmpf .olt (show Ideal .f32 from x) (show Ideal .f32 from y)) = 1#1 ↔ x < y := ofBool_one _
theorem oeq_iff (x y : EReal) : (FloatOps.cmpf .oeq (show Ideal .f32 from x) (show Ideal .f32 from y)) = 1#1 ↔ x = y := ofBool_one _

theorem andi_iff (p q : BitVec 1) : IntOp.andi p q = 1#1 ↔ p = 1#1 ∧ q = 1#1 := by
  revert p q; decide
theorem ori_iff (p q : BitVec 1) : IntOp.ori p q = 1#1 ↔ p = 1#1 ∨ q = 1#1 := by
  revert p q; decide

theorem select_ite {α : Type} (p : BitVec 1) (a b : α) : Scalar.select p a b = if p = 1#1 then a else b := by
  by_cases h : p = 1#1
  · rw [if_pos h, h, ValueIdx.select_one]
  · rw [if_neg h, eq_zero_of_ne_one h, ValueIdx.select_zero]

/-! ## The search for the threshold -/

/-- One step of the search, on a block of scores. -/
def searchStep (v : FVec Ideal S256x2048 .f32) (t : FVec Ideal S256x1 .f32) : FVec Ideal S256x1 .f32 :=
  select (cmpi .sge (cnt (cmpf .oge v (broadcastTo S256x2048 t broadcasts_S256x1_S256x2048))) (broadcast S256x1 409#32)) t
    (shapeCast S256x1 (multiReduction .maximumf [1] S256
      (select (cmpf .olt v (broadcastTo S256x2048 t broadcasts_S256x1_S256x2048)) v (broadcast S256x2048 (Scalar.ofBits .f32 0xFF800000#32)))
      0xFF800000#32 reduces_S256x2048_S256 (.inl rfl) rfl) shapeCasts_S256_S256x1)

theorem reach_card (v : FVec Ideal S256x2048 .f32) (t : FVec Ideal S256x1 .f32) (r : Fin 256) :
    cnt (cmpf .oge v (broadcastTo S256x2048 t broadcasts_S256x1_S256x2048)) (ix2 r 0) = BitVec.ofNat 32 (reach (row v r) (t (ix2 r 0))) := by
  rw [cnt_apply]
  congr 2
  refine filter_congr fun j _ => ?_
  rw [cmpf_apply, bcol_apply]
  exact oge_iff _ _

theorem searchStep_apply (v : FVec Ideal S256x2048 .f32) (t : FVec Ideal S256x1 .f32) (r : Fin 256) :
    searchStep v t (ix2 r 0) = step 409 (row v r) (t (ix2 r 0)) := by
  unfold searchStep step
  rw [select_apply, select_ite]
  have h1 : cmpi .sge (cnt (cmpf .oge v (broadcastTo S256x2048 t broadcasts_S256x1_S256x2048))) (broadcast S256x1 409#32) (ix2 r 0) = 1#1
      ↔ 409 ≤ reach (row v r) (t (ix2 r 0)) := by
    show IntOp.cmpi .sge (cnt _ (ix2 r 0)) 409#32 = 1#1 ↔ _
    rw [reach_card]
    have : reach (row v r) (t (ix2 r 0)) ≤ 2048 := by unfold reach; exact cnt_card_le _
    exact cmpi_sge_ofNat_eq_one_iff (w := 32) (lt_of_le_of_lt this (by norm_num)) (by norm_num)
  have h2 : shapeCast S256x1 (multiReduction .maximumf [1] S256
      (select (cmpf .olt v (broadcastTo S256x2048 t broadcasts_S256x1_S256x2048)) v (broadcast S256x2048 (Scalar.ofBits .f32 0xFF800000#32)))
      0xFF800000#32 reduces_S256x2048_S256 (.inl rfl) rfl) shapeCasts_S256_S256x1 (ix2 r 0) = below (row v r) (t (ix2 r 0)) := by
    rw [max_apply]
    unfold below
    congr 1
    funext j
    rw [select_apply, select_ite, cmpf_apply, bcol_apply]
    have hb : (broadcast S256x2048 (Scalar.ofBits .f32 0xFF800000#32 : Ideal .f32)) (ix2 r j) = (⊥ : EReal) := by
      show Ideal.ofBits .f32 0xFF800000#32 = _; simp [Ideal.ofBits, Ideal.ieee]
    rw [hb]
    exact if_congr (olt_iff _ _) rfl rfl
  rw [h2]
  exact if_congr h1 rfl rfl

/-! ## The running count along a row -/

/-- Adding a row to itself moved right doubles the length of the run each entry counts. -/
theorem double {d e : ℕ} (x : IVec S256x2048 32) (r : Fin 256) (p : Fin 2048 → Prop) (hde : d + e = 2048)
    (hs : S256x2048.Slices ![0, 0] ⟨2, ![256, e]⟩) (hc : Shape.Concatenates [⟨2, ![256, d]⟩, ⟨2, ![256, e]⟩] S256x2048 1)
    (hx : ∀ j, x (ix2 r j) = BitVec.ofNat 32 (near p d j)) (j : Fin 2048) :
    addi x (concatenate S256x2048 1 [⟨⟨2, ![256, d]⟩, broadcast ⟨2, ![256, d]⟩ 0#32⟩,
      ⟨⟨2, ![256, e]⟩, extractStridedSlice ⟨2, ![256, e]⟩ ![0, 0] x hs⟩] hc) (ix2 r j) = BitVec.ofNat 32 (near p (d + d) j) := by
  rw [near_double]
  rw [show ∀ y : IVec S256x2048 32, addi x y (ix2 r j) = IntOp.addi (x (ix2 r j)) (y (ix2 r j)) from fun _ => rfl]
  by_cases h : d ≤ j.val
  · have he : j.val - d < e := by have := j.isLt; omega
    rw [concatenate_pair_apply_right 1 _ _ hc (ix2 r j) rfl rfl (ix2 r ⟨j.val - d, he⟩)
      (fun b hb => by match b with | ⟨0, _⟩ => rfl | ⟨1, _⟩ => exact absurd rfl hb)
      (show j.val - d + d = j.val by omega), dif_pos h]
    have e1 : extractStridedSlice ⟨2, ![256, e]⟩ ![0, 0] x hs (ix2 r ⟨j.val - d, he⟩) = x (ix2 r ⟨j.val - d, by omega⟩) := by
      unfold extractStridedSlice
      congr 1
      funext a
      match a with
      | ⟨0, _⟩ => exact Fin.ext (Nat.zero_add _)
      | ⟨1, _⟩ => exact Fin.ext (Nat.zero_add _)
    rw [e1, hx, hx, BitVec.ofNat_add]
    rfl
  · rw [concatenate_pair_apply_left 1 _ _ hc (ix2 r j) rfl (ix2 r ⟨j.val, by omega⟩)
      (fun b => by match b with | ⟨0, _⟩ => rfl | ⟨1, _⟩ => rfl), dif_neg h, hx]
    show _ + 0#32 = _
    rw [BitVec.add_zero, Nat.add_zero]

/-! ## All rows at once -/

/-- The least of a column of marks, as the test reads it. -/
def allMin (b : IVec S256x1 1) : Ideal .f32 :=
  extractAt ![0, 0, 0] (shapeCast S1x1x1 (multiReduction .minimumf [1, 2] S1 (shapeCast S1x256x1
    (select b (broadcast S256x1 (Scalar.ofBits .f32 0x3F800000#32 : Ideal .f32)) (broadcast S256x1 (Scalar.ofBits .f32 0x00000000#32 : Ideal .f32)))
    shapeCasts_S256x1_S1x256x1) 0x7F800000#32 reduces_S1x256x1_S1 (.inl rfl) rfl) shapeCasts_S1_S1x1x1) inpos_S1x1x1_p0_0_0

/-- The test on it. -/
def flag (x : Ideal .f32) : BitVec 1 :=
  Scalar.cmpi .ne (Scalar.extui (Scalar.cmpf .ogt x (Scalar.ofBits .f32 0x00000000#32)) : BitVec 32) 0#32

theorem flag_iff (x : Ideal .f32) : flag x = 1#1 ↔ (0 : EReal) < x := by
  unfold flag
  have h0 : (Scalar.ofBits .f32 0x00000000#32 : Ideal .f32) = (0 : EReal) := Ideal.ofBits_zero_f32
  rw [h0]
  refine Iff.trans ?_ (ogt_iff x 0)
  show Scalar.cmpi .ne (Scalar.extui (FloatOps.cmpf .ogt (show Ideal .f32 from x) (show Ideal .f32 from (0 : EReal))) : BitVec 32) 0#32 = 1#1 ↔ _
  generalize (FloatOps.cmpf .ogt (show Ideal .f32 from x) (show Ideal .f32 from (0 : EReal))) = w
  revert w; decide

theorem one_bits : (Scalar.ofBits .f32 0x3F800000#32 : Ideal .f32) = (1 : EReal) := Ideal.ofBits_one_f32
theorem zero_bits : (Scalar.ofBits .f32 0x00000000#32 : Ideal .f32) = (0 : EReal) := Ideal.ofBits_zero_f32

theorem allMin_iff (b : IVec S256x1 1) : flag (allMin b) = 1#1 ↔ ∀ r : Fin 256, b (ix2 r 0) = 1#1 := by
  rw [flag_iff]
  unfold allMin extractAt
  have e0 : (fun a => ⟨(![0, 0, 0] : Fin 3 → ℕ) a, inpos_S1x1x1_p0_0_0 a⟩ : S1x1x1.Idx) = ix3 0 0 0 := by
    funext a; fin_cases a <;> rfl
  rw [show (shapeCast S1x1x1 (multiReduction .minimumf [1, 2] S1 (shapeCast S1x256x1
    (select b (broadcast S256x1 (Scalar.ofBits .f32 0x3F800000#32 : Ideal .f32)) (broadcast S256x1 (Scalar.ofBits .f32 0x00000000#32 : Ideal .f32)))
    shapeCasts_S256x1_S1x256x1) 0x7F800000#32 reduces_S1x256x1_S1 (.inl rfl) rfl) shapeCasts_S1_S1x1x1 : FVec Ideal S1x1x1 .f32)
      (fun a => ⟨(![0, 0, 0] : Fin 3 → ℕ) a, inpos_S1x1x1_p0_0_0 a⟩ : S1x1x1.Idx) = _ from
    shapeCast_apply _ _ _ (ix1 0) (by rw [e0, Shape.rowMajor_val_one, Shape.rowMajor_val_three]; simp)]
  rw [show (multiReduction .minimumf [1, 2] S1 (shapeCast S1x256x1
    (select b (broadcast S256x1 (Scalar.ofBits .f32 0x3F800000#32 : Ideal .f32)) (broadcast S256x1 (Scalar.ofBits .f32 0x00000000#32 : Ideal .f32)))
    shapeCasts_S256x1_S1x256x1) 0x7F800000#32 reduces_S1x256x1_S1 (.inl rfl) rfl : FVec Ideal S1 .f32) (ix1 0) = _ from
    reduceFold_eq_fold reduces_S1x256x1_S1 (FloatOps.minimumf (F := Ideal) (φ := .f32)) (FloatOps.ofBits .f32 0x7F800000#32) _ (ix1 0)]
  have hb : (FloatOps.ofBits .f32 0x7F800000#32 : Ideal .f32) = (⊤ : EReal) := by
    show Ideal.ofBits .f32 0x7F800000#32 = _; simp [Ideal.ofBits, Ideal.ieee]
  rw [hb]
  have key : ∀ (s : Finset S1x256x1.Idx) (f : S1x256x1.Idx → EReal),
      (0 < s.fold (FloatOps.minimumf (F := Ideal) (φ := .f32)) (⊤ : EReal) f ↔ ∀ i ∈ s, 0 < f i) := by
    intro s f
    exact (Finset.lt_fold_min (c := (0 : EReal))).trans ⟨fun h => h.2, fun h => ⟨EReal.zero_lt_top, h⟩⟩
  refine (key _ _).trans ?_
  have val : ∀ r : Fin 256, (shapeCast S1x256x1
    (select b (broadcast S256x1 (Scalar.ofBits .f32 0x3F800000#32 : Ideal .f32)) (broadcast S256x1 (Scalar.ofBits .f32 0x00000000#32 : Ideal .f32)))
    shapeCasts_S256x1_S1x256x1 : FVec Ideal S1x256x1 .f32) (ix3 0 r 0) = if b (ix2 r 0) = 1#1 then (1 : EReal) else 0 := by
    intro r
    rw [shapeCast_apply _ _ (ix3 0 r 0) (ix2 r 0) (by rw [Shape.rowMajor_val_two, Shape.rowMajor_val_three]; simp)]
    rw [select_apply, select_ite, broadcast_apply, broadcast_apply, one_bits, zero_bits]
  constructor
  · intro h r
    have := h (ix3 0 r 0) (mem_filter.2 ⟨mem_univ _, by funext a; match a with | ⟨0, _⟩ => exact Fin.ext (Nat.lt_one_iff.1 (reduces_S1x256x1_S1.drop (ix3 0 r 0) 0).isLt)⟩)
    rw [val] at this
    by_contra hn
    rw [if_neg hn] at this
    exact lt_irrefl _ this
  · intro h i _
    have e : i = ix3 0 (i 1) 0 := by
      funext a
      match a with
      | ⟨0, _⟩ => exact Fin.ext (Nat.lt_one_iff.1 (i 0).isLt)
      | ⟨1, _⟩ => rfl
      | ⟨2, _⟩ => exact Fin.ext (Nat.lt_one_iff.1 (i 2).isLt)
    have v := val (i 1)
    rw [if_pos (h (i 1))] at v
    rw [e]
    exact lt_of_lt_of_eq zero_lt_one v.symm

/-! ## The selection -/

/-- The marked entries of the largest, ties by position: the rows' selection by rank, its last two doublings apart. -/
theorem rank_iff (w : Fin 2048 → EReal) (t : EReal) (hk : Kth 409 w t) (r : Fin 256) (gt eq : IVec S256x2048 1)
    (hgt : ∀ j, gt (ix2 r j) = 1#1 ↔ t < w j) (heq : ∀ j, eq (ix2 r j) = 1#1 ↔ w j = t) (run : IVec S256x2048 32)
    (hrun : ∀ j, run (ix2 r j) = BitVec.ofNat 32 (near (fun i => w i = t) 2048 j)) (j : Fin 2048) :
    extui 32 (ori gt (andi eq (cmpi .sle run (broadcastTo S256x2048 (subi (broadcast S256x1 409#32) (cnt gt)) broadcasts_S256x1_S256x2048))))
      natLt_1_32 (ix2 r j) = if Top 409 w j then 1#32 else 0#32 := by
  have hc : cnt gt (ix2 r 0) = BitVec.ofNat 32 (above w t) := by
    rw [cnt_apply]; congr 2; exact filter_congr fun j _ => hgt j
  have hle : above w t < 409 := hk.1
  have hcmp : cmpi .sle run (broadcastTo S256x2048 (subi (broadcast S256x1 409#32) (cnt gt)) broadcasts_S256x1_S256x2048) (ix2 r j) = 1#1
      ↔ upto w t j ≤ 409 - above w t := by
    show IntOp.cmpi .sle (run (ix2 r j)) (broadcastTo S256x2048 _ _ (ix2 r j)) = 1#1 ↔ _
    have hne : near (fun i => w i = t) 2048 j = upto w t j := by
      rw [near_all]; unfold upto; congr!
    rw [bcol_apply, hrun, hne]
    show IntOp.cmpi .sle _ (409#32 - cnt gt (ix2 r 0)) = 1#1 ↔ _
    have hsub : 409#32 - cnt gt (ix2 r 0) = BitVec.ofNat 32 (409 - above w t) := by
      rw [hc]
      apply BitVec.eq_of_toNat_eq
      rw [BitVec.toNat_sub, BitVec.toNat_ofNat, BitVec.toNat_ofNat, BitVec.toNat_ofNat]
      omega
    rw [hsub]
    exact cmpi_sle_ofNat_eq_one_iff (w := 32) (lt_of_le_of_lt (by unfold upto; exact cnt_card_le _ : upto w t j ≤ 2048) (by norm_num))
      (lt_of_le_of_lt (Nat.sub_le 409 (above w t)) (by norm_num))
  have hall : ori gt (andi eq (cmpi .sle run (broadcastTo S256x2048 (subi (broadcast S256x1 409#32) (cnt gt)) broadcasts_S256x1_S256x2048))) (ix2 r j) = 1#1
      ↔ Top 409 w j := by
    show IntOp.ori (gt (ix2 r j)) (IntOp.andi (eq (ix2 r j)) (cmpi .sle _ _ (ix2 r j))) = 1#1 ↔ _
    rw [ori_iff, andi_iff, hcmp, hgt, heq, top_iff hk]
  rw [extui_apply]
  by_cases h : Top 409 w j
  · rw [if_pos h, hall.2 h]; rfl
  · rw [if_neg h, eq_zero_of_ne_one (mt hall.1 h)]; rfl

/-- Where every row reaches its threshold exactly as often as wanted, reaching it is being selected. -/
theorem exact_iff (w : Fin 2048 → EReal) (t : EReal) (hk : Kth 409 w t) (r : Fin 256) (ge : IVec S256x2048 1)
    (hge : ∀ j, ge (ix2 r j) = 1#1 ↔ t ≤ w j) (hf : flag (allMin (cmpi .eq (cnt ge) (broadcast S256x1 409#32))) = 1#1) (j : Fin 2048) :
    extui 32 ge natLt_1_32 (ix2 r j) = if Top 409 w j then 1#32 else 0#32 := by
  have h1 := (allMin_iff _).1 hf r
  have h2 : cnt ge (ix2 r 0) = 409#32 := by
    have h1' : IntOp.cmpi .eq (cnt ge (ix2 r 0)) 409#32 = 1#1 := h1
    rw [cmpi_eq_eq] at h1'
    exact (ofBool_one _).1 h1'
  have hc : cnt ge (ix2 r 0) = BitVec.ofNat 32 (reach w t) := by
    rw [cnt_apply]; unfold reach; exact congrArg (BitVec.ofNat 32) (congrArg Finset.card (filter_congr fun j _ => hge j))
  have hr : reach w t = 409 := by
    rw [hc] at h2
    have := congrArg BitVec.toNat h2
    rw [BitVec.toNat_ofNat, BitVec.toNat_ofNat] at this
    have hle : reach w t ≤ 2048 := by unfold reach; exact cnt_card_le _
    omega
  rw [extui_apply]
  by_cases h : Top 409 w j
  · rw [if_pos h, (hge j).2 ((top_iff_of_exact hk hr j).1 h)]; rfl
  · rw [if_neg h, eq_zero_of_ne_one (mt (fun q => (top_iff_of_exact hk hr j).2 ((hge j).1 q)) h)]; rfl

/-- A mark widened is the run of length one. -/
theorem run_one (eq : IVec S256x2048 1) (r : Fin 256) (p : Fin 2048 → Prop) (heq : ∀ j, eq (ix2 r j) = 1#1 ↔ p j) (j : Fin 2048) :
    extui 32 eq natLt_1_32 (ix2 r j) = BitVec.ofNat 32 (near p 1 j) := by
  rw [near_one, extui_apply]
  by_cases h : p j
  · rw [if_pos h, (heq j).2 h]; rfl
  · rw [if_neg h, eq_zero_of_ne_one (mt (heq j).1 h)]; rfl

/-! ## The running count's eleven doublings, and the rows' selection -/

def dbl1 (x : IVec S256x2048 32) : IVec S256x2048 32 :=
  addi x (concatenate S256x2048 1 [⟨S256x1, broadcast S256x1 0#32⟩, ⟨S256x2047, extractStridedSlice S256x2047 ![0, 0] x slices_S256x2048_o0_0_S256x2047⟩]
    concatenates_S256x1_S256x2047_S256x2048_d1)

def dbl2 (x : IVec S256x2048 32) : IVec S256x2048 32 :=
  addi x (concatenate S256x2048 1 [⟨S256x2, broadcast S256x2 0#32⟩, ⟨S256x2046, extractStridedSlice S256x2046 ![0, 0] x slices_S256x2048_o0_0_S256x2046⟩]
    concatenates_S256x2_S256x2046_S256x2048_d1)

def dbl4 (x : IVec S256x2048 32) : IVec S256x2048 32 :=
  addi x (concatenate S256x2048 1 [⟨S256x4, broadcast S256x4 0#32⟩, ⟨S256x2044, extractStridedSlice S256x2044 ![0, 0] x slices_S256x2048_o0_0_S256x2044⟩]
    concatenates_S256x4_S256x2044_S256x2048_d1)

def dbl8 (x : IVec S256x2048 32) : IVec S256x2048 32 :=
  addi x (concatenate S256x2048 1 [⟨S256x8, broadcast S256x8 0#32⟩, ⟨S256x2040, extractStridedSlice S256x2040 ![0, 0] x slices_S256x2048_o0_0_S256x2040⟩]
    concatenates_S256x8_S256x2040_S256x2048_d1)

def dbl16 (x : IVec S256x2048 32) : IVec S256x2048 32 :=
  addi x (concatenate S256x2048 1 [⟨S256x16, broadcast S256x16 0#32⟩, ⟨S256x2032, extractStridedSlice S256x2032 ![0, 0] x slices_S256x2048_o0_0_S256x2032⟩]
    concatenates_S256x16_S256x2032_S256x2048_d1)

def dbl32 (x : IVec S256x2048 32) : IVec S256x2048 32 :=
  addi x (concatenate S256x2048 1 [⟨S256x32, broadcast S256x32 0#32⟩, ⟨S256x2016, extractStridedSlice S256x2016 ![0, 0] x slices_S256x2048_o0_0_S256x2016⟩]
    concatenates_S256x32_S256x2016_S256x2048_d1)

def dbl64 (x : IVec S256x2048 32) : IVec S256x2048 32 :=
  addi x (concatenate S256x2048 1 [⟨S256x64, broadcast S256x64 0#32⟩, ⟨S256x1984, extractStridedSlice S256x1984 ![0, 0] x slices_S256x2048_o0_0_S256x1984⟩]
    concatenates_S256x64_S256x1984_S256x2048_d1)

def dbl128 (x : IVec S256x2048 32) : IVec S256x2048 32 :=
  addi x (concatenate S256x2048 1 [⟨S256x128, broadcast S256x128 0#32⟩, ⟨S256x1920, extractStridedSlice S256x1920 ![0, 0] x slices_S256x2048_o0_0_S256x1920⟩]
    concatenates_S256x128_S256x1920_S256x2048_d1)

def dbl256 (x : IVec S256x2048 32) : IVec S256x2048 32 :=
  addi x (concatenate S256x2048 1 [⟨S256x256, broadcast S256x256 0#32⟩, ⟨S256x1792, extractStridedSlice S256x1792 ![0, 0] x slices_S256x2048_o0_0_S256x1792⟩]
    concatenates_S256x256_S256x1792_S256x2048_d1)

def dbl512 (x : IVec S256x2048 32) : IVec S256x2048 32 :=
  addi x (concatenate S256x2048 1 [⟨S256x512, broadcast S256x512 0#32⟩, ⟨S256x1536, extractStridedSlice S256x1536 ![0, 0] x slices_S256x2048_o0_0_S256x1536⟩]
    concatenates_S256x512_S256x1536_S256x2048_d1)

def dbl1024 (x : IVec S256x2048 32) : IVec S256x2048 32 :=
  addi x (concatenate S256x2048 1 [⟨S256x1024, broadcast S256x1024 0#32⟩, ⟨S256x1024, extractStridedSlice S256x1024 ![0, 0] x slices_S256x2048_o0_0_S256x1024⟩]
    concatenates_S256x1024_S256x1024_S256x2048_d1)

/-- The running count of the marked entries. -/
def run (eq : IVec S256x2048 1) : IVec S256x2048 32 := dbl1024 (dbl512 (dbl256 (dbl128 (dbl64 (dbl32 (dbl16 (dbl8 (dbl4 (dbl2 (dbl1 (extui 32 eq natLt_1_32)))))))))))

theorem run_apply (eq : IVec S256x2048 1) (r : Fin 256) (p : Fin 2048 → Prop) (heq : ∀ j, eq (ix2 r j) = 1#1 ↔ p j) (j : Fin 2048) :
    run eq (ix2 r j) = BitVec.ofNat 32 (near p 2048 j) := by
  have h1 := run_one eq r p heq
  have h2 := double (d := 1) (e := 2047) _ r p rfl slices_S256x2048_o0_0_S256x2047 concatenates_S256x1_S256x2047_S256x2048_d1 h1
  have h4 := double (d := 2) (e := 2046) _ r p rfl slices_S256x2048_o0_0_S256x2046 concatenates_S256x2_S256x2046_S256x2048_d1 h2
  have h8 := double (d := 4) (e := 2044) _ r p rfl slices_S256x2048_o0_0_S256x2044 concatenates_S256x4_S256x2044_S256x2048_d1 h4
  have h16 := double (d := 8) (e := 2040) _ r p rfl slices_S256x2048_o0_0_S256x2040 concatenates_S256x8_S256x2040_S256x2048_d1 h8
  have h32 := double (d := 16) (e := 2032) _ r p rfl slices_S256x2048_o0_0_S256x2032 concatenates_S256x16_S256x2032_S256x2048_d1 h16
  have h64 := double (d := 32) (e := 2016) _ r p rfl slices_S256x2048_o0_0_S256x2016 concatenates_S256x32_S256x2016_S256x2048_d1 h32
  have h128 := double (d := 64) (e := 1984) _ r p rfl slices_S256x2048_o0_0_S256x1984 concatenates_S256x64_S256x1984_S256x2048_d1 h64
  have h256 := double (d := 128) (e := 1920) _ r p rfl slices_S256x2048_o0_0_S256x1920 concatenates_S256x128_S256x1920_S256x2048_d1 h128
  have h512 := double (d := 256) (e := 1792) _ r p rfl slices_S256x2048_o0_0_S256x1792 concatenates_S256x256_S256x1792_S256x2048_d1 h256
  have h1024 := double (d := 512) (e := 1536) _ r p rfl slices_S256x2048_o0_0_S256x1536 concatenates_S256x512_S256x1536_S256x2048_d1 h512
  have h2048 := double (d := 1024) (e := 1024) _ r p rfl slices_S256x2048_o0_0_S256x1024 concatenates_S256x1024_S256x1024_S256x2048_d1 h1024
  exact h2048 j

/-- The rows' selection by rank. -/
def rankWord (gt eq : IVec S256x2048 1) : IVec S256x2048 32 :=
  extui 32 (ori gt (andi eq (cmpi .sle (run eq) (broadcastTo S256x2048 (subi (broadcast S256x1 409#32) (cnt gt)) broadcasts_S256x1_S256x2048)))) natLt_1_32

theorem rankWord_apply (w : Fin 2048 → EReal) (t : EReal) (hk : Kth 409 w t) (r : Fin 256) (gt eq : IVec S256x2048 1)
    (hgt : ∀ j, gt (ix2 r j) = 1#1 ↔ t < w j) (heq : ∀ j, eq (ix2 r j) = 1#1 ↔ w j = t) (j : Fin 2048) :
    rankWord gt eq (ix2 r j) = if Top 409 w j then 1#32 else 0#32 :=
  rank_iff w t hk r gt eq hgt heq (run eq) (run_apply eq r _ heq) j

/-- The search folded over its trips is its step iterated. -/
theorem fold_apply (v : FVec Ideal S256x2048 .f32) (r : Fin 256) (n : ℕ) (f : Fin n → FVec Ideal S256x1 .f32 → FVec Ideal S256x1 .f32)
    (hf : ∀ k acc, f k acc = searchStep v acc) (t0 : FVec Ideal S256x1 .f32) :
    Scf.fold f t0 (ix2 r 0) = (step 409 (row v r))^[n] (t0 (ix2 r 0)) := by
  rw [Scf.fold_eq]
  have key : ∀ (l : List (Fin n)) (t0 : FVec Ideal S256x1 .f32),
      (l.foldl (fun acc k => f k acc) t0) (ix2 r 0) = (step 409 (row v r))^[l.length] (t0 (ix2 r 0)) := by
    intro l
    induction l with
    | nil => intro t0; rfl
    | cons a l ih =>
      intro t0
      rw [List.foldl_cons, ih, List.length_cons, Function.iterate_succ_apply, hf, searchStep_apply]
  rw [key, List.length_finRange]

/-- The search's threshold is the row's. -/
theorem fold_kth (v : FVec Ideal S256x2048 .f32) (r : Fin 256) (n : ℕ) (hn : n = 409) (f : Fin n → FVec Ideal S256x1 .f32 → FVec Ideal S256x1 .f32)
    (hf : ∀ k acc, f k acc = searchStep v acc) (t0 : FVec Ideal S256x1 .f32) (h0 : t0 (ix2 r 0) = (⊤ : EReal)) :
    Kth 409 (row v r) (Scf.fold f t0 (ix2 r 0)) := by
  rw [fold_apply v r n f hf t0, h0, hn]
  exact kth_iterate (by norm_num) (by norm_num) (row v r)

end Cert.Attn.Ops
-- ==== Proof.GnK0.lean ====
/- Region 0, the first pass: what the body leaves in each output, and its obligation at every point. -/
module

public import proofs.«01_k».proof.Proof.Gen.KernelGivenIdeal.Launch
public import proofs.«01_k».proof.Proof.Gen.KernelGivenIdeal.Skeleton
public import proofs.«01_k».proof.Proof.Gen.KernelGivenIdeal.Points
public import Idealize.ShloMosaic.Lib.Pipeline.FrameBody
public import proofs.«01_k».proof.Proof.Gen.KernelGivenIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelGivenIdeal.Own

open Cert.KernelGivenIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
/- the buffers' contents when a region is entered -/
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The first pass's threshold column: the fold of the counted loop's trip. -/
def thr0 (v0 : Vec F S256x768 .f32) (v2 : Vec F S768x2048 .f32) : FVec F S256x1 .f32 :=
  Scf.fold (fun (_ : Fin k0_t1_loop.trips) acc => k0_pay10 v0 v2 acc) (k0_pay9 (F := F))

/-- The word that decides a branch on a flag held as a number. -/
def flagWord (x : F .f32) : BitVec 1 :=
  Scalar.cmpi .ne (Scalar.extui (Scalar.cmpf .ogt x (Scalar.ofBits .f32 0x00000000#32)) : BitVec 32) 0#32

/-- The first pass's selection by rank, from the scores and the threshold. -/
def rank0 (v6 : FVec F S256x2048 .f32) (v10 : FVec F S256x1 .f32) : IVec S256x2048 32 :=
  k0_pay14 (k0_pay2 v6 v10) (k0_pay3 v6 v10) (k0_pay4 v6 v10) (k0_pay5 v6 v10) k0_pay6 (k0_pay7 v6 v10)

/-- The first pass's selection: without a rank when every row's count is exact, with it otherwise. -/
def sel0 (v0 : Vec F S256x768 .f32) (v2 : Vec F S768x2048 .f32) (v10 : FVec F S256x1 .f32) : IVec S256x2048 32 :=
  if flagWord (k0_pay12 v0 v2 v10) = 1#1 then k0_pay13 v0 v2 v10 else rank0 (k0_pay8 v0 v2) v10

/-- The packed mask the first pass stores. -/
def pack0 (i : grid0.Coords) (v0 : Vec F S256x768 .f32) (v2 : Vec F S768x2048 .f32) : IVec S8x2048 32 :=
  k0_pay1 (sel0 v0 v2 (thr0 v0 v2)) (k0_pay15 i) (iota .tc S256x2048 32 [1] iota_S256x2048_d1_w32) (k0_pay16 i)

/-- The first pass's second part with its loop and its branch in closed form. -/
theorem part2_pure (i : grid0.Coords) (arg1 : Memref sig .tc .vmem S256x768 .f32) (harg1 : arg1.IsWhole) (arg2 : Memref sig .tc .vmem S768x2048 .f32) (harg2 : arg2.IsWhole) (arg3 : Memref sig .tc .vmem S256x2048 .f32) (harg3 : arg3.IsWhole) (arg4 : Memref sig .tc .vmem S8x2048 .i32) (harg4 : arg4.IsWhole) (arg5 : Memref sig .tc .vmem S256x1 .f32) (harg5 : arg5.IsWhole) :
    k0_part2 (F := F) i arg1 harg1 arg2 harg2 arg3 harg3 arg4 harg4 arg5 harg5 = (do
      let v0 : Vec F S256x768 .f32 ← Prog.lift (.load arg1 (Rect.unit (s := S256x768) ![0, 0] S256x768.size inb_S256x768_S256x768_0_0).toLoadRect (View.loadsAt_vmem h_S256x768))
      let v2 : Vec F S768x2048 .f32 ← Prog.lift (.load arg2 (Rect.unit (s := S768x2048) ![0, 0] S768x2048.size inb_S768x2048_S768x2048_0_0).toLoadRect (View.loadsAt_vmem h_S768x2048))
      let v7 : Vec F S256x2048 .f32 ← Prog.lift (.load arg3 (Rect.unit (s := S256x2048) ![0, 0] S256x2048.size inb_S256x2048_S256x2048_0_0).toLoadRect (View.loadsAt_vmem h_S256x2048))
      Prog.lift (.store arg3 (Rect.unit (s := S256x2048) ![0, 0] S256x2048.size inb_S256x2048_S256x2048_0_0) (k0_pay8 v0 v2) Finset.univ (View.stores_vmem_bits_univ h_S256x2048 rfl) (.inl rfl))
      pure ⟨thr0 v0 v2, sel0 v0 v2 (thr0 v0 v2), k0_pay15 i, iota .tc S256x2048 32 [1] iota_S256x2048_d1_w32, k0_pay16 i⟩) := by
  rw [k0_part2_eq_skeleton]; unfold k0_part2_skel
  refine bind_congr fun v0 => ?_
  refine bind_congr fun v2 => ?_
  refine bind_congr fun v7 => ?_
  refine bind_congr fun _ => ?_
  refine (Scf.for_pure_bind k0_t1_loop.lb k0_t1_loop.ub k0_t1_loop.st k0_t1_ok _ _ (fun _ acc => k0_pay10 v0 v2 acc) (fun _ _ => rfl) _).trans ?_
  rw [k0_part1_eq_skeleton]
  change _ = pure (f := Prog _) _
  by_cases h : flagWord (k0_pay12 v0 v2 (thr0 v0 v2)) = 1#1
  · rw [show sel0 v0 v2 (thr0 v0 v2) = k0_pay13 v0 v2 (thr0 v0 v2) from if_pos h]
    exact (if_pos (c := flagWord (k0_pay12 v0 v2 (thr0 v0 v2)) = 1#1) h).trans rfl
  · rw [show sel0 v0 v2 (thr0 v0 v2) = rank0 (k0_pay8 v0 v2) (thr0 v0 v2) from if_neg h]
    exact (if_neg (c := flagWord (k0_pay12 v0 v2 (thr0 v0 v2)) = 1#1) h).trans rfl

abbrev r0_0 : Rect S256x768 := Rect.unit (s := S256x768) ![0, 0] S256x768.size inb_S256x768_S256x768_0_0
abbrev r0_1 : Rect S768x2048 := Rect.unit (s := S768x2048) ![0, 0] S768x2048.size inb_S768x2048_S768x2048_0_0
abbrev r0_2 : Rect S256x2048 := Rect.unit (s := S256x2048) ![0, 0] S256x2048.size inb_S256x2048_S256x2048_0_0
abbrev r0_3 : Rect S8x2048 := Rect.unit (s := S8x2048) ![0, 0] S8x2048.size inb_S8x2048_S8x2048_0_0
abbrev r0_4 : Rect S256x1 := Rect.unit (s := S256x1) ![0, 0] S256x1.size inb_S256x1_S256x1_0_0

/-- The scores' block after the body. -/
def out0_2 (i : grid0.Coords) (x0 : Vec F S256x768 .f32) (x1 : Vec F S768x2048 .f32) : Vec F S256x2048 .f32 :=
  View.canon [⟨r0_2, k0_pay8 (View.ld x0 r0_0) (View.ld x1 r0_1)⟩]
theorem cover0_2 (p0 : Vec F S256x2048 .f32) (y : S256x2048.Idx) :
    ∃ pc ∈ ([⟨r0_2, p0⟩] : List (View.Piece (Elt F) S256x2048 .f32)), y ∈ pc.1.set :=
  View.cover_of_tiled [⟨r0_2, p0⟩] S256x2048.size (by rfl) y
/-- The packed mask's block after the body. -/
def out0_3 (i : grid0.Coords) (x0 : Vec F S256x768 .f32) (x1 : Vec F S768x2048 .f32) : Vec F S8x2048 .i32 :=
  View.canon [⟨r0_3, pack0 i (View.ld x0 r0_0) (View.ld x1 r0_1)⟩]
theorem cover0_3 (p0 : Vec F S8x2048 .i32) (y : S8x2048.Idx) :
    ∃ pc ∈ ([⟨r0_3, p0⟩] : List (View.Piece (Elt F) S8x2048 .i32)), y ∈ pc.1.set :=
  View.cover_of_tiled [⟨r0_3, p0⟩] S8x2048.size (by rfl) y
/-- The thresholds' block after the body. -/
def out0_4 (i : grid0.Coords) (x0 : Vec F S256x768 .f32) (x1 : Vec F S768x2048 .f32) : Vec F S256x1 .f32 :=
  View.canon [⟨r0_4, thr0 (View.ld x0 r0_0) (View.ld x1 r0_1)⟩]
theorem cover0_4 (p0 : Vec F S256x1 .f32) (y : S256x1.Idx) :
    ∃ pc ∈ ([⟨r0_4, p0⟩] : List (View.Piece (Elt F) S256x1 .f32)), y ∈ pc.1.set :=
  View.cover_of_tiled [⟨r0_4, p0⟩] S256x1.size (by rfl) y

set_option maxHeartbeats 2000000 in
/-- The body of region 0 on whole staging buffers, the inputs' at read contents, runs to the continuation holding
    the inputs' as they were and each output's at its named contents. -/
theorem sound_kernel0 (c : Dev nD) (E : Set ℕ) (i : grid0.Coords)  (arg1 : Memref sig .tc .vmem S256x768 .f32) (harg1 : arg1.IsWhole) (arg2 : Memref sig .tc .vmem S768x2048 .f32) (harg2 : arg2.IsWhole) (arg3 : Memref sig .tc .vmem S256x2048 .f32) (harg3 : arg3.IsWhole) (arg4 : Memref sig .tc .vmem S8x2048 .i32) (harg4 : arg4.IsWhole) (arg5 : Memref sig .tc .vmem S256x1 .f32) (harg5 : arg5.IsWhole)
    (x0 : Vec F S256x768 .f32) (x1 : Vec F S768x2048 .f32)  (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare (out0_2 i x0 x1) ∗ owns (c : Thread nD τ) arg4 fullShare (out0_3 i x0 x1) ∗ owns (c : Thread nD τ) arg5 fullShare (out0_4 i x0 x1)) -∗ K ⟨⟩))
      ⊢ wp frame (wpE (defs₀ (F := F)) Variants.none c none) E (cc0__p1_kernel i arg1 harg1 arg2 harg2 arg3 harg3 arg4 harg4 arg5 harg5) K := by
  simp only [cc0__p1_kernel_eq_skeleton]; unfold cc0__p1_kernel_skel
  simp only [part2_pure]
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-- The proof data of pipeline 0: the arrays as the region finds them, each input left as it was, each output as named. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (grid0.coords t) (iblk0 V c 0 t) (iblk0 V c 1 t)
    | ⟨3, _⟩ => out0_3 (grid0.coords t) (iblk0 V c 0 t) (iblk0 V c 1 t)
    | ⟨4, _⟩ => out0_4 (grid0.coords t) (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (grid0.coords t) (iblk0 V c 0 t) (iblk0 V c 1 t) := by dsimp only [dat0]
theorem after0_3 (c : Dev nD) (t : Fin cfg0.N) : (dat0 V c).after 3 t = out0_3 (grid0.coords t) (iblk0 V c 0 t) (iblk0 V c 1 t) := by dsimp only [dat0]
theorem after0_4 (c : Dev nD) (t : Fin cfg0.N) : (dat0 V c).after 4 t = out0_4 (grid0.coords t) (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t)  _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row0 (t : Fin cfg0.N) :
    defs₀ (F := F) .tc cfg0.body (cfg0.bodyArgs t (cfg0.slots t)) = bodyAt0 t := by
  unfold defs₀; rw [Defs.onTc_tc]

/-- The body's obligation at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelGivenIdeal.Own
-- ==== Proof.GnP0.lean ====
/- The first pass's payloads, read at an index. -/
module

public import proofs.«01_k».proof.Proof.Ops
public import proofs.«01_k».proof.Proof.GnK0

@[expose] public section

set_option maxRecDepth 16384

noncomputable section

namespace Cert.Attn.Given

open Idealize.ShloMosaic hiding ix0 ix1 ix2 ix3 ix4 ix5 eq_ix1 eq_ix2 eq_ix3 eq_ix4
open Idealize.ShloMosaic.ValueIdx Idealize.ShloMosaic.WordCmp Finset
open Cert.KernelGivenIdeal Cert.KernelGivenIdeal.Gen Cert.KernelGivenIdeal.Facts Cert.KernelGivenIdeal.Own
open Cert.Attn.Sel Cert.Attn.Ops

attribute [local instance 10] Classical.propDecidable

/-- A product over one contracted axis, with both operands' indices named. -/
theorem mm_one {sl sr so : Shape} {φ₁ φ₂ : FTy} (D : DotDims sl sr so) (prec : Option ContractPrecision) (n : Nat)
    (hr : D.contr.rank = 1) (hs : D.contr.size ⟨0, by omega⟩ = n) (lhs : FVec Ideal sl φ₁) (rhs : FVec Ideal sr φ₂)
    (acc : FVec Ideal so .f32) (j : so.Idx) (L : Fin n → sl.Idx) (R : Fin n → sr.Idx)
    (hL : ∀ k, D.lhsIdx j ((contrEquiv1 D n hr hs).symm k) = L k) (hR : ∀ k, D.rhsIdx j ((contrEquiv1 D n hr hs).symm k) = R k) :
    FloatOps.matmul D prec lhs rhs acc j = (acc j + ∑ k : Fin n, lhs (L k) * rhs (R k) : EReal) := by
  rw [Ideal.matmul_apply]
  congr 1
  rw [← Equiv.sum_comp (contrEquiv1 D n hr hs).symm]
  exact Finset.sum_congr rfl fun k _ => by rw [hL, hR]

/-- The scale the first pass multiplies by. -/
def kap : EReal := (Named.named κ "inv_sqrt_d" 0x3D13CD3A#32 : Ideal .f32)

/-- A row of 32 marks as a word. -/
def packWord (P : Fin 32 → Prop) : BitVec 32 :=
  univ.fold IntOp.addi (0#32) fun s : Fin 32 => (BitVec.ofBool (decide (P s))).setWidth 32 <<< s.val

theorem packWord_bit (P : Fin 32 → Prop) (t : Fin 32) : (packWord P).getLsbD t.val = true ↔ P t := by
  unfold packWord
  rw [getLsbD_pack (fun s => BitVec.ofBool (decide (P s))) univ t, decide_eq_true_iff, ofBool_one]
  simp

theorem fold_packWord (P : Fin 32 → Prop) (f : Fin 32 → BitVec 32)
    (h : ∀ s, ∃ w : BitVec 32, f s = w <<< s.val ∧ (P s → w = 1#32) ∧ (¬ P s → w = 0#32)) : univ.fold IntOp.addi (0#32) f = packWord P := by
  unfold packWord
  refine Finset.fold_congr fun s _ => ?_
  obtain ⟨w, h1, h2, h3⟩ := h s
  rw [h1]
  by_cases hp : P s
  · rw [h2 hp, decide_eq_true hp]; rfl
  · rw [h3 hp, decide_eq_false hp]; rfl

theorem shl_apply (x : BitVec 32) (s : Fin 32) : IntOp.shli .vector x (BitVec.ofNat 32 s.val) = x <<< s.val := by
  have h := s.isLt
  have e : (BitVec.ofNat 32 s.val).toNat = s.val := by rw [BitVec.toNat_ofNat]; omega
  unfold IntOp.shli
  rw [if_pos (by rw [e]; exact h), BitVec.shiftLeft_eq', e]

theorem shr_apply (x : BitVec 32) (s : Fin 32) : IntOp.shrui .vector x (BitVec.ofNat 32 s.val) = x >>> s.val := by
  have h := s.isLt
  have e : (BitVec.ofNat 32 s.val).toNat = s.val := by rw [BitVec.toNat_ofNat]; omega
  unfold IntOp.shrui
  rw [if_pos (by rw [e]; exact h), BitVec.ushiftRight_eq', e]

/-- The first pass's scores. -/
theorem pay8_apply (x : Vec Ideal S256x768 .f32) (y : Vec Ideal S768x2048 .f32) (r : Fin 256) (j : Fin 2048) :
    k0_pay8 x y (ix2 r j) = ((∑ k : Fin 768, x (ix2 r k) * y (ix2 k j)) * kap : EReal) := by
  unfold k0_pay8
  show (FloatOps.matmul dot_S256x768_S768x2048_S256x2048_1_0_0_1_n_n none (show FVec Ideal S256x768 .f32 from shapeCast S256x768 x shapeCasts_S256x768_S256x768) (show FVec Ideal S768x2048 .f32 from shapeCast S768x2048 y shapeCasts_S768x2048_S768x2048) (constant (F := Ideal) S256x2048 .f32 0x00000000#32) (ix2 r j) * kap : EReal) = _
  congr 1
  refine (mm_one dot_S256x768_S768x2048_S256x2048_1_0_0_1_n_n none 768 rfl rfl _ _ _ (ix2 r j) (fun k => ix2 r k) (fun k => ix2 k j) ?_ ?_).trans ?_
  · intro k; funext a; match a with | ⟨0, _⟩ => rfl | ⟨1, _⟩ => exact Fin.ext (contrEquiv1_symm_val dot_S256x768_S768x2048_S256x2048_1_0_0_1_n_n 768 rfl rfl k)
  · intro k; funext a; match a with | ⟨0, _⟩ => exact Fin.ext (contrEquiv1_symm_val dot_S256x768_S768x2048_S256x2048_1_0_0_1_n_n 768 rfl rfl k) | ⟨1, _⟩ => rfl
  · rw [show (constant S256x2048 .f32 0x00000000#32 : FVec Ideal S256x2048 .f32) (ix2 r j) = (0 : EReal) from Ideal.ofBits_zero_f32, zero_add]
    refine Finset.sum_congr rfl fun k _ => ?_
    rw [shapeCast_apply x _ (ix2 r k) (ix2 r k) rfl, shapeCast_apply y _ (ix2 k j) (ix2 k j) rfl]

/-- The first pass's threshold. -/
theorem thr0_apply (x : Vec Ideal S256x768 .f32) (y : Vec Ideal S768x2048 .f32) (r : Fin 256) :
    thr0 x y (ix2 r 0) = (step 409 (row (k0_pay8 x y) r))^[409] (⊤ : EReal) := by
  unfold thr0
  refine (fold_apply (k0_pay8 x y) r k0_t1_loop.trips (fun _ acc => k0_pay10 x y acc) (fun _ acc => rfl) k0_pay9).trans ?_
  have hn : k0_t1_loop.trips = 409 := by decide +kernel
  rw [hn]
  have ht : (k0_pay9 (F := Ideal)) (ix2 r 0) = (⊤ : EReal) := by
    show Ideal.ofBits .f32 0x7F800000#32 = _; simp [Ideal.ofBits, Ideal.ieee]
  rw [ht]

theorem thr0_kth (x : Vec Ideal S256x768 .f32) (y : Vec Ideal S768x2048 .f32) (r : Fin 256) :
    Kth 409 (row (k0_pay8 x y) r) (thr0 x y (ix2 r 0)) := by
  rw [thr0_apply]
  exact kth_iterate (by norm_num) (by norm_num) _

theorem rank0_eq (v : FVec Ideal S256x2048 .f32) (t : FVec Ideal S256x1 .f32) :
    rank0 v t = rankWord (cmpf .ogt v (broadcastTo S256x2048 t broadcasts_S256x1_S256x2048)) (cmpf .oeq v (broadcastTo S256x2048 t broadcasts_S256x1_S256x2048)) := rfl

/-- The first pass's selection. -/
theorem sel0_apply (x : Vec Ideal S256x768 .f32) (y : Vec Ideal S768x2048 .f32) (r : Fin 256) (j : Fin 2048) :
    sel0 x y (thr0 x y) (ix2 r j) = if Top 409 (row (k0_pay8 x y) r) j then 1#32 else 0#32 := by
  unfold sel0
  split
  · rename_i h
    exact exact_iff _ _ (thr0_kth x y r) r (k0_pay11 x y (thr0 x y))
      (fun j => by
        show cmpf .oge _ _ (ix2 r j) = 1#1 ↔ _
        rw [cmpf_apply, bcol_apply]; exact oge_iff _ _) h j
  · rw [rank0_eq]
    exact rankWord_apply _ _ (thr0_kth x y r) r _ _
      (fun j => by rw [cmpf_apply, bcol_apply]; exact ogt_iff _ _)
      (fun j => by rw [cmpf_apply, bcol_apply]; exact oeq_iff _ _) j

/-- Whether two positions are within 32 of each other. -/
def Loc (i j : Fin 2048) : Prop := i.val ≤ j.val + 32 ∧ j.val < i.val + 32

theorem toInt_small {n : ℕ} (h : n < 2 ^ 31) : (BitVec.ofNat 32 n).toInt = (n : ℤ) := by
  rw [BitVec.toInt_eq_toNat_cond, BitVec.toNat_ofNat]
  split <;> omega

theorem ge_word (a b : ℕ) (ha : a < 4096) (hb : b < 4096) :
    IntOp.cmpi .sge (BitVec.ofNat 32 a) (BitVec.ofNat 32 b - 32#32) = 1#1 ↔ b ≤ a + 32 := by
  have e : (BitVec.ofNat 32 b - 32#32).toInt = (b : ℤ) - 32 := by
    rw [BitVec.toInt_sub, toInt_small (by omega)]
    show ((b : ℤ) - 32).bmod (2 ^ 32) = _
    rw [Int.bmod_eq_of_le] <;> omega
  show BitVec.ofBool ((BitVec.ofNat 32 b - 32#32).sle (BitVec.ofNat 32 a)) = 1#1 ↔ _
  rw [BitVec.sle_eq_decide, ofBool_one, e, toInt_small (by omega)]
  omega

theorem lt_word (a b : ℕ) (ha : a < 4096) (hb : b < 4096) :
    IntOp.cmpi .slt (BitVec.ofNat 32 a) (BitVec.ofNat 32 b + 32#32) = 1#1 ↔ a < b + 32 := by
  have e : BitVec.ofNat 32 b + 32#32 = BitVec.ofNat 32 (b + 32) := by rw [BitVec.ofNat_add]
  rw [e]
  exact cmpi_slt_ofNat_eq_one_iff (w := 32) (by omega) (by omega)

/-- The first pass's packed mask, from the grid's point. -/
theorem pack0_bits (i : grid0.Coords) (x : Vec Ideal S256x768 .f32) (y : Vec Ideal S768x2048 .f32) (a : Fin 8) (j : Fin 2048) :
    pack0 i x y (ix2 a j) = packWord fun s => Top 409 (row (k0_pay8 x y) ⟨a.val * 32 + s.val, by have := a.isLt; have := s.isLt; omega⟩) j
      ∨ Loc ⟨(i 0).val * 256 + (a.val * 32 + s.val), by have := a.isLt; have := s.isLt; have : (i 0).val < 8 := (i 0).isLt; omega⟩ j := by
  unfold pack0 k0_pay1
  refine (reduceFold_eq_fold reduces_S8x32x2048_S8x2048 IntOp.addi 0#32 _ (ix2 a j)).trans ?_
  rw [Shape.Reduces.fold_fiber_r3_a1]
  refine fold_packWord _ _ fun s => ?_
  have ha := a.isLt
  have hs := s.isLt
  have hi : (i 0).val < 8 := (i 0).isLt
  refine ⟨ori (sel0 x y (thr0 x y)) (extui 32 (andi (k0_pay16 i) (cmpi .slt (iota .tc S256x2048 32 [1] iota_S256x2048_d1_w32) (addi (k0_pay15 i) (broadcast S256x2048 32#32)))) natLt_1_32)
    (ix2 (⟨a.val * 32 + s.val, by omega⟩ : Fin 256) j), ?_, ?_⟩
  · rw [show ∀ p q : IVec S8x32x2048 32, ∀ k, shli p q k = IntOp.shli .vector (p k) (q k) from fun _ _ _ => rfl, iota_single_apply]
    refine (shl_apply _ s).trans ?_
    refine congrArg (fun w : BitVec 32 => w <<< s.val) ?_
    exact shapeCast_apply _ _ _ (ix2 (⟨a.val * 32 + s.val, by omega⟩ : Fin 256) j) (by rw [Shape.rowMajor_val_two, Shape.rowMajor_val_three]; rfl)
  set r : Fin 256 := ⟨a.val * 32 + s.val, by omega⟩ with hr
  have hrow : k0_pay15 i (ix2 r j) = BitVec.ofNat 32 ((i 0).val * 256 + r.val) := by
    unfold k0_pay15
    rw [show ∀ p q : IVec S256x2048 32, ∀ k, addi p q k = p k + q k from fun _ _ _ => rfl, iota_single_apply]
    show BitVec.ofNat 32 r.val + BitVec.ofNat 32 (i 0).val * 256#32 = _
    rw [← BitVec.ofNat_mul, ← BitVec.ofNat_add, Nat.add_comm]
  have h1 : k0_pay16 i (ix2 r j) = 1#1 ↔ (i 0).val * 256 + r.val ≤ j.val + 32 := by
    unfold k0_pay16
    show IntOp.cmpi .sge (iota .tc S256x2048 32 [1] iota_S256x2048_d1_w32 (ix2 r j)) (k0_pay15 i (ix2 r j) - 32#32) = 1#1 ↔ _
    rw [iota_single_apply, hrow]
    exact ge_word j.val _ (by omega) (by omega)
  have h2 : cmpi .slt (iota .tc S256x2048 32 [1] iota_S256x2048_d1_w32) (addi (k0_pay15 i) (broadcast S256x2048 32#32)) (ix2 r j) = 1#1
      ↔ j.val < (i 0).val * 256 + r.val + 32 := by
    show IntOp.cmpi .slt (iota .tc S256x2048 32 [1] iota_S256x2048_d1_w32 (ix2 r j)) (k0_pay15 i (ix2 r j) + 32#32) = 1#1 ↔ _
    rw [iota_single_apply, hrow]
    exact lt_word j.val _ (by omega) (by omega)
  have h3 := (andi_iff (k0_pay16 i (ix2 r j)) (cmpi .slt (iota .tc S256x2048 32 [1] iota_S256x2048_d1_w32) (addi (k0_pay15 i) (broadcast S256x2048 32#32)) (ix2 r j)))
  rw [h1, h2] at h3
  rw [show ori (sel0 x y (thr0 x y)) (extui 32 (andi (k0_pay16 i) (cmpi .slt (iota .tc S256x2048 32 [1] iota_S256x2048_d1_w32) (addi (k0_pay15 i) (broadcast S256x2048 32#32)))) natLt_1_32) (ix2 r j)
    = sel0 x y (thr0 x y) (ix2 r j) ||| (IntOp.andi (k0_pay16 i (ix2 r j)) (cmpi .slt (iota .tc S256x2048 32 [1] iota_S256x2048_d1_w32) (addi (k0_pay15 i) (broadcast S256x2048 32#32)) (ix2 r j))).setWidth 32 from rfl, sel0_apply]
  generalize IntOp.andi (k0_pay16 i (ix2 r j)) (cmpi .slt (iota .tc S256x2048 32 [1] iota_S256x2048_d1_w32) (addi (k0_pay15 i) (broadcast S256x2048 32#32)) (ix2 r j)) = w at h3 ⊢
  have h4 : w = 1#1 ↔ Loc ⟨(i 0).val * 256 + (a.val * 32 + s.val), by omega⟩ j := h3
  constructor
  · intro h
    by_cases hT : Top 409 (row (k0_pay8 x y) r) j
    · rw [if_pos hT]
      by_cases hw : w = 1#1
      · rw [hw]; rfl
      · rw [eq_zero_of_ne_one hw]; rfl
    · rw [if_neg hT, h4.2 (h.resolve_left hT)]; rfl
  · intro h
    rw [if_neg fun hT => h (Or.inl hT), eq_zero_of_ne_one (mt h4.1 fun hL => h (Or.inr hL))]; rfl

end Cert.Attn.Given
-- ==== Proof.GnK1.lean ====
/- Region 1, the projections: what the body leaves in each output, and its obligation at every point. -/
module

public import proofs.«01_k».proof.Proof.Gen.KernelGivenIdeal.Launch
public import proofs.«01_k».proof.Proof.Gen.KernelGivenIdeal.Skeleton
public import proofs.«01_k».proof.Proof.Gen.KernelGivenIdeal.Points
public import Idealize.ShloMosaic.Lib.Pipeline.FrameBody
public import proofs.«01_k».proof.Proof.Gen.KernelGivenIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelGivenIdeal.Own

open Cert.KernelGivenIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
/- the buffers' contents when a region is entered -/
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S256x768 := Rect.unit (s := S256x768) ![0, 0] S256x768.size inb_S256x768_S256x768_0_0
abbrev r1_1 : Rect S1x768x64 := Rect.unit (s := S1x768x64) ![0, 0, 0] S1x768x64.size inb_S1x768x64_S1x768x64_0_0_0
abbrev r1_2 : Rect S1x1x64 := Rect.unit (s := S1x1x64) ![0, 0, 0] S1x1x64.size inb_S1x1x64_S1x1x64_0_0_0
abbrev r1_3 : Rect S1x256x64 := Rect.unit (s := S1x256x64) ![0, 0, 0] S1x256x64.size inb_S1x256x64_S1x256x64_0_0_0
abbrev r1_4 : Rect S768x256 := Rect.unit (s := S768x256) ![0, 0] S768x256.size inb_S768x256_S768x256_0_0
abbrev r1_5 : Rect S64x256 := Rect.unit (s := S64x256) ![0, 0] S64x256.size inb_S64x256_S64x256_0_0

def out1_7 (x0 : Vec F S256x768 .f32) (x1 : Vec F S768x256 .f32) (x2 : Vec F S1x768x64 .f32) (x3 : Vec F S1x768x64 .f32) (x4 : Vec F S1x768x64 .f32) (x5 : Vec F S1x1x64 .f32) (x6 : Vec F S1x1x64 .f32) : Vec F S1x256x64 .f32 :=
  View.canon [⟨r1_3, k1_pay2 (View.ld x0 r1_0) (View.ld x2 r1_1) (View.ld x5 r1_2)⟩]

theorem cover1_7 (p0 : Vec F S1x256x64 .f32) (y : S1x256x64.Idx) :
    ∃ pc ∈ ([⟨r1_3, p0⟩] : List (View.Piece (Elt F) S1x256x64 .f32)), y ∈ pc.1.set :=
  View.cover_of_tiled [⟨r1_3, p0⟩] S1x256x64.size (by rfl) y

def out1_8 (x0 : Vec F S256x768 .f32) (x1 : Vec F S768x256 .f32) (x2 : Vec F S1x768x64 .f32) (x3 : Vec F S1x768x64 .f32) (x4 : Vec F S1x768x64 .f32) (x5 : Vec F S1x1x64 .f32) (x6 : Vec F S1x1x64 .f32) : Vec F S64x256 .f32 :=
  View.canon [⟨r1_5, k1_pay4 (View.ld x3 r1_1) (View.ld x1 r1_4)⟩]

theorem cover1_8 (p0 : Vec F S64x256 .f32) (y : S64x256.Idx) :
    ∃ pc ∈ ([⟨r1_5, p0⟩] : List (View.Piece (Elt F) S64x256 .f32)), y ∈ pc.1.set :=
  View.cover_of_tiled [⟨r1_5, p0⟩] S64x256.size (by rfl) y

def out1_9 (x0 : Vec F S256x768 .f32) (x1 : Vec F S768x256 .f32) (x2 : Vec F S1x768x64 .f32) (x3 : Vec F S1x768x64 .f32) (x4 : Vec F S1x768x64 .f32) (x5 : Vec F S1x1x64 .f32) (x6 : Vec F S1x1x64 .f32) : Vec F S1x256x64 .f32 :=
  View.canon [⟨r1_3, k1_pay3 (View.ld x0 r1_0) (View.ld x4 r1_1) (View.ld x6 r1_2)⟩]

theorem cover1_9 (p0 : Vec F S1x256x64 .f32) (y : S1x256x64.Idx) :
    ∃ pc ∈ ([⟨r1_3, p0⟩] : List (View.Piece (Elt F) S1x256x64 .f32)), y ∈ pc.1.set :=
  View.cover_of_tiled [⟨r1_3, p0⟩] S1x256x64.size (by rfl) y

set_option maxHeartbeats 1000000 in
theorem sound_kernel1 (c : Dev nD) (E : Set ℕ) (i : grid1.Coords) (arg2 : Memref sig .tc .vmem S256x768 .f32) (harg2 : arg2.IsWhole) (arg3 : Memref sig .tc .vmem S768x256 .f32) (harg3 : arg3.IsWhole) (arg4 : Memref sig .tc .vmem S1x768x64 .f32) (harg4 : arg4.IsWhole) (arg5 : Memref sig .tc .vmem S1x768x64 .f32) (harg5 : arg5.IsWhole) (arg6 : Memref sig .tc .vmem S1x768x64 .f32) (harg6 : arg6.IsWhole) (arg7 : Memref sig .tc .vmem S1x1x64 .f32) (harg7 : arg7.IsWhole) (arg8 : Memref sig .tc .vmem S1x1x64 .f32) (harg8 : arg8.IsWhole) (arg9 : Memref sig .tc .vmem S1x256x64 .f32) (harg9 : arg9.IsWhole) (arg10 : Memref sig .tc .vmem S64x256 .f32) (harg10 : arg10.IsWhole) (arg11 : Memref sig .tc .vmem S1x256x64 .f32) (harg11 : arg11.IsWhole)
    (x0 : Vec F S256x768 .f32) (x1 : Vec F S768x256 .f32) (x2 : Vec F S1x768x64 .f32) (x3 : Vec F S1x768x64 .f32) (x4 : Vec F S1x768x64 .f32) (x5 : Vec F S1x1x64 .f32) (x6 : Vec F S1x1x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out1_7 x0 x1 x2 x3 x4 x5 x6) ∗ owns (c : Thread nD τ) arg10 fullShare (out1_8 x0 x1 x2 x3 x4 x5 x6) ∗ owns (c : Thread nD τ) arg11 fullShare (out1_9 x0 x1 x2 x3 x4 x5 x6)) -∗ K ⟨⟩))
      ⊢ wp frame (wpE (defs₀ (F := F)) Variants.none c none) E (cc1__p2_kernel i arg2 harg2 arg3 harg3 arg4 harg4 arg5 harg5 arg6 harg6 arg7 harg7 arg8 harg8 arg9 harg9 arg10 harg10 arg11 harg11) K := by
  simp only [cc1__p2_kernel_eq_skeleton]; unfold cc1__p2_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover1_7 _)
  isplitl [H8]
  · iexists _; isplitr
    swap; · iexact H8
    ipureintro
    exact View.read_writes_eq_canon _ _ _ (cover1_8 _)
  iexists _; isplitr
  swap; · iexact H9
  ipureintro
  exact View.read_writes_eq_canon _ _ _ (cover1_9 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
    | ⟨8, _⟩ => out1_8 (iblk1 V c 0 t) (iblk1 V c 1 t) (iblk1 V c 2 t) (iblk1 V c 3 t) (iblk1 V c 4 t) (iblk1 V c 5 t) (iblk1 V c 6 t)
    | ⟨9, _⟩ => out1_9 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelGivenIdeal.Own
-- ==== Proof.GnK2.lean ====
/- Region 2, the attention: what the body leaves in its output, head by head, and its obligation at every point. -/
module

public import proofs.«01_k».proof.Proof.Gen.KernelGivenIdeal.Launch
public import proofs.«01_k».proof.Proof.Gen.KernelGivenIdeal.Skeleton
public import proofs.«01_k».proof.Proof.Gen.KernelGivenIdeal.Points
public import Idealize.ShloMosaic.Lib.Pipeline.FrameBody
public import proofs.«01_k».proof.Proof.Gen.KernelGivenIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelGivenIdeal.Own

open Cert.KernelGivenIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
/- the buffers' contents when a region is entered -/
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-- The word that decides a branch on a flag held as a number. -/
def flagWord2 (x : F .f32) : BitVec 1 :=
  Scalar.cmpi .ne (Scalar.extui (Scalar.cmpf .ogt x (Scalar.ofBits .f32 0x00000000#32)) : BitVec 32) 0#32

/-- The attention's selection where every row's threshold is known, by rank. -/
def fastRank (v1 : FVec F S256x2048 .f32) (v15 : IVec S256x2048 1) (v17 : FVec F S256x1 .f32) : IVec S256x2048 32 :=
  k2_pay19 (k2_pay2 v1 v15 v17) (k2_pay3 v1 v15 v17) (k2_pay4 v1 v15 v17) (k2_pay5 v1 v15 v17) 0#32

/-- The attention's selection where every row's threshold is known. -/
def fastSel (v0 : Vec F S256x2048 .f32) (v2 : Vec F S8x2048 .i32) (v4 : Vec F S1x8x2048 .i32) (v16 : Vec F S256x1 .f32) : IVec S256x2048 32 :=
  if flagWord2 (k2_pay17 v0 v2 v4 v16) = 1#1 then k2_pay18 v0 v2 v4 v16
  else fastRank (k2_pay12 v0) (k2_pay13 v2 v4) (k2_pay14 v16)

/-- The threshold column of the masked scores: the fold of the counted loop's trip. -/
def thr2 (v0 : Vec F S256x2048 .f32) (v2 : Vec F S8x2048 .i32) (v4 : Vec F S1x8x2048 .i32) : FVec F S256x1 .f32 :=
  Scf.fold (fun (_ : Fin k2_t1_loop.trips) acc => k2_pay22 v0 v2 v4 acc) (k2_pay21 (F := F))

/-- The attention's selection from the masked scores, by rank. -/
def slowRank (v75 : FVec F S256x2048 .f32) (v78 : FVec F S256x1 .f32) : IVec S256x2048 32 :=
  k2_pay26 (k2_pay6 v75 v78) (k2_pay7 v75 v78) (k2_pay8 v75 v78) (k2_pay9 v75 v78) k2_pay10 (k2_pay11 v75 v78)

/-- The attention's selection from the masked scores. -/
def slowSel (v0 : Vec F S256x2048 .f32) (v2 : Vec F S8x2048 .i32) (v4 : Vec F S1x8x2048 .i32) (v78 : FVec F S256x1 .f32) : IVec S256x2048 32 :=
  if flagWord2 (k2_pay24 v0 v2 v4 v78) = 1#1 then k2_pay25 v0 v2 v4 v78 else slowRank (k2_pay20 v0 v2 v4) v78

/-- The attention's selection. -/
def sel2 (v0 : Vec F S256x2048 .f32) (v2 : Vec F S8x2048 .i32) (v4 : Vec F S1x8x2048 .i32) (v16 : Vec F S256x1 .f32) : IVec S256x2048 32 :=
  if flagWord2 (k2_pay15 v16) = 1#1 then fastSel v0 v2 v4 v16 else slowSel v0 v2 v4 (thr2 v0 v2 v4)

/-- The attention's third part with its loop and its branches in closed form. -/
theorem part3_pure (i : grid2.Coords) (arg2 : Memref sig .tc .vmem S1x256x64 .f32) (harg2 : arg2.IsWhole) (arg3 : Memref sig .tc .vmem S64x2048 .f32) (harg3 : arg3.IsWhole) (arg4 : Memref sig .tc .vmem S1x2048x64 .f32) (harg4 : arg4.IsWhole) (arg5 : Memref sig .tc .vmem S1x1x64 .f32) (harg5 : arg5.IsWhole) (arg6 : Memref sig .tc .vmem S1x64x768 .f32) (harg6 : arg6.IsWhole) (arg7 : Memref sig .tc .vmem S1x768 .f32) (harg7 : arg7.IsWhole) (arg8 : Memref sig .tc .vmem S256x2048 .f32) (harg8 : arg8.IsWhole) (arg9 : Memref sig .tc .vmem S8x2048 .i32) (harg9 : arg9.IsWhole) (arg10 : Memref sig .tc .vmem S1x8x2048 .i32) (harg10 : arg10.IsWhole) (arg11 : Memref sig .tc .vmem S256x1 .f32) (harg11 : arg11.IsWhole) (arg12 : Memref sig .tc .vmem S256x768 .f32) (harg12 : arg12.IsWhole) :
    k2_part3 (F := F) i arg2 harg2 arg3 harg3 arg4 harg4 arg5 harg5 arg6 harg6 arg7 harg7 arg8 harg8 arg9 harg9 arg10 harg10 arg11 harg11 arg12 harg12 = (do
      let v0 : Vec F S256x2048 .f32 ← Prog.lift (.load arg8 (Rect.unit (s := S256x2048) ![0, 0] S256x2048.size inb_S256x2048_S256x2048_0_0).toLoadRect (View.loadsAt_vmem h_S256x2048))
      let v2 : Vec F S8x2048 .i32 ← Prog.lift (.load arg9 (Rect.unit (s := S8x2048) ![0, 0] S8x2048.size inb_S8x2048_S8x2048_0_0).toLoadRect (View.loadsAt_vmem h_S8x2048))
      let v4 : Vec F S1x8x2048 .i32 ← Prog.lift (.load arg10 (Rect.unit (s := S1x8x2048) ![0, 0, 0] S1x8x2048.size inb_S1x8x2048_S1x8x2048_0_0_0).toLoadRect (View.loadsAt_vmem h_S1x8x2048))
      let v16 : Vec F S256x1 .f32 ← Prog.lift (.load arg11 (Rect.unit (s := S256x1) ![0, 0] S256x1.size inb_S256x1_S256x1_0_0).toLoadRect (View.loadsAt_vmem h_S256x1))
      let v31 : Vec F S1x256x64 .f32 ← Prog.lift (.load arg2 (Rect.unit (s := S1x256x64) ![0, 0, 0] S1x256x64.size inb_S1x256x64_S1x256x64_0_0_0).toLoadRect (View.loadsAt_vmem h_S1x256x64))
      let v33 : Vec F S64x2048 .f32 ← Prog.lift (.load arg3 (Rect.unit (s := S64x2048) ![0, 0] S64x2048.size inb_S64x2048_S64x2048_0_0).toLoadRect (View.loadsAt_vmem h_S64x2048))
      pure ⟨BitVec.ofNat 32 (i 1).val, sel2 v0 v2 v4 v16, k2_pay27 v31, k2_pay28 v33, constant S256x2048 .f32 0x00000000#32⟩) := by
  rw [k2_part3_eq_skeleton]; unfold k2_part3_skel
  refine bind_congr fun v0 => ?_
  refine bind_congr fun v2 => ?_
  refine bind_congr fun v4 => ?_
  refine bind_congr fun v16 => ?_
  rw [k2_part1_eq_skeleton, k2_part2_eq_skeleton]
  by_cases h : flagWord2 (k2_pay15 v16) = 1#1
  · refine (if_pos (c := flagWord2 (k2_pay15 v16) = 1#1) h).trans ?_
    rw [show sel2 v0 v2 v4 v16 = fastSel v0 v2 v4 v16 from if_pos h]
    by_cases h' : flagWord2 (k2_pay17 v0 v2 v4 v16) = 1#1
    · rw [show fastSel v0 v2 v4 v16 = k2_pay18 v0 v2 v4 v16 from if_pos h']
      exact (if_pos (c := flagWord2 (k2_pay17 v0 v2 v4 v16) = 1#1) h').trans rfl
    · rw [show fastSel v0 v2 v4 v16 = fastRank (k2_pay12 v0) (k2_pay13 v2 v4) (k2_pay14 v16) from if_neg h']
      exact (if_neg (c := flagWord2 (k2_pay17 v0 v2 v4 v16) = 1#1) h').trans rfl
  · refine (if_neg (c := flagWord2 (k2_pay15 v16) = 1#1) h).trans ?_
    rw [show sel2 v0 v2 v4 v16 = slowSel v0 v2 v4 (thr2 v0 v2 v4) from if_neg h]
    refine (Scf.for_pure_bind k2_t1_loop.lb k2_t1_loop.ub k2_t1_loop.st k2_t1_ok (k2_pay21 (F := F)) (k2_t1_body i arg2 harg2 arg3 harg3 arg4 harg4 arg5 harg5 arg6 harg6 arg7 harg7 arg8 harg8 arg9 harg9 arg10 harg10 arg11 harg11 arg12 harg12 v0 v2 v4) (fun _ acc => k2_pay22 v0 v2 v4 acc) (fun _ _ => rfl) _).trans ?_
    by_cases h' : flagWord2 (k2_pay24 v0 v2 v4 (thr2 v0 v2 v4)) = 1#1
    · rw [show slowSel v0 v2 v4 (thr2 v0 v2 v4) = k2_pay25 v0 v2 v4 (thr2 v0 v2 v4) from if_pos h']
      exact (if_pos (c := flagWord2 (k2_pay24 v0 v2 v4 (thr2 v0 v2 v4)) = 1#1) h').trans rfl
    · rw [show slowSel v0 v2 v4 (thr2 v0 v2 v4) = slowRank (k2_pay20 v0 v2 v4) (thr2 v0 v2 v4) from if_neg h']
      exact (if_neg (c := flagWord2 (k2_pay24 v0 v2 v4 (thr2 v0 v2 v4)) = 1#1) h').trans rfl

abbrev r2_0 : Rect S1x256x64 := Rect.unit (s := S1x256x64) ![0, 0, 0] S1x256x64.size inb_S1x256x64_S1x256x64_0_0_0
abbrev r2_1 : Rect S64x2048 := Rect.unit (s := S64x2048) ![0, 0] S64x2048.size inb_S64x2048_S64x2048_0_0
abbrev r2_2 : Rect S1x2048x64 := Rect.unit (s := S1x2048x64) ![0, 0, 0] S1x2048x64.size inb_S1x2048x64_S1x2048x64_0_0_0
abbrev r2_3 : Rect S1x1x64 := Rect.unit (s := S1x1x64) ![0, 0, 0] S1x1x64.size inb_S1x1x64_S1x1x64_0_0_0
abbrev r2_4 : Rect S1x64x768 := Rect.unit (s := S1x64x768) ![0, 0, 0] S1x64x768.size inb_S1x64x768_S1x64x768_0_0_0
abbrev r2_5 : Rect S1x768 := Rect.unit (s := S1x768) ![0, 0] S1x768.size inb_S1x768_S1x768_0_0
abbrev r2_6 : Rect S256x2048 := Rect.unit (s := S256x2048) ![0, 0] S256x2048.size inb_S256x2048_S256x2048_0_0
abbrev r2_7 : Rect S8x2048 := Rect.unit (s := S8x2048) ![0, 0] S8x2048.size inb_S8x2048_S8x2048_0_0
abbrev r2_8 : Rect S1x8x2048 := Rect.unit (s := S1x8x2048) ![0, 0, 0] S1x8x2048.size inb_S1x8x2048_S1x8x2048_0_0_0
abbrev r2_9 : Rect S256x1 := Rect.unit (s := S256x1) ![0, 0] S256x1.size inb_S256x1_S256x1_0_0
abbrev r2_10 : Rect S256x768 := Rect.unit (s := S256x768) ![0, 0] S256x768.size inb_S256x768_S256x768_0_0

/-- One head's contribution to the output block. -/
def contrib2 (x0 : Vec F S1x256x64 .f32) (x1 : Vec F S64x2048 .f32) (x2 : Vec F S1x2048x64 .f32) (x3 : Vec F S1x1x64 .f32) (x4 : Vec F S1x64x768 .f32) (x5 : Vec F S1x768 .f32) (x6 : Vec F S256x2048 .f32) (x7 : Vec F S8x2048 .i32) (x8 : Vec F S1x8x2048 .i32) (x9 : Vec F S256x1 .f32) : FVec F S256x768 .f32 :=
  k2_pay29 (sel2 (View.ld x6 r2_6) (View.ld x7 r2_7) (View.ld x8 r2_8) (View.ld x9 r2_9)) (k2_pay27 (View.ld x0 r2_0)) (k2_pay28 (View.ld x1 r2_1)) (constant S256x2048 .f32 0x00000000#32) (View.ld x3 r2_3) (View.ld x2 r2_2) (View.ld x4 r2_4)

/-- The output's block after the first head's body. -/
def out2_A (x0 : Vec F S1x256x64 .f32) (x1 : Vec F S64x2048 .f32) (x2 : Vec F S1x2048x64 .f32) (x3 : Vec F S1x1x64 .f32) (x4 : Vec F S1x64x768 .f32) (x5 : Vec F S1x768 .f32) (x6 : Vec F S256x2048 .f32) (x7 : Vec F S8x2048 .i32) (x8 : Vec F S1x8x2048 .i32) (x9 : Vec F S256x1 .f32) : Vec F S256x768 .f32 :=
  View.canon [⟨r2_10, k2_pay30 (sel2 (View.ld x6 r2_6) (View.ld x7 r2_7) (View.ld x8 r2_8) (View.ld x9 r2_9)) (k2_pay27 (View.ld x0 r2_0)) (k2_pay28 (View.ld x1 r2_1)) (constant S256x2048 .f32 0x00000000#32) (View.ld x3 r2_3) (View.ld x2 r2_2) (View.ld x4 r2_4) (View.ld x5 r2_5)⟩]

/-- The output's block after a later head's body, from what it held. -/
def out2_B (x0 : Vec F S1x256x64 .f32) (x1 : Vec F S64x2048 .f32) (x2 : Vec F S1x2048x64 .f32) (x3 : Vec F S1x1x64 .f32) (x4 : Vec F S1x64x768 .f32) (x5 : Vec F S1x768 .f32) (x6 : Vec F S256x2048 .f32) (x7 : Vec F S8x2048 .i32) (x8 : Vec F S1x8x2048 .i32) (x9 : Vec F S256x1 .f32) (x10 : Vec F S256x768 .f32) : Vec F S256x768 .f32 :=
  View.canon [⟨r2_10, k2_pay1 (contrib2 x0 x1 x2 x3 x4 x5 x6 x7 x8 x9) (View.ld x10 r2_10)⟩]

theorem cover2_10 (p0 : Vec F S256x768 .f32) (y : S256x768.Idx) :
    ∃ pc ∈ ([⟨r2_10, p0⟩] : List (View.Piece (Elt F) S256x768 .f32)), y ∈ pc.1.set :=
  View.cover_of_tiled [⟨r2_10, p0⟩] S256x768.size (by rfl) y

theorem idle2_10 (i : grid2.Coords) : cfg2.idle 10 i = false := by
  change (!(k2_cond4 i == 1#1) && !(k2_cond5 i == 1#1)) = false
  unfold k2_cond4 k2_cond5
  generalize BitVec.ofNat 32 (i 1).val = a
  by_cases h : a = 0#32
  · subst h; rfl
  · have h1 : (a == 0#32) = false := by simpa using h
    have h2 : (a != 0#32) = true := by simpa using h
    simp only [Scalar.cmpi, Scalar.extui, IntOp.cmpi, h1, h2]; rfl

theorem cond4_iff : ∀ t : Fin cfg2.N, k2_cond4 (grid2.coords t) = 1#1 ↔ t.val % 12 = 0 := by decide
theorem cond5_iff : ∀ t : Fin cfg2.N, k2_cond5 (grid2.coords t) = 1#1 ↔ ¬ t.val % 12 = 0 := by decide

set_option maxHeartbeats 2000000 in
/-- The body of region 2 on whole staging buffers, the inputs' at read contents, runs to the continuation holding
    the inputs' as they were and each output's at its named contents. -/
theorem sound_kernel2A (c : Dev nD) (E : Set ℕ) (i : grid2.Coords) (h4 : k2_cond4 i = 1#1) (h5 : ¬ k2_cond5 i = 1#1) (arg2 : Memref sig .tc .vmem S1x256x64 .f32) (harg2 : arg2.IsWhole) (arg3 : Memref sig .tc .vmem S64x2048 .f32) (harg3 : arg3.IsWhole) (arg4 : Memref sig .tc .vmem S1x2048x64 .f32) (harg4 : arg4.IsWhole) (arg5 : Memref sig .tc .vmem S1x1x64 .f32) (harg5 : arg5.IsWhole) (arg6 : Memref sig .tc .vmem S1x64x768 .f32) (harg6 : arg6.IsWhole) (arg7 : Memref sig .tc .vmem S1x768 .f32) (harg7 : arg7.IsWhole) (arg8 : Memref sig .tc .vmem S256x2048 .f32) (harg8 : arg8.IsWhole) (arg9 : Memref sig .tc .vmem S8x2048 .i32) (harg9 : arg9.IsWhole) (arg10 : Memref sig .tc .vmem S1x8x2048 .i32) (harg10 : arg10.IsWhole) (arg11 : Memref sig .tc .vmem S256x1 .f32) (harg11 : arg11.IsWhole) (arg12 : Memref sig .tc .vmem S256x768 .f32) (harg12 : arg12.IsWhole)
    (x0 : Vec F S1x256x64 .f32) (x1 : Vec F S64x2048 .f32) (x2 : Vec F S1x2048x64 .f32) (x3 : Vec F S1x1x64 .f32) (x4 : Vec F S1x64x768 .f32) (x5 : Vec F S1x768 .f32) (x6 : Vec F S256x2048 .f32) (x7 : Vec F S8x2048 .i32) (x8 : Vec F S1x8x2048 .i32) (x9 : Vec F S256x1 .f32)  (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (out2_A x0 x1 x2 x3 x4 x5 x6 x7 x8 x9)) -∗ K ⟨⟩))
      ⊢ wp frame (wpE (defs₀ (F := F)) Variants.none c none) E (cc2__attn_kernel i arg2 harg2 arg3 harg3 arg4 harg4 arg5 harg5 arg6 harg6 arg7 harg7 arg8 harg8 arg9 harg9 arg10 harg10 arg11 harg11 arg12 harg12) K := by
  simp only [cc2__attn_kernel_eq_skeleton]; unfold cc2__attn_kernel_skel
  simp only [part3_pure, k2_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec (disch := first | sl_exact h4 | sl_exact h5)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover2_10 _)

set_option maxHeartbeats 2000000 in
/-- The body of region 2 on whole staging buffers, the inputs' at read contents, runs to the continuation holding
    the inputs' as they were and each output's at its named contents. -/
theorem sound_kernel2B (c : Dev nD) (E : Set ℕ) (i : grid2.Coords) (h4 : ¬ k2_cond4 i = 1#1) (h5 : k2_cond5 i = 1#1) (arg2 : Memref sig .tc .vmem S1x256x64 .f32) (harg2 : arg2.IsWhole) (arg3 : Memref sig .tc .vmem S64x2048 .f32) (harg3 : arg3.IsWhole) (arg4 : Memref sig .tc .vmem S1x2048x64 .f32) (harg4 : arg4.IsWhole) (arg5 : Memref sig .tc .vmem S1x1x64 .f32) (harg5 : arg5.IsWhole) (arg6 : Memref sig .tc .vmem S1x64x768 .f32) (harg6 : arg6.IsWhole) (arg7 : Memref sig .tc .vmem S1x768 .f32) (harg7 : arg7.IsWhole) (arg8 : Memref sig .tc .vmem S256x2048 .f32) (harg8 : arg8.IsWhole) (arg9 : Memref sig .tc .vmem S8x2048 .i32) (harg9 : arg9.IsWhole) (arg10 : Memref sig .tc .vmem S1x8x2048 .i32) (harg10 : arg10.IsWhole) (arg11 : Memref sig .tc .vmem S256x1 .f32) (harg11 : arg11.IsWhole) (arg12 : Memref sig .tc .vmem S256x768 .f32) (harg12 : arg12.IsWhole)
    (x0 : Vec F S1x256x64 .f32) (x1 : Vec F S64x2048 .f32) (x2 : Vec F S1x2048x64 .f32) (x3 : Vec F S1x1x64 .f32) (x4 : Vec F S1x64x768 .f32) (x5 : Vec F S1x768 .f32) (x6 : Vec F S256x2048 .f32) (x7 : Vec F S8x2048 .i32) (x8 : Vec F S1x8x2048 .i32) (x9 : Vec F S256x1 .f32) (x10 : Vec F S256x768 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (out2_B x0 x1 x2 x3 x4 x5 x6 x7 x8 x9 x10)) -∗ K ⟨⟩))
      ⊢ wp frame (wpE (defs₀ (F := F)) Variants.none c none) E (cc2__attn_kernel i arg2 harg2 arg3 harg3 arg4 harg4 arg5 harg5 arg6 harg6 arg7 harg7 arg8 harg8 arg9 harg9 arg10 harg10 arg11 harg11 arg12 harg12) K := by
  simp only [cc2__attn_kernel_eq_skeleton]; unfold cc2__attn_kernel_skel
  simp only [part3_pure, k2_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf0 hf1 hf2 hf3 hf4 hf5 hf6 hf7 hf8 hf9 hf10
  sl_exec (disch := first | sl_exact h4 | sl_exact h5)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover2_10 _)

/-- The output's block after the body at each point: started by the first head, added to by the later ones. -/
def outsAt2 (c : Dev nD) : (n : ℕ) → n < cfg2.N → Vec F S256x768 .f32
  | 0, h => out2_A (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩) (iblk2 V c 6 ⟨0, h⟩) (iblk2 V c 7 ⟨0, h⟩) (iblk2 V c 8 ⟨0, h⟩) (iblk2 V c 9 ⟨0, h⟩)
  | n + 1, h => if (n + 1) % 12 = 0 then out2_A (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩) (iblk2 V c 9 ⟨n + 1, h⟩)
      else out2_B (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩) (iblk2 V c 9 ⟨n + 1, h⟩) (outsAt2 c n (Nat.lt_of_succ_lt h))

theorem outsAt2_A (c : Dev nD) (t : Fin cfg2.N) (h : t.val % 12 = 0) :
    outsAt2 V c t.val t.isLt = out2_A (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by
  obtain ⟨n, hn⟩ := t
  cases n with
  | zero => rfl
  | succ n => exact if_pos h

theorem outsAt2_B (c : Dev nD) (t : Fin cfg2.N) (h : ¬ t.val % 12 = 0) :
    outsAt2 V c t.val t.isLt = out2_B (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
      (outsAt2 V c (t.val - 1) (Nat.lt_of_le_of_lt (Nat.sub_le _ _) t.isLt)) := by
  obtain ⟨n, hn⟩ := t
  cases n with
  | zero => exact absurd rfl h
  | succ n => exact if_neg h

/-- The proof data of pipeline 2: the arrays as the region finds them, each input left as it was, each output as named. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => outsAt2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = outsAt2 V c t.val t.isLt := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d

/-- A later head's body finds what the head before left. -/
theorem before2_10_B (c : Dev nD) (t : Fin cfg2.N) (h : ¬ t.val % 12 = 0) (d) :
    (dat2 V c).before 10 t d = outsAt2 V c (t.val - 1) (Nat.lt_of_le_of_lt (Nat.sub_le _ _) t.isLt) := by
  have ht : t.val ≠ 0 := fun h0 => h (by rw [h0])
  rw [(dat2 V c).before_out_kept 10 rfl t ht ?_ idle2_10 (fun _ _ => rfl) d, after2_10]
  by_contra hf
  have h1 : (cfg2.win 10).flush ⟨t.val - 1, Nat.lt_of_le_of_lt (Nat.sub_le _ _) t.isLt⟩ = true := by
    revert hf; cases (cfg2.win 10).flush ⟨t.val - 1, Nat.lt_of_le_of_lt (Nat.sub_le _ _) t.isLt⟩ <;> simp
  have h2 := (flush2_10 _).mp h1
  dsimp only at h2
  omega

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t))

set_option maxHeartbeats 1600000 in
/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10]
  by_cases h : t.val % 12 = 0
  · rw [outsAt2_A V c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_kernel2A c Set.univ (grid2.coords t) ((cond4_iff t).mpr h) (fun h5 => (cond5_iff t).mp h5 h) _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)  _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [outsAt2_B V c t h]
    simp only [before2_10_B V c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_kernel2B c Set.univ (grid2.coords t) (fun h4 => h ((cond4_iff t).mp h4)) ((cond5_iff t).mpr h) _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem defs₀_row2 (t : Fin cfg2.N) :
    defs₀ (F := F) .tc cfg2.body (cfg2.bodyArgs t (cfg2.slots t)) = bodyAt2 t := by
  unfold defs₀; rw [Defs.onTc_tc]

/-- The body's obligation at every point. -/
theorem body_obligation2 (c : Dev nD) : BodyObligation (dat2 (F := F) V c) (defs₀ (F := F)) Variants.none () Set.univ := fun t => by
  rw [bigSep_W2, bigSep_W2, defs₀_row2]
  refine triple_restated (sound_body2 V c t) rfl .rfl fun a => ?_
  rw [idle2_10]
  exact Entails.rfl

end Regions

end Cert.KernelGivenIdeal.Own
-- ==== Proof.GnRun.lean ====
/- The run of the whole program: its segments from the launch to the return. -/
module

public import proofs.«01_k».proof.Proof.Gen.KernelGivenIdeal.Launch
public import proofs.«01_k».proof.Proof.Gen.KernelGivenIdeal.Skeleton
public import proofs.«01_k».proof.Proof.Gen.KernelGivenIdeal.Points
public import Idealize.ShloMosaic.Lib.Pipeline.FrameBody
public import proofs.«01_k».proof.Proof.Gen.KernelGivenIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.GnK0
public import proofs.«01_k».proof.Proof.GnK1
public import proofs.«01_k».proof.Proof.GnK2
@[expose] public section

set_option maxRecDepth 16384

noncomputable section

namespace Cert.KernelGivenIdeal.Own

open Cert.KernelGivenIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_cst, main_v2, main_v3, main_v4, main_v5, main_v6, main_v7, main_v8, main_v9, main_c, main_v10, main_v11, main_v12, main_v13, main_v14, main_v15, main_v16, main_v17, main_v18, main_v19, main_v20]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v23]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v25]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2` (region 2's entry). -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)
/-- The same read at the TensorCore's references (what region 2's proof data take). -/
abbrev V4 : (c : Dev nD) → (b : Ref sig .tc) → Buf (Elt F) ((c : Thread nD τ).loc b) := fun c b => W4 m ρ c b
/-- At region 2's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- A reference that is none of region 2's OUTPUT arrays keeps its entry contents across it: an input window's
    array is never written back (`Dat.arrAt_in`, `A_eq2`); any other buffer is left as is. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same read at the TensorCore's references (region 2's exit contents). -/
abbrev V5 : (c : Dev nD) → (b : Ref sig .tc) → Buf (Elt F) ((c : Thread nD τ).loc b) := fun c b => W5 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After `hostOps3`. -/
abbrev W6 : Dev nD → Valuation τ sig (Elt F) := fun c => StableHlo.after hostOps3 (W5 m ρ c)
/-- A reference `hostOps3` does not write keeps its contents across it. -/
theorem W6_of (c : Dev nD) (r : Ref sig .tc) (h : r ∉ hostOps3_W) : W6 m ρ c (Proc.devRef .tc r) = W5 m ρ c (Proc.devRef .tc r) :=
  StableHlo.after_of_writes_sub hostOps3 _ hostOps3_writes h
theorem W6_args (c : Dev nD) : ∀ a ∈ argRefs, W6 m ρ c (Proc.devRef .tc a) = m ((c : Thread nD τ).loc a) :=
  fun a ha => (W6_of m ρ c a (hostOps3_args a ha)).trans (W5_args m ρ c a ha)

/-! ### The arguments end as launched: no host stretch writes one and no region may change one (a region reads it
    through an input window or bypasses it) -/

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)
theorem W6_main_arg2 (c : Dev nD) : W6 m ρ c (Proc.devRef .tc main_arg2) = m ((c : Thread nD τ).loc main_arg2) :=
  W6_args m ρ c main_arg2 (by decide)
theorem W6_main_arg3 (c : Dev nD) : W6 m ρ c (Proc.devRef .tc main_arg3) = m ((c : Thread nD τ).loc main_arg3) :=
  W6_args m ρ c main_arg3 (by decide)
theorem W6_main_arg4 (c : Dev nD) : W6 m ρ c (Proc.devRef .tc main_arg4) = m ((c : Thread nD τ).loc main_arg4) :=
  W6_args m ρ c main_arg4 (by decide)
theorem W6_main_arg5 (c : Dev nD) : W6 m ρ c (Proc.devRef .tc main_arg5) = m ((c : Thread nD τ).loc main_arg5) :=
  W6_args m ρ c main_arg5 (by decide)
theorem W6_main_arg6 (c : Dev nD) : W6 m ρ c (Proc.devRef .tc main_arg6) = m ((c : Thread nD τ).loc main_arg6) :=
  W6_args m ρ c main_arg6 (by decide)
theorem W6_main_arg7 (c : Dev nD) : W6 m ρ c (Proc.devRef .tc main_arg7) = m ((c : Thread nD τ).loc main_arg7) :=
  W6_args m ρ c main_arg7 (by decide)
theorem W6_main_arg8 (c : Dev nD) : W6 m ρ c (Proc.devRef .tc main_arg8) = m ((c : Thread nD τ).loc main_arg8) :=
  W6_args m ρ c main_arg8 (by decide)
theorem W6_main_arg9 (c : Dev nD) : W6 m ρ c (Proc.devRef .tc main_arg9) = m ((c : Thread nD τ).loc main_arg9) :=
  W6_args m ρ c main_arg9 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 6 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- the launch lemma's implicit arguments are found by unifying its conclusion with this one, which takes unfolding
-- plain definitions in a metavariable's type
set_option backward.isDefEq.respectTransparency.types false in
/-- Every weakly fair execution ends, with every array at the value the boundaries give it and every counter at zero. -/
theorem run_W6 : θ_run defs (onTc (τ := τ) (main (F := F))) ⟨m, fun _ => 0, ρ⟩ (fun r => (∀ c : Dev nD, ∀ b ∈ Pipeline.ucRefs τ sig, r.2.mem (((c : Thread nD τ)).1, b) = W6 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

/-- The frame: every execution ends with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun s hs => by
    obtain ⟨h, hz⟩ := hs
    refine ⟨fun c => ?_, hz⟩
    exact ⟨(h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c),
      (h c _ (mem_uc main_arg9 (by decide))).trans (W6_main_arg9 m ρ c)⟩) (run_W6 m ρ)

end Cert.KernelGivenIdeal.Own
-- ==== Proof.GnV0.lean ====
/- What the first region leaves in its arrays. -/
module

public import proofs.«01_k».proof.Proof.GnP0
public import proofs.«01_k».proof.Proof.GnRun

@[expose] public section

set_option maxRecDepth 16384

noncomputable section

namespace Cert.Attn.Given

open Idealize.ShloMosaic hiding ix0 ix1 ix2 ix3 ix4 ix5 eq_ix1 eq_ix2 eq_ix3 eq_ix4
open Idealize.ShloMosaic.TcCoe Idealize.ShloMosaic.ValueIdx Idealize.ShloMosaic.WordCmp Finset
open Idealize.SL.Sem
open Cert.KernelGivenIdeal Cert.KernelGivenIdeal.Gen Cert.KernelGivenIdeal.Facts Cert.KernelGivenIdeal.Own
open Cert.Attn.Sel Cert.Attn.Ops

attribute [local instance 10] Classical.propDecidable

theorem h0z2 : (![0, 0] : Fin 2 → Nat) = fun _ => 0 := funext fun a => by fin_cases a <;> rfl

variable (V : (c : Dev nD) → (b : Ref sig .tc) → Buf (Elt Ideal) ((c : Thread nD τ).loc b))

theorem N0_le (t : Fin grid0.N) : t.val < 8 := lt_of_lt_of_eq t.isLt (by decide)
theorem at0 : ∀ t : Fin grid0.N, (grid0.coords t 0).val = t.val := by decide +kernel
abbrev row0 (t : Fin grid0.N) (r : Fin 256) : Fin 2048 := ⟨t.val * 256 + r.val, by have := N0_le t; have := r.isLt; omega⟩
abbrev grp0 (t : Fin grid0.N) (a : Fin 8) : Fin 64 := ⟨t.val * 8 + a.val, by have := N0_le t; have := a.isLt; omega⟩
theorem at0_0 : ∀ t : Fin grid0.N, win0_0.index t 0 = t.val ∧ win0_0.index t 1 = 0 := by decide +kernel
theorem at0_1 : ∀ t : Fin grid0.N, win0_1.index t 0 = 0 ∧ win0_1.index t 1 = 0 := by decide +kernel
theorem at0_2 : ∀ t : Fin grid0.N, win0_2.index t 0 = t.val ∧ win0_2.index t 1 = 0 := by decide +kernel
theorem at0_3 : ∀ t : Fin grid0.N, win0_3.index t 0 = t.val ∧ win0_3.index t 1 = 0 := by decide +kernel
theorem at0_4 : ∀ t : Fin grid0.N, win0_4.index t 0 = t.val ∧ win0_4.index t 1 = 0 := by decide +kernel

theorem blk0_0 (c : Dev nD) (t : Fin grid0.N) (r : Fin 256) (k : Fin 768) : iblk0 V c 0 t (ix2 r k) = V c main_v0 (ix2 (row0 t r) k) := by
  show V c main_v0 ((win0_0.rect t).emb (ix2 r k)) = _
  have e : (win0_0.rect t).emb (ix2 r k) = (ix2 (row0 t r) k) := by
    funext ax
    have q := at0_0 t
    match ax with
    | ⟨0, _⟩ => refine Fin.ext ((Pipeline.Window.rect_emb_val win0_0 t (ix2 r k) 0).trans ?_)
                rw [q.1]; first | rfl | (show _ * 256 + _ = _; simp only [Nat.zero_mul, Nat.zero_add, Nat.mul_one] <;> rfl) | (show _ * 256 + 0 = _; simp only [Nat.mul_one, Nat.add_zero, Nat.zero_mul] <;> rfl)
    | ⟨1, _⟩ => refine Fin.ext ((Pipeline.Window.rect_emb_val win0_0 t (ix2 r k) 1).trans ?_)
                rw [q.2]; first | rfl | (show _ * 768 + _ = _; simp only [Nat.zero_mul, Nat.zero_add, Nat.mul_one] <;> rfl) | (show _ * 768 + 0 = _; simp only [Nat.mul_one, Nat.add_zero, Nat.zero_mul] <;> rfl)
  rw [e]

theorem blk0_1 (c : Dev nD) (t : Fin grid0.N) (k : Fin 768) (j : Fin 2048) : iblk0 V c 1 t (ix2 k j) = V c main_v1 (ix2 k j) := by
  show V c main_v1 ((win0_1.rect t).emb (ix2 k j)) = _
  have e : (win0_1.rect t).emb (ix2 k j) = (ix2 k j) := by
    funext ax
    have q := at0_1 t
    match ax with
    | ⟨0, _⟩ => refine Fin.ext ((Pipeline.Window.rect_emb_val win0_1 t (ix2 k j) 0).trans ?_)
                rw [q.1]; first | rfl | (show _ * 768 + _ = _; simp only [Nat.zero_mul, Nat.zero_add, Nat.mul_one] <;> rfl) | (show _ * 768 + 0 = _; simp only [Nat.mul_one, Nat.add_zero, Nat.zero_mul] <;> rfl)
    | ⟨1, _⟩ => refine Fin.ext ((Pipeline.Window.rect_emb_val win0_1 t (ix2 k j) 1).trans ?_)
                rw [q.2]; first | rfl | (show _ * 2048 + _ = _; simp only [Nat.zero_mul, Nat.zero_add, Nat.mul_one] <;> rfl) | (show _ * 2048 + 0 = _; simp only [Nat.mul_one, Nat.add_zero, Nat.zero_mul] <;> rfl)
  rw [e]

/-- The scaled scores of a row. -/
abbrev rawS (x : S2048x768.Idx → EReal) (y : S768x2048.Idx → EReal) (i j : Fin 2048) : EReal := (∑ k : Fin 768, x (ix2 i k) * y (ix2 k j)) * kap
abbrev raw0 (c : Dev nD) (i j : Fin 2048) : EReal :=
  rawS (V c main_v0) (V c main_v1) i j

theorem pay8_blk (c : Dev nD) (t : Fin grid0.N) (r : Fin 256) (j : Fin 2048) :
    k0_pay8 (iblk0 V c 0 t) (iblk0 V c 1 t) (ix2 r j) = raw0 V c (row0 t r) j := by
  rw [pay8_apply]

  congr 1
  exact Finset.sum_congr rfl fun k _ => by rw [blk0_0, blk0_1]

theorem row_blk (c : Dev nD) (t : Fin grid0.N) (r : Fin 256) :
    row (k0_pay8 (iblk0 V c 0 t) (iblk0 V c 1 t)) r = raw0 V c (row0 t r) := funext fun j => pay8_blk V c t r j

/-- The value the threshold's search ends at. -/
@[irreducible] def thrS (v : Fin 2048 → EReal) : EReal := (step 409 v)^[409] ⊤
theorem thrS_eq (v : Fin 2048 → EReal) : thrS v = (step 409 v)^[409] ⊤ := by unfold thrS; rfl

/-- The scores' array. -/
def G0_2 (c : Dev nD) : Buf (Elt Ideal) ((c : Thread nD τ).loc main_v21_0) := fun i : S2048x2048.Idx => raw0 V c (i 0) (i 1)
/-- The packed first mask: bit `s` of word `a` speaks of row `32a + s`. -/
def G0_3 (c : Dev nD) : Buf (Elt Ideal) ((c : Thread nD τ).loc main_v21_1) := fun i : S64x2048.Idx =>
  packWord fun s => Top 409 (raw0 V c ⟨(i 0).val * 32 + s.val, by have h : (i 0).val < 64 := (i 0).isLt; have := s.isLt; omega⟩) (i 1)
    ∨ Loc ⟨(i 0).val * 32 + s.val, by have h : (i 0).val < 64 := (i 0).isLt; have := s.isLt; omega⟩ (i 1)
/-- The thresholds' array. -/
def G0_4 (c : Dev nD) : Buf (Elt Ideal) ((c : Thread nD τ).loc main_v21_2) := fun i : S2048x1.Idx => thrS (raw0 V c (i 0))

theorem flushed0_2 (c : Dev nD) (t : Fin grid0.N) :
    (dat0 V c).flushed 2 t = (win0_2.blk t).view.read (Elt Ideal) (G0_2 V c) := by
  show (cfg0.win 2).cut (grid0.coords t) ((dat0 V c).after 2 t) = _
  rw [after0_2]
  unfold out0_2
  rw [View.canon_unit_zero h0z2, View.ld_unit_zero h0z2, View.ld_unit_zero h0z2]
  funext y
  obtain ⟨r, j, rfl⟩ : ∃ (r : Fin 256) (j : Fin 2048), y = ix2 r j := ⟨y 0, y 1, eq_ix2 y⟩
  show k0_pay8 (iblk0 V c 0 t) (iblk0 V c 1 t) (ix2 r j) = G0_2 V c ((win0_2.rect t).emb (ix2 r j))
  have e : (win0_2.rect t).emb (ix2 r j) = (ix2 (row0 t r) j) := by
    funext ax
    have q := at0_2 t
    match ax with
    | ⟨0, _⟩ => refine Fin.ext ((Pipeline.Window.rect_emb_val win0_2 t (ix2 r j) 0).trans ?_)
                rw [q.1]; first | rfl | (show _ * 256 + _ = _; simp only [Nat.zero_mul, Nat.zero_add, Nat.mul_one] <;> rfl) | (show _ * 256 + 0 = _; simp only [Nat.mul_one, Nat.add_zero, Nat.zero_mul] <;> rfl)
    | ⟨1, _⟩ => refine Fin.ext ((Pipeline.Window.rect_emb_val win0_2 t (ix2 r j) 1).trans ?_)
                rw [q.2]; first | rfl | (show _ * 2048 + _ = _; simp only [Nat.zero_mul, Nat.zero_add, Nat.mul_one] <;> rfl) | (show _ * 2048 + 0 = _; simp only [Nat.mul_one, Nat.add_zero, Nat.zero_mul] <;> rfl)
  rw [e]; exact pay8_blk V c t r j

theorem flushed0_3 (c : Dev nD) (t : Fin grid0.N) :
    (dat0 V c).flushed 3 t = (win0_3.blk t).view.read (Elt Ideal) (G0_3 V c) := by
  show (cfg0.win 3).cut (grid0.coords t) ((dat0 V c).after 3 t) = _
  rw [after0_3]
  unfold out0_3
  rw [View.canon_unit_zero h0z2, View.ld_unit_zero h0z2, View.ld_unit_zero h0z2]
  funext y
  obtain ⟨a, j, rfl⟩ : ∃ (a : Fin 8) (j : Fin 2048), y = ix2 a j := ⟨y 0, y 1, eq_ix2 y⟩
  show pack0 (grid0.coords t) (iblk0 V c 0 t) (iblk0 V c 1 t) (ix2 a j) = G0_3 V c ((win0_3.rect t).emb (ix2 a j))
  have e : (win0_3.rect t).emb (ix2 a j) = (ix2 (grp0 t a) j) := by
    funext ax
    have q := at0_3 t
    match ax with
    | ⟨0, _⟩ => refine Fin.ext ((Pipeline.Window.rect_emb_val win0_3 t (ix2 a j) 0).trans ?_)
                rw [q.1]; first | rfl | (show _ * 8 + _ = _; simp only [Nat.zero_mul, Nat.zero_add, Nat.mul_one] <;> rfl) | (show _ * 8 + 0 = _; simp only [Nat.mul_one, Nat.add_zero, Nat.zero_mul] <;> rfl)
    | ⟨1, _⟩ => refine Fin.ext ((Pipeline.Window.rect_emb_val win0_3 t (ix2 a j) 1).trans ?_)
                rw [q.2]; first | rfl | (show _ * 2048 + _ = _; simp only [Nat.zero_mul, Nat.zero_add, Nat.mul_one] <;> rfl) | (show _ * 2048 + 0 = _; simp only [Nat.mul_one, Nat.add_zero, Nat.zero_mul] <;> rfl)
  rw [e, pack0_bits]
  unfold G0_3
  refine congrArg packWord (funext fun s => ?_)
  have hs := s.isLt
  have ha := a.isLt
  have hN := N0_le t
  have e1 : (⟨(grid0.coords t 0).val * 256 + (a.val * 32 + s.val), by rw [at0]; omega⟩ : Fin 2048) = ⟨(grp0 t a).val * 32 + s.val, by show (t.val * 8 + a.val) * 32 + s.val < 2048; omega⟩ :=
    Fin.ext (by show (grid0.coords t 0).val * 256 + (a.val * 32 + s.val) = (t.val * 8 + a.val) * 32 + s.val; rw [at0]; omega)
  have e2 : row0 t ⟨a.val * 32 + s.val, by omega⟩ = ⟨(grp0 t a).val * 32 + s.val, by show (t.val * 8 + a.val) * 32 + s.val < 2048; omega⟩ :=
    Fin.ext (by show t.val * 256 + (a.val * 32 + s.val) = (t.val * 8 + a.val) * 32 + s.val; omega)
  rw [row_blk, e2]
  exact congrArg (fun z => Top 409 (raw0 V c ⟨(grp0 t a).val * 32 + s.val, by show (t.val * 8 + a.val) * 32 + s.val < 2048; omega⟩) j ∨ Loc z j) e1

theorem flushed0_4 (c : Dev nD) (t : Fin grid0.N) :
    (dat0 V c).flushed 4 t = (win0_4.blk t).view.read (Elt Ideal) (G0_4 V c) := by
  show (cfg0.win 4).cut (grid0.coords t) ((dat0 V c).after 4 t) = _
  rw [after0_4]
  unfold out0_4
  rw [View.canon_unit_zero h0z2, View.ld_unit_zero h0z2, View.ld_unit_zero h0z2]
  funext y
  obtain ⟨r, z, rfl⟩ : ∃ (r : Fin 256) (z : Fin 1), y = ix2 r z := ⟨y 0, y 1, eq_ix2 y⟩
  obtain rfl : z = 0 := Subsingleton.elim _ _
  show thr0 (iblk0 V c 0 t) (iblk0 V c 1 t) (ix2 r 0) = G0_4 V c ((win0_4.rect t).emb (ix2 r 0))
  have e : (win0_4.rect t).emb (ix2 r 0) = (ix2 (row0 t r) 0) := by
    funext ax
    have q := at0_4 t
    match ax with
    | ⟨0, _⟩ => refine Fin.ext ((Pipeline.Window.rect_emb_val win0_4 t (ix2 r 0) 0).trans ?_)
                rw [q.1]; first | rfl | (show _ * 256 + _ = _; simp only [Nat.zero_mul, Nat.zero_add, Nat.mul_one] <;> rfl) | (show _ * 256 + 0 = _; simp only [Nat.mul_one, Nat.add_zero, Nat.zero_mul] <;> rfl)
    | ⟨1, _⟩ => refine Fin.ext ((Pipeline.Window.rect_emb_val win0_4 t (ix2 r 0) 1).trans ?_)
                rw [q.2]; first | rfl | (show _ * 1 + _ = _; simp only [Nat.zero_mul, Nat.zero_add, Nat.mul_one] <;> rfl) | (show _ * 1 + 0 = _; simp only [Nat.mul_one, Nat.add_zero, Nat.zero_mul] <;> rfl)
  rw [e, thr0_apply, row_blk]
  exact (thrS_eq _).symm

theorem mem0_2 (t : Fin grid0.N) (i : S2048x2048.Idx) : i ∈ ((cfg0.win 2).blk t).view.set ↔
    (∀ a : Fin 2, win0_2.index t a * win0_2.size a ≤ (i a : Nat) ∧ (i a : Nat) < win0_2.index t a * win0_2.size a + win0_2.xsize (grid0.coords t) a) := by
  show i ∈ ((View.whole main_v21_0).slice (win0_2.rect t)).set ↔ _
  rw [View.set_slice_whole, Rect.mem_set_unit]; exact Iff.rfl

theorem cover0_2_all (i : S2048x2048.Idx) : ∃ t : Fin cfg0.N, (cfg0.win 2).flush t = true ∧ i ∈ ((cfg0.win 2).blk t).view.set := by
  have h0 : (i 0 : Nat) < 2048 := (i 0).isLt
  have h1 : (i 1 : Nat) < 2048 := (i 1).isLt
  have hN : grid0.N = 8 := by decide
  refine ⟨⟨(i 0 : Nat) / 256, by show _ < grid0.N; omega⟩, flush0_2 _, ?_⟩
  rw [mem0_2]
  intro a
  have q := at0_2 ⟨(i 0 : Nat) / 256, by omega⟩
  match a with
  | ⟨0, _⟩ => rw [show win0_2.index _ ⟨0, _⟩ = _ from q.1]; show _ * 256 ≤ (i 0 : Nat) ∧ (i 0 : Nat) < _ * 256 + 256; (try dsimp only); omega
  | ⟨1, _⟩ => rw [show win0_2.index _ ⟨1, _⟩ = _ from q.2]; show _ * 2048 ≤ (i 1 : Nat) ∧ (i 1 : Nat) < _ * 2048 + 2048; (try dsimp only); omega

theorem final0_2 (c : Dev nD) : (dat0 V c).arrAt 2 cfg0.N = G0_2 V c :=
  (dat0 V c).arrAt_eq_of_cover 2 (G0_2 V c) (fun t _ => flushed0_2 V c t) cover0_2_all

theorem mem0_3 (t : Fin grid0.N) (i : S64x2048.Idx) : i ∈ ((cfg0.win 3).blk t).view.set ↔
    (∀ a : Fin 2, win0_3.index t a * win0_3.size a ≤ (i a : Nat) ∧ (i a : Nat) < win0_3.index t a * win0_3.size a + win0_3.xsize (grid0.coords t) a) := by
  show i ∈ ((View.whole main_v21_1).slice (win0_3.rect t)).set ↔ _
  rw [View.set_slice_whole, Rect.mem_set_unit]; exact Iff.rfl

theorem cover0_3_all (i : S64x2048.Idx) : ∃ t : Fin cfg0.N, (cfg0.win 3).flush t = true ∧ i ∈ ((cfg0.win 3).blk t).view.set := by
  have h0 : (i 0 : Nat) < 64 := (i 0).isLt
  have h1 : (i 1 : Nat) < 2048 := (i 1).isLt
  have hN : grid0.N = 8 := by decide
  refine ⟨⟨(i 0 : Nat) / 8, by show _ < grid0.N; omega⟩, flush0_3 _, ?_⟩
  rw [mem0_3]
  intro a
  have q := at0_3 ⟨(i 0 : Nat) / 8, by omega⟩
  match a with
  | ⟨0, _⟩ => rw [show win0_3.index _ ⟨0, _⟩ = _ from q.1]; show _ * 8 ≤ (i 0 : Nat) ∧ (i 0 : Nat) < _ * 8 + 8; (try dsimp only); omega
  | ⟨1, _⟩ => rw [show win0_3.index _ ⟨1, _⟩ = _ from q.2]; show _ * 2048 ≤ (i 1 : Nat) ∧ (i 1 : Nat) < _ * 2048 + 2048; (try dsimp only); omega

theorem final0_3 (c : Dev nD) : (dat0 V c).arrAt 3 cfg0.N = G0_3 V c :=
  (dat0 V c).arrAt_eq_of_cover 3 (G0_3 V c) (fun t _ => flushed0_3 V c t) cover0_3_all

theorem mem0_4 (t : Fin grid0.N) (i : S2048x1.Idx) : i ∈ ((cfg0.win 4).blk t).view.set ↔
    (∀ a : Fin 2, win0_4.index t a * win0_4.size a ≤ (i a : Nat) ∧ (i a : Nat) < win0_4.index t a * win0_4.size a + win0_4.xsize (grid0.coords t) a) := by
  show i ∈ ((View.whole main_v21_2).slice (win0_4.rect t)).set ↔ _
  rw [View.set_slice_whole, Rect.mem_set_unit]; exact Iff.rfl

theorem cover0_4_all (i : S2048x1.Idx) : ∃ t : Fin cfg0.N, (cfg0.win 4).flush t = true ∧ i ∈ ((cfg0.win 4).blk t).view.set := by
  have h0 : (i 0 : Nat) < 2048 := (i 0).isLt
  have h1 : (i 1 : Nat) < 1 := (i 1).isLt
  have hN : grid0.N = 8 := by decide
  refine ⟨⟨(i 0 : Nat) / 256, by show _ < grid0.N; omega⟩, flush0_4 _, ?_⟩
  rw [mem0_4]
  intro a
  have q := at0_4 ⟨(i 0 : Nat) / 256, by omega⟩
  match a with
  | ⟨0, _⟩ => rw [show win0_4.index _ ⟨0, _⟩ = _ from q.1]; show _ * 256 ≤ (i 0 : Nat) ∧ (i 0 : Nat) < _ * 256 + 256; (try dsimp only); omega
  | ⟨1, _⟩ => rw [show win0_4.index _ ⟨1, _⟩ = _ from q.2]; show _ * 1 ≤ (i 1 : Nat) ∧ (i 1 : Nat) < _ * 1 + 1; (try dsimp only); omega

theorem final0_4 (c : Dev nD) : (dat0 V c).arrAt 4 cfg0.N = G0_4 V c :=
  (dat0 V c).arrAt_eq_of_cover 4 (G0_4 V c) (fun t _ => flushed0_4 V c t) cover0_4_all

end Cert.Attn.Given

end
-- ==== Proof.GnV1.lean ====
/- What the second region leaves in its arrays. -/
module

public import proofs.«01_k».proof.Proof.GnV0

@[expose] public section

set_option maxRecDepth 16384

noncomputable section

namespace Cert.Attn.Given

open Idealize.ShloMosaic hiding ix0 ix1 ix2 ix3 ix4 ix5 eq_ix1 eq_ix2 eq_ix3 eq_ix4
open Idealize.ShloMosaic.TcCoe Idealize.ShloMosaic.ValueIdx Idealize.ShloMosaic.WordCmp Finset
open Idealize.SL.Sem
open Cert.KernelGivenIdeal Cert.KernelGivenIdeal.Gen Cert.KernelGivenIdeal.Facts Cert.KernelGivenIdeal.Own
open Cert.Attn.Sel Cert.Attn.Ops

attribute [local instance 10] Classical.propDecidable

/-- Row `d` of head `h` among the 768. -/
abbrev col (h : Fin 12) (d : Fin 64) : Fin 768 := ⟨h.val * 64 + d.val, by have := h.isLt; have := d.isLt; omega⟩

theorem h1z2 : (![0, 0] : Fin 2 → Nat) = fun _ => 0 := funext fun a => by fin_cases a <;> rfl
theorem h1z3 : (![0, 0, 0] : Fin 3 → Nat) = fun _ => 0 := funext fun a => by fin_cases a <;> rfl

/-! ## The payloads at an index -/

theorem p1_pay1_eq (x : Vec Ideal S256x768 .f32) : k1_pay1 x = x := by
  funext i
  exact shapeCast_apply _ _ _ _ rfl

theorem p1_pay2_apply (x : Vec Ideal S256x768 .f32) (w : Vec Ideal S1x768x64 .f32) (b : Vec Ideal S1x1x64 .f32) (r : Fin 256) (d : Fin 64) :
    k1_pay2 x w b (ix3 0 r d) = ((∑ k : Fin 768, x (ix2 r k) * w (ix3 0 k d)) + b (ix3 0 0 d) : EReal) := by
  unfold k1_pay2
  rw [p1_pay1_eq, shapeCast_apply _ _ (ix3 0 r d) (ix2 r d) (by rw [Shape.rowMajor_val_two, Shape.rowMajor_val_three]; simp)]
  rw [addf_apply]
  congr 1
  · refine (mm_one dot_S256x768_S768x64_S256x64_1_0_0_1_n_n none 768 rfl rfl _ _ _ (ix2 r d) (fun k => ix2 r k) (fun k => ix2 k d) ?_ ?_).trans ?_
    · intro k; funext a; match a with | ⟨0, _⟩ => rfl | ⟨1, _⟩ => exact Fin.ext (contrEquiv1_symm_val dot_S256x768_S768x64_S256x64_1_0_0_1_n_n 768 rfl rfl k)
    · intro k; funext a; match a with | ⟨0, _⟩ => exact Fin.ext (contrEquiv1_symm_val dot_S256x768_S768x64_S256x64_1_0_0_1_n_n 768 rfl rfl k) | ⟨1, _⟩ => rfl
    · rw [show (constant S256x64 .f32 0x00000000#32 : FVec Ideal S256x64 .f32) (ix2 r d) = (0 : EReal) from Ideal.ofBits_zero_f32, zero_add]
      refine Finset.sum_congr rfl fun k _ => ?_
      rw [shapeCast_apply w _ (ix2 k d) (ix3 0 k d) (by rw [Shape.rowMajor_val_two, Shape.rowMajor_val_three]; simp)]
  · rw [broadcastTo_apply _ _ (ix2 r d) (ix2 0 d) (fun a => by fin_cases a <;> rfl)]
    exact shapeCast_apply _ _ _ _ (by rw [Shape.rowMajor_val_two, Shape.rowMajor_val_three]; simp)

theorem p1_pay3_apply (x : Vec Ideal S256x768 .f32) (w : Vec Ideal S1x768x64 .f32) (b : Vec Ideal S1x1x64 .f32) (r : Fin 256) (d : Fin 64) :
    k1_pay3 x w b (ix3 0 r d) = ((∑ k : Fin 768, x (ix2 r k) * w (ix3 0 k d)) + b (ix3 0 0 d) : EReal) :=
  p1_pay2_apply x w b r d

theorem p1_pay4_apply (w : Vec Ideal S1x768x64 .f32) (x : Vec Ideal S768x256 .f32) (d : Fin 64) (r : Fin 256) :
    k1_pay4 w x (ix2 d r) = (∑ k : Fin 768, w (ix3 0 k d) * x (ix2 k r) : EReal) := by
  unfold k1_pay4
  refine (mm_one dot_S768x64_S768x256_S64x256_0_0_1_1_n_n none 768 rfl rfl _ _ _ (ix2 d r) (fun k => ix2 k d) (fun k => ix2 k r) ?_ ?_).trans ?_
  · intro k; funext a; match a with | ⟨0, _⟩ => exact Fin.ext (contrEquiv1_symm_val dot_S768x64_S768x256_S64x256_0_0_1_1_n_n 768 rfl rfl k) | ⟨1, _⟩ => rfl
  · intro k; funext a; match a with | ⟨0, _⟩ => exact Fin.ext (contrEquiv1_symm_val dot_S768x64_S768x256_S64x256_0_0_1_1_n_n 768 rfl rfl k) | ⟨1, _⟩ => rfl
  · rw [show (constant S64x256 .f32 0x00000000#32 : FVec Ideal S64x256 .f32) (ix2 d r) = (0 : EReal) from Ideal.ofBits_zero_f32, zero_add]
    refine Finset.sum_congr rfl fun k _ => ?_
    rw [shapeCast_apply w _ (ix2 k d) (ix3 0 k d) (by rw [Shape.rowMajor_val_two, Shape.rowMajor_val_three]; simp),
      shapeCast_apply x _ (ix2 k r) (ix2 k r) rfl]

variable (V : (c : Dev nD) → (b : Ref sig .tc) → Buf (Elt Ideal) ((c : Thread nD τ).loc b))

/-! ## The blocks at a point: row block `t / 12`, head `t % 12` -/

theorem N1_le (t : Fin grid1.N) : t.val < 96 := lt_of_lt_of_eq t.isLt (by decide)
abbrev hd1 (t : Fin grid1.N) : Fin 12 := ⟨t.val % 12, Nat.mod_lt _ (by decide)⟩
abbrev row1 (t : Fin grid1.N) (r : Fin 256) : Fin 2048 := ⟨t.val / 12 * 256 + r.val, by have := N1_le t; have := r.isLt; omega⟩
theorem at1_0 : ∀ t : Fin grid1.N, win1_0.index t 0 = t.val / 12 ∧ win1_0.index t 1 = 0 := by decide +kernel
theorem at1_1 : ∀ t : Fin grid1.N, win1_1.index t 0 = 0 ∧ win1_1.index t 1 = t.val / 12 := by decide +kernel
theorem at1_2 : ∀ t : Fin grid1.N, win1_2.index t 0 = t.val % 12 ∧ win1_2.index t 1 = 0 ∧ win1_2.index t 2 = 0 := by decide +kernel
theorem at1_3 : ∀ t : Fin grid1.N, win1_3.index t 0 = t.val % 12 ∧ win1_3.index t 1 = 0 ∧ win1_3.index t 2 = 0 := by decide +kernel
theorem at1_4 : ∀ t : Fin grid1.N, win1_4.index t 0 = t.val % 12 ∧ win1_4.index t 1 = 0 ∧ win1_4.index t 2 = 0 := by decide +kernel
theorem at1_5 : ∀ t : Fin grid1.N, win1_5.index t 0 = t.val % 12 ∧ win1_5.index t 1 = 0 ∧ win1_5.index t 2 = 0 := by decide +kernel
theorem at1_6 : ∀ t : Fin grid1.N, win1_6.index t 0 = t.val % 12 ∧ win1_6.index t 1 = 0 ∧ win1_6.index t 2 = 0 := by decide +kernel
theorem at1_7 : ∀ t : Fin grid1.N, win1_7.index t 0 = t.val % 12 ∧ win1_7.index t 1 = t.val / 12 ∧ win1_7.index t 2 = 0 := by decide +kernel
theorem at1_8 : ∀ t : Fin grid1.N, win1_8.index t 0 = t.val % 12 ∧ win1_8.index t 1 = t.val / 12 := by decide +kernel
theorem at1_9 : ∀ t : Fin grid1.N, win1_9.index t 0 = t.val % 12 ∧ win1_9.index t 1 = t.val / 12 ∧ win1_9.index t 2 = 0 := by decide +kernel

theorem blk1_0 (c : Dev nD) (t : Fin grid1.N) (r : Fin 256) (k : Fin 768) : iblk1 V c 0 t (ix2 r k) = V c main_v0 (ix2 (row1 t r) k) := by
  show V c main_v0 ((win1_0.rect t).emb (ix2 r k)) = _
  have e : (win1_0.rect t).emb (ix2 r k) = (ix2 (row1 t r) k) := by
    funext ax
    have q := at1_0 t
    match ax with
    | ⟨0, _⟩ => refine Fin.ext ((Pipeline.Window.rect_emb_val win1_0 t (ix2 r k) 0).trans ?_)
                rw [q.1]; first | rfl | (show _ * 256 + _ = _; simp only [Nat.zero_mul, Nat.zero_add, Nat.mul_one] <;> rfl) | (show _ * 256 + 0 = _; simp only [Nat.mul_one, Nat.add_zero, Nat.zero_mul] <;> rfl)
    | ⟨1, _⟩ => refine Fin.ext ((Pipeline.Window.rect_emb_val win1_0 t (ix2 r k) 1).trans ?_)
                rw [q.2]; first | rfl | (show _ * 768 + _ = _; simp only [Nat.zero_mul, Nat.zero_add, Nat.mul_one] <;> rfl) | (show _ * 768 + 0 = _; simp only [Nat.mul_one, Nat.add_zero, Nat.zero_mul] <;> rfl)
  rw [e]

theorem blk1_1 (c : Dev nD) (t : Fin grid1.N) (k : Fin 768) (r : Fin 256) : iblk1 V c 1 t (ix2 k r) = V c main_v1 (ix2 k (row1 t r)) := by
  show V c main_v1 ((win1_1.rect t).emb (ix2 k r)) = _
  have e : (win1_1.rect t).emb (ix2 k r) = (ix2 k (row1 t r)) := by
    funext ax
    have q := at1_1 t
    match ax with
    | ⟨0, _⟩ => refine Fin.ext ((Pipeline.Window.rect_emb_val win1_1 t (ix2 k r) 0).trans ?_)
                rw [q.1]; first | rfl | (show _ * 768 + _ = _; simp only [Nat.zero_mul, Nat.zero_add, Nat.mul_one] <;> rfl) | (show _ * 768 + 0 = _; simp only [Nat.mul_one, Nat.add_zero, Nat.zero_mul] <;> rfl)
    | ⟨1, _⟩ => refine Fin.ext ((Pipeline.Window.rect_emb_val win1_1 t (ix2 k r) 1).trans ?_)
                rw [q.2]; first | rfl | (show _ * 256 + _ = _; simp only [Nat.zero_mul, Nat.zero_add, Nat.mul_one] <;> rfl) | (show _ * 256 + 0 = _; simp only [Nat.mul_one, Nat.add_zero, Nat.zero_mul] <;> rfl)
  rw [e]

theorem blk1_2 (c : Dev nD) (t : Fin grid1.N) (k : Fin 768) (d : Fin 64) : iblk1 V c 2 t (ix3 0 k d) = V c main_v12 (ix3 (hd1 t) k d) := by
  show V c main_v12 ((win1_2.rect t).emb (ix3 0 k d)) = _
  have e : (win1_2.rect t).emb (ix3 0 k d) = (ix3 (hd1 t) k d) := by
    funext ax
    have q := at1_2 t
    match ax with
    | ⟨0, _⟩ => refine Fin.ext ((Pipeline.Window.rect_emb_val win1_2 t (ix3 0 k d) 0).trans ?_)
                rw [q.1]; first | rfl | (show _ * 1 + _ = _; simp only [Nat.zero_mul, Nat.zero_add, Nat.mul_one] <;> rfl) | (show _ * 1 + 0 = _; simp only [Nat.mul_one, Nat.add_zero, Nat.zero_mul] <;> rfl)
    | ⟨1, _⟩ => refine Fin.ext ((Pipeline.Window.rect_emb_val win1_2 t (ix3 0 k d) 1).trans ?_)
                rw [q.2.1]; first | rfl | (show _ * 768 + _ = _; simp only [Nat.zero_mul, Nat.zero_add, Nat.mul_one] <;> rfl) | (show _ * 768 + 0 = _; simp only [Nat.mul_one, Nat.add_zero, Nat.zero_mul] <;> rfl)
    | ⟨2, _⟩ => refine Fin.ext ((Pipeline.Window.rect_emb_val win1_2 t (ix3 0 k d) 2).trans ?_)
                rw [q.2.2]; first | rfl | (show _ * 64 + _ = _; simp only [Nat.zero_mul, Nat.zero_add, Nat.mul_one] <;> rfl) | (show _ * 64 + 0 = _; simp only [Nat.mul_one, Nat.add_zero, Nat.zero_mul] <;> rfl)
  rw [e]

theorem blk1_3 (c : Dev nD) (t : Fin grid1.N) (k : Fin 768) (d : Fin 64) : iblk1 V c 3 t (ix3 0 k d) = V c main_v14 (ix3 (hd1 t) k d) := by
  show V c main_v14 ((win1_3.rect t).emb (ix3 0 k d)) = _
  have e : (win1_3.rect t).emb (ix3 0 k d) = (ix3 (hd1 t) k d) := by
    funext ax
    have q := at1_3 t
    match ax with
    | ⟨0, _⟩ => refine Fin.ext ((Pipeline.Window.rect_emb_val win1_3 t (ix3 0 k d) 0).trans ?_)
                rw [q.1]; first | rfl | (show _ * 1 + _ = _; simp only [Nat.zero_mul, Nat.zero_add, Nat.mul_one] <;> rfl) | (show _ * 1 + 0 = _; simp only [Nat.mul_one, Nat.add_zero, Nat.zero_mul] <;> rfl)
    | ⟨1, _⟩ => refine Fin.ext ((Pipeline.Window.rect_emb_val win1_3 t (ix3 0 k d) 1).trans ?_)
                rw [q.2.1]; first | rfl | (show _ * 768 + _ = _; simp only [Nat.zero_mul, Nat.zero_add, Nat.mul_one] <;> rfl) | (show _ * 768 + 0 = _; simp only [Nat.mul_one, Nat.add_zero, Nat.zero_mul] <;> rfl)
    | ⟨2, _⟩ => refine Fin.ext ((Pipeline.Window.rect_emb_val win1_3 t (ix3 0 k d) 2).trans ?_)
                rw [q.2.2]; first | rfl | (show _ * 64 + _ = _; simp only [Nat.zero_mul, Nat.zero_add, Nat.mul_one] <;> rfl) | (show _ * 64 + 0 = _; simp only [Nat.mul_one, Nat.add_zero, Nat.zero_mul] <;> rfl)
  rw [e]

theorem blk1_4 (c : Dev nD) (t : Fin grid1.N) (k : Fin 768) (d : Fin 64) : iblk1 V c 4 t (ix3 0 k d) = V c main_v16 (ix3 (hd1 t) k d) := by
  show V c main_v16 ((win1_4.rect t).emb (ix3 0 k d)) = _
  have e : (win1_4.rect t).emb (ix3 0 k d) = (ix3 (hd1 t) k d) := by
    funext ax
    have q := at1_4 t
    match ax with
    | ⟨0, _⟩ => refine Fin.ext ((Pipeline.Window.rect_emb_val win1_4 t (ix3 0 k d) 0).trans ?_)
                rw [q.1]; first | rfl | (show _ * 1 + _ = _; simp only [Nat.zero_mul, Nat.zero_add, Nat.mul_one] <;> rfl) | (show _ * 1 + 0 = _; simp only [Nat.mul_one, Nat.add_zero, Nat.zero_mul] <;> rfl)
    | ⟨1, _⟩ => refine Fin.ext ((Pipeline.Window.rect_emb_val win1_4 t (ix3 0 k d) 1).trans ?_)
                rw [q.2.1]; first | rfl | (show _ * 768 + _ = _; simp only [Nat.zero_mul, Nat.zero_add, Nat.mul_one] <;> rfl) | (show _ * 768 + 0 = _; simp only [Nat.mul_one, Nat.add_zero, Nat.zero_mul] <;> rfl)
    | ⟨2, _⟩ => refine Fin.ext ((Pipeline.Window.rect_emb_val win1_4 t (ix3 0 k d) 2).trans ?_)
                rw [q.2.2]; first | rfl | (show _ * 64 + _ = _; simp only [Nat.zero_mul, Nat.zero_add, Nat.mul_one] <;> rfl) | (show _ * 64 + 0 = _; simp only [Nat.mul_one, Nat.add_zero, Nat.zero_mul] <;> rfl)
  rw [e]

theorem blk1_5 (c : Dev nD) (t : Fin grid1.N) (d : Fin 64) : iblk1 V c 5 t (ix3 0 0 d) = V c main_v18 (ix3 (hd1 t) 0 d) := by
  show V c main_v18 ((win1_5.rect t).emb (ix3 0 0 d)) = _
  have e : (win1_5.rect t).emb (ix3 0 0 d) = (ix3 (hd1 t) 0 d) := by
    funext ax
    have q := at1_5 t
    match ax with
    | ⟨0, _⟩ => refine Fin.ext ((Pipeline.Window.rect_emb_val win1_5 t (ix3 0 0 d) 0).trans ?_)
                rw [q.1]; first | rfl | (show _ * 1 + _ = _; simp only [Nat.zero_mul, Nat.zero_add, Nat.mul_one] <;> rfl) | (show _ * 1 + 0 = _; simp only [Nat.mul_one, Nat.add_zero, Nat.zero_mul] <;> rfl)
    | ⟨1, _⟩ => refine Fin.ext ((Pipeline.Window.rect_emb_val win1_5 t (ix3 0 0 d) 1).trans ?_)
                rw [q.2.1]; first | rfl | (show _ * 1 + _ = _; simp only [Nat.zero_mul, Nat.zero_add, Nat.mul_one] <;> rfl) | (show _ * 1 + 0 = _; simp only [Nat.mul_one, Nat.add_zero, Nat.zero_mul] <;> rfl)
    | ⟨2, _⟩ => refine Fin.ext ((Pipeline.Window.rect_emb_val win1_5 t (ix3 0 0 d) 2).trans ?_)
                rw [q.2.2]; first | rfl | (show _ * 64 + _ = _; simp only [Nat.zero_mul, Nat.zero_add, Nat.mul_one] <;> rfl) | (show _ * 64 + 0 = _; simp only [Nat.mul_one, Nat.add_zero, Nat.zero_mul] <;> rfl)
  rw [e]

theorem blk1_6 (c : Dev nD) (t : Fin grid1.N) (d : Fin 64) : iblk1 V c 6 t (ix3 0 0 d) = V c main_v20 (ix3 (hd1 t) 0 d) := by
  show V c main_v20 ((win1_6.rect t).emb (ix3 0 0 d)) = _
  have e : (win1_6.rect t).emb (ix3 0 0 d) = (ix3 (hd1 t) 0 d) := by
    funext ax
    have q := at1_6 t
    match ax with
    | ⟨0, _⟩ => refine Fin.ext ((Pipeline.Window.rect_emb_val win1_6 t (ix3 0 0 d) 0).trans ?_)
                rw [q.1]; first | rfl | (show _ * 1 + _ = _; simp only [Nat.zero_mul, Nat.zero_add, Nat.mul_one] <;> rfl) | (show _ * 1 + 0 = _; simp only [Nat.mul_one, Nat.add_zero, Nat.zero_mul] <;> rfl)
    | ⟨1, _⟩ => refine Fin.ext ((Pipeline.Window.rect_emb_val win1_6 t (ix3 0 0 d) 1).trans ?_)
                rw [q.2.1]; first | rfl | (show _ * 1 + _ = _; simp only [Nat.zero_mul, Nat.zero_add, Nat.mul_one] <;> rfl) | (show _ * 1 + 0 = _; simp only [Nat.mul_one, Nat.add_zero, Nat.zero_mul] <;> rfl)
    | ⟨2, _⟩ => refine Fin.ext ((Pipeline.Window.rect_emb_val win1_6 t (ix3 0 0 d) 2).trans ?_)
                rw [q.2.2]; first | rfl | (show _ * 64 + _ = _; simp only [Nat.zero_mul, Nat.zero_add, Nat.mul_one] <;> rfl) | (show _ * 64 + 0 = _; simp only [Nat.mul_one, Nat.add_zero, Nat.zero_mul] <;> rfl)
  rw [e]

/-- One projection of one head with its bias, from a head-major weight. -/
abbrev prj (x : S2048x768.Idx → EReal) (w : S12x768x64.Idx → EReal) (b : S12x1x64.Idx → EReal) (h : Fin 12) (i : Fin 2048) (d : Fin 64) : EReal :=
  (∑ k : Fin 768, x (ix2 i k) * w (ix3 h k d)) + b (ix3 h 0 d)
/-- One projection without its bias, from the transposed rows. -/
abbrev prjT (w : S12x768x64.Idx → EReal) (y : S768x2048.Idx → EReal) (h : Fin 12) (d : Fin 64) (i : Fin 2048) : EReal :=
  ∑ k : Fin 768, w (ix3 h k d) * y (ix2 k i)

def G1_7 (c : Dev nD) : Buf (Elt Ideal) ((c : Thread nD τ).loc main_v22_0) := fun i : S12x2048x64.Idx => prj (V c main_v0) (V c main_v12) (V c main_v18) (i 0) (i 1) (i 2)
def G1_9 (c : Dev nD) : Buf (Elt Ideal) ((c : Thread nD τ).loc main_v22_2) := fun i : S12x2048x64.Idx => prj (V c main_v0) (V c main_v16) (V c main_v20) (i 0) (i 1) (i 2)
def G1_8 (c : Dev nD) : Buf (Elt Ideal) ((c : Thread nD τ).loc main_v22_1) := fun i : S768x2048.Idx =>
  prjT (V c main_v14) (V c main_v1) ⟨(i 0).val / 64, by have h : (i 0).val < 768 := (i 0).isLt; omega⟩ ⟨(i 0).val % 64, Nat.mod_lt _ (by decide)⟩ (i 1)

theorem G1_8_apply (c : Dev nD) (h : Fin 12) (d : Fin 64) (j : Fin 2048) : G1_8 V c (ix2 (col h d) j) = prjT (V c main_v14) (V c main_v1) h d j := by
  have e1 : (⟨(col h d).val / 64, by have := (col h d).isLt; omega⟩ : Fin 12) = h := Fin.ext (by show (h.val * 64 + d.val) / 64 = h.val; have := d.isLt; omega)
  have e2 : (⟨(col h d).val % 64, Nat.mod_lt _ (by decide)⟩ : Fin 64) = d := Fin.ext (by show (h.val * 64 + d.val) % 64 = d.val; have := d.isLt; omega)
  show prjT (V c main_v14) (V c main_v1) ⟨(col h d).val / 64, _⟩ ⟨(col h d).val % 64, _⟩ j = _
  rw [e1, e2]

theorem flushed1_7 (c : Dev nD) (t : Fin grid1.N) :
    (dat1 V c).flushed 7 t = (win1_7.blk t).view.read (Elt Ideal) (G1_7 V c) := by
  show (cfg1.win 7).cut (grid1.coords t) ((dat1 V c).after 7 t) = _
  rw [after1_7]
  unfold out1_7
  rw [View.canon_unit_zero h1z3, View.ld_unit_zero h1z2, View.ld_unit_zero h1z3, View.ld_unit_zero h1z3]
  funext y
  obtain ⟨z, r, d, rfl⟩ : ∃ (z : Fin 1) (r : Fin 256) (d : Fin 64), y = ix3 z r d := ⟨y 0, y 1, y 2, eq_ix3 y⟩
  obtain rfl : z = 0 := Subsingleton.elim _ _
  show k1_pay2 (iblk1 V c 0 t) (iblk1 V c 2 t) (iblk1 V c 5 t) (ix3 0 r d) = G1_7 V c ((win1_7.rect t).emb (ix3 0 r d))
  have e : (win1_7.rect t).emb (ix3 0 r d) = (ix3 (hd1 t) (row1 t r) d) := by
    funext ax
    have q := at1_7 t
    match ax with
    | ⟨0, _⟩ => refine Fin.ext ((Pipeline.Window.rect_emb_val win1_7 t (ix3 0 r d) 0).trans ?_)
                rw [q.1]; first | rfl | (show _ * 1 + _ = _; simp only [Nat.zero_mul, Nat.zero_add, Nat.mul_one] <;> rfl) | (show _ * 1 + 0 = _; simp only [Nat.mul_one, Nat.add_zero, Nat.zero_mul] <;> rfl)
    | ⟨1, _⟩ => refine Fin.ext ((Pipeline.Window.rect_emb_val win1_7 t (ix3 0 r d) 1).trans ?_)
                rw [q.2.1]; first | rfl | (show _ * 256 + _ = _; simp only [Nat.zero_mul, Nat.zero_add, Nat.mul_one] <;> rfl) | (show _ * 256 + 0 = _; simp only [Nat.mul_one, Nat.add_zero, Nat.zero_mul] <;> rfl)
    | ⟨2, _⟩ => refine Fin.ext ((Pipeline.Window.rect_emb_val win1_7 t (ix3 0 r d) 2).trans ?_)
                rw [q.2.2]; first | rfl | (show _ * 64 + _ = _; simp only [Nat.zero_mul, Nat.zero_add, Nat.mul_one] <;> rfl) | (show _ * 64 + 0 = _; simp only [Nat.mul_one, Nat.add_zero, Nat.zero_mul] <;> rfl)
  rw [e, p1_pay2_apply, blk1_5]
  exact congrArg (fun z : EReal => z + _) (Finset.sum_congr rfl fun k _ => by rw [blk1_0, blk1_2])

theorem flushed1_9 (c : Dev nD) (t : Fin grid1.N) :
    (dat1 V c).flushed 9 t = (win1_9.blk t).view.read (Elt Ideal) (G1_9 V c) := by
  show (cfg1.win 9).cut (grid1.coords t) ((dat1 V c).after 9 t) = _
  rw [after1_9]
  unfold out1_9
  rw [View.canon_unit_zero h1z3, View.ld_unit_zero h1z2, View.ld_unit_zero h1z3, View.ld_unit_zero h1z3]
  funext y
  obtain ⟨z, r, d, rfl⟩ : ∃ (z : Fin 1) (r : Fin 256) (d : Fin 64), y = ix3 z r d := ⟨y 0, y 1, y 2, eq_ix3 y⟩
  obtain rfl : z = 0 := Subsingleton.elim _ _
  show k1_pay3 (iblk1 V c 0 t) (iblk1 V c 4 t) (iblk1 V c 6 t) (ix3 0 r d) = G1_9 V c ((win1_9.rect t).emb (ix3 0 r d))
  have e : (win1_9.rect t).emb (ix3 0 r d) = (ix3 (hd1 t) (row1 t r) d) := by
    funext ax
    have q := at1_9 t
    match ax with
    | ⟨0, _⟩ => refine Fin.ext ((Pipeline.Window.rect_emb_val win1_9 t (ix3 0 r d) 0).trans ?_)
                rw [q.1]; first | rfl | (show _ * 1 + _ = _; simp only [Nat.zero_mul, Nat.zero_add, Nat.mul_one] <;> rfl) | (show _ * 1 + 0 = _; simp only [Nat.mul_one, Nat.add_zero, Nat.zero_mul] <;> rfl)
    | ⟨1, _⟩ => refine Fin.ext ((Pipeline.Window.rect_emb_val win1_9 t (ix3 0 r d) 1).trans ?_)
                rw [q.2.1]; first | rfl | (show _ * 256 + _ = _; simp only [Nat.zero_mul, Nat.zero_add, Nat.mul_one] <;> rfl) | (show _ * 256 + 0 = _; simp only [Nat.mul_one, Nat.add_zero, Nat.zero_mul] <;> rfl)
    | ⟨2, _⟩ => refine Fin.ext ((Pipeline.Window.rect_emb_val win1_9 t (ix3 0 r d) 2).trans ?_)
                rw [q.2.2]; first | rfl | (show _ * 64 + _ = _; simp only [Nat.zero_mul, Nat.zero_add, Nat.mul_one] <;> rfl) | (show _ * 64 + 0 = _; simp only [Nat.mul_one, Nat.add_zero, Nat.zero_mul] <;> rfl)
  rw [e, p1_pay3_apply, blk1_6]
  exact congrArg (fun z : EReal => z + _) (Finset.sum_congr rfl fun k _ => by rw [blk1_0, blk1_4])

theorem flushed1_8 (c : Dev nD) (t : Fin grid1.N) :
    (dat1 V c).flushed 8 t = (win1_8.blk t).view.read (Elt Ideal) (G1_8 V c) := by
  show (cfg1.win 8).cut (grid1.coords t) ((dat1 V c).after 8 t) = _
  rw [after1_8]
  unfold out1_8
  rw [View.canon_unit_zero h1z2, View.ld_unit_zero h1z3, View.ld_unit_zero h1z2]
  funext y
  obtain ⟨d, r, rfl⟩ : ∃ (d : Fin 64) (r : Fin 256), y = ix2 d r := ⟨y 0, y 1, eq_ix2 y⟩
  show k1_pay4 (iblk1 V c 3 t) (iblk1 V c 1 t) (ix2 d r) = G1_8 V c ((win1_8.rect t).emb (ix2 d r))
  have e : (win1_8.rect t).emb (ix2 d r) = (ix2 (col (hd1 t) d) (row1 t r)) := by
    funext ax
    have q := at1_8 t
    match ax with
    | ⟨0, _⟩ => refine Fin.ext ((Pipeline.Window.rect_emb_val win1_8 t (ix2 d r) 0).trans ?_)
                rw [q.1]; first | rfl | (show _ * 64 + _ = _; simp only [Nat.zero_mul, Nat.zero_add, Nat.mul_one] <;> rfl) | (show _ * 64 + 0 = _; simp only [Nat.mul_one, Nat.add_zero, Nat.zero_mul] <;> rfl)
    | ⟨1, _⟩ => refine Fin.ext ((Pipeline.Window.rect_emb_val win1_8 t (ix2 d r) 1).trans ?_)
                rw [q.2]; first | rfl | (show _ * 256 + _ = _; simp only [Nat.zero_mul, Nat.zero_add, Nat.mul_one] <;> rfl) | (show _ * 256 + 0 = _; simp only [Nat.mul_one, Nat.add_zero, Nat.zero_mul] <;> rfl)
  rw [e, p1_pay4_apply, G1_8_apply]
  exact Finset.sum_congr rfl fun k _ => by rw [blk1_3, blk1_1]

theorem mem1_7 (t : Fin grid1.N) (i : S12x2048x64.Idx) : i ∈ ((cfg1.win 7).blk t).view.set ↔
    (∀ a : Fin 3, win1_7.index t a * win1_7.size a ≤ (i a : Nat) ∧ (i a : Nat) < win1_7.index t a * win1_7.size a + win1_7.xsize (grid1.coords t) a) := by
  show i ∈ ((View.whole main_v22_0).slice (win1_7.rect t)).set ↔ _
  rw [View.set_slice_whole, Rect.mem_set_unit]; exact Iff.rfl

theorem cover1_7_all (i : S12x2048x64.Idx) : ∃ t : Fin cfg1.N, (cfg1.win 7).flush t = true ∧ i ∈ ((cfg1.win 7).blk t).view.set := by
  have h0 : (i 0 : Nat) < 12 := (i 0).isLt
  have h1 : (i 1 : Nat) < 2048 := (i 1).isLt
  have h2 : (i 2 : Nat) < 64 := (i 2).isLt
  have hN : grid1.N = 96 := by decide
  refine ⟨⟨(i 1 : Nat) / 256 * 12 + (i 0 : Nat), by show _ < grid1.N; omega⟩, flush1_7 _, ?_⟩
  rw [mem1_7]
  intro a
  have q := at1_7 ⟨(i 1 : Nat) / 256 * 12 + (i 0 : Nat), by omega⟩
  match a with
  | ⟨0, _⟩ => rw [show win1_7.index _ ⟨0, _⟩ = _ from q.1]; show _ * 1 ≤ (i 0 : Nat) ∧ (i 0 : Nat) < _ * 1 + 1; (try dsimp only); omega
  | ⟨1, _⟩ => rw [show win1_7.index _ ⟨1, _⟩ = _ from q.2.1]; show _ * 256 ≤ (i 1 : Nat) ∧ (i 1 : Nat) < _ * 256 + 256; (try dsimp only); omega
  | ⟨2, _⟩ => rw [show win1_7.index _ ⟨2, _⟩ = _ from q.2.2]; show _ * 64 ≤ (i 2 : Nat) ∧ (i 2 : Nat) < _ * 64 + 64; (try dsimp only); omega

theorem final1_7 (c : Dev nD) : (dat1 V c).arrAt 7 cfg1.N = G1_7 V c :=
  (dat1 V c).arrAt_eq_of_cover 7 (G1_7 V c) (fun t _ => flushed1_7 V c t) cover1_7_all

theorem mem1_9 (t : Fin grid1.N) (i : S12x2048x64.Idx) : i ∈ ((cfg1.win 9).blk t).view.set ↔
    (∀ a : Fin 3, win1_9.index t a * win1_9.size a ≤ (i a : Nat) ∧ (i a : Nat) < win1_9.index t a * win1_9.size a + win1_9.xsize (grid1.coords t) a) := by
  show i ∈ ((View.whole main_v22_2).slice (win1_9.rect t)).set ↔ _
  rw [View.set_slice_whole, Rect.mem_set_unit]; exact Iff.rfl

theorem cover1_9_all (i : S12x2048x64.Idx) : ∃ t : Fin cfg1.N, (cfg1.win 9).flush t = true ∧ i ∈ ((cfg1.win 9).blk t).view.set := by
  have h0 : (i 0 : Nat) < 12 := (i 0).isLt
  have h1 : (i 1 : Nat) < 2048 := (i 1).isLt
  have h2 : (i 2 : Nat) < 64 := (i 2).isLt
  have hN : grid1.N = 96 := by decide
  refine ⟨⟨(i 1 : Nat) / 256 * 12 + (i 0 : Nat), by show _ < grid1.N; omega⟩, flush1_9 _, ?_⟩
  rw [mem1_9]
  intro a
  have q := at1_9 ⟨(i 1 : Nat) / 256 * 12 + (i 0 : Nat), by omega⟩
  match a with
  | ⟨0, _⟩ => rw [show win1_9.index _ ⟨0, _⟩ = _ from q.1]; show _ * 1 ≤ (i 0 : Nat) ∧ (i 0 : Nat) < _ * 1 + 1; (try dsimp only); omega
  | ⟨1, _⟩ => rw [show win1_9.index _ ⟨1, _⟩ = _ from q.2.1]; show _ * 256 ≤ (i 1 : Nat) ∧ (i 1 : Nat) < _ * 256 + 256; (try dsimp only); omega
  | ⟨2, _⟩ => rw [show win1_9.index _ ⟨2, _⟩ = _ from q.2.2]; show _ * 64 ≤ (i 2 : Nat) ∧ (i 2 : Nat) < _ * 64 + 64; (try dsimp only); omega

theorem final1_9 (c : Dev nD) : (dat1 V c).arrAt 9 cfg1.N = G1_9 V c :=
  (dat1 V c).arrAt_eq_of_cover 9 (G1_9 V c) (fun t _ => flushed1_9 V c t) cover1_9_all

theorem mem1_8 (t : Fin grid1.N) (i : S768x2048.Idx) : i ∈ ((cfg1.win 8).blk t).view.set ↔
    (∀ a : Fin 2, win1_8.index t a * win1_8.size a ≤ (i a : Nat) ∧ (i a : Nat) < win1_8.index t a * win1_8.size a + win1_8.xsize (grid1.coords t) a) := by
  show i ∈ ((View.whole main_v22_1).slice (win1_8.rect t)).set ↔ _
  rw [View.set_slice_whole, Rect.mem_set_unit]; exact Iff.rfl

theorem cover1_8_all (i : S768x2048.Idx) : ∃ t : Fin cfg1.N, (cfg1.win 8).flush t = true ∧ i ∈ ((cfg1.win 8).blk t).view.set := by
  have h0 : (i 0 : Nat) < 768 := (i 0).isLt
  have h1 : (i 1 : Nat) < 2048 := (i 1).isLt
  have hN : grid1.N = 96 := by decide
  refine ⟨⟨(i 1 : Nat) / 256 * 12 + (i 0 : Nat) / 64, by show _ < grid1.N; omega⟩, flush1_8 _, ?_⟩
  rw [mem1_8]
  intro a
  have q := at1_8 ⟨(i 1 : Nat) / 256 * 12 + (i 0 : Nat) / 64, by omega⟩
  match a with
  | ⟨0, _⟩ => rw [show win1_8.index _ ⟨0, _⟩ = _ from q.1]; show _ * 64 ≤ (i 0 : Nat) ∧ (i 0 : Nat) < _ * 64 + 64; (try dsimp only); omega
  | ⟨1, _⟩ => rw [show win1_8.index _ ⟨1, _⟩ = _ from q.2]; show _ * 256 ≤ (i 1 : Nat) ∧ (i 1 : Nat) < _ * 256 + 256; (try dsimp only); omega

theorem final1_8 (c : Dev nD) : (dat1 V c).arrAt 8 cfg1.N = G1_8 V c :=
  (dat1 V c).arrAt_eq_of_cover 8 (G1_8 V c) (fun t _ => flushed1_8 V c t) cover1_8_all

end Cert.Attn.Given

end
-- ==== Proof.GnP2.lean ====
/- The attention's payloads, read at an index. -/
module

public import proofs.«01_k».proof.Proof.GnP0
public import proofs.«01_k».proof.Proof.GnK2

@[expose] public section

set_option maxRecDepth 16384

noncomputable section

namespace Cert.Attn.Given

open Idealize.ShloMosaic hiding ix0 ix1 ix2 ix3 ix4 ix5 eq_ix1 eq_ix2 eq_ix3 eq_ix4
open Idealize.ShloMosaic.ValueIdx Idealize.ShloMosaic.WordCmp Finset
open Cert.KernelGivenIdeal Cert.KernelGivenIdeal.Gen Cert.KernelGivenIdeal.Facts Cert.KernelGivenIdeal.Own
open Cert.Attn.Sel Cert.Attn.Ops

attribute [local instance 10] Classical.propDecidable

/-! ## The selection -/

section Sel2

variable (v0 : Vec Ideal S256x2048 .f32) (v2 : Vec Ideal S8x2048 .i32) (v4 : Vec Ideal S1x8x2048 .i32) (v16 : Vec Ideal S256x1 .f32)

abbrev wrd (r : Fin 256) : Fin 8 := ⟨r.val / 32, by have := r.isLt; omega⟩
abbrev bit (r : Fin 256) : Fin 32 := ⟨r.val % 32, by omega⟩

/-- The marks the attention unpacks. -/
def CB (r : Fin 256) (j : Fin 2048) : Prop :=
  (show BitVec 32 from v2 (ix2 (wrd r) j)).getLsbD (bit r).val = true ∨ (show BitVec 32 from v4 (ix3 0 (wrd r) j)).getLsbD (bit r).val = true

theorem pay12_eq : k2_pay12 v0 = v0 := by funext i; exact shapeCast_apply _ _ _ _ rfl
theorem pay14_eq : k2_pay14 v16 = v16 := by funext i; exact shapeCast_apply _ _ _ _ rfl

theorem pay13_iff (r : Fin 256) (j : Fin 2048) : k2_pay13 (F := Ideal) v2 v4 (ix2 r j) = 1#1 ↔ CB v2 v4 r j := by
  unfold k2_pay13
  have hr : r.val / 32 * 32 + r.val % 32 = r.val := by omega
  rw [show ∀ p q : IVec S256x2048 32, ∀ k, cmpi .sgt p q k = IntOp.cmpi .sgt (p k) (q k) from fun _ _ _ => rfl,
    shapeCast_apply _ _ (ix2 r j) (ix3 (wrd r) (bit r) j) (by rw [Shape.rowMajor_val_two, Shape.rowMajor_val_three]; show (r.val / 32 * 32 + r.val % 32) * 2048 + j.val = r.val * 2048 + j.val; rw [hr])]
  rw [show ∀ p q : IVec S8x32x2048 32, ∀ k, andi p q k = p k &&& q k from fun _ _ _ => rfl,
    show ∀ p q : IVec S8x32x2048 32, ∀ k, shrui p q k = IntOp.shrui .vector (p k) (q k) from fun _ _ _ => rfl, iota_single_apply]
  rw [broadcastTo_apply _ _ (ix3 (wrd r) (bit r) j) (ix3 (wrd r) 0 j) (fun a => by fin_cases a <;> rfl)]
  rw [shapeCast_apply _ _ (ix3 (wrd r) 0 j) (ix2 (wrd r) j) (by rw [Shape.rowMajor_val_two, Shape.rowMajor_val_three]; simp)]
  rw [show ∀ p q : IVec S8x2048 32, ∀ k, ori p q k = p k ||| q k from fun _ _ _ => rfl]
  rw [shapeCast_apply v2 _ (ix2 (wrd r) j) (ix2 (wrd r) j) rfl,
    shapeCast_apply v4 _ (ix2 (wrd r) j) (ix3 0 (wrd r) j) (by rw [Shape.rowMajor_val_two, Shape.rowMajor_val_three]; simp)]
  rw [show ((ix3 (wrd r) (bit r) j : S8x32x2048.Idx) 1).val = (bit r).val from rfl, shr_apply]
  refine (bit_pos _ (bit r)).trans ?_
  rw [BitVec.getLsbD_or, Bool.or_eq_true]
  exact Iff.rfl

/-- The masked scores. -/
theorem pay20_apply (r : Fin 256) (j : Fin 2048) : k2_pay20 v0 v2 v4 (ix2 r j) = keep (CB v2 v4 r) (row v0 r) j := by
  unfold k2_pay20
  rw [pay12_eq]
  show (v0 (ix2 r j) * (FloatOps.sitofp .f32 ((k2_pay13 (F := Ideal) v2 v4 (ix2 r j)).setWidth 32) : Ideal .f32) : EReal) = _
  unfold keep
  by_cases h : CB v2 v4 r j
  · rw [if_pos h, (pay13_iff v2 v4 r j).2 h]
    have e : (FloatOps.sitofp .f32 ((1#1 : BitVec 1).setWidth 32) : Ideal .f32) = (1 : EReal) := by
      show (((((1#1 : BitVec 1).setWidth 32).toInt : ℝ)) : EReal) = 1
      rw [show ((1#1 : BitVec 1).setWidth 32).toInt = 1 from by decide]; simp
    rw [e, mul_one]
  · rw [if_neg h, eq_zero_of_ne_one (mt (pay13_iff v2 v4 r j).1 h)]
    have e : (FloatOps.sitofp .f32 ((0#1 : BitVec 1).setWidth 32) : Ideal .f32) = (0 : EReal) := by
      show (((((0#1 : BitVec 1).setWidth 32).toInt : ℝ)) : EReal) = 0
      rw [show ((0#1 : BitVec 1).setWidth 32).toInt = 0 from by decide]; simp
    rw [e, mul_zero]

theorem row20 (r : Fin 256) : row (k2_pay20 v0 v2 v4) r = keep (CB v2 v4 r) (row v0 r) := funext (pay20_apply v0 v2 v4 r)

theorem thr2_kth (r : Fin 256) : Kth 409 (keep (CB v2 v4 r) (row v0 r)) (thr2 v0 v2 v4 (ix2 r 0)) := by
  rw [← row20]
  unfold thr2
  exact fold_kth (k2_pay20 v0 v2 v4) r k2_t1_loop.trips (by decide +kernel) (fun _ acc => k2_pay22 v0 v2 v4 acc) (fun _ acc => rfl) _
    (by show Ideal.ofBits .f32 0x7F800000#32 = _; simp [Ideal.ofBits, Ideal.ieee])

theorem slowRank_eq (v : FVec Ideal S256x2048 .f32) (t : FVec Ideal S256x1 .f32) :
    slowRank v t = rankWord (cmpf .ogt v (broadcastTo S256x2048 t broadcasts_S256x1_S256x2048)) (cmpf .oeq v (broadcastTo S256x2048 t broadcasts_S256x1_S256x2048)) := rfl

theorem fastRank_eq (v : FVec Ideal S256x2048 .f32) (b : IVec S256x2048 1) (t : FVec Ideal S256x1 .f32) :
    fastRank v b t = rankWord (andi b (cmpf .ogt v (broadcastTo S256x2048 t broadcasts_S256x1_S256x2048))) (andi b (cmpf .oeq v (broadcastTo S256x2048 t broadcasts_S256x1_S256x2048))) := rfl

theorem slowSel_apply (r : Fin 256) (j : Fin 2048) :
    slowSel v0 v2 v4 (thr2 v0 v2 v4) (ix2 r j) = if Top 409 (keep (CB v2 v4 r) (row v0 r)) j then 1#32 else 0#32 := by
  have hk := thr2_kth v0 v2 v4 r
  unfold slowSel
  split
  · rename_i h
    exact exact_iff _ _ hk r (k2_pay23 v0 v2 v4 (thr2 v0 v2 v4))
      (fun j => by
        show cmpf .oge _ _ (ix2 r j) = 1#1 ↔ _
        rw [cmpf_apply, bcol_apply, pay20_apply]; exact oge_iff _ _) h j
  · rw [slowRank_eq]
    exact rankWord_apply _ _ hk r _ _
      (fun j => by rw [cmpf_apply, bcol_apply, pay20_apply]; exact ogt_iff _ _)
      (fun j => by rw [cmpf_apply, bcol_apply, pay20_apply]; exact oeq_iff _ _) j

theorem fastSel_apply (r : Fin 256) (hk : Kth 409 (row v0 r) (v16 (ix2 r 0))) (hc : ∀ j, Top 409 (row v0 r) j → CB v2 v4 r j)
    (ht : (0 : EReal) < v16 (ix2 r 0)) (j : Fin 2048) :
    fastSel v0 v2 v4 v16 (ix2 r j) = if Top 409 (keep (CB v2 v4 r) (row v0 r)) j then 1#32 else 0#32 := by
  have hk' := kth_keep (by norm_num) ht hk hc
  unfold fastSel
  rw [pay12_eq, pay14_eq]
  split
  · rename_i h
    exact exact_iff _ _ hk' r (k2_pay16 v0 v2 v4 v16)
      (fun j => by
        unfold k2_pay16
        rw [pay12_eq, pay14_eq]
        show IntOp.andi (k2_pay13 (F := Ideal) v2 v4 (ix2 r j)) (cmpf .oge _ _ (ix2 r j)) = 1#1 ↔ _
        rw [andi_iff, pay13_iff, cmpf_apply, bcol_apply, le_keep ht]; exact and_congr Iff.rfl (oge_iff _ _)) h j
  · rw [fastRank_eq]
    exact rankWord_apply _ _ hk' r _ _
      (fun j => by
        show IntOp.andi (k2_pay13 (F := Ideal) v2 v4 (ix2 r j)) (cmpf .ogt _ _ (ix2 r j)) = 1#1 ↔ _
        rw [andi_iff, pay13_iff, cmpf_apply, bcol_apply, lt_keep ht]; exact and_congr Iff.rfl (ogt_iff _ _))
      (fun j => by
        show IntOp.andi (k2_pay13 (F := Ideal) v2 v4 (ix2 r j)) (cmpf .oeq _ _ (ix2 r j)) = 1#1 ↔ _
        rw [andi_iff, pay13_iff, cmpf_apply, bcol_apply, keep_eq ht]; exact and_congr Iff.rfl (oeq_iff _ _)) j

/-- The attention's selection: the 409 largest of the masked scores, ties by position. -/
theorem sel2_apply (hk : ∀ r, Kth 409 (row v0 r) (v16 (ix2 r 0))) (hc : ∀ r j, Top 409 (row v0 r) j → CB v2 v4 r j) (r : Fin 256) (j : Fin 2048) :
    sel2 v0 v2 v4 v16 (ix2 r j) = if Top 409 (keep (CB v2 v4 r) (row v0 r)) j then 1#32 else 0#32 := by
  unfold sel2
  split
  · rename_i h
    have h' := (allMin_iff (cmpf .oge (k2_pay14 v16) (broadcast S256x1 (Scalar.ofBits .f32 0x00800000#32 : Ideal .f32)))).1 h r
    rw [pay14_eq, cmpf_apply] at h'
    have h2 := (oge_iff _ _).1 h'
    have h3 : (0 : EReal) < (Scalar.ofBits .f32 0x00800000#32 : Ideal .f32) := by
      show (0 : EReal) < Ideal.ofBits .f32 0x00800000#32
      simp [Ideal.ofBits, Ideal.ieee]
      rw [← EReal.coe_mul]
      exact EReal.coe_pos.2 (by positivity)
    exact fastSel_apply v0 v2 v4 v16 r (hk r) (hc r) (lt_of_lt_of_le h3 h2) j
  · exact slowSel_apply v0 v2 v4 r j

end Sel2

/-! ## The attention -/

/-- The scale of the scores. -/
def eighth : EReal := Ideal.ofBits .f32 0x3E000000#32

/-- What stands for a score not selected. -/
def negbig : EReal := Ideal.ofBits .f32 0xCE6E6B28#32

/-- The exponentials of a row against its largest. -/
def ex (s : Fin 2048 → EReal) (j : Fin 2048) : EReal := Ideal.exp (s j - univ.sup s)

/-- A row's weights, as the kernel computes them. -/
def smx (s : Fin 2048 → EReal) (j : Fin 2048) : EReal := ex s j * Ideal.div 1 (∑ k : Fin 2048, ex s k)

section Body

variable (sel : IVec S256x2048 32) (q : FVec Ideal S256x64 .f32) (kt : FVec Ideal S64x2048 .f32) (bk : Vec Ideal S1x1x64 .f32)
  (vv : Vec Ideal S1x2048x64 .f32) (wo : Vec Ideal S1x64x768 .f32)

theorem sum64_apply (x : FVec Ideal S256x64 .f32) (r : Fin 256) :
    shapeCast S256x1 (multiReduction .add [1] S256 x 0x00000000#32 reduces_S256x64_S256 (.inl rfl) rfl) shapeCasts_S256_S256x1 (ix2 r 0)
      = (∑ d : Fin 64, x (ix2 r d) : EReal) := by
  rw [shapeCast_apply _ _ (ix2 r 0) (ix1 r) (by rw [Shape.rowMajor_val_one, Shape.rowMajor_val_two]; simp)]
  exact Ideal.reduceAdd_r2_a1 reduces_S256x64_S256 x (ix1 r)

theorem sum2048_apply (x : FVec Ideal S256x2048 .f32) (r : Fin 256) :
    shapeCast S256x1 (multiReduction .add [1] S256 x 0x00000000#32 reduces_S256x2048_S256 (.inl rfl) rfl) shapeCasts_S256_S256x1 (ix2 r 0)
      = (∑ j : Fin 2048, x (ix2 r j) : EReal) := by
  rw [shapeCast_apply _ _ (ix2 r 0) (ix1 r) (by rw [Shape.rowMajor_val_one, Shape.rowMajor_val_two]; simp)]
  exact Ideal.reduceAdd_r2_a1 reduces_S256x2048_S256 x (ix1 r)

/-- The scores of a row. -/
def scr (S : Fin 2048 → Prop) (q : Fin 64 → EReal) (k : Fin 64 → Fin 2048 → EReal) (b : Fin 64 → EReal) (j : Fin 2048) : EReal :=
  if S j then ((∑ d : Fin 64, q d * k d j) + ∑ d : Fin 64, q d * b d) * eighth else negbig

def bScore : FVec Ideal S256x2048 .f32 :=
  select (cmpi .sgt sel (broadcast S256x2048 0#32))
    (mulf (addf (matmul dot_S256x64_S64x2048_S256x2048_1_0_0_1_n_n none q kt (constant (F := Ideal) S256x2048 .f32 0x00000000#32))
      (broadcastTo S256x2048 (shapeCast S256x1 (multiReduction .add [1] S256 (mulf q (broadcastTo S256x64 (shapeCast S1x64 bk shapeCasts_S1x1x64_S1x64) broadcasts_S1x64_S256x64))
        0x00000000#32 reduces_S256x64_S256 (.inl rfl) rfl) shapeCasts_S256_S256x1) broadcasts_S256x1_S256x2048))
      (broadcast S256x2048 (Scalar.ofBits .f32 0x3E000000#32 : Ideal .f32)))
    (broadcast S256x2048 (Scalar.ofBits .f32 0xCE6E6B28#32 : Ideal .f32))

theorem bScore_apply (S : Fin 2048 → Prop) (r : Fin 256) (hsel : ∀ j, sel (ix2 r j) = if S j then 1#32 else 0#32) (j : Fin 2048) :
    bScore sel q kt bk (ix2 r j) = scr S (fun d => q (ix2 r d)) (fun d j => kt (ix2 d j)) (fun d => bk (ix3 0 0 d)) j := by
  unfold bScore scr
  rw [select_apply, select_ite]
  have h1 : cmpi .sgt sel (broadcast S256x2048 0#32) (ix2 r j) = 1#1 ↔ S j := by
    show IntOp.cmpi .sgt (sel (ix2 r j)) 0#32 = 1#1 ↔ _
    rw [hsel]
    by_cases h : S j
    · rw [if_pos h]; exact ⟨fun _ => h, fun _ => by decide⟩
    · rw [if_neg h]; exact ⟨fun h' => absurd h' (by decide), fun h' => absurd h' h⟩
  refine if_congr h1 ?_ rfl
  show ((FloatOps.matmul dot_S256x64_S64x2048_S256x2048_1_0_0_1_n_n none q kt (constant (F := Ideal) S256x2048 .f32 0x00000000#32) (ix2 r j)
    + broadcastTo S256x2048 (shapeCast S256x1 (multiReduction .add [1] S256 (mulf q (broadcastTo S256x64 (shapeCast S1x64 bk shapeCasts_S1x1x64_S1x64) broadcasts_S1x64_S256x64))
        0x00000000#32 reduces_S256x64_S256 (.inl rfl) rfl) shapeCasts_S256_S256x1) broadcasts_S256x1_S256x2048 (ix2 r j)) * eighth : EReal) = _
  congr 2
  · refine (mm_one dot_S256x64_S64x2048_S256x2048_1_0_0_1_n_n none 64 rfl rfl _ _ _ (ix2 r j) (fun k => ix2 r k) (fun k => ix2 k j) ?_ ?_).trans ?_
    · intro k; funext a; match a with | ⟨0, _⟩ => rfl | ⟨1, _⟩ => exact Fin.ext (contrEquiv1_symm_val dot_S256x64_S64x2048_S256x2048_1_0_0_1_n_n 64 rfl rfl k)
    · intro k; funext a; match a with | ⟨0, _⟩ => exact Fin.ext (contrEquiv1_symm_val dot_S256x64_S64x2048_S256x2048_1_0_0_1_n_n 64 rfl rfl k) | ⟨1, _⟩ => rfl
    · rw [show (constant S256x2048 .f32 0x00000000#32 : FVec Ideal S256x2048 .f32) (ix2 r j) = (0 : EReal) from Ideal.ofBits_zero_f32, zero_add]
  · rw [bcol_apply, sum64_apply]
    refine Finset.sum_congr rfl fun d _ => ?_
    show (q (ix2 r d) * broadcastTo S256x64 (shapeCast S1x64 bk shapeCasts_S1x1x64_S1x64) broadcasts_S1x64_S256x64 (ix2 r d) : EReal) = _
    rw [broadcastTo_apply _ _ (ix2 r d) (ix2 0 d) (fun a => by fin_cases a <;> rfl),
      shapeCast_apply bk _ (ix2 0 d) (ix3 0 0 d) (by rw [Shape.rowMajor_val_two, Shape.rowMajor_val_three]; simp)]

def bExp (s : FVec Ideal S256x2048 .f32) : FVec Ideal S256x2048 .f32 :=
  exp (subf s (broadcastTo S256x2048 (shapeCast S256x1 (multiReduction .maximumf [1] S256 s 0xFF800000#32 reduces_S256x2048_S256 (.inl rfl) rfl) shapeCasts_S256_S256x1) broadcasts_S256x1_S256x2048))

theorem bExp_apply (s : FVec Ideal S256x2048 .f32) (r : Fin 256) (j : Fin 2048) : bExp s (ix2 r j) = ex (row s r) j := by
  unfold bExp ex
  show Ideal.exp ((s (ix2 r j) - broadcastTo S256x2048 (shapeCast S256x1 (multiReduction .maximumf [1] S256 s 0xFF800000#32 reduces_S256x2048_S256 (.inl rfl) rfl) shapeCasts_S256_S256x1) broadcasts_S256x1_S256x2048 (ix2 r j) : EReal)) = _
  rw [bcol_apply, max_apply]

def bSmx (s : FVec Ideal S256x2048 .f32) : FVec Ideal S256x2048 .f32 :=
  mulf (bExp s) (broadcastTo S256x2048 (divf (broadcast S256x1 (Scalar.ofBits .f32 0x3F800000#32 : Ideal .f32))
    (shapeCast S256x1 (multiReduction .add [1] S256 (bExp s) 0x00000000#32 reduces_S256x2048_S256 (.inl rfl) rfl) shapeCasts_S256_S256x1)) broadcasts_S256x1_S256x2048)

theorem bSmx_apply (s : FVec Ideal S256x2048 .f32) (r : Fin 256) (j : Fin 2048) : bSmx s (ix2 r j) = smx (row s r) j := by
  unfold bSmx smx
  show (bExp s (ix2 r j) * broadcastTo S256x2048 _ broadcasts_S256x1_S256x2048 (ix2 r j) : EReal) = _
  rw [bExp_apply, bcol_apply]
  refine congrArg (fun z : EReal => ex (row s r) j * z) ?_
  show Ideal.div (Scalar.ofBits .f32 0x3F800000#32 : Ideal .f32) (shapeCast S256x1 (multiReduction .add [1] S256 (bExp s) 0x00000000#32 reduces_S256x2048_S256 (.inl rfl) rfl) shapeCasts_S256_S256x1 (ix2 r 0)) = _
  rw [sum2048_apply, one_bits]
  refine congrArg (fun z : EReal => Ideal.div 1 z) ?_
  exact Finset.sum_congr rfl fun k _ => bExp_apply s r k

theorem pay29_eq : k2_pay29 sel q kt (constant (F := Ideal) S256x2048 .f32 0x00000000#32) bk vv wo =
    matmul dot_S256x64_S64x768_S256x768_1_0_0_1_n_n none (matmul dot_S256x2048_S2048x64_S256x64_1_0_0_1_n_n none (bSmx (bScore sel q kt bk))
      (show FVec Ideal S2048x64 .f32 from shapeCast S2048x64 vv shapeCasts_S1x2048x64_S2048x64) (constant (F := Ideal) S256x64 .f32 0x00000000#32))
      (show FVec Ideal S64x768 .f32 from shapeCast S64x768 wo shapeCasts_S1x64x768_S64x768) (constant (F := Ideal) S256x768 .f32 0x00000000#32) := rfl

/-- One head's part of a row of the output. -/
def headOut (s : Fin 2048 → EReal) (v : Fin 2048 → Fin 64 → EReal) (w : Fin 64 → EReal) : EReal :=
  ∑ d : Fin 64, (∑ j : Fin 2048, smx s j * v j d) * w d

theorem pay29_apply (S : Fin 2048 → Prop) (r : Fin 256) (hsel : ∀ j, sel (ix2 r j) = if S j then 1#32 else 0#32) (n : Fin 768) :
    k2_pay29 sel q kt (constant (F := Ideal) S256x2048 .f32 0x00000000#32) bk vv wo (ix2 r n)
      = headOut (scr S (fun d => q (ix2 r d)) (fun d j => kt (ix2 d j)) (fun d => bk (ix3 0 0 d))) (fun j d => vv (ix3 0 j d)) (fun d => wo (ix3 0 d n)) := by
  rw [pay29_eq]
  unfold headOut
  refine (mm_one dot_S256x64_S64x768_S256x768_1_0_0_1_n_n none 64 rfl rfl _ _ _ (ix2 r n) (fun k => ix2 r k) (fun k => ix2 k n) ?_ ?_).trans ?_
  · intro k; funext a; match a with | ⟨0, _⟩ => rfl | ⟨1, _⟩ => exact Fin.ext (contrEquiv1_symm_val dot_S256x64_S64x768_S256x768_1_0_0_1_n_n 64 rfl rfl k)
  · intro k; funext a; match a with | ⟨0, _⟩ => exact Fin.ext (contrEquiv1_symm_val dot_S256x64_S64x768_S256x768_1_0_0_1_n_n 64 rfl rfl k) | ⟨1, _⟩ => rfl
  rw [show (constant S256x768 .f32 0x00000000#32 : FVec Ideal S256x768 .f32) (ix2 r n) = (0 : EReal) from Ideal.ofBits_zero_f32, zero_add]
  refine Finset.sum_congr rfl fun d _ => ?_
  congr 1
  · refine (mm_one dot_S256x2048_S2048x64_S256x64_1_0_0_1_n_n none 2048 rfl rfl _ _ _ (ix2 r d) (fun k => ix2 r k) (fun k => ix2 k d) ?_ ?_).trans ?_
    · intro k; funext a; match a with | ⟨0, _⟩ => rfl | ⟨1, _⟩ => exact Fin.ext (contrEquiv1_symm_val dot_S256x2048_S2048x64_S256x64_1_0_0_1_n_n 2048 rfl rfl k)
    · intro k; funext a; match a with | ⟨0, _⟩ => exact Fin.ext (contrEquiv1_symm_val dot_S256x2048_S2048x64_S256x64_1_0_0_1_n_n 2048 rfl rfl k) | ⟨1, _⟩ => rfl
    rw [show (constant S256x64 .f32 0x00000000#32 : FVec Ideal S256x64 .f32) (ix2 r d) = (0 : EReal) from Ideal.ofBits_zero_f32, zero_add]
    refine Finset.sum_congr rfl fun j _ => ?_
    rw [bSmx_apply, show row (bScore sel q kt bk) r = _ from funext (bScore_apply sel q kt bk S r hsel),
      shapeCast_apply vv _ (ix2 j d) (ix3 0 j d) (by rw [Shape.rowMajor_val_two, Shape.rowMajor_val_three]; simp)]
  · exact shapeCast_apply wo _ (ix2 d n) (ix3 0 d n) (by rw [Shape.rowMajor_val_two, Shape.rowMajor_val_three]; simp)

theorem pay30_apply (bo : Vec Ideal S1x768 .f32) (r : Fin 256) (n : Fin 768) :
    k2_pay30 sel q kt (constant (F := Ideal) S256x2048 .f32 0x00000000#32) bk vv wo bo (ix2 r n)
      = (k2_pay29 sel q kt (constant (F := Ideal) S256x2048 .f32 0x00000000#32) bk vv wo (ix2 r n) + bo (ix2 0 n) : EReal) := by
  unfold k2_pay30
  rw [addf_apply]
  congr 1
  rw [broadcastTo_apply _ _ (ix2 r n) (ix2 0 n) (fun a => by fin_cases a <;> rfl)]
  exact shapeCast_apply _ _ _ _ rfl

theorem pay27_apply (x : Vec Ideal S1x256x64 .f32) (r : Fin 256) (d : Fin 64) : k2_pay27 x (ix2 r d) = x (ix3 0 r d) :=
  shapeCast_apply x _ (ix2 r d) (ix3 0 r d) (by rw [Shape.rowMajor_val_two, Shape.rowMajor_val_three]; simp)

theorem pay28_eq (x : Vec Ideal S64x2048 .f32) : k2_pay28 x = x := by funext i; exact shapeCast_apply _ _ _ _ rfl

theorem pay1_apply2 (x : FVec Ideal S256x768 .f32) (y : Vec Ideal S256x768 .f32) (r : Fin 256) (n : Fin 768) :
    k2_pay1 x y (ix2 r n) = (y (ix2 r n) + x (ix2 r n) : EReal) := by
  unfold k2_pay1
  rw [addf_apply, shapeCast_apply y _ (ix2 r n) (ix2 r n) rfl]

end Body

end Cert.Attn.Given
-- ==== Proof.GnV2.lean ====
/- What the third region leaves in its array. -/
module

public import proofs.«01_k».proof.Proof.GnV1
public import proofs.«01_k».proof.Proof.GnP2

@[expose] public section

set_option maxRecDepth 16384

noncomputable section

namespace Cert.Attn.Given

open Idealize.ShloMosaic hiding ix0 ix1 ix2 ix3 ix4 ix5 eq_ix1 eq_ix2 eq_ix3 eq_ix4
open Idealize.ShloMosaic.TcCoe Idealize.ShloMosaic.ValueIdx Idealize.ShloMosaic.WordCmp Finset
open Idealize.SL.Sem
open Cert.KernelGivenIdeal Cert.KernelGivenIdeal.Gen Cert.KernelGivenIdeal.Facts Cert.KernelGivenIdeal.Own
open Cert.Attn.Sel Cert.Attn.Ops

attribute [local instance 10] Classical.propDecidable

variable (V : (c : Dev nD) → (b : Ref sig .tc) → Buf (Elt Ideal) ((c : Thread nD τ).loc b))

theorem N2_le (t : Fin grid2.N) : t.val < 96 := lt_of_lt_of_eq t.isLt (by decide)
abbrev hd2 (t : Fin grid2.N) : Fin 12 := ⟨t.val % 12, Nat.mod_lt _ (by decide)⟩
abbrev row2 (t : Fin grid2.N) (r : Fin 256) : Fin 2048 := ⟨t.val / 12 * 256 + r.val, by have := N2_le t; have := r.isLt; omega⟩
abbrev grp2 (t : Fin grid2.N) (a : Fin 8) : Fin 64 := ⟨t.val / 12 * 8 + a.val, by have := N2_le t; have := a.isLt; omega⟩
theorem at2_0 : ∀ t : Fin grid2.N, win2_0.index t 0 = t.val % 12 ∧ win2_0.index t 1 = t.val / 12 ∧ win2_0.index t 2 = 0 := by decide +kernel
theorem at2_1 : ∀ t : Fin grid2.N, win2_1.index t 0 = t.val % 12 ∧ win2_1.index t 1 = 0 := by decide +kernel
theorem at2_2 : ∀ t : Fin grid2.N, win2_2.index t 0 = t.val % 12 ∧ win2_2.index t 1 = 0 ∧ win2_2.index t 2 = 0 := by decide +kernel
theorem at2_3 : ∀ t : Fin grid2.N, win2_3.index t 0 = t.val % 12 ∧ win2_3.index t 1 = 0 ∧ win2_3.index t 2 = 0 := by decide +kernel
theorem at2_4 : ∀ t : Fin grid2.N, win2_4.index t 0 = t.val % 12 ∧ win2_4.index t 1 = 0 ∧ win2_4.index t 2 = 0 := by decide +kernel
theorem at2_5 : ∀ t : Fin grid2.N, win2_5.index t 0 = 0 ∧ win2_5.index t 1 = 0 := by decide +kernel
theorem at2_6 : ∀ t : Fin grid2.N, win2_6.index t 0 = t.val / 12 ∧ win2_6.index t 1 = 0 := by decide +kernel
theorem at2_7 : ∀ t : Fin grid2.N, win2_7.index t 0 = t.val / 12 ∧ win2_7.index t 1 = 0 := by decide +kernel
theorem at2_8 : ∀ t : Fin grid2.N, win2_8.index t 0 = t.val % 12 ∧ win2_8.index t 1 = t.val / 12 ∧ win2_8.index t 2 = 0 := by decide +kernel
theorem at2_9 : ∀ t : Fin grid2.N, win2_9.index t 0 = t.val / 12 ∧ win2_9.index t 1 = 0 := by decide +kernel
theorem at2_10 : ∀ t : Fin grid2.N, win2_10.index t 0 = t.val / 12 ∧ win2_10.index t 1 = 0 := by decide +kernel

theorem blk2_0 (c : Dev nD) (t : Fin grid2.N) (r : Fin 256) (d : Fin 64) : iblk2 V c 0 t (ix3 0 r d) = V c main_v22_0 (ix3 (hd2 t) (row2 t r) d) := by
  show V c main_v22_0 ((win2_0.rect t).emb (ix3 0 r d)) = _
  have e : (win2_0.rect t).emb (ix3 0 r d) = (ix3 (hd2 t) (row2 t r) d) := by
    funext ax
    have q := at2_0 t
    match ax with
    | ⟨0, _⟩ => refine Fin.ext ((Pipeline.Window.rect_emb_val win2_0 t (ix3 0 r d) 0).trans ?_)
                rw [q.1]; first | rfl | (show _ * 1 + _ = _; simp only [Nat.zero_mul, Nat.zero_add, Nat.mul_one] <;> rfl) | (show _ * 1 + 0 = _; simp only [Nat.mul_one, Nat.add_zero, Nat.zero_mul] <;> rfl)
    | ⟨1, _⟩ => refine Fin.ext ((Pipeline.Window.rect_emb_val win2_0 t (ix3 0 r d) 1).trans ?_)
                rw [q.2.1]; first | rfl | (show _ * 256 + _ = _; simp only [Nat.zero_mul, Nat.zero_add, Nat.mul_one] <;> rfl) | (show _ * 256 + 0 = _; simp only [Nat.mul_one, Nat.add_zero, Nat.zero_mul] <;> rfl)
    | ⟨2, _⟩ => refine Fin.ext ((Pipeline.Window.rect_emb_val win2_0 t (ix3 0 r d) 2).trans ?_)
                rw [q.2.2]; first | rfl | (show _ * 64 + _ = _; simp only [Nat.zero_mul, Nat.zero_add, Nat.mul_one] <;> rfl) | (show _ * 64 + 0 = _; simp only [Nat.mul_one, Nat.add_zero, Nat.zero_mul] <;> rfl)
  rw [e]

theorem blk2_1 (c : Dev nD) (t : Fin grid2.N) (d : Fin 64) (j : Fin 2048) : iblk2 V c 1 t (ix2 d j) = V c main_v22_1 (ix2 (col (hd2 t) d) j) := by
  show V c main_v22_1 ((win2_1.rect t).emb (ix2 d j)) = _
  have e : (win2_1.rect t).emb (ix2 d j) = (ix2 (col (hd2 t) d) j) := by
    funext ax
    have q := at2_1 t
    match ax with
    | ⟨0, _⟩ => refine Fin.ext ((Pipeline.Window.rect_emb_val win2_1 t (ix2 d j) 0).trans ?_)
                rw [q.1]; first | rfl | (show _ * 64 + _ = _; simp only [Nat.zero_mul, Nat.zero_add, Nat.mul_one] <;> rfl) | (show _ * 64 + 0 = _; simp only [Nat.mul_one, Nat.add_zero, Nat.zero_mul] <;> rfl)
    | ⟨1, _⟩ => refine Fin.ext ((Pipeline.Window.rect_emb_val win2_1 t (ix2 d j) 1).trans ?_)
                rw [q.2]; first | rfl | (show _ * 2048 + _ = _; simp only [Nat.zero_mul, Nat.zero_add, Nat.mul_one] <;> rfl) | (show _ * 2048 + 0 = _; simp only [Nat.mul_one, Nat.add_zero, Nat.zero_mul] <;> rfl)
  rw [e]

theorem blk2_2 (c : Dev nD) (t : Fin grid2.N) (j : Fin 2048) (d : Fin 64) : iblk2 V c 2 t (ix3 0 j d) = V c main_v22_2 (ix3 (hd2 t) j d) := by
  show V c main_v22_2 ((win2_2.rect t).emb (ix3 0 j d)) = _
  have e : (win2_2.rect t).emb (ix3 0 j d) = (ix3 (hd2 t) j d) := by
    funext ax
    have q := at2_2 t
    match ax with
    | ⟨0, _⟩ => refine Fin.ext ((Pipeline.Window.rect_emb_val win2_2 t (ix3 0 j d) 0).trans ?_)
                rw [q.1]; first | rfl | (show _ * 1 + _ = _; simp only [Nat.zero_mul, Nat.zero_add, Nat.mul_one] <;> rfl) | (show _ * 1 + 0 = _; simp only [Nat.mul_one, Nat.add_zero, Nat.zero_mul] <;> rfl)
    | ⟨1, _⟩ => refine Fin.ext ((Pipeline.Window.rect_emb_val win2_2 t (ix3 0 j d) 1).trans ?_)
                rw [q.2.1]; first | rfl | (show _ * 2048 + _ = _; simp only [Nat.zero_mul, Nat.zero_add, Nat.mul_one] <;> rfl) | (show _ * 2048 + 0 = _; simp only [Nat.mul_one, Nat.add_zero, Nat.zero_mul] <;> rfl)
    | ⟨2, _⟩ => refine Fin.ext ((Pipeline.Window.rect_emb_val win2_2 t (ix3 0 j d) 2).trans ?_)
                rw [q.2.2]; first | rfl | (show _ * 64 + _ = _; simp only [Nat.zero_mul, Nat.zero_add, Nat.mul_one] <;> rfl) | (show _ * 64 + 0 = _; simp only [Nat.mul_one, Nat.add_zero, Nat.zero_mul] <;> rfl)
  rw [e]

theorem blk2_3 (c : Dev nD) (t : Fin grid2.N) (d : Fin 64) : iblk2 V c 3 t (ix3 0 0 d) = V c main_v19 (ix3 (hd2 t) 0 d) := by
  show V c main_v19 ((win2_3.rect t).emb (ix3 0 0 d)) = _
  have e : (win2_3.rect t).emb (ix3 0 0 d) = (ix3 (hd2 t) 0 d) := by
    funext ax
    have q := at2_3 t
    match ax with
    | ⟨0, _⟩ => refine Fin.ext ((Pipeline.Window.rect_emb_val win2_3 t (ix3 0 0 d) 0).trans ?_)
                rw [q.1]; first | rfl | (show _ * 1 + _ = _; simp only [Nat.zero_mul, Nat.zero_add, Nat.mul_one] <;> rfl) | (show _ * 1 + 0 = _; simp only [Nat.mul_one, Nat.add_zero, Nat.zero_mul] <;> rfl)
    | ⟨1, _⟩ => refine Fin.ext ((Pipeline.Window.rect_emb_val win2_3 t (ix3 0 0 d) 1).trans ?_)
                rw [q.2.1]; first | rfl | (show _ * 1 + _ = _; simp only [Nat.zero_mul, Nat.zero_add, Nat.mul_one] <;> rfl) | (show _ * 1 + 0 = _; simp only [Nat.mul_one, Nat.add_zero, Nat.zero_mul] <;> rfl)
    | ⟨2, _⟩ => refine Fin.ext ((Pipeline.Window.rect_emb_val win2_3 t (ix3 0 0 d) 2).trans ?_)
                rw [q.2.2]; first | rfl | (show _ * 64 + _ = _; simp only [Nat.zero_mul, Nat.zero_add, Nat.mul_one] <;> rfl) | (show _ * 64 + 0 = _; simp only [Nat.mul_one, Nat.add_zero, Nat.zero_mul] <;> rfl)
  rw [e]

theorem blk2_4 (c : Dev nD) (t : Fin grid2.N) (d : Fin 64) (n : Fin 768) : iblk2 V c 4 t (ix3 0 d n) = V c main_v17 (ix3 (hd2 t) d n) := by
  show V c main_v17 ((win2_4.rect t).emb (ix3 0 d n)) = _
  have e : (win2_4.rect t).emb (ix3 0 d n) = (ix3 (hd2 t) d n) := by
    funext ax
    have q := at2_4 t
    match ax with
    | ⟨0, _⟩ => refine Fin.ext ((Pipeline.Window.rect_emb_val win2_4 t (ix3 0 d n) 0).trans ?_)
                rw [q.1]; first | rfl | (show _ * 1 + _ = _; simp only [Nat.zero_mul, Nat.zero_add, Nat.mul_one] <;> rfl) | (show _ * 1 + 0 = _; simp only [Nat.mul_one, Nat.add_zero, Nat.zero_mul] <;> rfl)
    | ⟨1, _⟩ => refine Fin.ext ((Pipeline.Window.rect_emb_val win2_4 t (ix3 0 d n) 1).trans ?_)
                rw [q.2.1]; first | rfl | (show _ * 64 + _ = _; simp only [Nat.zero_mul, Nat.zero_add, Nat.mul_one] <;> rfl) | (show _ * 64 + 0 = _; simp only [Nat.mul_one, Nat.add_zero, Nat.zero_mul] <;> rfl)
    | ⟨2, _⟩ => refine Fin.ext ((Pipeline.Window.rect_emb_val win2_4 t (ix3 0 d n) 2).trans ?_)
                rw [q.2.2]; first | rfl | (show _ * 768 + _ = _; simp only [Nat.zero_mul, Nat.zero_add, Nat.mul_one] <;> rfl) | (show _ * 768 + 0 = _; simp only [Nat.mul_one, Nat.add_zero, Nat.zero_mul] <;> rfl)
  rw [e]

theorem blk2_5 (c : Dev nD) (t : Fin grid2.N) (n : Fin 768) : iblk2 V c 5 t (ix2 0 n) = V c main_v23 (ix2 0 n) := by
  show V c main_v23 ((win2_5.rect t).emb (ix2 0 n)) = _
  have e : (win2_5.rect t).emb (ix2 0 n) = (ix2 0 n) := by
    funext ax
    have q := at2_5 t
    match ax with
    | ⟨0, _⟩ => refine Fin.ext ((Pipeline.Window.rect_emb_val win2_5 t (ix2 0 n) 0).trans ?_)
                rw [q.1]; first | rfl | (show _ * 1 + _ = _; simp only [Nat.zero_mul, Nat.zero_add, Nat.mul_one] <;> rfl) | (show _ * 1 + 0 = _; simp only [Nat.mul_one, Nat.add_zero, Nat.zero_mul] <;> rfl)
    | ⟨1, _⟩ => refine Fin.ext ((Pipeline.Window.rect_emb_val win2_5 t (ix2 0 n) 1).trans ?_)
                rw [q.2]; first | rfl | (show _ * 768 + _ = _; simp only [Nat.zero_mul, Nat.zero_add, Nat.mul_one] <;> rfl) | (show _ * 768 + 0 = _; simp only [Nat.mul_one, Nat.add_zero, Nat.zero_mul] <;> rfl)
  rw [e]

theorem blk2_6 (c : Dev nD) (t : Fin grid2.N) (r : Fin 256) (j : Fin 2048) : iblk2 V c 6 t (ix2 r j) = V c main_v21_0 (ix2 (row2 t r) j) := by
  show V c main_v21_0 ((win2_6.rect t).emb (ix2 r j)) = _
  have e : (win2_6.rect t).emb (ix2 r j) = (ix2 (row2 t r) j) := by
    funext ax
    have q := at2_6 t
    match ax with
    | ⟨0, _⟩ => refine Fin.ext ((Pipeline.Window.rect_emb_val win2_6 t (ix2 r j) 0).trans ?_)
                rw [q.1]; first | rfl | (show _ * 256 + _ = _; simp only [Nat.zero_mul, Nat.zero_add, Nat.mul_one] <;> rfl) | (show _ * 256 + 0 = _; simp only [Nat.mul_one, Nat.add_zero, Nat.zero_mul] <;> rfl)
    | ⟨1, _⟩ => refine Fin.ext ((Pipeline.Window.rect_emb_val win2_6 t (ix2 r j) 1).trans ?_)
                rw [q.2]; first | rfl | (show _ * 2048 + _ = _; simp only [Nat.zero_mul, Nat.zero_add, Nat.mul_one] <;> rfl) | (show _ * 2048 + 0 = _; simp only [Nat.mul_one, Nat.add_zero, Nat.zero_mul] <;> rfl)
  rw [e]

theorem blk2_7 (c : Dev nD) (t : Fin grid2.N) (a : Fin 8) (j : Fin 2048) : iblk2 V c 7 t (ix2 a j) = V c main_v21_1 (ix2 (grp2 t a) j) := by
  show V c main_v21_1 ((win2_7.rect t).emb (ix2 a j)) = _
  have e : (win2_7.rect t).emb (ix2 a j) = (ix2 (grp2 t a) j) := by
    funext ax
    have q := at2_7 t
    match ax with
    | ⟨0, _⟩ => refine Fin.ext ((Pipeline.Window.rect_emb_val win2_7 t (ix2 a j) 0).trans ?_)
                rw [q.1]; first | rfl | (show _ * 8 + _ = _; simp only [Nat.zero_mul, Nat.zero_add, Nat.mul_one] <;> rfl) | (show _ * 8 + 0 = _; simp only [Nat.mul_one, Nat.add_zero, Nat.zero_mul] <;> rfl)
    | ⟨1, _⟩ => refine Fin.ext ((Pipeline.Window.rect_emb_val win2_7 t (ix2 a j) 1).trans ?_)
                rw [q.2]; first | rfl | (show _ * 2048 + _ = _; simp only [Nat.zero_mul, Nat.zero_add, Nat.mul_one] <;> rfl) | (show _ * 2048 + 0 = _; simp only [Nat.mul_one, Nat.add_zero, Nat.zero_mul] <;> rfl)
  rw [e]

theorem blk2_8 (c : Dev nD) (t : Fin grid2.N) (a : Fin 8) (j : Fin 2048) : iblk2 V c 8 t (ix3 0 a j) = V c main_v10 (ix3 (hd2 t) (grp2 t a) j) := by
  show V c main_v10 ((win2_8.rect t).emb (ix3 0 a j)) = _
  have e : (win2_8.rect t).emb (ix3 0 a j) = (ix3 (hd2 t) (grp2 t a) j) := by
    funext ax
    have q := at2_8 t
    match ax with
    | ⟨0, _⟩ => refine Fin.ext ((Pipeline.Window.rect_emb_val win2_8 t (ix3 0 a j) 0).trans ?_)
                rw [q.1]; first | rfl | (show _ * 1 + _ = _; simp only [Nat.zero_mul, Nat.zero_add, Nat.mul_one] <;> rfl) | (show _ * 1 + 0 = _; simp only [Nat.mul_one, Nat.add_zero, Nat.zero_mul] <;> rfl)
    | ⟨1, _⟩ => refine Fin.ext ((Pipeline.Window.rect_emb_val win2_8 t (ix3 0 a j) 1).trans ?_)
                rw [q.2.1]; first | rfl | (show _ * 8 + _ = _; simp only [Nat.zero_mul, Nat.zero_add, Nat.mul_one] <;> rfl) | (show _ * 8 + 0 = _; simp only [Nat.mul_one, Nat.add_zero, Nat.zero_mul] <;> rfl)
    | ⟨2, _⟩ => refine Fin.ext ((Pipeline.Window.rect_emb_val win2_8 t (ix3 0 a j) 2).trans ?_)
                rw [q.2.2]; first | rfl | (show _ * 2048 + _ = _; simp only [Nat.zero_mul, Nat.zero_add, Nat.mul_one] <;> rfl) | (show _ * 2048 + 0 = _; simp only [Nat.mul_one, Nat.add_zero, Nat.zero_mul] <;> rfl)
  rw [e]

theorem blk2_9 (c : Dev nD) (t : Fin grid2.N) (r : Fin 256) : iblk2 V c 9 t (ix2 r 0) = V c main_v21_2 (ix2 (row2 t r) 0) := by
  show V c main_v21_2 ((win2_9.rect t).emb (ix2 r 0)) = _
  have e : (win2_9.rect t).emb (ix2 r 0) = (ix2 (row2 t r) 0) := by
    funext ax
    have q := at2_9 t
    match ax with
    | ⟨0, _⟩ => refine Fin.ext ((Pipeline.Window.rect_emb_val win2_9 t (ix2 r 0) 0).trans ?_)
                rw [q.1]; first | rfl | (show _ * 256 + _ = _; simp only [Nat.zero_mul, Nat.zero_add, Nat.mul_one] <;> rfl) | (show _ * 256 + 0 = _; simp only [Nat.mul_one, Nat.add_zero, Nat.zero_mul] <;> rfl)
    | ⟨1, _⟩ => refine Fin.ext ((Pipeline.Window.rect_emb_val win2_9 t (ix2 r 0) 1).trans ?_)
                rw [q.2]; first | rfl | (show _ * 1 + _ = _; simp only [Nat.zero_mul, Nat.zero_add, Nat.mul_one] <;> rfl) | (show _ * 1 + 0 = _; simp only [Nat.mul_one, Nat.add_zero, Nat.zero_mul] <;> rfl)
  rw [e]

/-- A row of the scores' array. -/
abbrev gRow (x : S2048x2048.Idx → EReal) (i j : Fin 2048) : EReal := x (ix2 i j)
abbrev gW (i : Fin 2048) : Fin 64 := ⟨i.val / 32, by have := i.isLt; omega⟩
/-- The marks of a row, unpacked from the two packed masks. -/
def gC (p : S64x2048.Idx → BitVec 32) (u : S12x64x2048.Idx → BitVec 32) (h : Fin 12) (i j : Fin 2048) : Prop :=
  (p (ix2 (gW i) j)).getLsbD (i.val % 32) = true ∨ (u (ix3 h (gW i) j)).getLsbD (i.val % 32) = true
/-- A row's selection. -/
abbrev gS (c : Dev nD) (h : Fin 12) (i : Fin 2048) (j : Fin 2048) : Prop :=
  Top 409 (keep (gC (V c main_v21_1) (V c main_v10) h i) (gRow (V c main_v21_0) i)) j
/-- A row's output of one head. -/
def gOut (c : Dev nD) (h : Fin 12) (i : Fin 2048) (n : Fin 768) : EReal :=
  headOut (scr (gS V c h i) (fun d => (V c main_v22_0 : S12x2048x64.Idx → EReal) (ix3 h i d)) (fun d j => (V c main_v22_1 : S768x2048.Idx → EReal) (ix2 (col h d) j))
    (fun d => (V c main_v19 : S12x1x64.Idx → EReal) (ix3 h 0 d))) (fun j d => (V c main_v22_2 : S12x2048x64.Idx → EReal) (ix3 h j d)) (fun d => (V c main_v17 : S12x64x768.Idx → EReal) (ix3 h d n))

variable (c : Dev nD)
  (hk : ∀ i, Kth 409 (gRow (V c main_v21_0) i) ((V c main_v21_2 : S2048x1.Idx → EReal) (ix2 i 0)))
  (hc : ∀ h i j, Top 409 (gRow (V c main_v21_0) i) j → gC (V c main_v21_1) (V c main_v10) h i j)

abbrev selB (t : Fin grid2.N) : IVec S256x2048 32 := sel2 (F := Ideal) (iblk2 V c 6 t) (iblk2 V c 7 t) (iblk2 V c 8 t) (iblk2 V c 9 t)

theorem row_blk2 (t : Fin grid2.N) (r : Fin 256) : row (iblk2 V c 6 t) r = gRow (V c main_v21_0) (row2 t r) := funext fun j => blk2_6 V c t r j

theorem CB_blk (t : Fin grid2.N) (r : Fin 256) : CB (iblk2 V c 7 t) (iblk2 V c 8 t) r = gC (V c main_v21_1) (V c main_v10) (hd2 t) (row2 t r) := by
  funext j
  unfold CB gC
  have hr := r.isLt
  have e1 : grp2 t (wrd r) = gW (row2 t r) := Fin.ext (by show t.val / 12 * 8 + r.val / 32 = (t.val / 12 * 256 + r.val) / 32; omega)
  have e2 : (bit r).val = (row2 t r).val % 32 := by show r.val % 32 = (t.val / 12 * 256 + r.val) % 32; omega
  rw [blk2_7, blk2_8, e1, e2]

include hk hc in
theorem selB_apply (t : Fin grid2.N) (r : Fin 256) (j : Fin 2048) :
    selB V c t (ix2 r j) = if gS V c (hd2 t) (row2 t r) j then 1#32 else 0#32 := by
  have h1 := sel2_apply (iblk2 V c 6 t) (iblk2 V c 7 t) (iblk2 V c 8 t) (iblk2 V c 9 t)
    (fun r => by rw [row_blk2, blk2_9]; exact hk _) (fun r j h => by rw [row_blk2] at h; rw [CB_blk]; exact hc _ _ _ h) r j
  rw [row_blk2, CB_blk] at h1
  exact h1

include hk hc in
theorem contrib_blk (t : Fin grid2.N) (r : Fin 256) (n : Fin 768) :
    k2_pay29 (selB V c t) (k2_pay27 (iblk2 V c 0 t)) (k2_pay28 (iblk2 V c 1 t)) (constant (F := Ideal) S256x2048 .f32 0x00000000#32) (iblk2 V c 3 t) (iblk2 V c 2 t) (iblk2 V c 4 t) (ix2 r n)
      = gOut V c (hd2 t) (row2 t r) n := by
  rw [pay29_apply _ _ _ _ _ _ (gS V c (hd2 t) (row2 t r)) r (fun j => selB_apply V c hk hc t r j) n]
  unfold gOut
  rw [pay28_eq]
  have a0 : (fun d => k2_pay27 (iblk2 V c 0 t) (ix2 r d)) = fun d => (V c main_v22_0 : S12x2048x64.Idx → EReal) (ix3 (hd2 t) (row2 t r) d) :=
    funext fun d => (pay27_apply _ r d).trans (blk2_0 V c t r d)
  have a1 : (fun (d : Fin 64) (j : Fin 2048) => (iblk2 V c 1 t : S64x2048.Idx → EReal) (ix2 d j)) = fun d j => (V c main_v22_1 : S768x2048.Idx → EReal) (ix2 (col (hd2 t) d) j) :=
    funext fun d => funext fun j => blk2_1 V c t d j
  have a2 : (fun (d : Fin 64) => (iblk2 V c 3 t : S1x1x64.Idx → EReal) (ix3 0 0 d)) = fun d => (V c main_v19 : S12x1x64.Idx → EReal) (ix3 (hd2 t) 0 d) :=
    funext fun d => blk2_3 V c t d
  have a3 : (fun (j : Fin 2048) (d : Fin 64) => (iblk2 V c 2 t : S1x2048x64.Idx → EReal) (ix3 0 j d)) = fun j d => (V c main_v22_2 : S12x2048x64.Idx → EReal) (ix3 (hd2 t) j d) :=
    funext fun j => funext fun d => blk2_2 V c t j d
  have a4 : (fun (d : Fin 64) => (iblk2 V c 4 t : S1x64x768.Idx → EReal) (ix3 0 d n)) = fun d => (V c main_v17 : S12x64x768.Idx → EReal) (ix3 (hd2 t) d n) :=
    funext fun d => blk2_4 V c t d n
  exact congr (congr (congrArg headOut (congr (congr (congrArg (scr (gS V c (hd2 t) (row2 t r))) a0) a1) a2)) a3) a4

/-- The first heads' sum, as the block is accumulated. -/
def part (f : Fin 12 → EReal) (b : EReal) : ℕ → EReal
  | 0 => f 0 + b
  | k + 1 => part f b k + f ⟨(k + 1) % 12, Nat.mod_lt _ (by decide)⟩

theorem part_last (f : Fin 12 → EReal) (b : EReal) : part f b 11 = (∑ h : Fin 12, f h) + b := by
  have e : part f b 11 = f 0 + b + f 1 + f 2 + f 3 + f 4 + f 5 + f 6 + f 7 + f 8 + f 9 + f 10 + f 11 := rfl
  rw [e]
  simp only [Fin.sum_univ_succ, Fin.sum_univ_zero, add_zero]
  show _ = f 0 + (f 1 + (f 2 + (f 3 + (f 4 + (f 5 + (f 6 + (f 7 + (f 8 + (f 9 + (f 10 + f 11)))))))))) + b
  ac_rfl

include hk hc in
theorem outs_apply : ∀ (k : ℕ) (hn : k < cfg2.N) (r : Fin 256) (n : Fin 768),
    outsAt2 V c k hn (ix2 r n) = part (fun h => gOut V c h (row2 ⟨k, hn⟩ r) n) ((V c main_v23 : S1x768.Idx → EReal) (ix2 0 n)) (k % 12) := by
  intro k
  induction k with
  | zero =>
    intro hn r n
    rw [outsAt2_A V c ⟨0, hn⟩ rfl]
    unfold out2_A
    rw [View.canon_unit_zero h1z2, View.ld_unit_zero h1z2, View.ld_unit_zero h1z2, View.ld_unit_zero h1z3, View.ld_unit_zero h1z2, View.ld_unit_zero h1z3, View.ld_unit_zero h1z2, View.ld_unit_zero h1z3, View.ld_unit_zero h1z3, View.ld_unit_zero h1z3, View.ld_unit_zero h1z2]
    rw [pay30_apply, contrib_blk V c hk hc, blk2_5]
    rfl
  | succ k ih =>
    intro hn r n
    by_cases h : (k + 1) % 12 = 0
    · rw [outsAt2_A V c ⟨k + 1, hn⟩ h]
      unfold out2_A
      rw [View.canon_unit_zero h1z2, View.ld_unit_zero h1z2, View.ld_unit_zero h1z2, View.ld_unit_zero h1z3, View.ld_unit_zero h1z2, View.ld_unit_zero h1z3, View.ld_unit_zero h1z2, View.ld_unit_zero h1z3, View.ld_unit_zero h1z3, View.ld_unit_zero h1z3, View.ld_unit_zero h1z2]
      rw [pay30_apply, contrib_blk V c hk hc, blk2_5, h]
      have e : hd2 ⟨k + 1, hn⟩ = 0 := Fin.ext h
      rw [e]
      rfl
    · rw [outsAt2_B V c ⟨k + 1, hn⟩ h]
      unfold out2_B contrib2
      rw [View.canon_unit_zero h1z2, View.ld_unit_zero h1z2, View.ld_unit_zero h1z2, View.ld_unit_zero h1z3, View.ld_unit_zero h1z2, View.ld_unit_zero h1z3, View.ld_unit_zero h1z2, View.ld_unit_zero h1z3, View.ld_unit_zero h1z3, View.ld_unit_zero h1z3, View.ld_unit_zero h1z2]
      rw [pay1_apply2, contrib_blk V c hk hc]
      have hk' : k < cfg2.N := Nat.lt_of_succ_lt hn
      rw [show outsAt2 V c ((⟨k + 1, hn⟩ : Fin cfg2.N).val - 1) _ (ix2 r n) = outsAt2 V c k hk' (ix2 r n) from rfl, ih hk' r n]
      have e1 : row2 ⟨k, hk'⟩ r = row2 ⟨k + 1, hn⟩ r := Fin.ext (by show k / 12 * 256 + r.val = (k + 1) / 12 * 256 + r.val; omega)
      have e2 : (k + 1) % 12 = k % 12 + 1 := by omega
      have e3 : hd2 ⟨k + 1, hn⟩ = ⟨(k % 12 + 1) % 12, Nat.mod_lt _ (by decide)⟩ := Fin.ext (by show (k + 1) % 12 = (k % 12 + 1) % 12; omega)
      rw [e1, e2, e3]
      rfl

/-- The output's array. -/
def G2_10 (c : Dev nD) : Buf (Elt Ideal) ((c : Thread nD τ).loc main_v24) := fun i : S2048x768.Idx =>
  (∑ h : Fin 12, gOut V c h (i 0) (i 1)) + (V c main_v23 : S1x768.Idx → EReal) (ix2 0 (i 1))

include hk hc in
theorem flushed2_10 (t : Fin grid2.N) (hf : (cfg2.win 10).flush t = true) :
    (dat2 V c).flushed 10 t = (win2_10.blk t).view.read (Elt Ideal) (G2_10 V c) := by
  show (cfg2.win 10).cut (grid2.coords t) ((dat2 V c).after 10 t) = _
  rw [after2_10]
  funext y
  obtain ⟨r, n, rfl⟩ : ∃ (r : Fin 256) (n : Fin 768), y = ix2 r n := ⟨y 0, y 1, eq_ix2 y⟩
  show outsAt2 V c t.val t.isLt (ix2 r n) = G2_10 V c ((win2_10.rect t).emb (ix2 r n))
  have e : (win2_10.rect t).emb (ix2 r n) = (ix2 (row2 t r) n) := by
    funext ax
    have q := at2_10 t
    match ax with
    | ⟨0, _⟩ => refine Fin.ext ((Pipeline.Window.rect_emb_val win2_10 t (ix2 r n) 0).trans ?_)
                rw [q.1]; first | rfl | (show _ * 256 + _ = _; simp only [Nat.zero_mul, Nat.zero_add, Nat.mul_one] <;> rfl) | (show _ * 256 + 0 = _; simp only [Nat.mul_one, Nat.add_zero, Nat.zero_mul] <;> rfl)
    | ⟨1, _⟩ => refine Fin.ext ((Pipeline.Window.rect_emb_val win2_10 t (ix2 r n) 1).trans ?_)
                rw [q.2]; first | rfl | (show _ * 768 + _ = _; simp only [Nat.zero_mul, Nat.zero_add, Nat.mul_one] <;> rfl) | (show _ * 768 + 0 = _; simp only [Nat.mul_one, Nat.add_zero, Nat.zero_mul] <;> rfl)
  rw [e, outs_apply V c hk hc, (flush2_10 t).mp hf, part_last]
  rfl

theorem mem2_10 (t : Fin grid2.N) (i : S2048x768.Idx) : i ∈ ((cfg2.win 10).blk t).view.set ↔
    (∀ a : Fin 2, win2_10.index t a * win2_10.size a ≤ (i a : Nat) ∧ (i a : Nat) < win2_10.index t a * win2_10.size a + win2_10.xsize (grid2.coords t) a) := by
  show i ∈ ((View.whole main_v24).slice (win2_10.rect t)).set ↔ _
  rw [View.set_slice_whole, Rect.mem_set_unit]; exact Iff.rfl

theorem cover2_10_all (i : S2048x768.Idx) : ∃ t : Fin cfg2.N, (cfg2.win 10).flush t = true ∧ i ∈ ((cfg2.win 10).blk t).view.set := by
  have h0 : (i 0 : Nat) < 2048 := (i 0).isLt
  have h1 : (i 1 : Nat) < 768 := (i 1).isLt
  have hN : grid2.N = 96 := by decide
  refine ⟨⟨(i 0 : Nat) / 256 * 12 + 11, by show _ < grid2.N; omega⟩, (flush2_10 _).mpr (by show ((i 0 : Nat) / 256 * 12 + 11) % 12 = 11; omega), ?_⟩
  rw [mem2_10]
  intro a
  have q := at2_10 ⟨(i 0 : Nat) / 256 * 12 + 11, by omega⟩
  match a with
  | ⟨0, _⟩ => rw [show win2_10.index _ ⟨0, _⟩ = _ from q.1]; show _ * 256 ≤ (i 0 : Nat) ∧ (i 0 : Nat) < _ * 256 + 256; (try dsimp only); omega
  | ⟨1, _⟩ => rw [show win2_10.index _ ⟨1, _⟩ = _ from q.2]; show _ * 768 ≤ (i 1 : Nat) ∧ (i 1 : Nat) < _ * 768 + 768; (try dsimp only); omega

include hk hc in
theorem final2_10 : (dat2 V c).arrAt 10 cfg2.N = G2_10 V c :=
  (dat2 V c).arrAt_eq_of_cover 10 (G2_10 V c) (fun t hf => flushed2_10 V c hk hc t hf) cover2_10_all

end Cert.Attn.Given

end
-- ==== Proof.Spec.lean ====
/- The whole computation as a function of its arguments, with the scale of the first scores left open. -/
module

public import proofs.«01_k».proof.Proof.GnV2

@[expose] public section

set_option maxRecDepth 16384

noncomputable section

namespace Cert.Attn.Given

open Idealize.ShloMosaic hiding ix0 ix1 ix2 ix3 ix4 ix5 eq_ix1 eq_ix2 eq_ix3 eq_ix4
open Idealize.ShloMosaic.ValueIdx Finset
open Cert.KernelGivenIdeal
open Cert.Attn.Sel Cert.Attn.Ops

attribute [local instance 10] Classical.propDecidable

abbrev fifth : EReal := Ideal.ofBits .f32 0x3E4CCCCD#32

variable (x : S1x2048x768.Idx → EReal) (wq : S768x768.Idx → EReal) (bq : S768.Idx → EReal) (wk : S768x768.Idx → EReal) (bk : S768.Idx → EReal)
  (wv : S768x768.Idx → EReal) (bv : S768.Idx → EReal) (wo : S768x768.Idx → EReal) (bo : S768.Idx → EReal) (u : S1x12x2048x2048.Idx → EReal)

/-- The product of two rows of `x`. -/
def gram (i j : Fin 2048) : EReal := ∑ k : Fin 768, x (ix3 0 i k) * x (ix3 0 j k)
/-- A row's scaled scores. -/
def rawK (i j : Fin 2048) : EReal := gram x i j * kap
/-- The marks of a row: its first choice, its neighbourhood, the draws below a fifth. -/
def marks (raw : Fin 2048 → Fin 2048 → EReal) (h : Fin 12) (i j : Fin 2048) : Prop :=
  (Top 409 (raw i) j ∨ Loc i j) ∨ u (ix4 0 h i j) < fifth
/-- The columns a row attends to. -/
def chosen (raw : Fin 2048 → Fin 2048 → EReal) (h : Fin 12) (i j : Fin 2048) : Prop :=
  Top 409 (keep (marks u raw h i) (raw i)) j
/-- A projection of one head without its bias. -/
def lin (w : S768x768.Idx → EReal) (h : Fin 12) (i : Fin 2048) (d : Fin 64) : EReal := ∑ k : Fin 768, x (ix3 0 i k) * w (ix2 k (col h d))
/-- One entry of one head's part of the output. -/
def headK (h : Fin 12) (i : Fin 2048) (n : Fin 768) : EReal :=
  headOut (scr (chosen u (rawK x) h i) (fun d => lin x wq h i d + bq (ix1 (col h d))) (fun d j => lin x wk h j d) (fun d => bk (ix1 (col h d))))
    (fun j d => lin x wv h j d + bv (ix1 (col h d))) (fun d => wo (ix2 (col h d) n))
/-- The kernel's result. -/
def outK : S1x2048x768.Idx → EReal := fun i => (∑ h : Fin 12, headK x wq bq wk bk wv bv wo u h (i 1) (i 2)) + bo (ix1 (i 2))

end Cert.Attn.Given

end
-- ==== Proof.GnVal.lean ====
/- The kernel's result as a function of its arguments. -/
module

public import proofs.«01_k».proof.Proof.Spec

@[expose] public section

set_option maxRecDepth 16384

noncomputable section

namespace Cert.Attn.Given

open Idealize.ShloMosaic hiding ix0 ix1 ix2 ix3 ix4 ix5 eq_ix1 eq_ix2 eq_ix3 eq_ix4
open Idealize.ShloMosaic.TcCoe Idealize.ShloMosaic.ValueIdx Idealize.ShloMosaic.WordCmp Finset
open Idealize.SL.Sem
open Cert.KernelGivenIdeal Cert.KernelGivenIdeal.Gen Cert.KernelGivenIdeal.Facts Cert.KernelGivenIdeal.Own
open Cert.Attn.Sel Cert.Attn.Ops

attribute [local instance 10] Classical.propDecidable

variable (m : (ℓ : Idealize.ShloMosaic.Loc nD τ sig) → Buf (Elt Ideal) ℓ) (ρ : Dev nD → PrngReg) (c : Dev nD)

abbrev a0 : S1x2048x768.Idx → EReal := m ((c : Thread nD τ).loc main_arg0)
abbrev a1 : S768x768.Idx → EReal := m ((c : Thread nD τ).loc main_arg1)
abbrev a2 : S768.Idx → EReal := m ((c : Thread nD τ).loc main_arg2)
abbrev a3 : S768x768.Idx → EReal := m ((c : Thread nD τ).loc main_arg3)
abbrev a4 : S768.Idx → EReal := m ((c : Thread nD τ).loc main_arg4)
abbrev a5 : S768x768.Idx → EReal := m ((c : Thread nD τ).loc main_arg5)
abbrev a6 : S768.Idx → EReal := m ((c : Thread nD τ).loc main_arg6)
abbrev a7 : S768x768.Idx → EReal := m ((c : Thread nD τ).loc main_arg7)
abbrev a8 : S768.Idx → EReal := m ((c : Thread nD τ).loc main_arg8)
abbrev a9 : S1x12x2048x2048.Idx → EReal := m ((c : Thread nD τ).loc main_arg9)

/-! ## The arrays the regions find -/

theorem ent_v0 : V1 (F := Ideal) m ρ c main_v0 = shapeCast S2048x768 (a0 m c) shapeCasts_S1x2048x768_S2048x768 := by
  first | (after_results <;> rfl) | rfl
theorem ent_v1 : V1 (F := Ideal) m ρ c main_v1 = transpose S768x2048 [1, 0] (shapeCast S2048x768 (a0 m c) shapeCasts_S1x2048x768_S2048x768) transposes_S2048x768_S768x2048_1_0 := by
  first | (after_results <;> rfl) | rfl
theorem ent_v12 : V1 (F := Ideal) m ρ c main_v12 = transpose S12x768x64 [1, 0, 2] (shapeCast S768x12x64 (a1 m c) shapeCasts_S768x768_S768x12x64) transposes_S768x12x64_S12x768x64_1_0_2 := by
  first | (after_results <;> rfl) | rfl
theorem ent_v14 : V1 (F := Ideal) m ρ c main_v14 = transpose S12x768x64 [1, 0, 2] (shapeCast S768x12x64 (a3 m c) shapeCasts_S768x768_S768x12x64) transposes_S768x12x64_S12x768x64_1_0_2 := by
  first | (after_results <;> rfl) | rfl
theorem ent_v16 : V1 (F := Ideal) m ρ c main_v16 = transpose S12x768x64 [1, 0, 2] (shapeCast S768x12x64 (a5 m c) shapeCasts_S768x768_S768x12x64) transposes_S768x12x64_S12x768x64_1_0_2 := by
  first | (after_results <;> rfl) | rfl
theorem ent_v17 : V1 (F := Ideal) m ρ c main_v17 = shapeCast S12x64x768 (a7 m c) shapeCasts_S768x768_S12x64x768 := by
  first | (after_results <;> rfl) | rfl
theorem ent_v18 : V1 (F := Ideal) m ρ c main_v18 = shapeCast S12x1x64 (a2 m c) shapeCasts_S768_S12x1x64 := by
  first | (after_results <;> rfl) | rfl
theorem ent_v19 : V1 (F := Ideal) m ρ c main_v19 = shapeCast S12x1x64 (a4 m c) shapeCasts_S768_S12x1x64 := by
  first | (after_results <;> rfl) | rfl
theorem ent_v20 : V1 (F := Ideal) m ρ c main_v20 = shapeCast S12x1x64 (a6 m c) shapeCasts_S768_S12x1x64 := by
  first | (after_results <;> rfl) | rfl
theorem ent_v10 : V1 (F := Ideal) m ρ c main_v10 = Host.reduce IntOp.addi (Host.shli (extui 32 (shapeCast S12x64x32x2048 (cmpf .olt (show FVec Ideal S1x12x2048x2048 .f32 from a9 m c) (broadcastInDim S1x12x2048x2048 ![] bcast_S_S1x12x2048x2048 (constant (F := Ideal) S_ .f32 0x3E4CCCCD#32))) shapeCasts_S1x12x2048x2048_S12x64x32x2048) natLt_1_32)
      (broadcastInDim S12x64x32x2048 ![0, 1, 2, 3] bcast_S1x1x32x1_S12x64x32x2048_0_1_2_3 (broadcastInDim S1x1x32x1 ![2] bcast_S32_S1x1x32x1_2 (iotaInDim S32 32 0)))) (constantI S_ 32 0#32) reducesTo_S12x64x32x2048_S12x64x2048_d2 h_S_ := by
  show StableHlo.after hostOps0 (W0 (F := Ideal) m ρ c) (Proc.devRef .tc main_v10) = _
  after_results
  rfl

theorem v0_apply (i : Fin 2048) (k : Fin 768) : V1 (F := Ideal) m ρ c main_v0 (ix2 i k) = a0 m c (ix3 0 i k) := by
  rw [ent_v0]
  exact shapeCast_apply _ _ _ _ (by rw [Shape.rowMajor_val_two, Shape.rowMajor_val_three]; simp)

theorem v1_apply (k : Fin 768) (i : Fin 2048) : V1 (F := Ideal) m ρ c main_v1 (ix2 k i) = a0 m c (ix3 0 i k) := by
  rw [ent_v1, transpose_apply _ _ _ (ix2 k i) (ix2 i k) (fun b => by fin_cases b <;> rfl)]
  exact shapeCast_apply _ _ _ _ (by rw [Shape.rowMajor_val_two, Shape.rowMajor_val_three]; simp)

theorem cut_apply (W : S768x768.Idx → EReal) (h : Fin 12) (k : Fin 768) (d : Fin 64) :
    transpose S12x768x64 [1, 0, 2] (shapeCast S768x12x64 W shapeCasts_S768x768_S768x12x64) transposes_S768x12x64_S12x768x64_1_0_2 (ix3 h k d) = W (ix2 k (col h d)) := by
  rw [transpose_apply _ _ _ (ix3 h k d) (ix3 k h d) (fun b => by fin_cases b <;> rfl)]
  exact shapeCast_apply _ _ _ _ (by rw [Shape.rowMajor_val_two, Shape.rowMajor_val_three]; show _ = (k.val * 12 + h.val) * 64 + d.val; show k.val * 768 + (h.val * 64 + d.val) = _; omega)

theorem cutb_apply (b : S768.Idx → EReal) (h : Fin 12) (d : Fin 64) :
    shapeCast S12x1x64 b shapeCasts_S768_S12x1x64 (ix3 h 0 d) = b (ix1 (col h d)) :=
  shapeCast_apply _ _ _ _ (by rw [Shape.rowMajor_val_one, Shape.rowMajor_val_three]; simp)

theorem cuto_apply (W : S768x768.Idx → EReal) (h : Fin 12) (d : Fin 64) (n : Fin 768) :
    shapeCast S12x64x768 W shapeCasts_S768x768_S12x64x768 (ix3 h d n) = W (ix2 (col h d) n) :=
  shapeCast_apply _ _ _ _ (by rw [Shape.rowMajor_val_two, Shape.rowMajor_val_three]; rfl)

theorem v10_apply (h : Fin 12) (a : Fin 64) (j : Fin 2048) : V1 (F := Ideal) m ρ c main_v10 (ix3 h a j)
    = packWord fun s => a9 m c (ix4 0 h (⟨a.val * 32 + s.val, by have := a.isLt; have := s.isLt; omega⟩ : Fin 2048) j) < fifth := by
  rw [ent_v10]
  refine (Host.reduce_eq_fold IntOp.addi _ _ reducesTo_S12x64x32x2048_S12x64x2048_d2 h_S_ (ix3 h a j)).trans ?_
  rw [Shape.ReducesTo.fold_fiber_r4_a2]
  refine fold_packWord _ _ fun s => ?_
  have ha := a.isLt
  have hs := s.isLt
  refine ⟨extui 32 (cmpf .olt (show FVec Ideal S1x12x2048x2048 .f32 from a9 m c) (broadcastInDim S1x12x2048x2048 ![] bcast_S_S1x12x2048x2048 (constant (F := Ideal) S_ .f32 0x3E4CCCCD#32))) natLt_1_32
    (ix4 0 h (⟨a.val * 32 + s.val, by omega⟩ : Fin 2048) j), ?_, ?_, ?_⟩
  · rw [show ∀ p q : IVec S12x64x32x2048 32, ∀ k, Host.shli p q k = IntOp.shli .host (p k) (q k) from fun _ _ _ => rfl]
    rw [broadcastInDim_apply _ _ _ _ (ix4 0 0 s 0) (fun a => by fin_cases a <;> rfl), broadcastInDim_apply _ _ _ _ (ix1 s) (fun a => by fin_cases a <;> rfl)]
    refine (shl_apply _ s).trans ?_
    refine congrArg (fun w : BitVec 32 => w <<< s.val) ?_
    rw [extui_apply, extui_apply]
    refine congrArg (fun w : BitVec 1 => BitVec.setWidth 32 w) ?_
    exact shapeCast_apply _ _ _ (ix4 0 h (⟨a.val * 32 + s.val, by omega⟩ : Fin 2048) j) (by rw [Shape.rowMajor_val_four, Shape.rowMajor_val_four]; show ((0 * 12 + h.val) * 2048 + (a.val * 32 + s.val)) * 2048 + j.val = ((h.val * 64 + a.val) * 32 + s.val) * 2048 + j.val; omega)
  · intro hp
    rw [extui_apply, cmpf_apply, broadcastInDim_apply _ _ _ _ ix0 (fun a => a.elim0)]
    exact congrArg (BitVec.setWidth 32) ((olt_iff (a9 m c (ix4 0 h (⟨a.val * 32 + s.val, by omega⟩ : Fin 2048) j)) fifth).2 hp)
  · intro hp
    rw [extui_apply, cmpf_apply, broadcastInDim_apply _ _ _ _ ix0 (fun a => a.elim0)]
    exact congrArg (BitVec.setWidth 32) (eq_zero_of_ne_one (mt (olt_iff (a9 m c (ix4 0 h (⟨a.val * 32 + s.val, by omega⟩ : Fin 2048) j)) fifth).1 hp))

theorem raw_V1 (i j : Fin 2048) : raw0 (V1 (F := Ideal) m ρ) c i j = rawK (a0 m c) i j := by
  unfold rawK gram
  exact congrArg (fun z : EReal => z * kap) (Finset.sum_congr rfl fun k _ => by rw [v0_apply, v1_apply])

/-! ## The arrays the third region finds -/

theorem at4_v21_0 : V4 (F := Ideal) m ρ c main_v21_0 = G0_2 (V1 (F := Ideal) m ρ) c :=
  (W4_of (F := Ideal) m ρ c main_v21_0 (by decide +kernel)).trans ((W3_of (F := Ideal) m ρ c main_v21_0 (by decide +kernel)).trans ((W2_arr (F := Ideal) m ρ c 2).trans (final0_2 (V1 (F := Ideal) m ρ) c)))
theorem at4_v21_1 : V4 (F := Ideal) m ρ c main_v21_1 = G0_3 (V1 (F := Ideal) m ρ) c :=
  (W4_of (F := Ideal) m ρ c main_v21_1 (by decide +kernel)).trans ((W3_of (F := Ideal) m ρ c main_v21_1 (by decide +kernel)).trans ((W2_arr (F := Ideal) m ρ c 3).trans (final0_3 (V1 (F := Ideal) m ρ) c)))
theorem at4_v21_2 : V4 (F := Ideal) m ρ c main_v21_2 = G0_4 (V1 (F := Ideal) m ρ) c :=
  (W4_of (F := Ideal) m ρ c main_v21_2 (by decide +kernel)).trans ((W3_of (F := Ideal) m ρ c main_v21_2 (by decide +kernel)).trans ((W2_arr (F := Ideal) m ρ c 4).trans (final0_4 (V1 (F := Ideal) m ρ) c)))
theorem at4_v22_0 : V4 (F := Ideal) m ρ c main_v22_0 = G1_7 (V2 (F := Ideal) m ρ) c :=
  (W4_of (F := Ideal) m ρ c main_v22_0 (by decide +kernel)).trans ((W3_arr (F := Ideal) m ρ c 7).trans (final1_7 (V2 (F := Ideal) m ρ) c))
theorem at4_v22_1 : V4 (F := Ideal) m ρ c main_v22_1 = G1_8 (V2 (F := Ideal) m ρ) c :=
  (W4_of (F := Ideal) m ρ c main_v22_1 (by decide +kernel)).trans ((W3_arr (F := Ideal) m ρ c 8).trans (final1_8 (V2 (F := Ideal) m ρ) c))
theorem at4_v22_2 : V4 (F := Ideal) m ρ c main_v22_2 = G1_9 (V2 (F := Ideal) m ρ) c :=
  (W4_of (F := Ideal) m ρ c main_v22_2 (by decide +kernel)).trans ((W3_arr (F := Ideal) m ρ c 9).trans (final1_9 (V2 (F := Ideal) m ρ) c))
theorem at4_v10 : V4 (F := Ideal) m ρ c main_v10 = V1 (F := Ideal) m ρ c main_v10 :=
  (W4_of (F := Ideal) m ρ c main_v10 (by decide +kernel)).trans ((W3_of (F := Ideal) m ρ c main_v10 (by decide +kernel)).trans (W2_of (F := Ideal) m ρ c main_v10 (by decide +kernel)))
theorem at4_v17 : V4 (F := Ideal) m ρ c main_v17 = V1 (F := Ideal) m ρ c main_v17 :=
  (W4_of (F := Ideal) m ρ c main_v17 (by decide +kernel)).trans ((W3_of (F := Ideal) m ρ c main_v17 (by decide +kernel)).trans (W2_of (F := Ideal) m ρ c main_v17 (by decide +kernel)))
theorem at4_v19 : V4 (F := Ideal) m ρ c main_v19 = V1 (F := Ideal) m ρ c main_v19 :=
  (W4_of (F := Ideal) m ρ c main_v19 (by decide +kernel)).trans ((W3_of (F := Ideal) m ρ c main_v19 (by decide +kernel)).trans (W2_of (F := Ideal) m ρ c main_v19 (by decide +kernel)))
theorem at2_v0 : V2 (F := Ideal) m ρ c main_v0 = V1 (F := Ideal) m ρ c main_v0 := W2_of (F := Ideal) m ρ c main_v0 (by decide +kernel)
theorem at2_v1 : V2 (F := Ideal) m ρ c main_v1 = V1 (F := Ideal) m ρ c main_v1 := W2_of (F := Ideal) m ρ c main_v1 (by decide +kernel)
theorem at2_v12 : V2 (F := Ideal) m ρ c main_v12 = V1 (F := Ideal) m ρ c main_v12 := W2_of (F := Ideal) m ρ c main_v12 (by decide +kernel)
theorem at2_v14 : V2 (F := Ideal) m ρ c main_v14 = V1 (F := Ideal) m ρ c main_v14 := W2_of (F := Ideal) m ρ c main_v14 (by decide +kernel)
theorem at2_v16 : V2 (F := Ideal) m ρ c main_v16 = V1 (F := Ideal) m ρ c main_v16 := W2_of (F := Ideal) m ρ c main_v16 (by decide +kernel)
theorem at2_v18 : V2 (F := Ideal) m ρ c main_v18 = V1 (F := Ideal) m ρ c main_v18 := W2_of (F := Ideal) m ρ c main_v18 (by decide +kernel)
theorem at2_v20 : V2 (F := Ideal) m ρ c main_v20 = V1 (F := Ideal) m ρ c main_v20 := W2_of (F := Ideal) m ρ c main_v20 (by decide +kernel)
theorem at4_v23 : V4 (F := Ideal) m ρ c main_v23 = shapeCast S1x768 (a8 m c) shapeCasts_S768_S1x768 := by
  have e : V4 (F := Ideal) m ρ c main_v23 = shapeCast S1x768 (V3 (F := Ideal) m ρ c main_arg8) shapeCasts_S768_S1x768 := by
    first | (after_results <;> rfl) | rfl
  rw [e]
  exact congrArg (fun z => shapeCast S1x768 z shapeCasts_S768_S1x768) (W3_args (F := Ideal) m ρ c main_arg8 (by decide))
theorem v23_apply (n : Fin 768) : V4 (F := Ideal) m ρ c main_v23 (ix2 0 n) = a8 m c (ix1 n) := by
  rw [at4_v23]
  exact shapeCast_apply _ _ _ _ (by rw [Shape.rowMajor_val_one, Shape.rowMajor_val_two]; simp)

theorem row_V4 (i : Fin 2048) : gRow (V4 (F := Ideal) m ρ c main_v21_0) i = rawK (a0 m c) i := by
  funext j
  show V4 (F := Ideal) m ρ c main_v21_0 (ix2 i j) = _
  rw [at4_v21_0]
  exact raw_V1 m ρ c i j

theorem marks_V4 (h : Fin 12) (i : Fin 2048) : gC (V4 (F := Ideal) m ρ c main_v21_1) (V4 (F := Ideal) m ρ c main_v10) h i = marks (a9 m c) (rawK (a0 m c)) h i := by
  funext j
  have hi := i.isLt
  unfold gC marks
  rw [at4_v21_1, at4_v10, v10_apply]
  have e : (⟨(gW i).val * 32 + (⟨i.val % 32, Nat.mod_lt _ (by decide)⟩ : Fin 32).val, by show i.val / 32 * 32 + i.val % 32 < 2048; omega⟩ : Fin 2048) = i :=
    Fin.ext (by show i.val / 32 * 32 + i.val % 32 = i.val; omega)
  refine propext (or_congr ((packWord_bit _ ⟨i.val % 32, Nat.mod_lt _ (by decide)⟩).trans ?_) ((packWord_bit _ ⟨i.val % 32, Nat.mod_lt _ (by decide)⟩).trans ?_))
  · show Top 409 (raw0 (V1 (F := Ideal) m ρ) c ⟨(gW i).val * 32 + i.val % 32, _⟩) j ∨ Loc ⟨(gW i).val * 32 + i.val % 32, _⟩ j ↔ _
    rw [show (⟨(gW i).val * 32 + i.val % 32, _⟩ : Fin 2048) = i from e]
    rw [show raw0 (V1 (F := Ideal) m ρ) c i = rawK (a0 m c) i from funext fun j => raw_V1 m ρ c i j]
  · rw [e]

theorem kth_V4 (i : Fin 2048) : Kth 409 (gRow (V4 (F := Ideal) m ρ c main_v21_0) i) (V4 (F := Ideal) m ρ c main_v21_2 (ix2 i 0)) := by
  rw [row_V4, at4_v21_2]
  show Kth 409 _ (thrS (raw0 (V1 (F := Ideal) m ρ) c i))
  rw [thrS_eq, show raw0 (V1 (F := Ideal) m ρ) c i = rawK (a0 m c) i from funext fun j => raw_V1 m ρ c i j]
  exact kth_iterate (by norm_num) (by norm_num) _

theorem top_V4 (h : Fin 12) (i j : Fin 2048) (t : Top 409 (gRow (V4 (F := Ideal) m ρ c main_v21_0) i) j) : gC (V4 (F := Ideal) m ρ c main_v21_1) (V4 (F := Ideal) m ρ c main_v10) h i j := by
  rw [marks_V4]
  rw [row_V4] at t
  exact Or.inl (Or.inl t)

theorem out_V4 (h : Fin 12) (i : Fin 2048) (n : Fin 768) :
    gOut (V4 (F := Ideal) m ρ) c h i n = headK (a0 m c) (a1 m c) (a2 m c) (a3 m c) (a4 m c) (a5 m c) (a6 m c) (a7 m c) (a9 m c) h i n := by
  unfold gOut headK
  have s : gS (V4 (F := Ideal) m ρ) c h i = chosen (a9 m c) (rawK (a0 m c)) h i := by
    funext j
    unfold gS chosen
    rw [marks_V4, row_V4]
  have b0 : (fun d => (V4 (F := Ideal) m ρ c main_v22_0 : S12x2048x64.Idx → EReal) (ix3 h i d)) = fun d => lin (a0 m c) (a1 m c) h i d + a2 m c (ix1 (col h d)) := by
    funext d
    rw [at4_v22_0]
    show prj (V2 (F := Ideal) m ρ c main_v0) (V2 (F := Ideal) m ρ c main_v12) (V2 (F := Ideal) m ρ c main_v18) h i d = _
    rw [at2_v0, at2_v12, at2_v18, ent_v12, ent_v18]
    refine (congrArg (fun z : EReal => _ + z) (cutb_apply _ h d)).trans ?_
    exact congrArg (fun z : EReal => z + _) (Finset.sum_congr rfl fun k _ => by rw [v0_apply, cut_apply])
  have b1 : (fun (d : Fin 64) (j : Fin 2048) => (V4 (F := Ideal) m ρ c main_v22_1 : S768x2048.Idx → EReal) (ix2 (col h d) j)) = fun d j => lin (a0 m c) (a3 m c) h j d := by
    funext d j
    rw [at4_v22_1, G1_8_apply]
    show prjT (V2 (F := Ideal) m ρ c main_v14) (V2 (F := Ideal) m ρ c main_v1) h d j = _
    rw [at2_v14, at2_v1, ent_v14]
    exact Finset.sum_congr rfl fun k _ => by rw [v1_apply, cut_apply, mul_comm]
  have b2 : (fun (d : Fin 64) => (V4 (F := Ideal) m ρ c main_v19 : S12x1x64.Idx → EReal) (ix3 h 0 d)) = fun d => a4 m c (ix1 (col h d)) := by
    funext d
    rw [at4_v19, ent_v19, cutb_apply]
  have b3 : (fun (j : Fin 2048) (d : Fin 64) => (V4 (F := Ideal) m ρ c main_v22_2 : S12x2048x64.Idx → EReal) (ix3 h j d)) = fun j d => lin (a0 m c) (a5 m c) h j d + a6 m c (ix1 (col h d)) := by
    funext i d
    rw [at4_v22_2]
    show prj (V2 (F := Ideal) m ρ c main_v0) (V2 (F := Ideal) m ρ c main_v16) (V2 (F := Ideal) m ρ c main_v20) h i d = _
    rw [at2_v0, at2_v16, at2_v20, ent_v16, ent_v20]
    refine (congrArg (fun z : EReal => _ + z) (cutb_apply _ h d)).trans ?_
    exact congrArg (fun z : EReal => z + _) (Finset.sum_congr rfl fun k _ => by rw [v0_apply, cut_apply])
  have b4 : (fun (d : Fin 64) => (V4 (F := Ideal) m ρ c main_v17 : S12x64x768.Idx → EReal) (ix3 h d n)) = fun d => a7 m c (ix2 (col h d) n) := by
    funext d
    rw [at4_v17, ent_v17, cuto_apply]
  exact congr (congr (congrArg headOut (congr (congr (congr (congrArg scr s) b0) b1) b2)) b3) b4

/-- The result buffer at the return. -/
theorem result_eq : W6 (F := Ideal) m ρ c (Proc.devRef .tc main_v25)
    = outK (a0 m c) (a1 m c) (a2 m c) (a3 m c) (a4 m c) (a5 m c) (a6 m c) (a7 m c) (a8 m c) (a9 m c) := by
  have e : W6 (F := Ideal) m ρ c (Proc.devRef .tc main_v25) = shapeCast S1x2048x768 (V5 (F := Ideal) m ρ c main_v24) shapeCasts_S2048x768_S1x2048x768 := by
    first | (after_results <;> rfl) | rfl
  have e2 : V5 (F := Ideal) m ρ c main_v24 = G2_10 (V4 (F := Ideal) m ρ) c := (W5_arr (F := Ideal) m ρ c 10).trans (final2_10 (V4 (F := Ideal) m ρ) c (kth_V4 m ρ c) (top_V4 m ρ c))
  rw [e, e2]
  funext y
  obtain ⟨z, i, n, rfl⟩ : ∃ (z : Fin 1) (i : Fin 2048) (n : Fin 768), y = ix3 z i n := ⟨y 0, y 1, y 2, eq_ix3 y⟩
  obtain rfl : z = 0 := Subsingleton.elim _ _
  rw [shapeCast_apply _ _ (ix3 0 i n) (ix2 i n) (by rw [Shape.rowMajor_val_two, Shape.rowMajor_val_three]; simp)]
  show (∑ h : Fin 12, gOut (V4 (F := Ideal) m ρ) c h i n) + V4 (F := Ideal) m ρ c main_v23 (ix2 0 n) = (∑ h : Fin 12, headK (a0 m c) (a1 m c) (a2 m c) (a3 m c) (a4 m c) (a5 m c) (a6 m c) (a7 m c) (a9 m c) h i n) + a8 m c (ix1 n)
  rw [v23_apply]
  exact congrArg (fun z : EReal => z + _) (Finset.sum_congr rfl fun h _ => out_V4 m ρ c h i n)

end Cert.Attn.Given

end
-- ==== Proof.RefSel.lean ====
/- The plain program's two selections: which columns the sorted positions and the scattered ones mark. -/
module

public import proofs.«01_k».proof.Proof.Spec
public import proofs.«01_k».proof.Proof.Gen.ReferenceGivenIdeal.Read
public import Idealize.ShloMosaic.Lib.Routing.OpsSet
public import Idealize.ShloMosaic.Lib.Routing.OpsPair

@[expose] public section

set_option maxRecDepth 16384

noncomputable section

namespace Cert.Attn.Plain

open Idealize.ShloMosaic hiding ix0 ix1 ix2 ix3 ix4 ix5 eq_ix1 eq_ix2 eq_ix3 eq_ix4
open Idealize.ShloMosaic.ValueIdx Finset
open Cert.ReferenceGivenIdeal
open Cert.Attn.Sel Cert.Attn.Ops Idealize.ShloMosaic.Routing

attribute [local instance 10] Classical.propDecidable

theorem wrapped (n : ℕ) (h : n < 2048) (a : BitVec 32) :
    Scalar.select (IntOp.cmpi .slt (BitVec.ofNat 32 n) 0#32) a (BitVec.ofNat 32 n) = BitVec.ofNat 32 n :=
  Idealize.ShloMosaic.Routing.wrap_of_lt _ _ (by rw [BitVec.toNat_ofNat]; omega)

theorem small_toInt (n : ℕ) (h : n < 2048) : (BitVec.ofNat 32 n).toInt = (n : ℤ) := by
  rw [BitVec.toInt_eq_toNat_cond, BitVec.toNat_ofNat]; omega

theorem gt_beq (a b : EReal) : ((FloatOps.cmpfTotal (F := Ideal) (φ := .f32) .gt a b) == 1#1) = decide (b < a) := by
  show (BitVec.ofBool (decide (b < a)) == 1#1) = _
  cases decide (b < a) <;> rfl

/-- The sorted position of one row of a three-axis array. -/
theorem topK3 (x : S1x2048x2048.Idx → EReal) (h : S1x2048x2048.Slices (fun _ => 0) S1x2048x409) (i : Fin 2048) (k : Fin 409) :
    (Host.topK S1x2048x409 2 (FloatOps.cmpfTotal (F := Ideal) (φ := .f32) .gt) x h).2 (ix3 0 i k)
      = BitVec.ofNat 32 (sortedFrom (fun a b : Fin 2048 => decide (x (ix3 0 i b) < x (ix3 0 i a))) ⟨k.val, by omega⟩).val := by
  have hs : ∀ q : Fin 2048, (ix3 0 i ⟨k.val, by omega⟩ : S1x2048x2048.Idx).along 2 q = ix3 0 i q := by
    intro q; funext b; fin_cases b <;> simp [Shape.Idx.along, Function.update] <;> rfl
  have hsl : ∀ y : S1x2048x2048.Idx → BitVec 32, extractStridedSlice S1x2048x409 (fun _ => 0) y h (ix3 0 i k) = y (ix3 0 i ⟨k.val, by omega⟩) := by
    intro y
    refine congrArg y (funext fun b => Fin.ext ?_)
    fin_cases b
    all_goals (first | rfl | exact Nat.zero_add _)
  unfold Host.topK
  dsimp only
  refine (hsl _).trans ?_
  unfold Host.sort2
  rw [dif_pos (by decide)]
  refine (congrArg (fun L : Fin 2048 → S1x2048x2048.Idx => BitVec.ofNat 32 ((L (sortedFrom (fun k₁ k₂ : Fin 2048 =>
    (FloatOps.cmpfTotal (F := Ideal) (φ := .f32) .gt (x (L k₁)) (x (L k₂))) == 1#1) (⟨k.val, by omega⟩ : Fin 2048))) 2).val) (funext hs)).trans ?_
  simp only [gt_beq]

/-- The same for one row of a four-axis array. -/
theorem topK4 (x : S1x12x2048x2048.Idx → EReal) (h : S1x12x2048x2048.Slices (fun _ => 0) S1x12x2048x409) (e : Fin 12) (i : Fin 2048) (k : Fin 409) :
    (Host.topK S1x12x2048x409 3 (FloatOps.cmpfTotal (F := Ideal) (φ := .f32) .gt) x h).2 (ix4 0 e i k)
      = BitVec.ofNat 32 (sortedFrom (fun a b : Fin 2048 => decide (x (ix4 0 e i b) < x (ix4 0 e i a))) ⟨k.val, by omega⟩).val := by
  have hs : ∀ q : Fin 2048, (ix4 0 e i ⟨k.val, by omega⟩ : S1x12x2048x2048.Idx).along 3 q = ix4 0 e i q := by
    intro q; funext b; fin_cases b <;> simp [Shape.Idx.along, Function.update] <;> rfl
  have hsl : ∀ y : S1x12x2048x2048.Idx → BitVec 32, extractStridedSlice S1x12x2048x409 (fun _ => 0) y h (ix4 0 e i k) = y (ix4 0 e i ⟨k.val, by omega⟩) := by
    intro y
    refine congrArg y (funext fun b => Fin.ext ?_)
    fin_cases b
    all_goals (first | rfl | exact Nat.zero_add _)
  unfold Host.topK
  dsimp only
  refine (hsl _).trans ?_
  unfold Host.sort2
  rw [dif_pos (by decide)]
  refine (congrArg (fun L : Fin 2048 → S1x12x2048x2048.Idx => BitVec.ofNat 32 ((L (sortedFrom (fun k₁ k₂ : Fin 2048 =>
    (FloatOps.cmpfTotal (F := Ideal) (φ := .f32) .gt (x (L k₁)) (x (L k₂))) == 1#1) (⟨k.val, by omega⟩ : Fin 2048))) 3).val) (funext hs)).trans ?_
  simp only [gt_beq]

abbrev sc3 := scatter_S1x2048x2048_S1x2048x409x3_S1x2048x409_n_012_012_3
abbrev sc4 := scatter_S1x12x2048x2048_S1x12x2048x409x4_S1x12x2048x409_n_0123_0123_4

theorem start3 (idx : IVec S1x2048x409x3 32) (j : S1x2048x409.Idx) (a : Fin 3) :
    sc3.start j idx a = (idx (ix4 (j 0) (j 1) (j 2) a)).toInt ∧ sc3.window j a = 0 := by
  constructor
  · unfold ScatterDims.start
    rw [dif_pos (by revert a; decide)]
    refine congrArg (fun q => (idx q).toInt) (funext fun b => Fin.ext ?_)
    fin_cases a <;> fin_cases b <;> rfl
  · unfold ScatterDims.window
    rw [dif_neg (by revert a; decide)]

theorem start4 (idx : IVec S1x12x2048x409x4 32) (j : S1x12x2048x409.Idx) (a : Fin 4) :
    sc4.start j idx a = (idx (ix5 (j 0) (j 1) (j 2) (j 3) a)).toInt ∧ sc4.window j a = 0 := by
  constructor
  · unfold ScatterDims.start
    rw [dif_pos (by revert a; decide)]
    refine congrArg (fun q => (idx q).toInt) (funext fun b => Fin.ext ?_)
    fin_cases a <;> fin_cases b <;> rfl
  · unfold ScatterDims.window
    rw [dif_neg (by revert a; decide)]

theorem cat3 (y0 y1 y2 : S1x2048x409x1.Idx → BitVec 32) (h) (i : Fin 2048) (k : Fin 409) :
    concatenate S1x2048x409x3 3 [⟨S1x2048x409x1, y0⟩, ⟨S1x2048x409x1, y1⟩, ⟨S1x2048x409x1, y2⟩] h (ix4 0 i k 0) = y0 (ix4 0 i k 0)
    ∧ concatenate S1x2048x409x3 3 [⟨S1x2048x409x1, y0⟩, ⟨S1x2048x409x1, y1⟩, ⟨S1x2048x409x1, y2⟩] h (ix4 0 i k 1) = y1 (ix4 0 i k 0)
    ∧ concatenate S1x2048x409x3 3 [⟨S1x2048x409x1, y0⟩, ⟨S1x2048x409x1, y1⟩, ⟨S1x2048x409x1, y2⟩] h (ix4 0 i k 2) = y2 (ix4 0 i k 0) := by
  refine ⟨concatenate_apply_piece 3 _ h _ 0 (by simp) S1x2048x409x1 y0 rfl rfl 0 rfl (ix4 0 i k 0) ?_ rfl,
    concatenate_apply_piece 3 _ h _ 1 (by simp) S1x2048x409x1 y1 rfl rfl 1 rfl (ix4 0 i k 0) ?_ rfl,
    concatenate_apply_piece 3 _ h _ 2 (by simp) S1x2048x409x1 y2 rfl rfl 2 rfl (ix4 0 i k 0) ?_ rfl⟩
  all_goals (intro b hb; fin_cases b <;> first | rfl | exact absurd rfl hb)

theorem cat4 (y0 y1 y2 y3 : S1x12x2048x409x1.Idx → BitVec 32) (h) (e : Fin 12) (i : Fin 2048) (k : Fin 409) :
    concatenate S1x12x2048x409x4 4 [⟨S1x12x2048x409x1, y0⟩, ⟨S1x12x2048x409x1, y1⟩, ⟨S1x12x2048x409x1, y2⟩, ⟨S1x12x2048x409x1, y3⟩] h (ix5 0 e i k 0) = y0 (ix5 0 e i k 0)
    ∧ concatenate S1x12x2048x409x4 4 [⟨S1x12x2048x409x1, y0⟩, ⟨S1x12x2048x409x1, y1⟩, ⟨S1x12x2048x409x1, y2⟩, ⟨S1x12x2048x409x1, y3⟩] h (ix5 0 e i k 1) = y1 (ix5 0 e i k 0)
    ∧ concatenate S1x12x2048x409x4 4 [⟨S1x12x2048x409x1, y0⟩, ⟨S1x12x2048x409x1, y1⟩, ⟨S1x12x2048x409x1, y2⟩, ⟨S1x12x2048x409x1, y3⟩] h (ix5 0 e i k 2) = y2 (ix5 0 e i k 0)
    ∧ concatenate S1x12x2048x409x4 4 [⟨S1x12x2048x409x1, y0⟩, ⟨S1x12x2048x409x1, y1⟩, ⟨S1x12x2048x409x1, y2⟩, ⟨S1x12x2048x409x1, y3⟩] h (ix5 0 e i k 3) = y3 (ix5 0 e i k 0) := by
  refine ⟨concatenate_apply_piece 4 _ h _ 0 (by simp) S1x12x2048x409x1 y0 rfl rfl 0 rfl (ix5 0 e i k 0) ?_ rfl,
    concatenate_apply_piece 4 _ h _ 1 (by simp) S1x12x2048x409x1 y1 rfl rfl 1 rfl (ix5 0 e i k 0) ?_ rfl,
    concatenate_apply_piece 4 _ h _ 2 (by simp) S1x12x2048x409x1 y2 rfl rfl 2 rfl (ix5 0 e i k 0) ?_ rfl,
    concatenate_apply_piece 4 _ h _ 3 (by simp) S1x12x2048x409x1 y3 rfl rfl 3 rfl (ix5 0 e i k 0) ?_ rfl⟩
  all_goals (intro b hb; fin_cases b <;> first | rfl | exact absurd rfl hb)

/-- Ones written at the sorted positions mark each row's first entries. -/
theorem ones3 (z x : S1x2048x2048.Idx → EReal) (o : S1x2048x409.Idx → EReal) (idx : IVec S1x2048x409x3 32)
    (hz : ∀ i, z i = 0) (ho : ∀ i, o i = 1)
    (h0 : ∀ i k, idx (ix4 0 i k 0) = 0#32) (h1 : ∀ (i : Fin 2048) k, idx (ix4 0 i k 1) = BitVec.ofNat 32 i.val)
    (h2 : ∀ (i : Fin 2048) (k : Fin 409), idx (ix4 0 i k 2)
      = BitVec.ofNat 32 (sortedFrom (fun a b : Fin 2048 => decide (x (ix3 0 i b) < x (ix3 0 i a))) ⟨k.val, by omega⟩).val)
    (i j : Fin 2048) :
    Host.scatter sc3 (fun _ b => b) z idx o (ix3 0 i j) = if Top 409 (fun j => x (ix3 0 i j)) j then 1 else 0 := by
  have land : ∀ (i' : Fin 2048) (k : Fin 409), sc3.resultIdx? (ix3 0 i' k) idx = some (ix3 0 i j) ↔
      (i' = i ∧ sortedFrom (fun a b : Fin 2048 => decide (x (ix3 0 i' b) < x (ix3 0 i' a))) ⟨k.val, by omega⟩ = j) := by
    intro i' k
    rw [resultIdx?_eq_some]
    have r0 : sc3.start (ix3 0 i' k) idx 0 + (sc3.window (ix3 0 i' k) 0 : ℤ) = 0 := by
      rw [(start3 idx _ 0).1, (start3 idx _ 0).2]
      show (idx (ix4 0 i' k 0)).toInt + 0 = 0
      rw [h0]; rfl
    have r1 : sc3.start (ix3 0 i' k) idx 1 + (sc3.window (ix3 0 i' k) 1 : ℤ) = i'.val := by
      rw [(start3 idx _ 1).1, (start3 idx _ 1).2]
      show (idx (ix4 0 i' k 1)).toInt + 0 = _
      rw [h1, small_toInt _ i'.isLt, add_zero]
    have r2 : sc3.start (ix3 0 i' k) idx 2 + (sc3.window (ix3 0 i' k) 2 : ℤ)
        = (sortedFrom (fun a b : Fin 2048 => decide (x (ix3 0 i' b) < x (ix3 0 i' a))) ⟨k.val, by omega⟩).val := by
      rw [(start3 idx _ 2).1, (start3 idx _ 2).2]
      show (idx (ix4 0 i' k 2)).toInt + 0 = _
      rw [h2, small_toInt _ (Fin.isLt _), add_zero]
    constructor
    · intro q
      have q1 := (q 1).symm.trans r1
      have q2 := (q 2).symm.trans r2
      exact ⟨Fin.ext (Int.ofNat.inj q1).symm, Fin.ext (Int.ofNat.inj q2).symm⟩
    · rintro ⟨rfl, e2⟩ a
      match a with
      | ⟨0, _⟩ => exact r0
      | ⟨1, _⟩ => exact r1
      | ⟨2, _⟩ => exact r2.trans (by rw [e2])
  by_cases hT : Top 409 (fun j => x (ix3 0 i j)) j
  · rw [if_pos hT]
    obtain ⟨k, hk, e⟩ := (top_iff_sorted 409 _ j).1 hT
    exact scatter_set_hit sc3 z idx o _ 1 (fun k _ => ho k) (ix3 0 i ⟨k.val, hk⟩) ((land i ⟨k.val, hk⟩).2 ⟨rfl, e⟩)
  · rw [if_neg hT, ← hz (ix3 0 i j)]
    refine scatter_set_miss sc3 z idx o _ fun n hn => hT ?_
    have en : n = ix3 0 (n 1) (n 2) := by
      funext b; fin_cases b
      · exact Fin.ext (by have : (n 0).val < 1 := (n 0).isLt; show (n 0).val = 0; omega)
      · rfl
      · rfl
    rw [en] at hn
    obtain ⟨e1, e2⟩ := (land (n 1) (n 2)).1 hn
    rw [e1] at e2
    have hk : (n 2).val < 409 := (n 2).isLt
    exact (top_iff_sorted 409 _ j).2 ⟨⟨(n 2).val, by omega⟩, hk, e2⟩

/-- The same with a head axis. -/
theorem ones4 (z x : S1x12x2048x2048.Idx → EReal) (o : S1x12x2048x409.Idx → EReal) (idx : IVec S1x12x2048x409x4 32)
    (hz : ∀ i, z i = 0) (ho : ∀ i, o i = 1)
    (h0 : ∀ e i k, idx (ix5 0 e i k 0) = 0#32) (h1 : ∀ (e : Fin 12) i k, idx (ix5 0 e i k 1) = BitVec.ofNat 32 e.val)
    (h2 : ∀ e (i : Fin 2048) k, idx (ix5 0 e i k 2) = BitVec.ofNat 32 i.val)
    (h3 : ∀ (e : Fin 12) (i : Fin 2048) (k : Fin 409), idx (ix5 0 e i k 3)
      = BitVec.ofNat 32 (sortedFrom (fun a b : Fin 2048 => decide (x (ix4 0 e i b) < x (ix4 0 e i a))) ⟨k.val, by omega⟩).val)
    (e : Fin 12) (i j : Fin 2048) :
    Host.scatter sc4 (fun _ b => b) z idx o (ix4 0 e i j) = if Top 409 (fun j => x (ix4 0 e i j)) j then 1 else 0 := by
  have land : ∀ (e' : Fin 12) (i' : Fin 2048) (k : Fin 409), sc4.resultIdx? (ix4 0 e' i' k) idx = some (ix4 0 e i j) ↔
      (e' = e ∧ i' = i ∧ sortedFrom (fun a b : Fin 2048 => decide (x (ix4 0 e' i' b) < x (ix4 0 e' i' a))) ⟨k.val, by omega⟩ = j) := by
    intro e' i' k
    rw [resultIdx?_eq_some]
    have r0 : sc4.start (ix4 0 e' i' k) idx 0 + (sc4.window (ix4 0 e' i' k) 0 : ℤ) = 0 := by
      rw [(start4 idx _ 0).1, (start4 idx _ 0).2]
      show (idx (ix5 0 e' i' k 0)).toInt + 0 = 0
      rw [h0]; rfl
    have r1 : sc4.start (ix4 0 e' i' k) idx 1 + (sc4.window (ix4 0 e' i' k) 1 : ℤ) = e'.val := by
      rw [(start4 idx _ 1).1, (start4 idx _ 1).2]
      show (idx (ix5 0 e' i' k 1)).toInt + 0 = _
      rw [h1, small_toInt _ (by omega), add_zero]
    have r2 : sc4.start (ix4 0 e' i' k) idx 2 + (sc4.window (ix4 0 e' i' k) 2 : ℤ) = i'.val := by
      rw [(start4 idx _ 2).1, (start4 idx _ 2).2]
      show (idx (ix5 0 e' i' k 2)).toInt + 0 = _
      rw [h2, small_toInt _ i'.isLt, add_zero]
    have r3 : sc4.start (ix4 0 e' i' k) idx 3 + (sc4.window (ix4 0 e' i' k) 3 : ℤ)
        = (sortedFrom (fun a b : Fin 2048 => decide (x (ix4 0 e' i' b) < x (ix4 0 e' i' a))) ⟨k.val, by omega⟩).val := by
      rw [(start4 idx _ 3).1, (start4 idx _ 3).2]
      show (idx (ix5 0 e' i' k 3)).toInt + 0 = _
      rw [h3, small_toInt _ (Fin.isLt _), add_zero]
    constructor
    · intro q
      have q1 := (q 1).symm.trans r1
      have q2 := (q 2).symm.trans r2
      have q3 := (q 3).symm.trans r3
      exact ⟨Fin.ext (Int.ofNat.inj q1).symm, Fin.ext (Int.ofNat.inj q2).symm, Fin.ext (Int.ofNat.inj q3).symm⟩
    · rintro ⟨rfl, rfl, e2⟩ a
      match a with
      | ⟨0, _⟩ => exact r0
      | ⟨1, _⟩ => exact r1
      | ⟨2, _⟩ => exact r2
      | ⟨3, _⟩ => exact r3.trans (by rw [e2])
  by_cases hT : Top 409 (fun j => x (ix4 0 e i j)) j
  · rw [if_pos hT]
    obtain ⟨k, hk, e2⟩ := (top_iff_sorted 409 _ j).1 hT
    exact scatter_set_hit sc4 z idx o _ 1 (fun k _ => ho k) (ix4 0 e i ⟨k.val, hk⟩) ((land e i ⟨k.val, hk⟩).2 ⟨rfl, rfl, e2⟩)
  · rw [if_neg hT, ← hz (ix4 0 e i j)]
    refine scatter_set_miss sc4 z idx o _ fun n hn => hT ?_
    have en : n = ix4 0 (n 1) (n 2) (n 3) := by
      funext b; fin_cases b
      · exact Fin.ext (by have : (n 0).val < 1 := (n 0).isLt; show (n 0).val = 0; omega)
      · rfl
      · rfl
      · rfl
    rw [en] at hn
    obtain ⟨e0, e1, e2⟩ := (land (n 1) (n 2) (n 3)).1 hn
    rw [e0, e1] at e2
    have hk : (n 3).val < 409 := (n 3).isLt
    exact (top_iff_sorted 409 _ j).2 ⟨⟨(n 3).val, by omega⟩, hk, e2⟩

end Cert.Attn.Plain
-- ==== Proof.RefMask.lean ====
/- The plain program's masks: the entries a row attends to are the ones the kernel chooses. -/
module

public import proofs.«01_k».proof.Proof.RefSel

@[expose] public section

set_option maxRecDepth 16384

noncomputable section

namespace Cert.Attn.Plain

open Idealize.ShloMosaic hiding ix0 ix1 ix2 ix3 ix4 ix5 eq_ix1 eq_ix2 eq_ix3 eq_ix4
open Idealize.ShloMosaic.ValueIdx Finset
open Cert.ReferenceGivenIdeal Cert.ReferenceGivenIdeal.Gen Cert.ReferenceGivenIdeal.Read
open Cert.Attn.Sel Cert.Attn.Ops Cert.Attn.Given Idealize.ShloMosaic.Routing

attribute [local instance 10] Classical.propDecidable

/-! ## Literals -/

theorem scale_pos : ∃ r : ℝ, 0 < r ∧ Ideal.ofBits .f32 0x41DDB3D7#32 = (r : EReal) := by
  have e : Ideal.ofBits .f32 0x41DDB3D7#32 = ((14529495 : ℝ) : EReal) * ((1 / 524288 : ℝ) : EReal) := by
    simp [Ideal.ofBits, Ideal.ieee]; norm_num
  exact ⟨14529495 * (1 / 524288), by norm_num, by rw [e, ← EReal.coe_mul]⟩

theorem twelve : Ideal.ofBits .f32 0x41400000#32 = ((12 : ℝ) : EReal) := by
  have e : Ideal.ofBits .f32 0x41400000#32 = ((12582912 : ℝ) : EReal) * ((1 / 1048576 : ℝ) : EReal) := by
    simp [Ideal.ofBits, Ideal.ieee]; norm_num
  rw [e, ← EReal.coe_mul]; norm_num

theorem eight : Ideal.ofBits .f32 0x41000000#32 = ((8 : ℝ) : EReal) := by
  have e : Ideal.ofBits .f32 0x41000000#32 = ((8388608 : ℝ) : EReal) * ((1 / 1048576 : ℝ) : EReal) := by
    simp [Ideal.ofBits, Ideal.ieee]; norm_num
  rw [e, ← EReal.coe_mul]; norm_num

theorem eighth_eq : eighth = ((1 / 8 : ℝ) : EReal) := by
  have e : Ideal.ofBits .f32 0x3E000000#32 = ((8388608 : ℝ) : EReal) * ((1 / 67108864 : ℝ) : EReal) := by
    simp [Ideal.ofBits, Ideal.ieee]; norm_num
  show Ideal.ofBits .f32 0x3E000000#32 = _
  rw [e, ← EReal.coe_mul]; norm_num

theorem negbig_real : ∃ r : ℝ, negbig = (r : EReal) := by
  have e : Ideal.ofBits .f32 0xCE6E6B28#32 = -(((15625000 : ℝ) : EReal) * ((2 : ℝ) : EReal) ^ 6) := by
    simp [Ideal.ofBits, Ideal.ieee]
  exact ⟨-(15625000 * 2 ^ 6), by show Ideal.ofBits .f32 0xCE6E6B28#32 = _; rw [e, EReal.coe_neg, EReal.coe_mul, EReal.coe_pow]⟩

theorem kap_pos : ∃ r : ℝ, 0 < r ∧ kap = (r : EReal) := by
  refine ⟨(Real.sqrt 768)⁻¹, inv_pos.2 (Real.sqrt_pos.2 (by norm_num)), ?_⟩
  unfold kap
  rfl

theorem minf : Ideal.ofBits .f32 0xFF800000#32 = (⊥ : EReal) := by
  simp [Ideal.ofBits, Ideal.ieee]

theorem coe_sum {n : ℕ} (f : Fin n → ℝ) : (∑ k : Fin n, (f k : EReal)) = ((∑ k : Fin n, f k : ℝ) : EReal) := by
  induction (univ : Finset (Fin n)) using Finset.induction_on with
  | empty => simp
  | insert a s ha ih => rw [sum_insert ha, sum_insert ha, ih, EReal.coe_add]

theorem bit_real (p : Prop) (b : BitVec 1) (h : b = 1#1 ↔ p) : (FloatOps.uitofp (F := Ideal) .f32 b : EReal) = if p then 1 else 0 := by
  by_cases hp : p
  · rw [if_pos hp, h.2 hp]
    show (((1#1 : BitVec 1).toNat : ℝ) : EReal) = 1
    simp
  · rw [if_neg hp, eq_zero_of_ne_one (fun q => hp (h.1 q))]
    show (((0#1 : BitVec 1).toNat : ℝ) : EReal) = 0
    simp

section

variable (x0 : S1x2048x768.Idx → EReal) (x9 : S1x12x2048x2048.Idx → EReal)

/-- A row of the plain program's scaled scores. -/
def rawR (i j : Fin 2048) : EReal := val_main_v2 (F := Ideal) x0 (ix3 0 i j)

theorem rawR_eq (i j : Fin 2048) : rawR x0 i j = Ideal.div (gram x0 i j) (Ideal.ofBits .f32 0x41DDB3D7#32) := by
  unfold rawR gram
  rw [val_main_v2_apply, val_main_v0_apply, val_main_v1_apply, val_main_cst_apply]
  refine congrArg (fun z : EReal => Ideal.div z (Ideal.ofBits .f32 0x41DDB3D7#32)) (Finset.sum_congr rfl fun k _ => ?_)
  refine congrArg₂ (fun a b : EReal => a * b) (congrArg x0 (funext fun a => ?_)) (congrArg x0 (funext fun a => ?_))
  all_goals fin_cases a <;> rfl

theorem v4_at (h : Fin 12) (i j : Fin 2048) : val_main_v4 (F := Ideal) x0 (ix4 0 h i j) = rawR x0 i j := by
  rw [val_main_v4_apply, val_main_v3_apply]
  exact congrArg (val_main_v2 (F := Ideal) x0) (funext fun a => by fin_cases a <;> rfl)

variable (hx : ∀ i, ∃ r : ℝ, x0 i = (r : EReal))

include hx in
theorem gram_real (i j : Fin 2048) : ∃ r : ℝ, gram x0 i j = (r : EReal) := by
  choose f hf using hx
  refine ⟨∑ k : Fin 768, f (ix3 0 i k) * f (ix3 0 j k), ?_⟩
  unfold gram
  rw [← coe_sum]
  exact Finset.sum_congr rfl fun k _ => by rw [hf, hf, EReal.coe_mul]

include hx in
theorem raws : ∃ (g : Fin 2048 → Fin 2048 → ℝ) (r s : ℝ), 0 < r ∧ 0 < s
    ∧ (∀ i j, rawR x0 i j = ((g i j * r : ℝ) : EReal)) ∧ ∀ i j, rawK x0 i j = ((g i j * s : ℝ) : EReal) := by
  choose g hg using gram_real x0 hx
  obtain ⟨c, hc, ec⟩ := scale_pos
  obtain ⟨s, hs, es⟩ := kap_pos
  refine ⟨g, 1 / c, s, by positivity, hs, fun i j => ?_, fun i j => ?_⟩
  · rw [rawR_eq, ec, Ideal.div_coe hc.ne', hg, EReal.coe_mul]
  · show gram x0 i j * kap = _
    rw [hg, es, EReal.coe_mul]

include hx in
theorem raw_lt (i a b : Fin 2048) : rawR x0 i a < rawR x0 i b ↔ rawK x0 i a < rawK x0 i b := by
  obtain ⟨g, r, s, hr, hs, e1, e2⟩ := raws x0 hx
  rw [e1, e1, e2, e2, EReal.coe_lt_coe_iff, EReal.coe_lt_coe_iff, mul_lt_mul_iff_left₀ hr, mul_lt_mul_iff_left₀ hs]

include hx in
theorem keep_lt (c : Fin 2048 → Prop) (i a b : Fin 2048) :
    keep c (rawR x0 i) a < keep c (rawR x0 i) b ↔ keep c (rawK x0 i) a < keep c (rawK x0 i) b := by
  obtain ⟨g, r, s, hr, hs, e1, e2⟩ := raws x0 hx
  have k1 : ∀ j, keep c (rawR x0 i) j = (((if c j then g i j else 0) * r : ℝ) : EReal) := fun j => by
    unfold keep; split_ifs
    · exact e1 i j
    · simp
  have k2 : ∀ j, keep c (rawK x0 i) j = (((if c j then g i j else 0) * s : ℝ) : EReal) := fun j => by
    unfold keep; split_ifs
    · exact e2 i j
    · simp
  rw [k1, k1, k2, k2, EReal.coe_lt_coe_iff, EReal.coe_lt_coe_iff, mul_lt_mul_iff_left₀ hr, mul_lt_mul_iff_left₀ hs]

include hx in
/-- The mean over the heads of equal scores. -/
theorem v23_at (i j : Fin 2048) : val_main_v23 (F := Ideal) x0 (ix3 0 i j) = rawR x0 i j := by
  obtain ⟨g, r, s, hr, hs, e1, e2⟩ := raws x0 hx
  rw [val_main_v23_apply, val_main_v21_apply, val_main_v22_apply, val_main_cst_2_apply, val_main_cst_1_apply]
  have e : ∀ k : Fin 12, val_main_v4 (F := Ideal) x0 (idx_main_v21 (ix3 0 i j) k) = ((g i j * r : ℝ) : EReal) := fun k => by
    rw [← e1, ← v4_at x0 k]
    exact congrArg (val_main_v4 (F := Ideal) x0) (funext fun a => by fin_cases a <;> rfl)
  simp only [e]
  show Ideal.div (Ideal.ofBits .f32 0x00000000#32 + ∑ k : Fin 12, ((g i j * r : ℝ) : EReal)) (Ideal.ofBits .f32 0x41400000#32) = _
  rw [Ideal.ofBits_zero_f32, zero_add, twelve, Ideal.div_coe (by norm_num), coe_sum, e1, ← EReal.coe_mul]
  congr 1
  rw [Finset.sum_const, Finset.card_univ, Fintype.card_fin]
  ring

/-! ## The first choice -/

theorem cols3 (i : Fin 2048) (k : Fin 409) :
    val_main_v49 (F := Ideal) x0 (ix4 0 i k 0) = 0#32 ∧ val_main_v49 (F := Ideal) x0 (ix4 0 i k 1) = BitVec.ofNat 32 i.val
    ∧ val_main_v49 (F := Ideal) x0 (ix4 0 i k 2)
      = BitVec.ofNat 32 (sortedFrom (fun a b : Fin 2048 => decide (val_main_v23 (F := Ideal) x0 (ix3 0 i b) < val_main_v23 (F := Ideal) x0 (ix3 0 i a))) ⟨k.val, by omega⟩).val := by
  unfold val_main_v49
  obtain ⟨c0, c1, c2⟩ := cat3 (val_main_v46 (F := Ideal)) (val_main_v47 (F := Ideal)) (val_main_v48 (F := Ideal) x0)
    concatenates_S1x2048x409x1_S1x2048x409x1_S1x2048x409x1_S1x2048x409x3_d3 i k
  refine ⟨c0.trans ?_, c1.trans ?_, c2.trans ?_⟩
  · rw [val_main_v46_apply, val_main_v44_apply, val_main_v33_apply, val_main_v30_apply, val_main_v29_apply, val_main_c_4_apply, val_main_v25_apply,
      val_main_v24_apply]
    exact wrapped 0 (by norm_num) _
  · rw [val_main_v47_apply, val_main_v45_apply, val_main_v38_apply, val_main_v35_apply, val_main_v34_apply, val_main_c_6_apply, val_main_v27_apply,
      val_main_v26_apply]
    exact wrapped i.val i.isLt _
  · rw [val_main_v48_apply, val_main_v43_apply, val_main_v40_apply, val_main_v39_apply, val_main_c_8_apply]
    have e : val_main_indices (F := Ideal) x0 (idx_main_v48 (ix4 0 i k 0))
        = BitVec.ofNat 32 (sortedFrom (fun a b : Fin 2048 => decide (val_main_v23 (F := Ideal) x0 (ix3 0 i b) < val_main_v23 (F := Ideal) x0 (ix3 0 i a))) ⟨k.val, by omega⟩).val := by
      refine Eq.trans ?_ (topK3 (val_main_v23 (F := Ideal) x0) sliceFits_S1x2048x2048_S1x2048x409 i k)
      exact congrArg (val_main_indices (F := Ideal) x0) (funext fun a => by fin_cases a <;> rfl)
    rw [e]
    exact wrapped _ (Fin.isLt _) _

theorem v51_at (i j : Fin 2048) : val_main_v51 (F := Ideal) x0 (ix3 0 i j)
    = (if Sel.Top 409 (fun j => val_main_v23 (F := Ideal) x0 (ix3 0 i j)) j then 1 else 0 : EReal) := by
  unfold val_main_v51
  refine ones3 (val_main_v28 (F := Ideal)) (val_main_v23 (F := Ideal) x0) (val_main_v50 (F := Ideal)) (val_main_v49 (F := Ideal) x0)
    (fun q => ?_) (fun q => ?_) (fun i k => (cols3 x0 i k).1) (fun i k => (cols3 x0 i k).2.1) (fun i k => (cols3 x0 i k).2.2) i j
  · rw [val_main_v28_apply, val_main_cst_3_apply]; exact Ideal.ofBits_zero_f32
  · rw [val_main_v50_apply, val_main_cst_10_apply]; exact Ideal.ofBits_one_f32

include hx in
theorem first_at (i j : Fin 2048) : val_main_v51 (F := Ideal) x0 (ix3 0 i j) = (if Sel.Top 409 (rawK x0 i) j then 1 else 0 : EReal) := by
  rw [v51_at]
  refine if_congr ?_ rfl rfl
  refine top_congr (fun a b => ?_) j
  rw [v23_at x0 hx, v23_at x0 hx]
  exact raw_lt x0 hx i a b

/-! ## The neighbourhood, the draws, the marks -/

theorem near_at (i j : Fin 2048) : val_main_v20 (F := Ideal) (ix2 i j) = (if Given.Loc i j then 1 else 0 : EReal) := by
  rw [val_main_v20_apply]
  refine bit_real (Given.Loc i j) _ ?_
  rw [val_main_v19_apply, andi_iff, val_main_v13_apply, val_main_v18_apply, val_main_v11_apply, val_main_v12_apply, val_main_v10_apply,
    val_main_v16_apply, val_main_v17_apply, val_main_v15_apply, val_main_v9_apply, val_main_c_apply, val_main_v14_apply, val_main_c_0_apply,
    val_main_v8_apply, val_main_v7_apply, val_main_v6_apply, val_main_v5_apply]
  exact and_congr (ge_word j.val i.val (by omega) (by omega)) (lt_word j.val i.val (by omega) (by omega))

def Draw (h : Fin 12) (i j : Fin 2048) : Prop := x9 (ix4 0 h i j) < fifth

include hx in
theorem marks_at (h : Fin 12) (i j : Fin 2048) :
    val_main_v62 (F := Ideal) x0 x9 (ix4 0 h i j) = (if marks x9 (rawK x0) h i j then 1 else 0 : EReal) := by
  rw [val_main_v62_apply]
  refine bit_real _ _ ?_
  rw [val_main_v61_apply]
  refine (ogt_iff _ _).trans ?_
  have e60 : val_main_v60 (F := Ideal) (ix4 0 h i j) = (0 : EReal) := by
    rw [val_main_v60_apply, val_main_cst_12_apply]; exact Ideal.ofBits_zero_f32
  have e54 : val_main_v54 (F := Ideal) x9 (ix4 0 h i j) = (if Draw x9 h i j then 1 else 0 : EReal) := by
    rw [val_main_v54_apply]
    refine bit_real (Draw x9 h i j) _ ?_
    rw [val_main_v53_apply, val_main_v52_apply, val_main_cst_11_apply]
    exact olt_iff _ _
  have e58 : val_main_v58 (F := Ideal) x0 (ix4 0 h i j) = (((if Given.Loc i j then 1 else 0) + (if Sel.Top 409 (rawK x0 i) j then 1 else 0) : EReal)) := by
    rw [val_main_v58_apply, val_main_v57_apply, val_main_v55_apply, val_main_v56_apply, ← near_at, ← first_at x0 hx]
    refine congrArg₂ (fun a b : EReal => a + b) (congrArg (val_main_v20 (F := Ideal)) (funext fun a => ?_))
      (congrArg (val_main_v51 (F := Ideal) x0) (funext fun a => ?_))
    all_goals fin_cases a <;> rfl
  have e59 : val_main_v59 (F := Ideal) x0 x9 (ix4 0 h i j)
      = (((if Given.Loc i j then 1 else 0) + (if Sel.Top 409 (rawK x0 i) j then 1 else 0) : EReal)) + (if Draw x9 h i j then 1 else 0 : EReal) := by
    rw [val_main_v59_apply, e58, e54]; rfl
  rw [e60, e59]
  show _ ↔ (Sel.Top 409 (rawK x0 i) j ∨ Given.Loc i j) ∨ Draw x9 h i j
  by_cases h1 : Given.Loc i j <;> by_cases h2 : Sel.Top 409 (rawK x0 i) j <;> by_cases h3 : Draw x9 h i j
  all_goals simp only [h1, h2, h3, if_true, if_false, or_true, true_or, or_false, false_or, add_zero, zero_add, lt_self_iff_false, iff_true, zero_lt_one]
  all_goals norm_num

include hx in
theorem v63_at (h : Fin 12) (i j : Fin 2048) :
    val_main_v63 (F := Ideal) x0 x9 (ix4 0 h i j) = keep (marks x9 (rawK x0) h i) (rawR x0 i) j := by
  rw [val_main_v63_apply, v4_at, marks_at x0 x9 hx]
  show rawR x0 i j * (if marks x9 (rawK x0) h i j then 1 else 0 : EReal) = _
  unfold keep
  split_ifs
  · exact mul_one _
  · exact mul_zero _

/-! ## The second choice -/

theorem cols4 (e : Fin 12) (i : Fin 2048) (k : Fin 409) :
    val_main_v98 (F := Ideal) x0 x9 (ix5 0 e i k 0) = 0#32 ∧ val_main_v98 (F := Ideal) x0 x9 (ix5 0 e i k 1) = BitVec.ofNat 32 e.val
    ∧ val_main_v98 (F := Ideal) x0 x9 (ix5 0 e i k 2) = BitVec.ofNat 32 i.val
    ∧ val_main_v98 (F := Ideal) x0 x9 (ix5 0 e i k 3)
      = BitVec.ofNat 32 (sortedFrom (fun a b : Fin 2048 => decide (val_main_v63 (F := Ideal) x0 x9 (ix4 0 e i b) < val_main_v63 (F := Ideal) x0 x9 (ix4 0 e i a))) ⟨k.val, by omega⟩).val := by
  unfold val_main_v98
  obtain ⟨c0, c1, c2, c3⟩ := cat4 (val_main_v94 (F := Ideal)) (val_main_v95 (F := Ideal)) (val_main_v96 (F := Ideal)) (val_main_v97 (F := Ideal) x0 x9)
    concatenates_S1x12x2048x409x1_S1x12x2048x409x1_S1x12x2048x409x1_S1x12x2048x409x1_S1x12x2048x409x4_d4 e i k
  refine ⟨c0.trans ?_, c1.trans ?_, c2.trans ?_, c3.trans ?_⟩
  · rw [val_main_v94_apply, val_main_v91_apply, val_main_v75_apply, val_main_v72_apply, val_main_v71_apply, val_main_c_16_apply, val_main_v65_apply,
      val_main_v64_apply]
    exact wrapped 0 (by norm_num) _
  · rw [val_main_v95_apply, val_main_v92_apply, val_main_v80_apply, val_main_v77_apply, val_main_v76_apply, val_main_c_18_apply, val_main_v67_apply,
      val_main_v66_apply]
    exact wrapped e.val (by omega) _
  · rw [val_main_v96_apply, val_main_v93_apply, val_main_v85_apply, val_main_v82_apply, val_main_v81_apply, val_main_c_20_apply, val_main_v69_apply,
      val_main_v68_apply]
    exact wrapped i.val i.isLt _
  · rw [val_main_v97_apply, val_main_v90_apply, val_main_v87_apply, val_main_v86_apply, val_main_c_22_apply]
    have e : val_main_indices_14 (F := Ideal) x0 x9 (idx_main_v97 (ix5 0 e i k 0))
        = BitVec.ofNat 32 (sortedFrom (fun a b : Fin 2048 => decide (val_main_v63 (F := Ideal) x0 x9 (ix4 0 e i b) < val_main_v63 (F := Ideal) x0 x9 (ix4 0 e i a))) ⟨k.val, by omega⟩).val := by
      refine Eq.trans ?_ (topK4 (val_main_v63 (F := Ideal) x0 x9) sliceFits_S1x12x2048x2048_S1x12x2048x409 e i k)
      exact congrArg (val_main_indices_14 (F := Ideal) x0 x9) (funext fun a => by fin_cases a <;> rfl)
    rw [e]
    exact wrapped _ (Fin.isLt _) _

theorem v100_at (h : Fin 12) (i j : Fin 2048) : val_main_v100 (F := Ideal) x0 x9 (ix4 0 h i j)
    = (if Sel.Top 409 (fun j => val_main_v63 (F := Ideal) x0 x9 (ix4 0 h i j)) j then 1 else 0 : EReal) := by
  unfold val_main_v100
  refine ones4 (val_main_v70 (F := Ideal)) (val_main_v63 (F := Ideal) x0 x9) (val_main_v99 (F := Ideal)) (val_main_v98 (F := Ideal) x0 x9)
    (fun q => ?_) (fun q => ?_) (fun e i k => (cols4 x0 x9 e i k).1) (fun e i k => (cols4 x0 x9 e i k).2.1) (fun e i k => (cols4 x0 x9 e i k).2.2.1)
    (fun e i k => (cols4 x0 x9 e i k).2.2.2) h i j
  · rw [val_main_v70_apply, val_main_cst_15_apply]; exact Ideal.ofBits_zero_f32
  · rw [val_main_v99_apply, val_main_cst_24_apply]; exact Ideal.ofBits_one_f32

include hx in
theorem chosen_at (h : Fin 12) (i j : Fin 2048) :
    val_main_v100 (F := Ideal) x0 x9 (ix4 0 h i j) = (if chosen x9 (rawK x0) h i j then 1 else 0 : EReal) := by
  rw [v100_at]
  refine if_congr ?_ rfl rfl
  unfold chosen
  refine top_congr (fun a b => ?_) j
  rw [v63_at x0 x9 hx, v63_at x0 x9 hx]
  exact keep_lt x0 hx _ i a b

end

end Cert.Attn.Plain
-- ==== Proof.RefVal.lean ====
/- The plain program's result, read at an index, on finite scores. -/
module

public import proofs.«01_k».proof.Proof.RefMask

@[expose] public section

set_option maxRecDepth 16384

noncomputable section

namespace Cert.Attn.Plain

open Idealize.ShloMosaic hiding ix0 ix1 ix2 ix3 ix4 ix5 eq_ix1 eq_ix2 eq_ix3 eq_ix4
open Idealize.ShloMosaic.ValueIdx Finset
open Cert.ReferenceGivenIdeal Cert.ReferenceGivenIdeal.Gen Cert.ReferenceGivenIdeal.Read
open Cert.Attn.Sel Cert.Attn.Ops Cert.Attn.Given Idealize.ShloMosaic.Routing

attribute [local instance 10] Classical.propDecidable

/-! ## A row's weights -/

theorem smx_div (s : Fin 2048 → EReal) (t : Fin 2048 → ℝ) (h : ∀ j, s j = (t j : EReal)) (j : Fin 2048) :
    Ideal.div (ex s j) (∑ k : Fin 2048, ex s k) = smx s j := by
  obtain ⟨j0, _, e0⟩ := Finset.exists_mem_eq_sup (univ : Finset (Fin 2048)) ⟨0, mem_univ _⟩ s
  have he : ∀ k, ex s k = ((Real.exp (t k - t j0) : ℝ) : EReal) := fun k => by
    unfold ex
    rw [e0, h, h, ← EReal.coe_sub, Ideal.exp_coe]
  have hs : (∑ k : Fin 2048, ex s k) = ((∑ k : Fin 2048, Real.exp (t k - t j0) : ℝ) : EReal) := by
    rw [← coe_sum]; exact Finset.sum_congr rfl fun k _ => he k
  have hp : (∑ k : Fin 2048, Real.exp (t k - t j0)) ≠ 0 :=
    (Finset.sum_pos (fun k _ => Real.exp_pos _) ⟨0, mem_univ _⟩).ne'
  unfold smx
  rw [hs, Ideal.div_coe hp, Ideal.div_coe hp, one_mul]

/-- A sum over the columns is a sum over the heads of sums over their columns. -/
theorem sum_cols (f : Fin 768 → EReal) : (∑ k : Fin 768, f k) = ∑ h : Fin 12, ∑ d : Fin 64, f (col h d) := by
  rw [← Fintype.sum_prod_type' (fun (h : Fin 12) (d : Fin 64) => f (col h d))]
  refine (Fintype.sum_equiv (finProdFinEquiv : Fin 12 × Fin 64 ≃ Fin 768) _ _ fun p => ?_).symm
  refine congrArg f (Fin.ext ?_)
  show p.1.val * 64 + p.2.val = p.2.val + 64 * p.1.val
  omega

section

variable (x0 : S1x2048x768.Idx → EReal) (x1 : S768x768.Idx → EReal) (x2 : S768.Idx → EReal) (x3 : S768x768.Idx → EReal) (x4 : S768.Idx → EReal)
  (x5 : S768x768.Idx → EReal) (x6 : S768.Idx → EReal) (x7 : S768x768.Idx → EReal) (x8 : S768.Idx → EReal) (x9 : S1x12x2048x2048.Idx → EReal)

/-! ## The projections -/

theorem q_at (h : Fin 12) (i : Fin 2048) (d : Fin 64) :
    val_main_v106 (F := Ideal) x0 x1 x2 (ix4 0 h i d) = (lin x0 x1 h i d + x2 (ix1 (col h d)) : EReal) := by
  have e : idx_main_v105 (idx_main_v106 (ix4 0 h i d)) = ix3 0 i (col h d) := by
    funext a
    have hd := d.isLt; have hi := i.isLt; have hh := h.isLt
    fin_cases a
    · rfl
    · refine Fin.ext ?_
      show (((0 * 2048 + i.val) * 12 + h.val) * 64 + d.val) / 768 % 2048 = i.val
      omega
    · refine Fin.ext ?_
      show (((0 * 2048 + i.val) * 12 + h.val) * 64 + d.val) % 768 = h.val * 64 + d.val
      omega
  rw [val_main_v106_apply, val_main_v105_apply, e, val_main_v104_apply, val_main_v101_apply, val_main_v103_apply, val_main_v102_apply]
  refine congrArg₂ (fun a b : EReal => a + b) (Finset.sum_congr rfl fun k _ => ?_) (congrArg x2 (funext fun a => ?_))
  · refine congrArg₂ (fun a b : EReal => a * b) (congrArg x0 (funext fun a => ?_)) (congrArg x1 (funext fun a => ?_))
    all_goals fin_cases a <;> rfl
  · fin_cases a; rfl

theorem k_at (h : Fin 12) (i : Fin 2048) (d : Fin 64) :
    val_main_v112 (F := Ideal) x0 x3 x4 (ix4 0 h i d) = (lin x0 x3 h i d + x4 (ix1 (col h d)) : EReal) := q_at x0 x3 x4 h i d

theorem v_at (h : Fin 12) (i : Fin 2048) (d : Fin 64) :
    val_main_v118 (F := Ideal) x0 x5 x6 (ix4 0 h i d) = (lin x0 x5 h i d + x6 (ix1 (col h d)) : EReal) := q_at x0 x5 x6 h i d

variable (hx : ∀ i, ∃ r : ℝ, x0 i = (r : EReal)) (h1 : ∀ i, ∃ r : ℝ, x1 i = (r : EReal)) (h2 : ∀ i, ∃ r : ℝ, x2 i = (r : EReal))
  (h3 : ∀ i, ∃ r : ℝ, x3 i = (r : EReal)) (h4 : ∀ i, ∃ r : ℝ, x4 i = (r : EReal))

theorem lin_real (w : S768x768.Idx → EReal) (hx : ∀ i, ∃ r : ℝ, x0 i = (r : EReal)) (hw : ∀ i, ∃ r : ℝ, w i = (r : EReal)) (h : Fin 12) (i : Fin 2048)
    (d : Fin 64) : ∃ r : ℝ, lin x0 w h i d = (r : EReal) := by
  choose f hf using hx
  choose g hg using hw
  refine ⟨∑ k : Fin 768, f (ix3 0 i k) * g (ix2 k (col h d)), ?_⟩
  unfold lin
  rw [← coe_sum]
  exact Finset.sum_congr rfl fun k _ => by rw [hf, hg, EReal.coe_mul]

/-- The scores of a row. -/
abbrev rowS (h : Fin 12) (i : Fin 2048) : Fin 2048 → EReal :=
  scr (chosen x9 (rawK x0) h i) (fun d => lin x0 x1 h i d + x2 (ix1 (col h d))) (fun d j => lin x0 x3 h j d) (fun d => x4 (ix1 (col h d)))

include hx h1 h2 h3 h4 in
theorem parts (h : Fin 12) (i : Fin 2048) : ∃ (q b : Fin 64 → ℝ) (k : Fin 64 → Fin 2048 → ℝ),
    (∀ d, lin x0 x1 h i d + x2 (ix1 (col h d)) = ((q d : ℝ) : EReal)) ∧ (∀ d, x4 (ix1 (col h d)) = ((b d : ℝ) : EReal))
    ∧ ∀ d j, lin x0 x3 h j d = ((k d j : ℝ) : EReal) := by
  choose a ha using fun d => lin_real x0 x1 hx h1 h i d
  choose c hc using h2
  choose b hb using h4
  choose k hk using fun d j => lin_real x0 x3 hx h3 h j d
  exact ⟨fun d => a d + c (ix1 (col h d)), fun d => b (ix1 (col h d)), k, fun d => by rw [ha, hc, EReal.coe_add], fun d => hb _, hk⟩

include hx h1 h2 h3 h4 in
theorem rowS_real (h : Fin 12) (i : Fin 2048) : ∃ t : Fin 2048 → ℝ, ∀ j, rowS x0 x1 x2 x3 x4 x9 h i j = (t j : EReal) := by
  obtain ⟨q, b, k, hq, hb, hk⟩ := parts x0 x1 x2 x3 x4 hx h1 h2 h3 h4 h i
  obtain ⟨z, hz⟩ := negbig_real
  refine ⟨fun j => if chosen x9 (rawK x0) h i j then ((∑ d : Fin 64, q d * k d j) + ∑ d : Fin 64, q d * b d) * (1 / 8) else z, fun j => ?_⟩
  unfold rowS scr
  by_cases hc : chosen x9 (rawK x0) h i j
  · simp only [if_pos hc, hq, hb, hk, eighth_eq, ← EReal.coe_mul, coe_sum, ← EReal.coe_add]
  · simp only [if_neg hc, hz]

include hx h1 h2 h3 h4 in
theorem v124_at (h : Fin 12) (i j : Fin 2048) :
    val_main_v124 (F := Ideal) x0 x1 x2 x3 x4 x9 (ix4 0 h i j) = rowS x0 x1 x2 x3 x4 x9 h i j := by
  obtain ⟨q, b, k, hq, hb, hk⟩ := parts x0 x1 x2 x3 x4 hx h1 h2 h3 h4 h i
  rw [val_main_v124_apply, select_ite]
  have h123 : val_main_v123 (F := Ideal) x0 x9 (ix4 0 h i j) = 1#1 ↔ ¬ chosen x9 (rawK x0) h i j := by
    rw [val_main_v123_apply, val_main_v122_apply, val_main_cst_26_apply, chosen_at x0 x9 hx]
    refine (oeq_iff _ _).trans ?_
    rw [show (FloatOps.ofBits .f32 0x00000000#32 : Ideal .f32) = (0 : EReal) from Ideal.ofBits_zero_f32]
    by_cases hc : chosen x9 (rawK x0) h i j
    · rw [if_pos hc]; exact ⟨fun q => absurd q one_ne_zero, fun q => absurd hc q⟩
    · rw [if_neg hc]; exact ⟨fun _ => hc, fun _ => rfl⟩
  unfold rowS scr
  by_cases hc : chosen x9 (rawK x0) h i j
  · rw [if_pos hc, if_neg (fun q => h123.1 q hc)]
    rw [val_main_v121_apply, val_main_v119_apply, val_main_v120_apply, val_main_cst_25_apply]
    have e : ∀ d : Fin 64, val_main_v106 (F := Ideal) x0 x1 x2 (lidx_main_v119 (ix4 0 h i j) d) * val_main_v112 (F := Ideal) x0 x3 x4 (ridx_main_v119 (ix4 0 h i j) d)
        = ((q d * (k d j + b d) : ℝ) : EReal) := fun d => by
      rw [EReal.coe_mul, EReal.coe_add, ← hq, ← hb, ← hk, ← q_at, ← k_at]
      refine congrArg₂ (fun a b : EReal => a * b) (congrArg (val_main_v106 (F := Ideal) x0 x1 x2) (funext fun a => ?_))
        (congrArg (val_main_v112 (F := Ideal) x0 x3 x4) (funext fun a => ?_))
      all_goals fin_cases a <;> rfl
    refine (congrArg (fun z : EReal => Ideal.div z (Ideal.ofBits .f32 0x41000000#32)) (Finset.sum_congr rfl fun d _ => e d)).trans ?_
    rw [eight, Ideal.div_coe (by norm_num)]
    simp only [hq, hb, hk, eighth_eq, ← EReal.coe_mul, coe_sum, ← EReal.coe_add]
    rw [← Finset.sum_add_distrib]
    simp only [mul_add]
  · rw [if_neg hc, if_pos (h123.2 hc), val_main_call0_v1_apply, val_main_call0_v0_apply, val_main_cst_27_apply]
    rfl

include hx h1 h2 h3 h4 in
theorem v127_at (h : Fin 12) (i : Fin 2048) :
    val_main_v127 (F := Ideal) x0 x1 x2 x3 x4 x9 (ix3 0 h i) = univ.sup (rowS x0 x1 x2 x3 x4 x9 h i) := by
  rw [val_main_v127_apply, val_main_v126_apply, val_main_cst_29_apply]
  have e : val_main_v125 (F := Ideal) x0 x1 x2 x3 x4 x9 (ix3 0 h i) = univ.sup (rowS x0 x1 x2 x3 x4 x9 h i) := by
    unfold val_main_v125
    refine (Host.reduce_eq_fold (FloatOps.maximumf (F := Ideal) (φ := .f32)) _ _ reducesTo_S1x12x2048x2048_S1x12x2048_d3 h_S_ (ix3 0 h i)).trans ?_
    rw [Shape.ReducesTo.fold_fiber_r4_a3, val_main_cst_28_apply]
    rw [show (FloatOps.ofBits .f32 0xFF800000#32 : Ideal .f32) = (⊥ : EReal) from minf]
    show univ.sup _ = _
    refine Finset.sup_congr rfl fun k _ => ?_
    rw [← v124_at x0 x1 x2 x3 x4 x9 hx h1 h2 h3 h4 h i k]
    refine congrArg (val_main_v124 (F := Ideal) x0 x1 x2 x3 x4 x9) (funext fun a => ?_)
    fin_cases a <;> rfl
  rw [e]
  show max (Ideal.ofBits .f32 0xFF800000#32) _ = _
  rw [minf]
  exact max_eq_right bot_le

include hx h1 h2 h3 h4 in
theorem v131_at (h : Fin 12) (i j : Fin 2048) :
    val_main_v131 (F := Ideal) x0 x1 x2 x3 x4 x9 (ix4 0 h i j) = ex (rowS x0 x1 x2 x3 x4 x9 h i) j := by
  rw [val_main_v131_apply, val_main_v130_apply, val_main_v129_apply, val_main_v128_apply, v124_at x0 x1 x2 x3 x4 x9 hx h1 h2 h3 h4]
  unfold ex
  rw [← v127_at x0 x1 x2 x3 x4 x9 hx h1 h2 h3 h4]
  refine congrArg (fun z : EReal => Ideal.exp (rowS x0 x1 x2 x3 x4 x9 h i j - z)) ?_
  refine congrArg (val_main_v127 (F := Ideal) x0 x1 x2 x3 x4 x9) (funext fun a => ?_)
  fin_cases a <;> rfl

include hx h1 h2 h3 h4 in
theorem v135_at (h : Fin 12) (i j : Fin 2048) :
    val_main_v135 (F := Ideal) x0 x1 x2 x3 x4 x9 (ix4 0 h i j) = smx (rowS x0 x1 x2 x3 x4 x9 h i) j := by
  obtain ⟨t, ht⟩ := rowS_real x0 x1 x2 x3 x4 x9 hx h1 h2 h3 h4 h i
  rw [← smx_div _ t ht, val_main_v135_apply, v131_at x0 x1 x2 x3 x4 x9 hx h1 h2 h3 h4, val_main_v134_apply, val_main_v133_apply, val_main_v132_apply,
    val_main_cst_30_apply]
  refine congrArg (fun z : EReal => Ideal.div (ex (rowS x0 x1 x2 x3 x4 x9 h i) j) z) ?_
  refine (congrArg (fun z : EReal => z + _) Ideal.ofBits_zero_f32).trans ?_
  refine (zero_add _).trans (Finset.sum_congr rfl fun k _ => ?_)
  rw [← v131_at x0 x1 x2 x3 x4 x9 hx h1 h2 h3 h4]
  refine congrArg (val_main_v131 (F := Ideal) x0 x1 x2 x3 x4 x9) (funext fun a => ?_)
  fin_cases a <;> rfl

include hx h1 h2 h3 h4 in
theorem v136_at (h : Fin 12) (i : Fin 2048) (d : Fin 64) :
    val_main_v136 (F := Ideal) x0 x1 x2 x3 x4 x5 x6 x9 (ix4 0 h i d)
      = ∑ j : Fin 2048, smx (rowS x0 x1 x2 x3 x4 x9 h i) j * (lin x0 x5 h j d + x6 (ix1 (col h d))) := by
  rw [val_main_v136_apply]
  refine Finset.sum_congr rfl fun j _ => ?_
  rw [← v135_at x0 x1 x2 x3 x4 x9 hx h1 h2 h3 h4, ← v_at]
  refine congrArg₂ (fun a b : EReal => a * b) (congrArg (val_main_v135 (F := Ideal) x0 x1 x2 x3 x4 x9) (funext fun a => ?_))
    (congrArg (val_main_v118 (F := Ideal) x0 x5 x6) (funext fun a => ?_))
  all_goals fin_cases a <;> rfl

include hx h1 h2 h3 h4 in
/-- The plain program's result is the kernel's. -/
theorem plain_eq : val_main_v142 (F := Ideal) x0 x1 x2 x3 x4 x5 x6 x7 x8 x9 = outK x0 x1 x2 x3 x4 x5 x6 x7 x8 x9 := by
  funext i
  rw [val_main_v142_apply, val_main_v139_apply, val_main_v141_apply, val_main_v140_apply]
  unfold outK
  refine congrArg₂ (fun a b : EReal => a + b) ?_ (congrArg x8 (funext fun a => by fin_cases a; rfl))
  refine (sum_cols _).trans (Finset.sum_congr rfl fun h _ => ?_)
  unfold headK headOut
  refine Finset.sum_congr rfl fun d _ => ?_
  refine congrArg₂ (fun a b : EReal => a * b) ?_ (congrArg x7 (funext fun a => by fin_cases a <;> rfl))
  refine Eq.trans ?_ (v136_at x0 x1 x2 x3 x4 x5 x6 x9 hx h1 h2 h3 h4 h (i 1) d)
  rw [val_main_v138_apply, val_main_v137_apply]
  refine congrArg (val_main_v136 (F := Ideal) x0 x1 x2 x3 x4 x5 x6 x9) (funext fun a => ?_)
  have hd := d.isLt; have hh := h.isLt
  have hi : (i 1).val < 2048 := (i 1).isLt
  have h0 : (i 0).val < 1 := (i 0).isLt
  fin_cases a
  · rfl
  · refine Fin.ext ?_
    show (((i 0).val * 2048 + (i 1).val) * 768 + (h.val * 64 + d.val)) / 64 % 12 = h.val
    omega
  · refine Fin.ext ?_
    show (((i 0).val * 2048 + (i 1).val) * 768 + (h.val * 64 + d.val)) / 768 % 2048 = (i 1).val
    omega
  · refine Fin.ext ?_
    show (((i 0).val * 2048 + (i 1).val) * 768 + (h.val * 64 + d.val)) % 64 = d.val
    omega

end

end Cert.Attn.Plain
-- ==== Proof.GivenClaim.lean ====
/- The whole layer, on draws handed in: the reference's frame, the precondition read, and the claim. -/
module

public import proofs.«01_k».proof.Defs
public import proofs.«01_k».proof.Proof.GnVal
public import proofs.«01_k».proof.Proof.RefVal
public import Idealize.ShloMosaic.Lib.Claim
public import Idealize.ShloMosaic.Lib.Quiescent
public import Idealize.ShloMosaic.Lib.ReduceAll

@[expose] public section

set_option maxRecDepth 16384

noncomputable section

namespace Cert.Attn

open Idealize.ShloMosaic Idealize.ShloMosaic.TcCoe Idealize.SL.Sem

theorem factsFinite : Cert.Pre_finite_given.Facts where
  bcast_S_S1x2048x768 := by decide
  reducesTo_S1x2048x768_S_d0_1_2 := by decide
  h_S_ := by decide
  bcast_S_S768x768 := by decide
  reducesTo_S768x768_S_d0_1 := by decide
  bcast_S_S768 := by decide
  reducesTo_S768_S_d0 := by decide

local instance factsKernelGiven : Cert.KernelGivenIdeal.Facts := Cert.KernelGivenIdeal.Gen.facts
local instance factsReferenceGiven : Cert.ReferenceGivenIdeal.Facts := Cert.ReferenceGivenIdeal.Gen.facts
local instance factsFiniteGiven : Cert.Pre_finite_given.Facts := factsFinite

namespace Fin

open Cert.Pre_finite_given

instance : Subsingleton S_.Idx := ⟨fun _ _ => funext fun a => a.elim0⟩

theorem top_bits : Ideal.ofBits .f32 0x7F800000#32 = (⊤ : EReal) := by
  simp [Ideal.ofBits, Ideal.ieee]

/-- A size under infinity is a real's. -/
theorem real_of_lt (x : EReal) (h : Ideal.cmp .olt (max x (-x)) (Ideal.ofBits .f32 0x7F800000#32) = 1#1) : ∃ r : ℝ, x = (r : EReal) := by
  rw [top_bits] at h
  induction x with
  | bot => exact absurd h (by simp [Ideal.cmp])
  | coe r => exact ⟨r, rfl⟩
  | top => exact absurd h (by simp [Ideal.cmp])

/-- What the precondition says of the five arrays. -/
theorem reals (x0 x1 x2 x3 x4 x5 x6 x7 x8 x9) (h : fn (F := Ideal) x0 x1 x2 x3 x4 x5 x6 x7 x8 x9 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) := by
  have e := congrFun h (fun a => a.elim0)
  unfold fn fn_part1 at e
  dsimp only [andi] at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun i => real_of_lt _ (Host.reduce_andi_all _ _ _ _ _ e0 i), fun i => real_of_lt _ (Host.reduce_andi_all _ _ _ _ _ e1 i),
    fun i => real_of_lt _ (Host.reduce_andi_all _ _ _ _ _ e2 i), fun i => real_of_lt _ (Host.reduce_andi_all _ _ _ _ _ e3 i),
    fun i => real_of_lt _ (Host.reduce_andi_all _ _ _ _ _ e4 i)⟩

end Fin

theorem frame_given : Cert.quiescent_KernelGivenIdeal := fun m g _ => Cert.KernelGivenIdeal.Own.frame m g

theorem frame_given_pre : Cert.quiescent_KernelGivenIdeal_pre_finite_given := fun m g _ => Cert.KernelGivenIdeal.Own.frame m g

set_option maxHeartbeats 4000000 in
theorem frame_ref_given : Cert.quiescent_ReferenceGivenIdeal := by
  intro m g _
  hlo_run
  all_goals first | (refine sem_eq_zero_of_no_sems ?_ _; decide) | simp

theorem frame_ref_given_pre : Cert.quiescent_ReferenceGivenIdeal_pre_finite_given := fun m g _ => frame_ref_given m g trivial

open Cert.KernelGivenIdeal Cert.KernelGivenIdeal.Own in
theorem algebraic_given : Cert.algebraic_KernelGivenIdeal_ReferenceGivenIdeal_pre_finite_given := by
  intro m g m' g' hpre hargs
  refine ⟨fun c => Given.outK (Given.a0 m c) (Given.a1 m c) (Given.a2 m c) (Given.a3 m c) (Given.a4 m c) (Given.a5 m c) (Given.a6 m c)
    (Given.a7 m c) (Given.a8 m c) (Given.a9 m c), ?_, ?_⟩
  · refine (θ_run _ _ _).mono (fun r h c => ?_) (run_W6 (F := Ideal) m g)
    have h := h.1
    exact ⟨(h c _ (mem_uc main_v25 (by decide))).trans (Given.result_eq m g c),
      (h c _ (mem_uc main_arg0 (by decide))).trans (W6_main_arg0 m g c),
      (h c _ (mem_uc main_arg1 (by decide))).trans (W6_main_arg1 m g c),
      (h c _ (mem_uc main_arg2 (by decide))).trans (W6_main_arg2 m g c),
      (h c _ (mem_uc main_arg3 (by decide))).trans (W6_main_arg3 m g c),
      (h c _ (mem_uc main_arg4 (by decide))).trans (W6_main_arg4 m g c),
      (h c _ (mem_uc main_arg5 (by decide))).trans (W6_main_arg5 m g c),
      (h c _ (mem_uc main_arg6 (by decide))).trans (W6_main_arg6 m g c),
      (h c _ (mem_uc main_arg7 (by decide))).trans (W6_main_arg7 m g c),
      (h c _ (mem_uc main_arg8 (by decide))).trans (W6_main_arg8 m g c),
      (h c _ (mem_uc main_arg9 (by decide))).trans (W6_main_arg9 m g c)⟩
  · refine (θ_run _ _ _).mono (fun r h c => ?_) (Cert.ReferenceGivenIdeal.Value.run m' g')
    obtain ⟨e0, e1, e2, e3, e4, e5, e6, e7, e8, e9⟩ := hargs c
    obtain ⟨k0, k1, k2, k3, k4⟩ := Fin.reals _ _ _ _ _ _ _ _ _ _ (hpre c)
    obtain ⟨r0, r1⟩ := h c
    refine ⟨?_, r1⟩
    rw [Cert.ReferenceGivenIdeal.Read.val_main_v142_eq, e0, e1, e2, e3, e4, e5, e6, e7, e8, e9] at r0
    exact r0.trans (Plain.plain_eq _ _ _ _ _ _ _ _ _ _ k0 k1 k2 k3 k4)

end Cert.Attn

end
-- ==== Proof.lean ====
/- The claim: the frames, the named constant, the projections, and the layer on draws handed in. -/
module

public import proofs.«01_k».proof.Defs
public import proofs.«01_k».proof.Proof.Frames
public import proofs.«01_k».proof.Proof.RefFrame
public import proofs.«01_k».proof.Proof.TwoClaim
public import proofs.«01_k».proof.Proof.GivenClaim
public import proofs.«01_k».proof.Proof.Gen.Kernel
public import proofs.«01_k».proof.Proof.Gen.KernelIdeal
public import proofs.«01_k».proof.Proof.Gen.ReferenceIdeal
public import proofs.«01_k».proof.Proof.Gen.KernelTwoIdeal
public import proofs.«01_k».proof.Proof.Gen.KernelTwoIdeal.Frame
public import proofs.«01_k».proof.Proof.Gen.ReferenceTwoIdeal
public import proofs.«01_k».proof.Proof.Gen.ReferenceTwoIdeal.Run
public import proofs.«01_k».proof.Proof.Gen.KernelGivenIdeal
public import proofs.«01_k».proof.Proof.Gen.ReferenceGivenIdeal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelTwoIdeal.Gen.facts, Cert.ReferenceTwoIdeal.Gen.facts,
  Cert.KernelGivenIdeal.Gen.facts, Cert.ReferenceGivenIdeal.Gen.facts, Cert.Attn.factsFinite,
  Cert.Attn.frame_p, Cert.Attn.frame_pi, Cert.Attn.frame_ri, Cert.Attn.frame_two, Cert.Attn.frame_ref_two,
  Cert.Attn.frame_given, Cert.Attn.frame_given_pre, Cert.Attn.frame_ref_given, Cert.Attn.frame_ref_given_pre,
  Cert.Attn.preserves, Cert.Attn.algebraic_two, Cert.Attn.algebraic_given⟩

end Cert.Proof

end
